-- ==== Defs.lean ====
def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjReferenceIdeal (m : (ℓ : Loc Cert.ProjReferenceIdeal.nD Cert.ProjReferenceIdeal.τ Cert.ProjReferenceIdeal.sig) → Buf (Elt Ideal) ℓ) : Prop :=
  True

def Pre_Down (m : (ℓ : Loc Cert.Down.nD Cert.Down.τ Cert.Down.sig) → Buf (Elt Bits) ℓ) : Prop :=
  True

def Pre_DownIdeal (m : (ℓ : Loc Cert.DownIdeal.nD Cert.DownIdeal.τ Cert.DownIdeal.sig) → Buf (Elt Ideal) ℓ) : Prop :=
  True

def Pre_DownReferenceIdeal (m : (ℓ : Loc Cert.DownReferenceIdeal.nD Cert.DownReferenceIdeal.τ Cert.DownReferenceIdeal.sig) → Buf (Elt Ideal) ℓ) : Prop :=
  True

def Pre_GateUp (m : (ℓ : Loc Cert.GateUp.nD Cert.GateUp.τ Cert.GateUp.sig) → Buf (Elt Bits) ℓ) : Prop :=
  True

def Pre_GateUpIdeal (m : (ℓ : Loc Cert.GateUpIdeal.nD Cert.GateUpIdeal.τ Cert.GateUpIdeal.sig) → Buf (Elt Ideal) ℓ) : Prop :=
  True

def Pre_GateUpReferenceIdeal (m : (ℓ : Loc Cert.GateUpReferenceIdeal.nD Cert.GateUpReferenceIdeal.τ Cert.GateUpReferenceIdeal.sig) → Buf (Elt Ideal) ℓ) : Prop :=
  True

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2)
      ∧ r.2.mem ((c.tc : Thread Cert.Proj.nD Cert.Proj.τ).loc Cert.Proj.main_arg3) = m ((c.tc : Thread Cert.Proj.nD Cert.Proj.τ).loc Cert.Proj.main_arg3)
      ∧ r.2.mem ((c.tc : Thread Cert.Proj.nD Cert.Proj.τ).loc Cert.Proj.main_arg4) = m ((c.tc : Thread Cert.Proj.nD Cert.Proj.τ).loc Cert.Proj.main_arg4)
      ∧ r.2.mem ((c.tc : Thread Cert.Proj.nD Cert.Proj.τ).loc Cert.Proj.main_arg5) = m ((c.tc : Thread Cert.Proj.nD Cert.Proj.τ).loc Cert.Proj.main_arg5)
      ∧ r.2.mem ((c.tc : Thread Cert.Proj.nD Cert.Proj.τ).loc Cert.Proj.main_arg6) = m ((c.tc : Thread Cert.Proj.nD Cert.Proj.τ).loc Cert.Proj.main_arg6)
      ∧ r.2.mem ((c.tc : Thread Cert.Proj.nD Cert.Proj.τ).loc Cert.Proj.main_arg7) = m ((c.tc : Thread Cert.Proj.nD Cert.Proj.τ).loc Cert.Proj.main_arg7))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
      ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
      ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
      ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
      ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6)
      ∧ r.2.mem ((c.tc : Thread Cert.ProjIdeal.nD Cert.ProjIdeal.τ).loc Cert.ProjIdeal.main_arg7) = m ((c.tc : Thread Cert.ProjIdeal.nD Cert.ProjIdeal.τ).loc Cert.ProjIdeal.main_arg7))
      ∧ r.2.sem = fun _ => 0)

def quiescent_ProjReferenceIdeal [hProjReferenceIdeal : Cert.ProjReferenceIdeal.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1)
      ∧ r.2.mem ((c.tc : Thread Cert.ProjReferenceIdeal.nD Cert.ProjReferenceIdeal.τ).loc Cert.ProjReferenceIdeal.main_arg2) = m ((c.tc : Thread Cert.ProjReferenceIdeal.nD Cert.ProjReferenceIdeal.τ).loc Cert.ProjReferenceIdeal.main_arg2)
      ∧ r.2.mem ((c.tc : Thread Cert.ProjReferenceIdeal.nD Cert.ProjReferenceIdeal.τ).loc Cert.ProjReferenceIdeal.main_arg3) = m ((c.tc : Thread Cert.ProjReferenceIdeal.nD Cert.ProjReferenceIdeal.τ).loc Cert.ProjReferenceIdeal.main_arg3)
      ∧ r.2.mem ((c.tc : Thread Cert.ProjReferenceIdeal.nD Cert.ProjReferenceIdeal.τ).loc Cert.ProjReferenceIdeal.main_arg4) = m ((c.tc : Thread Cert.ProjReferenceIdeal.nD Cert.ProjReferenceIdeal.τ).loc Cert.ProjReferenceIdeal.main_arg4)
      ∧ r.2.mem ((c.tc : Thread Cert.ProjReferenceIdeal.nD Cert.ProjReferenceIdeal.τ).loc Cert.ProjReferenceIdeal.main_arg5) = m ((c.tc : Thread Cert.ProjReferenceIdeal.nD Cert.ProjReferenceIdeal.τ).loc Cert.ProjReferenceIdeal.main_arg5)
      ∧ r.2.mem ((c.tc : Thread Cert.ProjReferenceIdeal.nD Cert.ProjReferenceIdeal.τ).loc Cert.ProjReferenceIdeal.main_arg6) = m ((c.tc : Thread Cert.ProjReferenceIdeal.nD Cert.ProjReferenceIdeal.τ).loc Cert.ProjReferenceIdeal.main_arg6)
      ∧ r.2.mem ((c.tc : Thread Cert.ProjReferenceIdeal.nD Cert.ProjReferenceIdeal.τ).loc Cert.ProjReferenceIdeal.main_arg7) = m ((c.tc : Thread Cert.ProjReferenceIdeal.nD Cert.ProjReferenceIdeal.τ).loc Cert.ProjReferenceIdeal.main_arg7))
      ∧ r.2.sem = fun _ => 0)

def quiescent_Down [hDown : Cert.Down.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2))
      ∧ r.2.sem = fun _ => 0)

def quiescent_DownIdeal [hDownIdeal : Cert.DownIdeal.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ r.2.sem = fun _ => 0)

def quiescent_DownReferenceIdeal [hDownReferenceIdeal : Cert.DownReferenceIdeal.Facts] : Prop :=
  ∀ (m : (ℓ : Loc Cert.DownReferenceIdeal.nD Cert.DownReferenceIdeal.τ Cert.DownReferenceIdeal.sig) → Buf (Elt Ideal) ℓ) (g : Dev Cert.DownReferenceIdeal.nD → PrngReg), Pre_DownReferenceIdeal m →
    θ_run (Cert.DownReferenceIdeal.defs (F := Ideal)) (onTc (τ := Cert.DownReferenceIdeal.τ) (Cert.DownReferenceIdeal.main (F := Ideal))) ⟨m, fun _ => 0, g⟩ (fun r => (∀ c : Dev Cert.DownReferenceIdeal.nD,
      r.2.mem ((c.tc : Thread Cert.DownReferenceIdeal.nD Cert.DownReferenceIdeal.τ).loc Cert.DownReferenceIdeal.main_arg0) = m ((c.tc : Thread Cert.DownReferenceIdeal.nD Cert.DownReferenceIdeal.τ).loc Cert.DownReferenceIdeal.main_arg0)
      ∧ r.2.mem ((c.tc : Thread Cert.DownReferenceIdeal.nD Cert.DownReferenceIdeal.τ).loc Cert.DownReferenceIdeal.main_arg1) = m ((c.tc : Thread Cert.DownReferenceIdeal.nD Cert.DownReferenceIdeal.τ).loc Cert.DownReferenceIdeal.main_arg1)
      ∧ r.2.mem ((c.tc : Thread Cert.DownReferenceIdeal.nD Cert.DownReferenceIdeal.τ).loc Cert.DownReferenceIdeal.main_arg2) = m ((c.tc : Thread Cert.DownReferenceIdeal.nD Cert.DownReferenceIdeal.τ).loc Cert.DownReferenceIdeal.main_arg2))
      ∧ r.2.sem = fun _ => 0)

def quiescent_GateUp [hGateUp : Cert.GateUp.Facts] : Prop :=
  ∀ (m : (ℓ : Loc Cert.GateUp.nD Cert.GateUp.τ Cert.GateUp.sig) → Buf (Elt Bits) ℓ) (g : Dev Cert.GateUp.nD → PrngReg), Pre_GateUp m →
    θ_run (Cert.GateUp.defs (F := Bits)) (onTc (τ := Cert.GateUp.τ) (Cert.GateUp.main (F := Bits))) ⟨m, fun _ => 0, g⟩ (fun r => (∀ c : Dev Cert.GateUp.nD,
      r.2.mem ((c.tc : Thread Cert.GateUp.nD Cert.GateUp.τ).loc Cert.GateUp.main_arg0) = m ((c.tc : Thread Cert.GateUp.nD Cert.GateUp.τ).loc Cert.GateUp.main_arg0)
      ∧ r.2.mem ((c.tc : Thread Cert.GateUp.nD Cert.GateUp.τ).loc Cert.GateUp.main_arg1) = m ((c.tc : Thread Cert.GateUp.nD Cert.GateUp.τ).loc Cert.GateUp.main_arg1)
      ∧ r.2.mem ((c.tc : Thread Cert.GateUp.nD Cert.GateUp.τ).loc Cert.GateUp.main_arg2) = m ((c.tc : Thread Cert.GateUp.nD Cert.GateUp.τ).loc Cert.GateUp.main_arg2)
      ∧ r.2.mem ((c.tc : Thread Cert.GateUp.nD Cert.GateUp.τ).loc Cert.GateUp.main_arg3) = m ((c.tc : Thread Cert.GateUp.nD Cert.GateUp.τ).loc Cert.GateUp.main_arg3)
      ∧ r.2.mem ((c.tc : Thread Cert.GateUp.nD Cert.GateUp.τ).loc Cert.GateUp.main_arg4) = m ((c.tc : Thread Cert.GateUp.nD Cert.GateUp.τ).loc Cert.GateUp.main_arg4))
      ∧ r.2.sem = fun _ => 0)

def quiescent_GateUpIdeal [hGateUpIdeal : Cert.GateUpIdeal.Facts] : Prop :=
  ∀ (m : (ℓ : Loc Cert.GateUpIdeal.nD Cert.GateUpIdeal.τ Cert.GateUpIdeal.sig) → Buf (Elt Ideal) ℓ) (g : Dev Cert.GateUpIdeal.nD → PrngReg), Pre_GateUpIdeal m →
    θ_run (Cert.GateUpIdeal.defs (F := Ideal)) (onTc (τ := Cert.GateUpIdeal.τ) (Cert.GateUpIdeal.main (F := Ideal))) ⟨m, fun _ => 0, g⟩ (fun r => (∀ c : Dev Cert.GateUpIdeal.nD,
      r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
      ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1)
      ∧ r.2.mem ((c.tc : Thread Cert.GateUpIdeal.nD Cert.GateUpIdeal.τ).loc Cert.GateUpIdeal.main_arg2) = m ((c.tc : Thread Cert.GateUpIdeal.nD Cert.GateUpIdeal.τ).loc Cert.GateUpIdeal.main_arg2)
      ∧ r.2.mem ((c.tc : Thread Cert.GateUpIdeal.nD Cert.GateUpIdeal.τ).loc Cert.GateUpIdeal.main_arg3) = m ((c.tc : Thread Cert.GateUpIdeal.nD Cert.GateUpIdeal.τ).loc Cert.GateUpIdeal.main_arg3)
      ∧ r.2.mem ((c.tc : Thread Cert.GateUpIdeal.nD Cert.GateUpIdeal.τ).loc Cert.GateUpIdeal.main_arg4) = m ((c.tc : Thread Cert.GateUpIdeal.nD Cert.GateUpIdeal.τ).loc Cert.GateUpIdeal.main_arg4))
      ∧ r.2.sem = fun _ => 0)

def quiescent_GateUpReferenceIdeal [hGateUpReferenceIdeal : Cert.GateUpReferenceIdeal.Facts] : Prop :=
  ∀ (m : (ℓ : Loc Cert.GateUpReferenceIdeal.nD Cert.GateUpReferenceIdeal.τ Cert.GateUpReferenceIdeal.sig) → Buf (Elt Ideal) ℓ) (g : Dev Cert.GateUpReferenceIdeal.nD → PrngReg), Pre_GateUpReferenceIdeal m →
    θ_run (Cert.GateUpReferenceIdeal.defs (F := Ideal)) (onTc (τ := Cert.GateUpReferenceIdeal.τ) (Cert.GateUpReferenceIdeal.main (F := Ideal))) ⟨m, fun _ => 0, g⟩ (fun r => (∀ c : Dev Cert.GateUpReferenceIdeal.nD,
      r.2.mem ((c.tc : Thread Cert.GateUpReferenceIdeal.nD Cert.GateUpReferenceIdeal.τ).loc Cert.GateUpReferenceIdeal.main_arg0) = m ((c.tc : Thread Cert.GateUpReferenceIdeal.nD Cert.GateUpReferenceIdeal.τ).loc Cert.GateUpReferenceIdeal.main_arg0)
      ∧ r.2.mem ((c.tc : Thread Cert.GateUpReferenceIdeal.nD Cert.GateUpReferenceIdeal.τ).loc Cert.GateUpReferenceIdeal.main_arg1) = m ((c.tc : Thread Cert.GateUpReferenceIdeal.nD Cert.GateUpReferenceIdeal.τ).loc Cert.GateUpReferenceIdeal.main_arg1)
      ∧ r.2.mem ((c.tc : Thread Cert.GateUpReferenceIdeal.nD Cert.GateUpReferenceIdeal.τ).loc Cert.GateUpReferenceIdeal.main_arg2) = m ((c.tc : Thread Cert.GateUpReferenceIdeal.nD Cert.GateUpReferenceIdeal.τ).loc Cert.GateUpReferenceIdeal.main_arg2)
      ∧ r.2.mem ((c.tc : Thread Cert.GateUpReferenceIdeal.nD Cert.GateUpReferenceIdeal.τ).loc Cert.GateUpReferenceIdeal.main_arg3) = m ((c.tc : Thread Cert.GateUpReferenceIdeal.nD Cert.GateUpReferenceIdeal.τ).loc Cert.GateUpReferenceIdeal.main_arg3)
      ∧ r.2.mem ((c.tc : Thread Cert.GateUpReferenceIdeal.nD Cert.GateUpReferenceIdeal.τ).loc Cert.GateUpReferenceIdeal.main_arg4) = m ((c.tc : Thread Cert.GateUpReferenceIdeal.nD Cert.GateUpReferenceIdeal.τ).loc Cert.GateUpReferenceIdeal.main_arg4))
      ∧ r.2.sem = fun _ => 0)

def preserves_Proj_ProjIdeal : Prop :=
  True

def algebraic_ProjIdeal_ProjReferenceIdeal [hProjIdeal : Cert.ProjIdeal.Facts] [hProjReferenceIdeal : Cert.ProjReferenceIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjReferenceIdeal.nD Cert.ProjReferenceIdeal.τ Cert.ProjReferenceIdeal.sig) → Buf (Elt Ideal) ℓ) (g' : Dev Cert.ProjReferenceIdeal.nD → PrngReg), Pre_ProjIdeal m →
    (∀ c : Dev Cert.ProjIdeal.nD,
      m' ((c.tc : Thread Cert.ProjReferenceIdeal.nD Cert.ProjReferenceIdeal.τ).loc Cert.ProjReferenceIdeal.main_arg0) = m ((c.tc : Thread Cert.ProjIdeal.nD Cert.ProjIdeal.τ).loc Cert.ProjIdeal.main_arg0)
      ∧ m' ((c.tc : Thread Cert.ProjReferenceIdeal.nD Cert.ProjReferenceIdeal.τ).loc Cert.ProjReferenceIdeal.main_arg1) = m ((c.tc : Thread Cert.ProjIdeal.nD Cert.ProjIdeal.τ).loc Cert.ProjIdeal.main_arg1)
      ∧ m' ((c.tc : Thread Cert.ProjReferenceIdeal.nD Cert.ProjReferenceIdeal.τ).loc Cert.ProjReferenceIdeal.main_arg2) = m ((c.tc : Thread Cert.ProjIdeal.nD Cert.ProjIdeal.τ).loc Cert.ProjIdeal.main_arg2)
      ∧ m' ((c.tc : Thread Cert.ProjReferenceIdeal.nD Cert.ProjReferenceIdeal.τ).loc Cert.ProjReferenceIdeal.main_arg3) = m ((c.tc : Thread Cert.ProjIdeal.nD Cert.ProjIdeal.τ).loc Cert.ProjIdeal.main_arg3)
      ∧ m' ((c.tc : Thread Cert.ProjReferenceIdeal.nD Cert.ProjReferenceIdeal.τ).loc Cert.ProjReferenceIdeal.main_arg4) = m ((c.tc : Thread Cert.ProjIdeal.nD Cert.ProjIdeal.τ).loc Cert.ProjIdeal.main_arg4)
      ∧ m' ((c.tc : Thread Cert.ProjReferenceIdeal.nD Cert.ProjReferenceIdeal.τ).loc Cert.ProjReferenceIdeal.main_arg5) = m ((c.tc : Thread Cert.ProjIdeal.nD Cert.ProjIdeal.τ).loc Cert.ProjIdeal.main_arg5)
      ∧ m' ((c.tc : Thread Cert.ProjReferenceIdeal.nD Cert.ProjReferenceIdeal.τ).loc Cert.ProjReferenceIdeal.main_arg6) = m ((c.tc : Thread Cert.ProjIdeal.nD Cert.ProjIdeal.τ).loc Cert.ProjIdeal.main_arg6)
      ∧ m' ((c.tc : Thread Cert.ProjReferenceIdeal.nD Cert.ProjReferenceIdeal.τ).loc Cert.ProjReferenceIdeal.main_arg7) = m ((c.tc : Thread Cert.ProjIdeal.nD Cert.ProjIdeal.τ).loc Cert.ProjIdeal.main_arg7)) →
    ∃ (v0 : (c : Dev Cert.ProjIdeal.nD) → Buf (Elt Ideal) ((c.tc : Thread Cert.ProjIdeal.nD Cert.ProjIdeal.τ).loc Cert.ProjIdeal.main_v2_0)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v2_0) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2)
          ∧ r.2.mem ((c.tc : Thread Cert.ProjIdeal.nD Cert.ProjIdeal.τ).loc Cert.ProjIdeal.main_arg3) = m ((c.tc : Thread Cert.ProjIdeal.nD Cert.ProjIdeal.τ).loc Cert.ProjIdeal.main_arg3)
          ∧ r.2.mem ((c.tc : Thread Cert.ProjIdeal.nD Cert.ProjIdeal.τ).loc Cert.ProjIdeal.main_arg4) = m ((c.tc : Thread Cert.ProjIdeal.nD Cert.ProjIdeal.τ).loc Cert.ProjIdeal.main_arg4)
          ∧ r.2.mem ((c.tc : Thread Cert.ProjIdeal.nD Cert.ProjIdeal.τ).loc Cert.ProjIdeal.main_arg5) = m ((c.tc : Thread Cert.ProjIdeal.nD Cert.ProjIdeal.τ).loc Cert.ProjIdeal.main_arg5)
          ∧ r.2.mem ((c.tc : Thread Cert.ProjIdeal.nD Cert.ProjIdeal.τ).loc Cert.ProjIdeal.main_arg6) = m ((c.tc : Thread Cert.ProjIdeal.nD Cert.ProjIdeal.τ).loc Cert.ProjIdeal.main_arg6)
          ∧ r.2.mem ((c.tc : Thread Cert.ProjIdeal.nD Cert.ProjIdeal.τ).loc Cert.ProjIdeal.main_arg7) = m ((c.tc : Thread Cert.ProjIdeal.nD Cert.ProjIdeal.τ).loc Cert.ProjIdeal.main_arg7))
      ∧ θ_run (Cert.ProjReferenceIdeal.defs (F := Ideal)) (onTc (τ := Cert.ProjReferenceIdeal.τ) (Cert.ProjReferenceIdeal.main (F := Ideal))) ⟨m', fun _ => 0, g'⟩ (fun r => ∀ c : Dev Cert.ProjReferenceIdeal.nD,
          r.2.mem ((c.tc : Thread Cert.ProjReferenceIdeal.nD Cert.ProjReferenceIdeal.τ).loc Cert.ProjReferenceIdeal.main_v0) = v0 c
          ∧ r.2.mem ((c.tc : Thread Cert.ProjReferenceIdeal.nD Cert.ProjReferenceIdeal.τ).loc Cert.ProjReferenceIdeal.main_arg0) = m' ((c.tc : Thread Cert.ProjReferenceIdeal.nD Cert.ProjReferenceIdeal.τ).loc Cert.ProjReferenceIdeal.main_arg0)
          ∧ r.2.mem ((c.tc : Thread Cert.ProjReferenceIdeal.nD Cert.ProjReferenceIdeal.τ).loc Cert.ProjReferenceIdeal.main_arg1) = m' ((c.tc : Thread Cert.ProjReferenceIdeal.nD Cert.ProjReferenceIdeal.τ).loc Cert.ProjReferenceIdeal.main_arg1)
          ∧ r.2.mem ((c.tc : Thread Cert.ProjReferenceIdeal.nD Cert.ProjReferenceIdeal.τ).loc Cert.ProjReferenceIdeal.main_arg2) = m' ((c.tc : Thread Cert.ProjReferenceIdeal.nD Cert.ProjReferenceIdeal.τ).loc Cert.ProjReferenceIdeal.main_arg2)
          ∧ r.2.mem ((c.tc : Thread Cert.ProjReferenceIdeal.nD Cert.ProjReferenceIdeal.τ).loc Cert.ProjReferenceIdeal.main_arg3) = m' ((c.tc : Thread Cert.ProjReferenceIdeal.nD Cert.ProjReferenceIdeal.τ).loc Cert.ProjReferenceIdeal.main_arg3)
          ∧ r.2.mem ((c.tc : Thread Cert.ProjReferenceIdeal.nD Cert.ProjReferenceIdeal.τ).loc Cert.ProjReferenceIdeal.main_arg4) = m' ((c.tc : Thread Cert.ProjReferenceIdeal.nD Cert.ProjReferenceIdeal.τ).loc Cert.ProjReferenceIdeal.main_arg4)
          ∧ r.2.mem ((c.tc : Thread Cert.ProjReferenceIdeal.nD Cert.ProjReferenceIdeal.τ).loc Cert.ProjReferenceIdeal.main_arg5) = m' ((c.tc : Thread Cert.ProjReferenceIdeal.nD Cert.ProjReferenceIdeal.τ).loc Cert.ProjReferenceIdeal.main_arg5)
          ∧ r.2.mem ((c.tc : Thread Cert.ProjReferenceIdeal.nD Cert.ProjReferenceIdeal.τ).loc Cert.ProjReferenceIdeal.main_arg6) = m' ((c.tc : Thread Cert.ProjReferenceIdeal.nD Cert.ProjReferenceIdeal.τ).loc Cert.ProjReferenceIdeal.main_arg6)
          ∧ r.2.mem ((c.tc : Thread Cert.ProjReferenceIdeal.nD Cert.ProjReferenceIdeal.τ).loc Cert.ProjReferenceIdeal.main_arg7) = m' ((c.tc : Thread Cert.ProjReferenceIdeal.nD Cert.ProjReferenceIdeal.τ).loc Cert.ProjReferenceIdeal.main_arg7))

def preserves_Down_DownIdeal : Prop :=
  True

def algebraic_DownIdeal_DownReferenceIdeal [hDownIdeal : Cert.DownIdeal.Facts] [hDownReferenceIdeal : Cert.DownReferenceIdeal.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownReferenceIdeal.nD Cert.DownReferenceIdeal.τ Cert.DownReferenceIdeal.sig) → Buf (Elt Ideal) ℓ) (g' : Dev Cert.DownReferenceIdeal.nD → PrngReg), Pre_DownIdeal m →
    (∀ c : Dev Cert.DownIdeal.nD,
      m' ((c.tc : Thread Cert.DownReferenceIdeal.nD Cert.DownReferenceIdeal.τ).loc Cert.DownReferenceIdeal.main_arg0) = m ((c.tc : Thread Cert.DownIdeal.nD Cert.DownIdeal.τ).loc Cert.DownIdeal.main_arg0)
      ∧ m' ((c.tc : Thread Cert.DownReferenceIdeal.nD Cert.DownReferenceIdeal.τ).loc Cert.DownReferenceIdeal.main_arg1) = m ((c.tc : Thread Cert.DownIdeal.nD Cert.DownIdeal.τ).loc Cert.DownIdeal.main_arg1)
      ∧ m' ((c.tc : Thread Cert.DownReferenceIdeal.nD Cert.DownReferenceIdeal.τ).loc Cert.DownReferenceIdeal.main_arg2) = m ((c.tc : Thread Cert.DownIdeal.nD Cert.DownIdeal.τ).loc Cert.DownIdeal.main_arg2)) →
    ∃ (v0 : (c : Dev Cert.DownIdeal.nD) → Buf (Elt Ideal) ((c.tc : Thread Cert.DownIdeal.nD Cert.DownIdeal.τ).loc Cert.DownIdeal.main_v0)),
      θ_run (Cert.DownIdeal.defs (F := Ideal)) (onTc (τ := Cert.DownIdeal.τ) (Cert.DownIdeal.main (F := Ideal))) ⟨m, fun _ => 0, g⟩ (fun r => ∀ c : Dev Cert.DownIdeal.nD,
          r.2.mem ((c.tc : Thread Cert.DownIdeal.nD Cert.DownIdeal.τ).loc Cert.DownIdeal.main_v0) = v0 c
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2))
      ∧ θ_run (Cert.DownReferenceIdeal.defs (F := Ideal)) (onTc (τ := Cert.DownReferenceIdeal.τ) (Cert.DownReferenceIdeal.main (F := Ideal))) ⟨m', fun _ => 0, g'⟩ (fun r => ∀ c : Dev Cert.DownReferenceIdeal.nD,
          r.2.mem ((c.tc : Thread Cert.DownReferenceIdeal.nD Cert.DownReferenceIdeal.τ).loc Cert.DownReferenceIdeal.main_v0) = v0 c
          ∧ r.2.mem ((c.tc : Thread Cert.DownReferenceIdeal.nD Cert.DownReferenceIdeal.τ).loc Cert.DownReferenceIdeal.main_arg0) = m' ((c.tc : Thread Cert.DownReferenceIdeal.nD Cert.DownReferenceIdeal.τ).loc Cert.DownReferenceIdeal.main_arg0)
          ∧ r.2.mem ((c.tc : Thread Cert.DownReferenceIdeal.nD Cert.DownReferenceIdeal.τ).loc Cert.DownReferenceIdeal.main_arg1) = m' ((c.tc : Thread Cert.DownReferenceIdeal.nD Cert.DownReferenceIdeal.τ).loc Cert.DownReferenceIdeal.main_arg1)
          ∧ r.2.mem ((c.tc : Thread Cert.DownReferenceIdeal.nD Cert.DownReferenceIdeal.τ).loc Cert.DownReferenceIdeal.main_arg2) = m' ((c.tc : Thread Cert.DownReferenceIdeal.nD Cert.DownReferenceIdeal.τ).loc Cert.DownReferenceIdeal.main_arg2))

def preserves_GateUp_GateUpIdeal : Prop :=
  True

def algebraic_GateUpIdeal_GateUpReferenceIdeal [hGateUpIdeal : Cert.GateUpIdeal.Facts] [hGateUpReferenceIdeal : Cert.GateUpReferenceIdeal.Facts] : Prop :=
  ∀ (m : (ℓ : Loc Cert.GateUpIdeal.nD Cert.GateUpIdeal.τ Cert.GateUpIdeal.sig) → Buf (Elt Ideal) ℓ) (g : Dev Cert.GateUpIdeal.nD → PrngReg)
    (m' : (ℓ : Loc Cert.GateUpReferenceIdeal.nD Cert.GateUpReferenceIdeal.τ Cert.GateUpReferenceIdeal.sig) → Buf (Elt Ideal) ℓ) (g' : Dev Cert.GateUpReferenceIdeal.nD → PrngReg), Pre_GateUpIdeal m →
    (∀ c : Dev Cert.GateUpIdeal.nD,
      m' ((c.tc : Thread Cert.GateUpReferenceIdeal.nD Cert.GateUpReferenceIdeal.τ).loc Cert.GateUpReferenceIdeal.main_arg0) = m ((c.tc : Thread Cert.GateUpIdeal.nD Cert.GateUpIdeal.τ).loc Cert.GateUpIdeal.main_arg0)
      ∧ m' ((c.tc : Thread Cert.GateUpReferenceIdeal.nD Cert.GateUpReferenceIdeal.τ).loc Cert.GateUpReferenceIdeal.main_arg1) = m ((c.tc : Thread Cert.GateUpIdeal.nD Cert.GateUpIdeal.τ).loc Cert.GateUpIdeal.main_arg1)
      ∧ m' ((c.tc : Thread Cert.GateUpReferenceIdeal.nD Cert.GateUpReferenceIdeal.τ).loc Cert.GateUpReferenceIdeal.main_arg2) = m ((c.tc : Thread Cert.GateUpIdeal.nD Cert.GateUpIdeal.τ).loc Cert.GateUpIdeal.main_arg2)
      ∧ m' ((c.tc : Thread Cert.GateUpReferenceIdeal.nD Cert.GateUpReferenceIdeal.τ).loc Cert.GateUpReferenceIdeal.main_arg3) = m ((c.tc : Thread Cert.GateUpIdeal.nD Cert.GateUpIdeal.τ).loc Cert.GateUpIdeal.main_arg3)
      ∧ m' ((c.tc : Thread Cert.GateUpReferenceIdeal.nD Cert.GateUpReferenceIdeal.τ).loc Cert.GateUpReferenceIdeal.main_arg4) = m ((c.tc : Thread Cert.GateUpIdeal.nD Cert.GateUpIdeal.τ).loc Cert.GateUpIdeal.main_arg4)) →
    ∃ (v0 : (c : Dev Cert.GateUpIdeal.nD) → Buf (Elt Ideal) ((c.tc : Thread Cert.GateUpIdeal.nD Cert.GateUpIdeal.τ).loc Cert.GateUpIdeal.main_v0_0)) (v1 : (c : Dev Cert.GateUpIdeal.nD) → Buf (Elt Ideal) ((c.tc : Thread Cert.GateUpIdeal.nD Cert.GateUpIdeal.τ).loc Cert.GateUpIdeal.main_v1)) (v2 : (c : Dev Cert.GateUpIdeal.nD) → Buf (Elt Ideal) ((c.tc : Thread Cert.GateUpIdeal.nD Cert.GateUpIdeal.τ).loc Cert.GateUpIdeal.main_v0_2)),
      θ_run (Cert.GateUpIdeal.defs (F := Ideal)) (onTc (τ := Cert.GateUpIdeal.τ) (Cert.GateUpIdeal.main (F := Ideal))) ⟨m, fun _ => 0, g⟩ (fun r => ∀ c : Dev Cert.GateUpIdeal.nD,
          r.2.mem ((c.tc : Thread Cert.GateUpIdeal.nD Cert.GateUpIdeal.τ).loc Cert.GateUpIdeal.main_v0_0) = v0 c
          ∧ r.2.mem ((c.tc : Thread Cert.GateUpIdeal.nD Cert.GateUpIdeal.τ).loc Cert.GateUpIdeal.main_v1) = v1 c
          ∧ r.2.mem ((c.tc : Thread Cert.GateUpIdeal.nD Cert.GateUpIdeal.τ).loc Cert.GateUpIdeal.main_v0_2) = v2 c
          ∧ r.2.mem ((c.tc : Thread Cert.GateUpIdeal.nD Cert.GateUpIdeal.τ).loc Cert.GateUpIdeal.main_arg0) = m ((c.tc : Thread Cert.GateUpIdeal.nD Cert.GateUpIdeal.τ).loc Cert.GateUpIdeal.main_arg0)
          ∧ r.2.mem ((c.tc : Thread Cert.GateUpIdeal.nD Cert.GateUpIdeal.τ).loc Cert.GateUpIdeal.main_arg1) = m ((c.tc : Thread Cert.GateUpIdeal.nD Cert.GateUpIdeal.τ).loc Cert.GateUpIdeal.main_arg1)
          ∧ r.2.mem ((c.tc : Thread Cert.GateUpIdeal.nD Cert.GateUpIdeal.τ).loc Cert.GateUpIdeal.main_arg2) = m ((c.tc : Thread Cert.GateUpIdeal.nD Cert.GateUpIdeal.τ).loc Cert.GateUpIdeal.main_arg2)
          ∧ r.2.mem ((c.tc : Thread Cert.GateUpIdeal.nD Cert.GateUpIdeal.τ).loc Cert.GateUpIdeal.main_arg3) = m ((c.tc : Thread Cert.GateUpIdeal.nD Cert.GateUpIdeal.τ).loc Cert.GateUpIdeal.main_arg3)
          ∧ r.2.mem ((c.tc : Thread Cert.GateUpIdeal.nD Cert.GateUpIdeal.τ).loc Cert.GateUpIdeal.main_arg4) = m ((c.tc : Thread Cert.GateUpIdeal.nD Cert.GateUpIdeal.τ).loc Cert.GateUpIdeal.main_arg4))
      ∧ θ_run (Cert.GateUpReferenceIdeal.defs (F := Ideal)) (onTc (τ := Cert.GateUpReferenceIdeal.τ) (Cert.GateUpReferenceIdeal.main (F := Ideal))) ⟨m', fun _ => 0, g'⟩ (fun r => ∀ c : Dev Cert.GateUpReferenceIdeal.nD,
          r.2.mem ((c.tc : Thread Cert.GateUpReferenceIdeal.nD Cert.GateUpReferenceIdeal.τ).loc Cert.GateUpReferenceIdeal.main_v0_0) = v0 c
          ∧ r.2.mem ((c.tc : Thread Cert.GateUpReferenceIdeal.nD Cert.GateUpReferenceIdeal.τ).loc Cert.GateUpReferenceIdeal.main_v0_1) = v1 c
          ∧ r.2.mem ((c.tc : Thread Cert.GateUpReferenceIdeal.nD Cert.GateUpReferenceIdeal.τ).loc Cert.GateUpReferenceIdeal.main_v0_2) = v2 c
          ∧ r.2.mem ((c.tc : Thread Cert.GateUpReferenceIdeal.nD Cert.GateUpReferenceIdeal.τ).loc Cert.GateUpReferenceIdeal.main_arg0) = m' ((c.tc : Thread Cert.GateUpReferenceIdeal.nD Cert.GateUpReferenceIdeal.τ).loc Cert.GateUpReferenceIdeal.main_arg0)
          ∧ r.2.mem ((c.tc : Thread Cert.GateUpReferenceIdeal.nD Cert.GateUpReferenceIdeal.τ).loc Cert.GateUpReferenceIdeal.main_arg1) = m' ((c.tc : Thread Cert.GateUpReferenceIdeal.nD Cert.GateUpReferenceIdeal.τ).loc Cert.GateUpReferenceIdeal.main_arg1)
          ∧ r.2.mem ((c.tc : Thread Cert.GateUpReferenceIdeal.nD Cert.GateUpReferenceIdeal.τ).loc Cert.GateUpReferenceIdeal.main_arg2) = m' ((c.tc : Thread Cert.GateUpReferenceIdeal.nD Cert.GateUpReferenceIdeal.τ).loc Cert.GateUpReferenceIdeal.main_arg2)
          ∧ r.2.mem ((c.tc : Thread Cert.GateUpReferenceIdeal.nD Cert.GateUpReferenceIdeal.τ).loc Cert.GateUpReferenceIdeal.main_arg3) = m' ((c.tc : Thread Cert.GateUpReferenceIdeal.nD Cert.GateUpReferenceIdeal.τ).loc Cert.GateUpReferenceIdeal.main_arg3)
          ∧ r.2.mem ((c.tc : Thread Cert.GateUpReferenceIdeal.nD Cert.GateUpReferenceIdeal.τ).loc Cert.GateUpReferenceIdeal.main_arg4) = m' ((c.tc : Thread Cert.GateUpReferenceIdeal.nD Cert.GateUpReferenceIdeal.τ).loc Cert.GateUpReferenceIdeal.main_arg4))

def Claim : Prop :=
  ∃ (hProj : Cert.Proj.Facts) (hProjIdeal : Cert.ProjIdeal.Facts) (hProjReferenceIdeal : Cert.ProjReferenceIdeal.Facts) (hDown : Cert.Down.Facts) (hDownIdeal : Cert.DownIdeal.Facts) (hDownReferenceIdeal : Cert.DownReferenceIdeal.Facts) (hGateUp : Cert.GateUp.Facts) (hGateUpIdeal : Cert.GateUpIdeal.Facts) (hGateUpReferenceIdeal : Cert.GateUpReferenceIdeal.Facts),
    quiescent_Proj (hProj := hProj)
    ∧ quiescent_ProjIdeal (hProjIdeal := hProjIdeal)
    ∧ quiescent_ProjReferenceIdeal (hProjReferenceIdeal := hProjReferenceIdeal)
    ∧ quiescent_Down (hDown := hDown)
    ∧ quiescent_DownIdeal (hDownIdeal := hDownIdeal)
    ∧ quiescent_DownReferenceIdeal (hDownReferenceIdeal := hDownReferenceIdeal)
    ∧ quiescent_GateUp (hGateUp := hGateUp)
    ∧ quiescent_GateUpIdeal (hGateUpIdeal := hGateUpIdeal)
    ∧ quiescent_GateUpReferenceIdeal (hGateUpReferenceIdeal := hGateUpReferenceIdeal)
    ∧ preserves_Proj_ProjIdeal
    ∧ algebraic_ProjIdeal_ProjReferenceIdeal (hProjIdeal := hProjIdeal) (hProjReferenceIdeal := hProjReferenceIdeal)
    ∧ preserves_Down_DownIdeal
    ∧ algebraic_DownIdeal_DownReferenceIdeal (hDownIdeal := hDownIdeal) (hDownReferenceIdeal := hDownReferenceIdeal)
    ∧ preserves_GateUp_GateUpIdeal
    ∧ algebraic_GateUpIdeal_GateUpReferenceIdeal (hGateUpIdeal := hGateUpIdeal) (hGateUpReferenceIdeal := hGateUpReferenceIdeal)
-- ==== Proj.lean ====
abbrev S1792x7168 : Shape := ⟨2, ![1792, 7168]⟩
abbrev S1792x2048 : Shape := ⟨2, ![1792, 2048]⟩
abbrev S1792x16 : Shape := ⟨2, ![1792, 16]⟩
abbrev S2048x7168 : Shape := ⟨2, ![2048, 7168]⟩
abbrev S16x56 : Shape := ⟨2, ![16, 56]⟩
abbrev S7168 : Shape := ⟨1, ![7168]⟩
abbrev S256x7168 : Shape := ⟨2, ![256, 7168]⟩
abbrev S256 : Shape := ⟨1, ![256]⟩
abbrev S1x7168 : Shape := ⟨2, ![1, 7168]⟩
abbrev S1x256 : Shape := ⟨2, ![1, 256]⟩
abbrev S1792x256 : Shape := ⟨2, ![1792, 256]⟩
abbrev S1792x128 : Shape := ⟨2, ![1792, 128]⟩
abbrev S256x2048 : Shape := ⟨2, ![256, 2048]⟩
abbrev S256x16 : Shape := ⟨2, ![256, 16]⟩
abbrev S256x256 : Shape := ⟨2, ![256, 256]⟩
abbrev S256x128 : Shape := ⟨2, ![256, 128]⟩
abbrev S2048x256 : Shape := ⟨2, ![2048, 256]⟩
abbrev S_ : Shape := ⟨0, ![]⟩
abbrev S256x1 : Shape := ⟨2, ![256, 1]⟩
abbrev S1x1 : Shape := ⟨2, ![1, 1]⟩
abbrev S1x128 : Shape := ⟨2, ![1, 128]⟩
abbrev S128x128 : Shape := ⟨2, ![128, 128]⟩

abbrev nBuf : Space → Nat
  | .hbm => 16
  | .vmem => 28
  | .smem => 1
  | _ => 0

abbrev bufTy : (tb : Table) → Fin (tcTables nBuf tb) → BufTy
  | .hbm, ⟨0, _⟩ => ⟨S1792x7168, .bf16⟩
  | .hbm, ⟨1, _⟩ => ⟨S1792x2048, .fp8e4m3⟩
  | .hbm, ⟨2, _⟩ => ⟨S1792x16, .i8⟩
  | .hbm, ⟨3, _⟩ => ⟨S2048x7168, .fp8e4m3⟩
  | .hbm, ⟨4, _⟩ => ⟨S16x56, .f32⟩
  | .hbm, ⟨5, _⟩ => ⟨S7168, .f32⟩
  | .hbm, ⟨6, _⟩ => ⟨S256x7168, .f32⟩
  | .hbm, ⟨7, _⟩ => ⟨S256, .f32⟩
  | .hbm, ⟨8, _⟩ => ⟨S1x7168, .f32⟩
  | .hbm, ⟨9, _⟩ => ⟨S1x256, .f32⟩
  | .hbm, ⟨10, _⟩ => ⟨S1792x7168, .bf16⟩
  | .hbm, ⟨11, _⟩ => ⟨S1792x256, .f32⟩
  | .hbm, ⟨12, _⟩ => ⟨S1792x256, .f32⟩
  | .hbm, ⟨13, _⟩ => ⟨S1792x7168, .fp8e4m3⟩
  | .hbm, ⟨14, _⟩ => ⟨S1792x7168, .bf16⟩
  | .hbm, ⟨15, _⟩ => ⟨S1792x128, .f32⟩
  | .local _ .vmem, ⟨0, _⟩ => ⟨S256x2048, .fp8e4m3⟩
  | .local _ .vmem, ⟨1, _⟩ => ⟨S256x2048, .fp8e4m3⟩
  | .local _ .vmem, ⟨2, _⟩ => ⟨S256x16, .i8⟩
  | .local _ .vmem, ⟨3, _⟩ => ⟨S256x16, .i8⟩
  | .local _ .vmem, ⟨4, _⟩ => ⟨S2048x7168, .fp8e4m3⟩
  | .local _ .vmem, ⟨5, _⟩ => ⟨S256x7168, .bf16⟩
  | .local _ .vmem, ⟨6, _⟩ => ⟨S256x7168, .bf16⟩
  | .local _ .vmem, ⟨7, _⟩ => ⟨S1x7168, .f32⟩
  | .local _ .vmem, ⟨8, _⟩ => ⟨S1x256, .f32⟩
  | .local _ .vmem, ⟨9, _⟩ => ⟨S256x7168, .bf16⟩
  | .local _ .vmem, ⟨10, _⟩ => ⟨S256x7168, .bf16⟩
  | .local _ .vmem, ⟨11, _⟩ => ⟨S256x256, .f32⟩
  | .local _ .vmem, ⟨12, _⟩ => ⟨S256x256, .f32⟩
  | .local _ .vmem, ⟨13, _⟩ => ⟨S256x256, .f32⟩
  | .local _ .vmem, ⟨14, _⟩ => ⟨S256x256, .f32⟩
  | .local _ .vmem, ⟨15, _⟩ => ⟨S256x7168, .fp8e4m3⟩
  | .local _ .vmem, ⟨16, _⟩ => ⟨S256x7168, .fp8e4m3⟩
  | .local _ .vmem, ⟨17, _⟩ => ⟨S256x7168, .bf16⟩
  | .local _ .vmem, ⟨18, _⟩ => ⟨S256x7168, .bf16⟩
  | .local _ .vmem, ⟨19, _⟩ => ⟨S256x128, .f32⟩
  | .local _ .vmem, ⟨20, _⟩ => ⟨S256x128, .f32⟩
  | .local _ .vmem, ⟨21, _⟩ => ⟨S256x2048, .bf16⟩
  | .local _ .vmem, ⟨22, _⟩ => ⟨S2048x256, .bf16⟩
  | .local _ .vmem, ⟨23, _⟩ => ⟨S256x7168, .f32⟩
  | .local _ .vmem, ⟨24, _⟩ => ⟨S256x256, .f32⟩
  | .local _ .vmem, ⟨25, _⟩ => ⟨S256x7168, .bf16⟩
  | .local _ .vmem, ⟨26, _⟩ => ⟨S256x7168, .bf16⟩
  | .local _ .vmem, ⟨27, _⟩ => ⟨S256x7168, .bf16⟩
  | .local _ .smem, ⟨0, _⟩ => ⟨S16x56, .f32⟩
  | _, _ => ⟨S1792x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .smem, ⟨0, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2_0 : Ref sig .tc := ⟨.hbm, 10, rfl⟩
abbrev main_v2_1 : Ref sig .tc := ⟨.hbm, 11, rfl⟩
abbrev main_v2_2 : Ref sig .tc := ⟨.hbm, 12, rfl⟩
abbrev main_v2_3 : Ref sig .tc := ⟨.hbm, 13, rfl⟩
abbrev main_v2_4 : Ref sig .tc := ⟨.hbm, 14, rfl⟩
abbrev main_v2_5 : Ref sig .tc := ⟨.hbm, 15, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_scratch0 : Ref sig .tc := ⟨.vmem, 21, rfl⟩
abbrev cc0_scratch1 : Ref sig .tc := ⟨.vmem, 22, rfl⟩
abbrev cc0_scratch2 : Ref sig .tc := ⟨.vmem, 23, rfl⟩
abbrev cc0_scratch3 : Ref sig .tc := ⟨.vmem, 24, rfl⟩
abbrev cc0_scratch4 : Ref sig .tc := ⟨.vmem, 25, rfl⟩
abbrev cc0_scratch5 : Ref sig .tc := ⟨.vmem, 26, rfl⟩
abbrev cc0_scratch6 : Ref sig .tc := ⟨.vmem, 27, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21

abbrev nD : Nat := 1
abbrev τ : Topo := Topo.v7x

variable {F : FTy → Type} [FloatOps F]

abbrev grid0 : Pipeline.Grid := ⟨1, ![7], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_105 : BitVec 32 := 0#32
  let c28_i32_106 : BitVec 32 := 28#32
  let v252 : BitVec 32 := Scalar.addi c0_i32_105 c28_i32_106
  let c1_i32_107 : BitVec 32 := 1#32
  ⟨c0_i32_105, v252, c1_i32_107⟩
def k0_mult1 (k0_t1 : Fin k0_t1_loop.trips) : BitVec 32 :=
  let c0_i32_105 : BitVec 32 := 0#32
  let c1_i32_107 : BitVec 32 := 1#32
  let arg22 : BitVec 32 := Scf.iv c0_i32_105 c1_i32_107 k0_t1
  let c256_i32 : BitVec 32 := 256#32
  let v253 : BitVec 32 := Scalar.muli arg22 c256_i32
  v253
def k0_off1 (k0_t1 : Fin k0_t1_loop.trips) : Fin 2 → Nat :=
  let c0_i32_114_r0 : BitVec 32 := 0#32
  let c0_i32_105 : BitVec 32 := 0#32
  let c1_i32_107 : BitVec 32 := 1#32
  let arg22 : BitVec 32 := Scf.iv c0_i32_105 c1_i32_107 k0_t1
  let c256_i32 : BitVec 32 := 256#32
  let v253 : BitVec 32 := Scalar.muli arg22 c256_i32
  let v254 : BitVec 32 := v253
  ![0, v254.toNat]
def k0_off2 (k0_t1 : Fin k0_t1_loop.trips) : Fin 2 → Nat :=
  let c0_111 : Index := 0#32
  let c0_i32_105 : BitVec 32 := 0#32
  let c1_i32_107 : BitVec 32 := 1#32
  let arg22 : BitVec 32 := Scf.iv c0_i32_105 c1_i32_107 k0_t1
  let c256_i32 : BitVec 32 := 256#32
  let v253 : BitVec 32 := Scalar.muli arg22 c256_i32
  let v254 : BitVec 32 := v253
  let v263 : Index := Scalar.indexCast v254
  ![0, v263.toNat]
@[reducible] def k0_t2_loop : Scf.Loop 32 :=
  let c0_i32_81 : BitVec 32 := 0#32
  let c28_i32 : BitVec 32 := 28#32
  let v212 : BitVec 32 := Scalar.addi c0_i32_81 c28_i32
  let c1_i32 : BitVec 32 := 1#32
  ⟨c0_i32_81, v212, c1_i32⟩
def k0_mult2 (k0_t2 : Fin k0_t2_loop.trips) : BitVec 32 :=
  let c0_i32_81 : BitVec 32 := 0#32
  let c1_i32 : BitVec 32 := 1#32
  let arg22 : BitVec 32 := Scf.iv c0_i32_81 c1_i32 k0_t2
  let c256_i32 : BitVec 32 := 256#32
  let v252 : BitVec 32 := Scalar.muli arg22 c256_i32
  v252
def k0_off3 (k0_t2 : Fin k0_t2_loop.trips) (c0_i32_105 : BitVec 32) : Fin 2 → Nat :=
  let c0_106 : Index := 0#32
  let c0_i32_81 : BitVec 32 := 0#32
  let c1_i32 : BitVec 32 := 1#32
  let arg22 : BitVec 32 := Scf.iv c0_i32_81 c1_i32 k0_t2
  let c2_i32 : BitVec 32 := 2#32
  let v254 : BitVec 32 := Scalar.muli arg22 c2_i32
  let v255 : BitVec 32 := Scalar.addi v254 c0_i32_105
  let v256 : Index := Scalar.indexCast v255
  ![0, v256.toNat]
def k0_off4 (k0_t2 : Fin k0_t2_loop.trips) (c0_i32_107 : BitVec 32) : Fin 2 → Nat :=
  let c0_108 : Index := 0#32
  let c0_i32_81 : BitVec 32 := 0#32
  let c1_i32 : BitVec 32 := 1#32
  let arg22 : BitVec 32 := Scf.iv c0_i32_81 c1_i32 k0_t2
  let c256_i32 : BitVec 32 := 256#32
  let v252 : BitVec 32 := Scalar.muli arg22 c256_i32
  let v253 : BitVec 32 := v252
  let v260 : BitVec 32 := Scalar.addi v253 c0_i32_107
  let v261 : Index := Scalar.indexCast v260
  ![0, v261.toNat]
def k0_off5 (k0_t2 : Fin k0_t2_loop.trips) (c0_i32_116 : BitVec 32) : Fin 2 → Nat :=
  let c1_117 : Index := 1#32
  let c0_i32_81 : BitVec 32 := 0#32
  let c1_i32 : BitVec 32 := 1#32
  let arg22 : BitVec 32 := Scf.iv c0_i32_81 c1_i32 k0_t2
  let c2_i32 : BitVec 32 := 2#32
  let v254 : BitVec 32 := Scalar.muli arg22 c2_i32
  let v283 : BitVec 32 := Scalar.addi v254 c0_i32_116
  let v284 : Index := Scalar.indexCast v283
  ![1, v284.toNat]
def k0_off6 (k0_t2 : Fin k0_t2_loop.trips) (c0_i32_118 : BitVec 32) : Fin 2 → Nat :=
  let c128_119 : Index := 128#32
  let c0_i32_81 : BitVec 32 := 0#32
  let c1_i32 : BitVec 32 := 1#32
  let arg22 : BitVec 32 := Scf.iv c0_i32_81 c1_i32 k0_t2
  let c256_i32 : BitVec 32 := 256#32
  let v252 : BitVec 32 := Scalar.muli arg22 c256_i32
  let v253 : BitVec 32 := v252
  let v288 : BitVec 32 := Scalar.addi v253 c0_i32_118
  let v289 : Index := Scalar.indexCast v288
  ![128, v289.toNat]
def k0_off7 (k0_t2 : Fin k0_t2_loop.trips) (c0_i32_128 : BitVec 32) : Fin 2 → Nat :=
  let c2_129 : Index := 2#32
  let c0_i32_81 : BitVec 32 := 0#32
  let c1_i32 : BitVec 32 := 1#32
  let arg22 : BitVec 32 := Scf.iv c0_i32_81 c1_i32 k0_t2
  let c2_i32 : BitVec 32 := 2#32
  let v254 : BitVec 32 := Scalar.muli arg22 c2_i32
  let v311 : BitVec 32 := Scalar.addi v254 c0_i32_128
  let v312 : Index := Scalar.indexCast v311
  ![2, v312.toNat]
def k0_off8 (k0_t2 : Fin k0_t2_loop.trips) (c0_i32_130 : BitVec 32) : Fin 2 → Nat :=
  let c256_131 : Index := 256#32
  let c0_i32_81 : BitVec 32 := 0#32
  let c1_i32 : BitVec 32 := 1#32
  let arg22 : BitVec 32 := Scf.iv c0_i32_81 c1_i32 k0_t2
  let c256_i32 : BitVec 32 := 256#32
  let v252 : BitVec 32 := Scalar.muli arg22 c256_i32
  let v253 : BitVec 32 := v252
  let v316 : BitVec 32 := Scalar.addi v253 c0_i32_130
  let v317 : Index := Scalar.indexCast v316
  ![256, v317.toNat]
def k0_off9 (k0_t2 : Fin k0_t2_loop.trips) (c0_i32_140 : BitVec 32) : Fin 2 → Nat :=
  let c3_141 : Index := 3#32
  let c0_i32_81 : BitVec 32 := 0#32
  let c1_i32 : BitVec 32 := 1#32
  let arg22 : BitVec 32 := Scf.iv c0_i32_81 c1_i32 k0_t2
  let c2_i32 : BitVec 32 := 2#32
  let v254 : BitVec 32 := Scalar.muli arg22 c2_i32
  let v339 : BitVec 32 := Scalar.addi v254 c0_i32_140
  let v340 : Index := Scalar.indexCast v339
  ![3, v340.toNat]
def k0_off10 (k0_t2 : Fin k0_t2_loop.trips) (c0_i32_142 : BitVec 32) : Fin 2 → Nat :=
  let c384_143 : Index := 384#32
  let c0_i32_81 : BitVec 32 := 0#32
  let c1_i32 : BitVec 32 := 1#32
  let arg22 : BitVec 32 := Scf.iv c0_i32_81 c1_i32 k0_t2
  let c256_i32 : BitVec 32 := 256#32
  let v252 : BitVec 32 := Scalar.muli arg22 c256_i32
  let v253 : BitVec 32 := v252
  let v344 : BitVec 32 := Scalar.addi v253 c0_i32_142
  let v345 : Index := Scalar.indexCast v344
  ![384, v345.toNat]
def k0_off11 (k0_t2 : Fin k0_t2_loop.trips) (c0_i32_152 : BitVec 32) : Fin 2 → Nat :=
  let c4_153 : Index := 4#32
  let c0_i32_81 : BitVec 32 := 0#32
  let c1_i32 : BitVec 32 := 1#32
  let arg22 : BitVec 32 := Scf.iv c0_i32_81 c1_i32 k0_t2
  let c2_i32 : BitVec 32 := 2#32
  let v254 : BitVec 32 := Scalar.muli arg22 c2_i32
  let v367 : BitVec 32 := Scalar.addi v254 c0_i32_152
  let v368 : Index := Scalar.indexCast v367
  ![4, v368.toNat]
def k0_off12 (k0_t2 : Fin k0_t2_loop.trips) (c0_i32_154 : BitVec 32) : Fin 2 → Nat :=
  let c512_155 : Index := 512#32
  let c0_i32_81 : BitVec 32 := 0#32
  let c1_i32 : BitVec 32 := 1#32
  let arg22 : BitVec 32 := Scf.iv c0_i32_81 c1_i32 k0_t2
  let c256_i32 : BitVec 32 := 256#32
  let v252 : BitVec 32 := Scalar.muli arg22 c256_i32
  let v253 : BitVec 32 := v252
  let v372 : BitVec 32 := Scalar.addi v253 c0_i32_154
  let v373 : Index := Scalar.indexCast v372
  ![512, v373.toNat]
def k0_off13 (k0_t2 : Fin k0_t2_loop.trips) (c0_i32_164 : BitVec 32) : Fin 2 → Nat :=
  let c5_165 : Index := 5#32
  let c0_i32_81 : BitVec 32 := 0#32
  let c1_i32 : BitVec 32 := 1#32
  let arg22 : BitVec 32 := Scf.iv c0_i32_81 c1_i32 k0_t2
  let c2_i32 : BitVec 32 := 2#32
  let v254 : BitVec 32 := Scalar.muli arg22 c2_i32
  let v395 : BitVec 32 := Scalar.addi v254 c0_i32_164
  let v396 : Index := Scalar.indexCast v395
  ![5, v396.toNat]
def k0_off14 (k0_t2 : Fin k0_t2_loop.trips) (c0_i32_166 : BitVec 32) : Fin 2 → Nat :=
  let c640_167 : Index := 640#32
  let c0_i32_81 : BitVec 32 := 0#32
  let c1_i32 : BitVec 32 := 1#32
  let arg22 : BitVec 32 := Scf.iv c0_i32_81 c1_i32 k0_t2
  let c256_i32 : BitVec 32 := 256#32
  let v252 : BitVec 32 := Scalar.muli arg22 c256_i32
  let v253 : BitVec 32 := v252
  let v400 : BitVec 32 := Scalar.addi v253 c0_i32_166
  let v401 : Index := Scalar.indexCast v400
  ![640, v401.toNat]
def k0_off15 (k0_t2 : Fin k0_t2_loop.trips) (c0_i32_176 : BitVec 32) : Fin 2 → Nat :=
  let c6_177 : Index := 6#32
  let c0_i32_81 : BitVec 32 := 0#32
  let c1_i32 : BitVec 32 := 1#32
  let arg22 : BitVec 32 := Scf.iv c0_i32_81 c1_i32 k0_t2
  let c2_i32 : BitVec 32 := 2#32
  let v254 : BitVec 32 := Scalar.muli arg22 c2_i32
  let v423 : BitVec 32 := Scalar.addi v254 c0_i32_176
  let v424 : Index := Scalar.indexCast v423
  ![6, v424.toNat]
def k0_off16 (k0_t2 : Fin k0_t2_loop.trips) (c0_i32_178 : BitVec 32) : Fin 2 → Nat :=
  let c768_179 : Index := 768#32
  let c0_i32_81 : BitVec 32 := 0#32
  let c1_i32 : BitVec 32 := 1#32
  let arg22 : BitVec 32 := Scf.iv c0_i32_81 c1_i32 k0_t2
  let c256_i32 : BitVec 32 := 256#32
  let v252 : BitVec 32 := Scalar.muli arg22 c256_i32
  let v253 : BitVec 32 := v252
  let v428 : BitVec 32 := Scalar.addi v253 c0_i32_178
  let v429 : Index := Scalar.indexCast v428
  ![768, v429.toNat]
def k0_off17 (k0_t2 : Fin k0_t2_loop.trips) (c0_i32_188 : BitVec 32) : Fin 2 → Nat :=
  let c7_189 : Index := 7#32
  let c0_i32_81 : BitVec 32 := 0#32
  let c1_i32 : BitVec 32 := 1#32
  let arg22 : BitVec 32 := Scf.iv c0_i32_81 c1_i32 k0_t2
  let c2_i32 : BitVec 32 := 2#32
  let v254 : BitVec 32 := Scalar.muli arg22 c2_i32
  let v451 : BitVec 32 := Scalar.addi v254 c0_i32_188
  let v452 : Index := Scalar.indexCast v451
  ![7, v452.toNat]
def k0_off18 (k0_t2 : Fin k0_t2_loop.trips) (c0_i32_190 : BitVec 32) : Fin 2 → Nat :=
  let c896_191 : Index := 896#32
  let c0_i32_81 : BitVec 32 := 0#32
  let c1_i32 : BitVec 32 := 1#32
  let arg22 : BitVec 32 := Scf.iv c0_i32_81 c1_i32 k0_t2
  let c256_i32 : BitVec 32 := 256#32
  let v252 : BitVec 32 := Scalar.muli arg22 c256_i32
  let v253 : BitVec 32 := v252
  let v456 : BitVec 32 := Scalar.addi v253 c0_i32_190
  let v457 : Index := Scalar.indexCast v456
  ![896, v457.toNat]
def k0_off19 (k0_t2 : Fin k0_t2_loop.trips) (c0_i32_200 : BitVec 32) : Fin 2 → Nat :=
  let c8_201 : Index := 8#32
  let c0_i32_81 : BitVec 32 := 0#32
  let c1_i32 : BitVec 32 := 1#32
  let arg22 : BitVec 32 := Scf.iv c0_i32_81 c1_i32 k0_t2
  let c2_i32 : BitVec 32 := 2#32
  let v254 : BitVec 32 := Scalar.muli arg22 c2_i32
  let v479 : BitVec 32 := Scalar.addi v254 c0_i32_200
  let v480 : Index := Scalar.indexCast v479
  ![8, v480.toNat]
def k0_off20 (k0_t2 : Fin k0_t2_loop.trips) (c0_i32_202 : BitVec 32) : Fin 2 → Nat :=
  let c1024_203 : Index := 1024#32
  let c0_i32_81 : BitVec 32 := 0#32
  let c1_i32 : BitVec 32 := 1#32
  let arg22 : BitVec 32 := Scf.iv c0_i32_81 c1_i32 k0_t2
  let c256_i32 : BitVec 32 := 256#32
  let v252 : BitVec 32 := Scalar.muli arg22 c256_i32
  let v253 : BitVec 32 := v252
  let v484 : BitVec 32 := Scalar.addi v253 c0_i32_202
  let v485 : Index := Scalar.indexCast v484
  ![1024, v485.toNat]
def k0_off21 (k0_t2 : Fin k0_t2_loop.trips) (c0_i32_212 : BitVec 32) : Fin 2 → Nat :=
  let c9_213 : Index := 9#32
  let c0_i32_81 : BitVec 32 := 0#32
  let c1_i32 : BitVec 32 := 1#32
  let arg22 : BitVec 32 := Scf.iv c0_i32_81 c1_i32 k0_t2
  let c2_i32 : BitVec 32 := 2#32
  let v254 : BitVec 32 := Scalar.muli arg22 c2_i32
  let v507 : BitVec 32 := Scalar.addi v254 c0_i32_212
  let v508 : Index := Scalar.indexCast v507
  ![9, v508.toNat]
def k0_off22 (k0_t2 : Fin k0_t2_loop.trips) (c0_i32_214 : BitVec 32) : Fin 2 → Nat :=
  let c1152_215 : Index := 1152#32
  let c0_i32_81 : BitVec 32 := 0#32
  let c1_i32 : BitVec 32 := 1#32
  let arg22 : BitVec 32 := Scf.iv c0_i32_81 c1_i32 k0_t2
  let c256_i32 : BitVec 32 := 256#32
  let v252 : BitVec 32 := Scalar.muli arg22 c256_i32
  let v253 : BitVec 32 := v252
  let v512 : BitVec 32 := Scalar.addi v253 c0_i32_214
  let v513 : Index := Scalar.indexCast v512
  ![1152, v513.toNat]
def k0_off23 (k0_t2 : Fin k0_t2_loop.trips) (c0_i32_224 : BitVec 32) : Fin 2 → Nat :=
  let c10_225 : Index := 10#32
  let c0_i32_81 : BitVec 32 := 0#32
  let c1_i32 : BitVec 32 := 1#32
  let arg22 : BitVec 32 := Scf.iv c0_i32_81 c1_i32 k0_t2
  let c2_i32 : BitVec 32 := 2#32
  let v254 : BitVec 32 := Scalar.muli arg22 c2_i32
  let v535 : BitVec 32 := Scalar.addi v254 c0_i32_224
  let v536 : Index := Scalar.indexCast v535
  ![10, v536.toNat]
def k0_off24 (k0_t2 : Fin k0_t2_loop.trips) (c0_i32_226 : BitVec 32) : Fin 2 → Nat :=
  let c1280_227 : Index := 1280#32
  let c0_i32_81 : BitVec 32 := 0#32
  let c1_i32 : BitVec 32 := 1#32
  let arg22 : BitVec 32 := Scf.iv c0_i32_81 c1_i32 k0_t2
  let c256_i32 : BitVec 32 := 256#32
  let v252 : BitVec 32 := Scalar.muli arg22 c256_i32
  let v253 : BitVec 32 := v252
  let v540 : BitVec 32 := Scalar.addi v253 c0_i32_226
  let v541 : Index := Scalar.indexCast v540
  ![1280, v541.toNat]
def k0_off25 (k0_t2 : Fin k0_t2_loop.trips) (c0_i32_236 : BitVec 32) : Fin 2 → Nat :=
  let c11_237 : Index := 11#32
  let c0_i32_81 : BitVec 32 := 0#32
  let c1_i32 : BitVec 32 := 1#32
  let arg22 : BitVec 32 := Scf.iv c0_i32_81 c1_i32 k0_t2
  let c2_i32 : BitVec 32 := 2#32
  let v254 : BitVec 32 := Scalar.muli arg22 c2_i32
  let v563 : BitVec 32 := Scalar.addi v254 c0_i32_236
  let v564 : Index := Scalar.indexCast v563
  ![11, v564.toNat]
def k0_off26 (k0_t2 : Fin k0_t2_loop.trips) (c0_i32_238 : BitVec 32) : Fin 2 → Nat :=
  let c1408_239 : Index := 1408#32
  let c0_i32_81 : BitVec 32 := 0#32
  let c1_i32 : BitVec 32 := 1#32
  let arg22 : BitVec 32 := Scf.iv c0_i32_81 c1_i32 k0_t2
  let c256_i32 : BitVec 32 := 256#32
  let v252 : BitVec 32 := Scalar.muli arg22 c256_i32
  let v253 : BitVec 32 := v252
  let v568 : BitVec 32 := Scalar.addi v253 c0_i32_238
  let v569 : Index := Scalar.indexCast v568
  ![1408, v569.toNat]
def k0_off27 (k0_t2 : Fin k0_t2_loop.trips) (c0_i32_248 : BitVec 32) : Fin 2 → Nat :=
  let c12_249 : Index := 12#32
  let c0_i32_81 : BitVec 32 := 0#32
  let c1_i32 : BitVec 32 := 1#32
  let arg22 : BitVec 32 := Scf.iv c0_i32_81 c1_i32 k0_t2
  let c2_i32 : BitVec 32 := 2#32
  let v254 : BitVec 32 := Scalar.muli arg22 c2_i32
  let v591 : BitVec 32 := Scalar.addi v254 c0_i32_248
  let v592 : Index := Scalar.indexCast v591
  ![12, v592.toNat]
def k0_off28 (k0_t2 : Fin k0_t2_loop.trips) (c0_i32_250 : BitVec 32) : Fin 2 → Nat :=
  let c1536_251 : Index := 1536#32
  let c0_i32_81 : BitVec 32 := 0#32
  let c1_i32 : BitVec 32 := 1#32
  let arg22 : BitVec 32 := Scf.iv c0_i32_81 c1_i32 k0_t2
  let c256_i32 : BitVec 32 := 256#32
  let v252 : BitVec 32 := Scalar.muli arg22 c256_i32
  let v253 : BitVec 32 := v252
  let v596 : BitVec 32 := Scalar.addi v253 c0_i32_250
  let v597 : Index := Scalar.indexCast v596
  ![1536, v597.toNat]
def k0_off29 (k0_t2 : Fin k0_t2_loop.trips) (c0_i32_260 : BitVec 32) : Fin 2 → Nat :=
  let c13_261 : Index := 13#32
  let c0_i32_81 : BitVec 32 := 0#32
  let c1_i32 : BitVec 32 := 1#32
  let arg22 : BitVec 32 := Scf.iv c0_i32_81 c1_i32 k0_t2
  let c2_i32 : BitVec 32 := 2#32
  let v254 : BitVec 32 := Scalar.muli arg22 c2_i32
  let v619 : BitVec 32 := Scalar.addi v254 c0_i32_260
  let v620 : Index := Scalar.indexCast v619
  ![13, v620.toNat]
def k0_off30 (k0_t2 : Fin k0_t2_loop.trips) (c0_i32_262 : BitVec 32) : Fin 2 → Nat :=
  let c1664_263 : Index := 1664#32
  let c0_i32_81 : BitVec 32 := 0#32
  let c1_i32 : BitVec 32 := 1#32
  let arg22 : BitVec 32 := Scf.iv c0_i32_81 c1_i32 k0_t2
  let c256_i32 : BitVec 32 := 256#32
  let v252 : BitVec 32 := Scalar.muli arg22 c256_i32
  let v253 : BitVec 32 := v252
  let v624 : BitVec 32 := Scalar.addi v253 c0_i32_262
  let v625 : Index := Scalar.indexCast v624
  ![1664, v625.toNat]
def k0_off31 (k0_t2 : Fin k0_t2_loop.trips) (c0_i32_272 : BitVec 32) : Fin 2 → Nat :=
  let c14_273 : Index := 14#32
  let c0_i32_81 : BitVec 32 := 0#32
  let c1_i32 : BitVec 32 := 1#32
  let arg22 : BitVec 32 := Scf.iv c0_i32_81 c1_i32 k0_t2
  let c2_i32 : BitVec 32 := 2#32
  let v254 : BitVec 32 := Scalar.muli arg22 c2_i32
  let v647 : BitVec 32 := Scalar.addi v254 c0_i32_272
  let v648 : Index := Scalar.indexCast v647
  ![14, v648.toNat]
def k0_off32 (k0_t2 : Fin k0_t2_loop.trips) (c0_i32_274 : BitVec 32) : Fin 2 → Nat :=
  let c1792_275 : Index := 1792#32
  let c0_i32_81 : BitVec 32 := 0#32
  let c1_i32 : BitVec 32 := 1#32
  let arg22 : BitVec 32 := Scf.iv c0_i32_81 c1_i32 k0_t2
  let c256_i32 : BitVec 32 := 256#32
  let v252 : BitVec 32 := Scalar.muli arg22 c256_i32
  let v253 : BitVec 32 := v252
  let v652 : BitVec 32 := Scalar.addi v253 c0_i32_274
  let v653 : Index := Scalar.indexCast v652
  ![1792, v653.toNat]
def k0_off33 (k0_t2 : Fin k0_t2_loop.trips) (c0_i32_284 : BitVec 32) : Fin 2 → Nat :=
  let c15_285 : Index := 15#32
  let c0_i32_81 : BitVec 32 := 0#32
  let c1_i32 : BitVec 32 := 1#32
  let arg22 : BitVec 32 := Scf.iv c0_i32_81 c1_i32 k0_t2
  let c2_i32 : BitVec 32 := 2#32
  let v254 : BitVec 32 := Scalar.muli arg22 c2_i32
  let v675 : BitVec 32 := Scalar.addi v254 c0_i32_284
  let v676 : Index := Scalar.indexCast v675
  ![15, v676.toNat]
def k0_off34 (k0_t2 : Fin k0_t2_loop.trips) (c0_i32_286 : BitVec 32) : Fin 2 → Nat :=
  let c1920_287 : Index := 1920#32
  let c0_i32_81 : BitVec 32 := 0#32
  let c1_i32 : BitVec 32 := 1#32
  let arg22 : BitVec 32 := Scf.iv c0_i32_81 c1_i32 k0_t2
  let c256_i32 : BitVec 32 := 256#32
  let v252 : BitVec 32 := Scalar.muli arg22 c256_i32
  let v253 : BitVec 32 := v252
  let v680 : BitVec 32 := Scalar.addi v253 c0_i32_286
  let v681 : Index := Scalar.indexCast v680
  ![1920, v681.toNat]
def k0_off35 (k0_t2 : Fin k0_t2_loop.trips) : Fin 2 → Nat :=
  let c0_296 : Index := 0#32
  let c0_i32_81 : BitVec 32 := 0#32
  let c1_i32 : BitVec 32 := 1#32
  let arg22 : BitVec 32 := Scf.iv c0_i32_81 c1_i32 k0_t2
  let c256_i32 : BitVec 32 := 256#32
  let v252 : BitVec 32 := Scalar.muli arg22 c256_i32
  let v253 : BitVec 32 := v252
  let v703 : Index := Scalar.indexCast v253
  ![0, v703.toNat]
@[reducible] def k0_t3_loop : Scf.Loop 32 :=
  let c0_i32_90 : BitVec 32 := 0#32
  let c28_i32_91 : BitVec 32 := 28#32
  let v225 : BitVec 32 := Scalar.addi c0_i32_90 c28_i32_91
  let c1_i32_92 : BitVec 32 := 1#32
  ⟨c0_i32_90, v225, c1_i32_92⟩
def k0_mult3 (k0_t3 : Fin k0_t3_loop.trips) : BitVec 32 :=
  let c0_i32_90 : BitVec 32 := 0#32
  let c1_i32_92 : BitVec 32 := 1#32
  let arg22 : BitVec 32 := Scf.iv c0_i32_90 c1_i32_92 k0_t3
  let c256_i32 : BitVec 32 := 256#32
  let v252 : BitVec 32 := Scalar.muli arg22 c256_i32
  v252
def k0_off36 (k0_t3 : Fin k0_t3_loop.trips) : Fin 2 → Nat :=
  let c0_105 : Index := 0#32
  let c0_i32_90 : BitVec 32 := 0#32
  let c1_i32_92 : BitVec 32 := 1#32
  let arg22 : BitVec 32 := Scf.iv c0_i32_90 c1_i32_92 k0_t3
  let c256_i32 : BitVec 32 := 256#32
  let v252 : BitVec 32 := Scalar.muli arg22 c256_i32
  let v253 : BitVec 32 := v252
  let v254 : Index := Scalar.indexCast v253
  ![0, v254.toNat]
def k0_off37 (k0_t3 : Fin k0_t3_loop.trips) : Fin 2 → Nat :=
  let c0_106 : Index := 0#32
  let c0_i32_90 : BitVec 32 := 0#32
  let c1_i32_92 : BitVec 32 := 1#32
  let arg22 : BitVec 32 := Scf.iv c0_i32_90 c1_i32_92 k0_t3
  let c256_i32 : BitVec 32 := 256#32
  let v252 : BitVec 32 := Scalar.muli arg22 c256_i32
  let v253 : BitVec 32 := v252
  let v258 : Index := Scalar.indexCast v253
  ![0, v258.toNat]
def k0_mult4 (k0_t3 : Fin k0_t3_loop.trips) : BitVec 32 :=
  let c0_i32_90 : BitVec 32 := 0#32
  let c1_i32_92 : BitVec 32 := 1#32
  let arg22 : BitVec 32 := Scf.iv c0_i32_90 c1_i32_92 k0_t3
  let c256_i32_167 : BitVec 32 := 256#32
  let v433 : BitVec 32 := Scalar.muli arg22 c256_i32_167
  let c0_i32_168 : BitVec 32 := 0#32
  let v434 : BitVec 32 := Scalar.addi v433 c0_i32_168
  v434
def k0_off38 (k0_t3 : Fin k0_t3_loop.trips) (c0_i32_168 : BitVec 32) : Fin 2 → Nat :=
  let c0_169 : Index := 0#32
  let c0_i32_90 : BitVec 32 := 0#32
  let c1_i32_92 : BitVec 32 := 1#32
  let arg22 : BitVec 32 := Scf.iv c0_i32_90 c1_i32_92 k0_t3
  let c256_i32_167 : BitVec 32 := 256#32
  let v433 : BitVec 32 := Scalar.muli arg22 c256_i32_167
  let v434 : BitVec 32 := Scalar.addi v433 c0_i32_168
  let v435 : BitVec 32 := v434
  let v436 : Index := Scalar.indexCast v435
  ![0, v436.toNat]
def k0_mult5 (k0_t3 : Fin k0_t3_loop.trips) : BitVec 32 :=
  let c0_i32_90 : BitVec 32 := 0#32
  let c1_i32_92 : BitVec 32 := 1#32
  let arg22 : BitVec 32 := Scf.iv c0_i32_90 c1_i32_92 k0_t3
  let c256_i32_229 : BitVec 32 := 256#32
  let v596 : BitVec 32 := Scalar.muli arg22 c256_i32_229
  let c128_i32_230 : BitVec 32 := 128#32
  let v597 : BitVec 32 := Scalar.addi v596 c128_i32_230
  v597
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S16x56 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x2048 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x16 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x7168 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x7168 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x7168 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x7168 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x7168 .fp8e4m3 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x7168 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== ProjReferenceIdeal.lean ====
abbrev S1792x7168 : Shape := ⟨2, ![1792, 7168]⟩
abbrev S1792x2048 : Shape := ⟨2, ![1792, 2048]⟩
abbrev S1792x16 : Shape := ⟨2, ![1792, 16]⟩
abbrev S2048x7168 : Shape := ⟨2, ![2048, 7168]⟩
abbrev S16x56 : Shape := ⟨2, ![16, 56]⟩
abbrev S7168 : Shape := ⟨1, ![7168]⟩
abbrev S256x7168 : Shape := ⟨2, ![256, 7168]⟩
abbrev S256 : Shape := ⟨1, ![256]⟩
abbrev S1792x16x128 : Shape := ⟨3, ![1792, 16, 128]⟩
abbrev S1792x16x1 : Shape := ⟨3, ![1792, 16, 1]⟩
abbrev S16x128x56x128 : Shape := ⟨4, ![16, 128, 56, 128]⟩
abbrev S16x1x56x1 : Shape := ⟨4, ![16, 1, 56, 1]⟩

abbrev nBuf : Space → Nat
  | .hbm => 9
  | .vmem => 6
  | .smem => 0
  | _ => 0

abbrev bufTy : (tb : Table) → Fin (tcTables nBuf tb) → BufTy
  | .hbm, ⟨0, _⟩ => ⟨S1792x7168, .bf16⟩
  | .hbm, ⟨1, _⟩ => ⟨S1792x2048, .fp8e4m3⟩
  | .hbm, ⟨2, _⟩ => ⟨S1792x16, .i8⟩
  | .hbm, ⟨3, _⟩ => ⟨S2048x7168, .fp8e4m3⟩
  | .hbm, ⟨4, _⟩ => ⟨S16x56, .f32⟩
  | .hbm, ⟨5, _⟩ => ⟨S7168, .f32⟩
  | .hbm, ⟨6, _⟩ => ⟨S256x7168, .f32⟩
  | .hbm, ⟨7, _⟩ => ⟨S256, .f32⟩
  | .hbm, ⟨8, _⟩ => ⟨S1792x7168, .bf16⟩
  | .local _ .vmem, ⟨0, _⟩ => ⟨S1792x7168, .bf16⟩
  | .local _ .vmem, ⟨1, _⟩ => ⟨S1792x2048, .fp8e4m3⟩
  | .local _ .vmem, ⟨2, _⟩ => ⟨S1792x16, .i8⟩
  | .local _ .vmem, ⟨3, _⟩ => ⟨S2048x7168, .fp8e4m3⟩
  | .local _ .vmem, ⟨4, _⟩ => ⟨S16x56, .f32⟩
  | .local _ .vmem, ⟨5, _⟩ => ⟨S1792x7168, .bf16⟩
  | _, _ => ⟨S1792x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S1792x7168 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1792x2048 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1792x16 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2048x7168 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S16x56 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1792x7168 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Down.lean ====
abbrev S1792x2048 : Shape := ⟨2, ![1792, 2048]⟩
abbrev S2048x7168 : Shape := ⟨2, ![2048, 7168]⟩
abbrev S16x56 : Shape := ⟨2, ![16, 56]⟩
abbrev S1792x7168 : Shape := ⟨2, ![1792, 7168]⟩
abbrev S2048x512 : Shape := ⟨2, ![2048, 512]⟩
abbrev S1792x512 : Shape := ⟨2, ![1792, 512]⟩
abbrev S1x1 : Shape := ⟨2, ![1, 1]⟩
abbrev S1x128 : Shape := ⟨2, ![1, 128]⟩
abbrev S128x128 : Shape := ⟨2, ![128, 128]⟩
abbrev S448x2048 : Shape := ⟨2, ![448, 2048]⟩
abbrev S448x512 : Shape := ⟨2, ![448, 512]⟩

abbrev nBuf : Space → Nat
  | .hbm => 4
  | .vmem => 6
  | .smem => 1
  | _ => 0

abbrev bufTy : (tb : Table) → Fin (tcTables nBuf tb) → BufTy
  | .hbm, ⟨0, _⟩ => ⟨S1792x2048, .bf16⟩
  | .hbm, ⟨1, _⟩ => ⟨S2048x7168, .fp8e4m3⟩
  | .hbm, ⟨2, _⟩ => ⟨S16x56, .f32⟩
  | .hbm, ⟨3, _⟩ => ⟨S1792x7168, .bf16⟩
  | .local _ .vmem, ⟨0, _⟩ => ⟨S1792x2048, .bf16⟩
  | .local _ .vmem, ⟨1, _⟩ => ⟨S2048x512, .fp8e4m3⟩
  | .local _ .vmem, ⟨2, _⟩ => ⟨S2048x512, .fp8e4m3⟩
  | .local _ .vmem, ⟨3, _⟩ => ⟨S1792x512, .bf16⟩
  | .local _ .vmem, ⟨4, _⟩ => ⟨S1792x512, .bf16⟩
  | .local _ .vmem, ⟨5, _⟩ => ⟨S2048x512, .bf16⟩
  | .local _ .smem, ⟨0, _⟩ => ⟨S16x56, .f32⟩
  | _, _ => ⟨S1792x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg1_0 : Ref sig .tc := ⟨.vmem, 0, rfl⟩
abbrev cc0_stg2_0 : Ref sig .tc := ⟨.vmem, 1, rfl⟩
abbrev cc0_stg2_1 : Ref sig .tc := ⟨.vmem, 2, rfl⟩
abbrev cc0_stg3_0 : Ref sig .tc := ⟨.vmem, 3, rfl⟩
abbrev cc0_stg3_1 : Ref sig .tc := ⟨.vmem, 4, rfl⟩
abbrev cc0_scratch0 : Ref sig .tc := ⟨.vmem, 5, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![14], ![false]⟩

def k0_off1 (i : grid0.Coords) (c0_i32 : BitVec 32) : Fin 2 → Nat :=
  let c0 : Index := 0#32
  let arg0 : BitVec 32 := BitVec.ofNat 32 (i 0).val
  let c4_i32 : BitVec 32 := 4#32
  let v0 : BitVec 32 := Scalar.muli arg0 c4_i32
  let v1 : BitVec 32 := Scalar.addi v0 c0_i32
  let v2 : Index := Scalar.indexCast v1
  ![0, v2.toNat]
def k0_off2 (i : grid0.Coords) (c0_i32_16 : BitVec 32) : Fin 2 → Nat :=
  let c1 : Index := 1#32
  let arg0 : BitVec 32 := BitVec.ofNat 32 (i 0).val
  let c4_i32 : BitVec 32 := 4#32
  let v0 : BitVec 32 := Scalar.muli arg0 c4_i32
  let v49 : BitVec 32 := Scalar.addi v0 c0_i32_16
  let v50 : Index := Scalar.indexCast v49
  ![1, v50.toNat]
def k0_off3 (i : grid0.Coords) (c0_i32_39 : BitVec 32) : Fin 2 → Nat :=
  let c2 : Index := 2#32
  let arg0 : BitVec 32 := BitVec.ofNat 32 (i 0).val
  let c4_i32 : BitVec 32 := 4#32
  let v0 : BitVec 32 := Scalar.muli arg0 c4_i32
  let v97 : BitVec 32 := Scalar.addi v0 c0_i32_39
  let v98 : Index := Scalar.indexCast v97
  ![2, v98.toNat]
def k0_off4 (i : grid0.Coords) (c0_i32_62 : BitVec 32) : Fin 2 → Nat :=
  let c3 : Index := 3#32
  let arg0 : BitVec 32 := BitVec.ofNat 32 (i 0).val
  let c4_i32 : BitVec 32 := 4#32
  let v0 : BitVec 32 := Scalar.muli arg0 c4_i32
  let v145 : BitVec 32 := Scalar.addi v0 c0_i32_62
  let v146 : Index := Scalar.indexCast v145
  ![3, v146.toNat]
def k0_off5 (i : grid0.Coords) (c0_i32_85 : BitVec 32) : Fin 2 → Nat :=
  let c4 : Index := 4#32
  let arg0 : BitVec 32 := BitVec.ofNat 32 (i 0).val
  let c4_i32 : BitVec 32 := 4#32
  let v0 : BitVec 32 := Scalar.muli arg0 c4_i32
  let v193 : BitVec 32 := Scalar.addi v0 c0_i32_85
  let v194 : Index := Scalar.indexCast v193
  ![4, v194.toNat]
def k0_off6 (i : grid0.Coords) (c0_i32_107 : BitVec 32) : Fin 2 → Nat :=
  let c5 : Index := 5#32
  let arg0 : BitVec 32 := BitVec.ofNat 32 (i 0).val
  let c4_i32 : BitVec 32 := 4#32
  let v0 : BitVec 32 := Scalar.muli arg0 c4_i32
  let v241 : BitVec 32 := Scalar.addi v0 c0_i32_107
  let v242 : Index := Scalar.indexCast v241
  ![5, v242.toNat]
def k0_off7 (i : grid0.Coords) (c0_i32_129 : BitVec 32) : Fin 2 → Nat :=
  let c6 : Index := 6#32
  let arg0 : BitVec 32 := BitVec.ofNat 32 (i 0).val
  let c4_i32 : BitVec 32 := 4#32
  let v0 : BitVec 32 := Scalar.muli arg0 c4_i32
  let v289 : BitVec 32 := Scalar.addi v0 c0_i32_129
  let v290 : Index := Scalar.indexCast v289
  ![6, v290.toNat]
def k0_off8 (i : grid0.Coords) (c0_i32_151 : BitVec 32) : Fin 2 → Nat :=
  let c7 : Index := 7#32
  let arg0 : BitVec 32 := BitVec.ofNat 32 (i 0).val
  let c4_i32 : BitVec 32 := 4#32
  let v0 : BitVec 32 := Scalar.muli arg0 c4_i32
  let v337 : BitVec 32 := Scalar.addi v0 c0_i32_151
  let v338 : Index := Scalar.indexCast v337
  ![7, v338.toNat]
def k0_off9 (i : grid0.Coords) (c0_i32_173 : BitVec 32) : Fin 2 → Nat :=
  let c8 : Index := 8#32
  let arg0 : BitVec 32 := BitVec.ofNat 32 (i 0).val
  let c4_i32 : BitVec 32 := 4#32
  let v0 : BitVec 32 := Scalar.muli arg0 c4_i32
  let v385 : BitVec 32 := Scalar.addi v0 c0_i32_173
  let v386 : Index := Scalar.indexCast v385
  ![8, v386.toNat]
def k0_off10 (i : grid0.Coords) (c0_i32_195 : BitVec 32) : Fin 2 → Nat :=
  let c9 : Index := 9#32
  let arg0 : BitVec 32 := BitVec.ofNat 32 (i 0).val
  let c4_i32 : BitVec 32 := 4#32
  let v0 : BitVec 32 := Scalar.muli arg0 c4_i32
  let v433 : BitVec 32 := Scalar.addi v0 c0_i32_195
  let v434 : Index := Scalar.indexCast v433
  ![9, v434.toNat]
def k0_off11 (i : grid0.Coords) (c0_i32_217 : BitVec 32) : Fin 2 → Nat :=
  let c10 : Index := 10#32
  let arg0 : BitVec 32 := BitVec.ofNat 32 (i 0).val
  let c4_i32 : BitVec 32 := 4#32
  let v0 : BitVec 32 := Scalar.muli arg0 c4_i32
  let v481 : BitVec 32 := Scalar.addi v0 c0_i32_217
  let v482 : Index := Scalar.indexCast v481
  ![10, v482.toNat]
def k0_off12 (i : grid0.Coords) (c0_i32_239 : BitVec 32) : Fin 2 → Nat :=
  let c11 : Index := 11#32
  let arg0 : BitVec 32 := BitVec.ofNat 32 (i 0).val
  let c4_i32 : BitVec 32 := 4#32
  let v0 : BitVec 32 := Scalar.muli arg0 c4_i32
  let v529 : BitVec 32 := Scalar.addi v0 c0_i32_239
  let v530 : Index := Scalar.indexCast v529
  ![11, v530.toNat]
def k0_off13 (i : grid0.Coords) (c0_i32_261 : BitVec 32) : Fin 2 → Nat :=
  let c12 : Index := 12#32
  let arg0 : BitVec 32 := BitVec.ofNat 32 (i 0).val
  let c4_i32 : BitVec 32 := 4#32
  let v0 : BitVec 32 := Scalar.muli arg0 c4_i32
  let v577 : BitVec 32 := Scalar.addi v0 c0_i32_261
  let v578 : Index := Scalar.indexCast v577
  ![12, v578.toNat]
def k0_off14 (i : grid0.Coords) (c0_i32_283 : BitVec 32) : Fin 2 → Nat :=
  let c13 : Index := 13#32
  let arg0 : BitVec 32 := BitVec.ofNat 32 (i 0).val
  let c4_i32 : BitVec 32 := 4#32
  let v0 : BitVec 32 := Scalar.muli arg0 c4_i32
  let v625 : BitVec 32 := Scalar.addi v0 c0_i32_283
  let v626 : Index := Scalar.indexCast v625
  ![13, v626.toNat]
def k0_off15 (i : grid0.Coords) (c0_i32_305 : BitVec 32) : Fin 2 → Nat :=
  let c14 : Index := 14#32
  let arg0 : BitVec 32 := BitVec.ofNat 32 (i 0).val
  let c4_i32 : BitVec 32 := 4#32
  let v0 : BitVec 32 := Scalar.muli arg0 c4_i32
  let v673 : BitVec 32 := Scalar.addi v0 c0_i32_305
  let v674 : Index := Scalar.indexCast v673
  ![14, v674.toNat]
def k0_off16 (i : grid0.Coords) (c0_i32_327 : BitVec 32) : Fin 2 → Nat :=
  let c15 : Index := 15#32
  let arg0 : BitVec 32 := BitVec.ofNat 32 (i 0).val
  let c4_i32 : BitVec 32 := 4#32
  let v0 : BitVec 32 := Scalar.muli arg0 c4_i32
  let v721 : BitVec 32 := Scalar.addi v0 c0_i32_327
  let v722 : Index := Scalar.indexCast v721
  ![15, v722.toNat]
@[reducible] def k0_t1_loop : Scf.Loop 32 :=
  let c0_i32_349 : BitVec 32 := 0#32
  let c4_i32_350 : BitVec 32 := 4#32
  let v769 : BitVec 32 := Scalar.addi c0_i32_349 c4_i32_350
  let c1_i32_351 : BitVec 32 := 1#32
  ⟨c0_i32_349, v769, c1_i32_351⟩
def k0_mult1 (k0_t1 : Fin k0_t1_loop.trips) : BitVec 32 :=
  let c0_i32_349 : BitVec 32 := 0#32
  let c1_i32_351 : BitVec 32 := 1#32
  let arg6 : BitVec 32 := Scf.iv c0_i32_349 c1_i32_351 k0_t1
  let c448_i32 : BitVec 32 := 448#32
  let v770 : BitVec 32 := Scalar.muli arg6 c448_i32
  v770
def k0_off17 (k0_t1 : Fin k0_t1_loop.trips) : Fin 2 → Nat :=
  let c0_i32_349 : BitVec 32 := 0#32
  let c1_i32_351 : BitVec 32 := 1#32
  let arg6 : BitVec 32 := Scf.iv c0_i32_349 c1_i32_351 k0_t1
  let c448_i32 : BitVec 32 := 448#32
  let v770 : BitVec 32 := Scalar.muli arg6 c448_i32
  let v771 : BitVec 32 := v770
  let v772 : Index := Scalar.indexCast v771
  let c0_353 : Index := 0#32
  ![v772.toNat, 0]
def k0_off18 (k0_t1 : Fin k0_t1_loop.trips) : Fin 2 → Nat :=
  let c0_i32_349 : BitVec 32 := 0#32
  let c1_i32_351 : BitVec 32 := 1#32
  let arg6 : BitVec 32 := Scf.iv c0_i32_349 c1_i32_351 k0_t1
  let c448_i32 : BitVec 32 := 448#32
  let v770 : BitVec 32 := Scalar.muli arg6 c448_i32
  let v771 : BitVec 32 := v770
  let v777 : Index := Scalar.indexCast v771
  let c0_356 : Index := 0#32
  ![v777.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .smem S16x56 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1792x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2048x512 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1792x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== DownReferenceIdeal.lean ====
abbrev S1792x2048 : Shape := ⟨2, ![1792, 2048]⟩
abbrev S2048x7168 : Shape := ⟨2, ![2048, 7168]⟩
abbrev S16x56 : Shape := ⟨2, ![16, 56]⟩
abbrev S1792x7168 : Shape := ⟨2, ![1792, 7168]⟩
abbrev S16x128x56x128 : Shape := ⟨4, ![16, 128, 56, 128]⟩
abbrev S16x1x56x1 : Shape := ⟨4, ![16, 1, 56, 1]⟩

abbrev nBuf : Space → Nat
  | .hbm => 4
  | .vmem => 4
  | .smem => 0
  | _ => 0

abbrev bufTy : (tb : Table) → Fin (tcTables nBuf tb) → BufTy
  | .hbm, ⟨0, _⟩ => ⟨S1792x2048, .bf16⟩
  | .hbm, ⟨1, _⟩ => ⟨S2048x7168, .fp8e4m3⟩
  | .hbm, ⟨2, _⟩ => ⟨S16x56, .f32⟩
  | .hbm, ⟨3, _⟩ => ⟨S1792x7168, .bf16⟩
  | .local _ .vmem, ⟨0, _⟩ => ⟨S1792x2048, .bf16⟩
  | .local _ .vmem, ⟨1, _⟩ => ⟨S2048x7168, .fp8e4m3⟩
  | .local _ .vmem, ⟨2, _⟩ => ⟨S16x56, .f32⟩
  | .local _ .vmem, ⟨3, _⟩ => ⟨S1792x7168, .bf16⟩
  | _, _ => ⟨S1792x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S1792x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2048x7168 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16x56 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1792x7168 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== GateUp.lean ====
abbrev S56x16 : Shape := ⟨2, ![56, 16]⟩
abbrev S1792x7168 : Shape := ⟨2, ![1792, 7168]⟩
abbrev S7168x2048 : Shape := ⟨2, ![7168, 2048]⟩
abbrev S1792x2048 : Shape := ⟨2, ![1792, 2048]⟩
abbrev S1792x128 : Shape := ⟨2, ![1792, 128]⟩
abbrev S7168x256 : Shape := ⟨2, ![7168, 256]⟩
abbrev S1792x256 : Shape := ⟨2, ![1792, 256]⟩
abbrev S7168x512 : Shape := ⟨2, ![7168, 512]⟩
abbrev S1x1 : Shape := ⟨2, ![1, 1]⟩
abbrev S1x128 : Shape := ⟨2, ![1, 128]⟩
abbrev S128x128 : Shape := ⟨2, ![128, 128]⟩
abbrev S448x128 : Shape := ⟨2, ![448, 128]⟩
abbrev S448x7168 : Shape := ⟨2, ![448, 7168]⟩
abbrev S448x512 : Shape := ⟨2, ![448, 512]⟩
abbrev S448x256 : Shape := ⟨2, ![448, 256]⟩
abbrev S448 : Shape := ⟨1, ![448]⟩
abbrev S448x1 : Shape := ⟨2, ![448, 1]⟩
abbrev S1792x16 : Shape := ⟨2, ![1792, 16]⟩

abbrev nBuf : Space → Nat
  | .hbm => 9
  | .vmem => 12
  | .smem => 2
  | _ => 0

abbrev bufTy : (tb : Table) → Fin (tcTables nBuf tb) → BufTy
  | .hbm, ⟨0, _⟩ => ⟨S56x16, .f32⟩
  | .hbm, ⟨1, _⟩ => ⟨S56x16, .f32⟩
  | .hbm, ⟨2, _⟩ => ⟨S1792x7168, .bf16⟩
  | .hbm, ⟨3, _⟩ => ⟨S7168x2048, .fp8e4m3⟩
  | .hbm, ⟨4, _⟩ => ⟨S7168x2048, .fp8e4m3⟩
  | .hbm, ⟨5, _⟩ => ⟨S1792x2048, .fp8e4m3⟩
  | .hbm, ⟨6, _⟩ => ⟨S1792x128, .f32⟩
  | .hbm, ⟨7, _⟩ => ⟨S1792x2048, .bf16⟩
  | .hbm, ⟨8, _⟩ => ⟨S1792x16, .f32⟩
  | .local _ .vmem, ⟨0, _⟩ => ⟨S1792x7168, .bf16⟩
  | .local _ .vmem, ⟨1, _⟩ => ⟨S7168x256, .fp8e4m3⟩
  | .local _ .vmem, ⟨2, _⟩ => ⟨S7168x256, .fp8e4m3⟩
  | .local _ .vmem, ⟨3, _⟩ => ⟨S7168x256, .fp8e4m3⟩
  | .local _ .vmem, ⟨4, _⟩ => ⟨S7168x256, .fp8e4m3⟩
  | .local _ .vmem, ⟨5, _⟩ => ⟨S1792x256, .fp8e4m3⟩
  | .local _ .vmem, ⟨6, _⟩ => ⟨S1792x256, .fp8e4m3⟩
  | .local _ .vmem, ⟨7, _⟩ => ⟨S1792x128, .f32⟩
  | .local _ .vmem, ⟨8, _⟩ => ⟨S1792x256, .bf16⟩
  | .local _ .vmem, ⟨9, _⟩ => ⟨S1792x256, .bf16⟩
  | .local _ .vmem, ⟨10, _⟩ => ⟨S7168x512, .bf16⟩
  | .local _ .vmem, ⟨11, _⟩ => ⟨S1792x128, .f32⟩
  | .local _ .smem, ⟨0, _⟩ => ⟨S56x16, .f32⟩
  | .local _ .smem, ⟨1, _⟩ => ⟨S56x16, .f32⟩
  | _, _ => ⟨S56x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v1 : Ref sig .tc := ⟨.hbm, 8, rfl⟩
abbrev cc0_stg2_0 : Ref sig .tc := ⟨.vmem, 0, rfl⟩
abbrev cc0_stg3_0 : Ref sig .tc := ⟨.vmem, 1, rfl⟩
abbrev cc0_stg3_1 : Ref sig .tc := ⟨.vmem, 2, rfl⟩
abbrev cc0_stg4_0 : Ref sig .tc := ⟨.vmem, 3, rfl⟩
abbrev cc0_stg4_1 : Ref sig .tc := ⟨.vmem, 4, rfl⟩
abbrev cc0_stg5_0 : Ref sig .tc := ⟨.vmem, 5, rfl⟩
abbrev cc0_stg5_1 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_scratch0 : Ref sig .tc := ⟨.vmem, 10, rfl⟩
abbrev cc0_scratch1 : Ref sig .tc := ⟨.vmem, 11, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![8], ![false]⟩

def k0_off1 (i : grid0.Coords) (c0_i32 : BitVec 32) : Fin 2 → Nat :=
  let c0 : Index := 0#32
  let arg0 : BitVec 32 := BitVec.ofNat 32 (i 0).val
  let c2_i32 : BitVec 32 := 2#32
  let v0 : BitVec 32 := Scalar.muli arg0 c2_i32
  let v1 : BitVec 32 := Scalar.addi v0 c0_i32
  let v2 : Index := Scalar.indexCast v1
  ![0, v2.toNat]
def k0_off2 (i : grid0.Coords) (c0_i32_22 : BitVec 32) : Fin 2 → Nat :=
  let c1 : Index := 1#32
  let arg0 : BitVec 32 := BitVec.ofNat 32 (i 0).val
  let c2_i32_21 : BitVec 32 := 2#32
  let v52 : BitVec 32 := Scalar.muli arg0 c2_i32_21
  let v53 : BitVec 32 := Scalar.addi v52 c0_i32_22
  let v54 : Index := Scalar.indexCast v53
  ![1, v54.toNat]
def k0_off3 (i : grid0.Coords) (c0_i32_49 : BitVec 32) : Fin 2 → Nat :=
  let c2 : Index := 2#32
  let arg0 : BitVec 32 := BitVec.ofNat 32 (i 0).val
  let c2_i32_48 : BitVec 32 := 2#32
  let v104 : BitVec 32 := Scalar.muli arg0 c2_i32_48
  let v105 : BitVec 32 := Scalar.addi v104 c0_i32_49
  let v106 : Index := Scalar.indexCast v105
  ![2, v106.toNat]
def k0_off4 (i : grid0.Coords) (c0_i32_76 : BitVec 32) : Fin 2 → Nat :=
  let c3 : Index := 3#32
  let arg0 : BitVec 32 := BitVec.ofNat 32 (i 0).val
  let c2_i32_75 : BitVec 32 := 2#32
  let v156 : BitVec 32 := Scalar.muli arg0 c2_i32_75
  let v157 : BitVec 32 := Scalar.addi v156 c0_i32_76
  let v158 : Index := Scalar.indexCast v157
  ![3, v158.toNat]
def k0_off5 (i : grid0.Coords) (c0_i32_103 : BitVec 32) : Fin 2 → Nat :=
  let c4 : Index := 4#32
  let arg0 : BitVec 32 := BitVec.ofNat 32 (i 0).val
  let c2_i32_102 : BitVec 32 := 2#32
  let v208 : BitVec 32 := Scalar.muli arg0 c2_i32_102
  let v209 : BitVec 32 := Scalar.addi v208 c0_i32_103
  let v210 : Index := Scalar.indexCast v209
  ![4, v210.toNat]
def k0_off6 (i : grid0.Coords) (c0_i32_129 : BitVec 32) : Fin 2 → Nat :=
  let c5 : Index := 5#32
  let arg0 : BitVec 32 := BitVec.ofNat 32 (i 0).val
  let c2_i32_128 : BitVec 32 := 2#32
  let v260 : BitVec 32 := Scalar.muli arg0 c2_i32_128
  let v261 : BitVec 32 := Scalar.addi v260 c0_i32_129
  let v262 : Index := Scalar.indexCast v261
  ![5, v262.toNat]
def k0_off7 (i : grid0.Coords) (c0_i32_155 : BitVec 32) : Fin 2 → Nat :=
  let c6 : Index := 6#32
  let arg0 : BitVec 32 := BitVec.ofNat 32 (i 0).val
  let c2_i32_154 : BitVec 32 := 2#32
  let v312 : BitVec 32 := Scalar.muli arg0 c2_i32_154
  let v313 : BitVec 32 := Scalar.addi v312 c0_i32_155
  let v314 : Index := Scalar.indexCast v313
  ![6, v314.toNat]
def k0_off8 (i : grid0.Coords) (c0_i32_181 : BitVec 32) : Fin 2 → Nat :=
  let c7 : Index := 7#32
  let arg0 : BitVec 32 := BitVec.ofNat 32 (i 0).val
  let c2_i32_180 : BitVec 32 := 2#32
  let v364 : BitVec 32 := Scalar.muli arg0 c2_i32_180
  let v365 : BitVec 32 := Scalar.addi v364 c0_i32_181
  let v366 : Index := Scalar.indexCast v365
  ![7, v366.toNat]
def k0_off9 (i : grid0.Coords) (c0_i32_207 : BitVec 32) : Fin 2 → Nat :=
  let c8 : Index := 8#32
  let arg0 : BitVec 32 := BitVec.ofNat 32 (i 0).val
  let c2_i32_206 : BitVec 32 := 2#32
  let v416 : BitVec 32 := Scalar.muli arg0 c2_i32_206
  let v417 : BitVec 32 := Scalar.addi v416 c0_i32_207
  let v418 : Index := Scalar.indexCast v417
  ![8, v418.toNat]
def k0_off10 (i : grid0.Coords) (c0_i32_233 : BitVec 32) : Fin 2 → Nat :=
  let c9 : Index := 9#32
  let arg0 : BitVec 32 := BitVec.ofNat 32 (i 0).val
  let c2_i32_232 : BitVec 32 := 2#32
  let v468 : BitVec 32 := Scalar.muli arg0 c2_i32_232
  let v469 : BitVec 32 := Scalar.addi v468 c0_i32_233
  let v470 : Index := Scalar.indexCast v469
  ![9, v470.toNat]
def k0_off11 (i : grid0.Coords) (c0_i32_259 : BitVec 32) : Fin 2 → Nat :=
  let c10 : Index := 10#32
  let arg0 : BitVec 32 := BitVec.ofNat 32 (i 0).val
  let c2_i32_258 : BitVec 32 := 2#32
  let v520 : BitVec 32 := Scalar.muli arg0 c2_i32_258
  let v521 : BitVec 32 := Scalar.addi v520 c0_i32_259
  let v522 : Index := Scalar.indexCast v521
  ![10, v522.toNat]
def k0_off12 (i : grid0.Coords) (c0_i32_285 : BitVec 32) : Fin 2 → Nat :=
  let c11 : Index := 11#32
  let arg0 : BitVec 32 := BitVec.ofNat 32 (i 0).val
  let c2_i32_284 : BitVec 32 := 2#32
  let v572 : BitVec 32 := Scalar.muli arg0 c2_i32_284
  let v573 : BitVec 32 := Scalar.addi v572 c0_i32_285
  let v574 : Index := Scalar.indexCast v573
  ![11, v574.toNat]
def k0_off13 (i : grid0.Coords) (c0_i32_311 : BitVec 32) : Fin 2 → Nat :=
  let c12 : Index := 12#32
  let arg0 : BitVec 32 := BitVec.ofNat 32 (i 0).val
  let c2_i32_310 : BitVec 32 := 2#32
  let v624 : BitVec 32 := Scalar.muli arg0 c2_i32_310
  let v625 : BitVec 32 := Scalar.addi v624 c0_i32_311
  let v626 : Index := Scalar.indexCast v625
  ![12, v626.toNat]
def k0_off14 (i : grid0.Coords) (c0_i32_337 : BitVec 32) : Fin 2 → Nat :=
  let c13 : Index := 13#32
  let arg0 : BitVec 32 := BitVec.ofNat 32 (i 0).val
  let c2_i32_336 : BitVec 32 := 2#32
  let v676 : BitVec 32 := Scalar.muli arg0 c2_i32_336
  let v677 : BitVec 32 := Scalar.addi v676 c0_i32_337
  let v678 : Index := Scalar.indexCast v677
  ![13, v678.toNat]
def k0_off15 (i : grid0.Coords) (c0_i32_363 : BitVec 32) : Fin 2 → Nat :=
  let c14 : Index := 14#32
  let arg0 : BitVec 32 := BitVec.ofNat 32 (i 0).val
  let c2_i32_362 : BitVec 32 := 2#32
  let v728 : BitVec 32 := Scalar.muli arg0 c2_i32_362
  let v729 : BitVec 32 := Scalar.addi v728 c0_i32_363
  let v730 : Index := Scalar.indexCast v729
  ![14, v730.toNat]
def k0_off16 (i : grid0.Coords) (c0_i32_389 : BitVec 32) : Fin 2 → Nat :=
  let c15 : Index := 15#32
  let arg0 : BitVec 32 := BitVec.ofNat 32 (i 0).val
  let c2_i32_388 : BitVec 32 := 2#32
  let v780 : BitVec 32 := Scalar.muli arg0 c2_i32_388
  let v781 : BitVec 32 := Scalar.addi v780 c0_i32_389
  let v782 : Index := Scalar.indexCast v781
  ![15, v782.toNat]
def k0_off17 (i : grid0.Coords) (c0_i32_415 : BitVec 32) : Fin 2 → Nat :=
  let c16 : Index := 16#32
  let arg0 : BitVec 32 := BitVec.ofNat 32 (i 0).val
  let c2_i32_414 : BitVec 32 := 2#32
  let v832 : BitVec 32 := Scalar.muli arg0 c2_i32_414
  let v833 : BitVec 32 := Scalar.addi v832 c0_i32_415
  let v834 : Index := Scalar.indexCast v833
  ![16, v834.toNat]
def k0_off18 (i : grid0.Coords) (c0_i32_441 : BitVec 32) : Fin 2 → Nat :=
  let c17 : Index := 17#32
  let arg0 : BitVec 32 := BitVec.ofNat 32 (i 0).val
  let c2_i32_440 : BitVec 32 := 2#32
  let v884 : BitVec 32 := Scalar.muli arg0 c2_i32_440
  let v885 : BitVec 32 := Scalar.addi v884 c0_i32_441
  let v886 : Index := Scalar.indexCast v885
  ![17, v886.toNat]
def k0_off19 (i : grid0.Coords) (c0_i32_467 : BitVec 32) : Fin 2 → Nat :=
  let c18 : Index := 18#32
  let arg0 : BitVec 32 := BitVec.ofNat 32 (i 0).val
  let c2_i32_466 : BitVec 32 := 2#32
  let v936 : BitVec 32 := Scalar.muli arg0 c2_i32_466
  let v937 : BitVec 32 := Scalar.addi v936 c0_i32_467
  let v938 : Index := Scalar.indexCast v937
  ![18, v938.toNat]
def k0_off20 (i : grid0.Coords) (c0_i32_493 : BitVec 32) : Fin 2 → Nat :=
  let c19 : Index := 19#32
  let arg0 : BitVec 32 := BitVec.ofNat 32 (i 0).val
  let c2_i32_492 : BitVec 32 := 2#32
  let v988 : BitVec 32 := Scalar.muli arg0 c2_i32_492
  let v989 : BitVec 32 := Scalar.addi v988 c0_i32_493
  let v990 : Index := Scalar.indexCast v989
  ![19, v990.toNat]
def k0_off21 (i : grid0.Coords) (c0_i32_519 : BitVec 32) : Fin 2 → Nat :=
  let c20 : Index := 20#32
  let arg0 : BitVec 32 := BitVec.ofNat 32 (i 0).val
  let c2_i32_518 : BitVec 32 := 2#32
  let v1040 : BitVec 32 := Scalar.muli arg0 c2_i32_518
  let v1041 : BitVec 32 := Scalar.addi v1040 c0_i32_519
  let v1042 : Index := Scalar.indexCast v1041
  ![20, v1042.toNat]
def k0_off22 (i : grid0.Coords) (c0_i32_545 : BitVec 32) : Fin 2 → Nat :=
  let c21 : Index := 21#32
  let arg0 : BitVec 32 := BitVec.ofNat 32 (i 0).val
  let c2_i32_544 : BitVec 32 := 2#32
  let v1092 : BitVec 32 := Scalar.muli arg0 c2_i32_544
  let v1093 : BitVec 32 := Scalar.addi v1092 c0_i32_545
  let v1094 : Index := Scalar.indexCast v1093
  ![21, v1094.toNat]
def k0_off23 (i : grid0.Coords) (c0_i32_571 : BitVec 32) : Fin 2 → Nat :=
  let c22 : Index := 22#32
  let arg0 : BitVec 32 := BitVec.ofNat 32 (i 0).val
  let c2_i32_570 : BitVec 32 := 2#32
  let v1144 : BitVec 32 := Scalar.muli arg0 c2_i32_570
  let v1145 : BitVec 32 := Scalar.addi v1144 c0_i32_571
  let v1146 : Index := Scalar.indexCast v1145
  ![22, v1146.toNat]
def k0_off24 (i : grid0.Coords) (c0_i32_597 : BitVec 32) : Fin 2 → Nat :=
  let c23 : Index := 23#32
  let arg0 : BitVec 32 := BitVec.ofNat 32 (i 0).val
  let c2_i32_596 : BitVec 32 := 2#32
  let v1196 : BitVec 32 := Scalar.muli arg0 c2_i32_596
  let v1197 : BitVec 32 := Scalar.addi v1196 c0_i32_597
  let v1198 : Index := Scalar.indexCast v1197
  ![23, v1198.toNat]
def k0_off25 (i : grid0.Coords) (c0_i32_623 : BitVec 32) : Fin 2 → Nat :=
  let c24 : Index := 24#32
  let arg0 : BitVec 32 := BitVec.ofNat 32 (i 0).val
  let c2_i32_622 : BitVec 32 := 2#32
  let v1248 : BitVec 32 := Scalar.muli arg0 c2_i32_622
  let v1249 : BitVec 32 := Scalar.addi v1248 c0_i32_623
  let v1250 : Index := Scalar.indexCast v1249
  ![24, v1250.toNat]
def k0_off26 (i : grid0.Coords) (c0_i32_649 : BitVec 32) : Fin 2 → Nat :=
  let c25 : Index := 25#32
  let arg0 : BitVec 32 := BitVec.ofNat 32 (i 0).val
  let c2_i32_648 : BitVec 32 := 2#32
  let v1300 : BitVec 32 := Scalar.muli arg0 c2_i32_648
  let v1301 : BitVec 32 := Scalar.addi v1300 c0_i32_649
  let v1302 : Index := Scalar.indexCast v1301
  ![25, v1302.toNat]
def k0_off27 (i : grid0.Coords) (c0_i32_675 : BitVec 32) : Fin 2 → Nat :=
  let c26 : Index := 26#32
  let arg0 : BitVec 32 := BitVec.ofNat 32 (i 0).val
  let c2_i32_674 : BitVec 32 := 2#32
  let v1352 : BitVec 32 := Scalar.muli arg0 c2_i32_674
  let v1353 : BitVec 32 := Scalar.addi v1352 c0_i32_675
  let v1354 : Index := Scalar.indexCast v1353
  ![26, v1354.toNat]
def k0_off28 (i : grid0.Coords) (c0_i32_701 : BitVec 32) : Fin 2 → Nat :=
  let c27 : Index := 27#32
  let arg0 : BitVec 32 := BitVec.ofNat 32 (i 0).val
  let c2_i32_700 : BitVec 32 := 2#32
  let v1404 : BitVec 32 := Scalar.muli arg0 c2_i32_700
  let v1405 : BitVec 32 := Scalar.addi v1404 c0_i32_701
  let v1406 : Index := Scalar.indexCast v1405
  ![27, v1406.toNat]
def k0_off29 (i : grid0.Coords) (c0_i32_727 : BitVec 32) : Fin 2 → Nat :=
  let c28 : Index := 28#32
  let arg0 : BitVec 32 := BitVec.ofNat 32 (i 0).val
  let c2_i32_726 : BitVec 32 := 2#32
  let v1456 : BitVec 32 := Scalar.muli arg0 c2_i32_726
  let v1457 : BitVec 32 := Scalar.addi v1456 c0_i32_727
  let v1458 : Index := Scalar.indexCast v1457
  ![28, v1458.toNat]
def k0_off30 (i : grid0.Coords) (c0_i32_753 : BitVec 32) : Fin 2 → Nat :=
  let c29 : Index := 29#32
  let arg0 : BitVec 32 := BitVec.ofNat 32 (i 0).val
  let c2_i32_752 : BitVec 32 := 2#32
  let v1508 : BitVec 32 := Scalar.muli arg0 c2_i32_752
  let v1509 : BitVec 32 := Scalar.addi v1508 c0_i32_753
  let v1510 : Index := Scalar.indexCast v1509
  ![29, v1510.toNat]
def k0_off31 (i : grid0.Coords) (c0_i32_779 : BitVec 32) : Fin 2 → Nat :=
  let c30 : Index := 30#32
  let arg0 : BitVec 32 := BitVec.ofNat 32 (i 0).val
  let c2_i32_778 : BitVec 32 := 2#32
  let v1560 : BitVec 32 := Scalar.muli arg0 c2_i32_778
  let v1561 : BitVec 32 := Scalar.addi v1560 c0_i32_779
  let v1562 : Index := Scalar.indexCast v1561
  ![30, v1562.toNat]
def k0_off32 (i : grid0.Coords) (c0_i32_805 : BitVec 32) : Fin 2 → Nat :=
  let c31 : Index := 31#32
  let arg0 : BitVec 32 := BitVec.ofNat 32 (i 0).val
  let c2_i32_804 : BitVec 32 := 2#32
  let v1612 : BitVec 32 := Scalar.muli arg0 c2_i32_804
  let v1613 : BitVec 32 := Scalar.addi v1612 c0_i32_805
  let v1614 : Index := Scalar.indexCast v1613
  ![31, v1614.toNat]
def k0_off33 (i : grid0.Coords) (c0_i32_831 : BitVec 32) : Fin 2 → Nat :=
  let c32 : Index := 32#32
  let arg0 : BitVec 32 := BitVec.ofNat 32 (i 0).val
  let c2_i32_830 : BitVec 32 := 2#32
  let v1664 : BitVec 32 := Scalar.muli arg0 c2_i32_830
  let v1665 : BitVec 32 := Scalar.addi v1664 c0_i32_831
  let v1666 : Index := Scalar.indexCast v1665
  ![32, v1666.toNat]
def k0_off34 (i : grid0.Coords) (c0_i32_857 : BitVec 32) : Fin 2 → Nat :=
  let c33 : Index := 33#32
  let arg0 : BitVec 32 := BitVec.ofNat 32 (i 0).val
  let c2_i32_856 : BitVec 32 := 2#32
  let v1716 : BitVec 32 := Scalar.muli arg0 c2_i32_856
  let v1717 : BitVec 32 := Scalar.addi v1716 c0_i32_857
  let v1718 : Index := Scalar.indexCast v1717
  ![33, v1718.toNat]
def k0_off35 (i : grid0.Coords) (c0_i32_883 : BitVec 32) : Fin 2 → Nat :=
  let c34 : Index := 34#32
  let arg0 : BitVec 32 := BitVec.ofNat 32 (i 0).val
  let c2_i32_882 : BitVec 32 := 2#32
  let v1768 : BitVec 32 := Scalar.muli arg0 c2_i32_882
  let v1769 : BitVec 32 := Scalar.addi v1768 c0_i32_883
  let v1770 : Index := Scalar.indexCast v1769
  ![34, v1770.toNat]
def k0_off36 (i : grid0.Coords) (c0_i32_909 : BitVec 32) : Fin 2 → Nat :=
  let c35 : Index := 35#32
  let arg0 : BitVec 32 := BitVec.ofNat 32 (i 0).val
  let c2_i32_908 : BitVec 32 := 2#32
  let v1820 : BitVec 32 := Scalar.muli arg0 c2_i32_908
  let v1821 : BitVec 32 := Scalar.addi v1820 c0_i32_909
  let v1822 : Index := Scalar.indexCast v1821
  ![35, v1822.toNat]
def k0_off37 (i : grid0.Coords) (c0_i32_935 : BitVec 32) : Fin 2 → Nat :=
  let c36 : Index := 36#32
  let arg0 : BitVec 32 := BitVec.ofNat 32 (i 0).val
  let c2_i32_934 : BitVec 32 := 2#32
  let v1872 : BitVec 32 := Scalar.muli arg0 c2_i32_934
  let v1873 : BitVec 32 := Scalar.addi v1872 c0_i32_935
  let v1874 : Index := Scalar.indexCast v1873
  ![36, v1874.toNat]
def k0_off38 (i : grid0.Coords) (c0_i32_961 : BitVec 32) : Fin 2 → Nat :=
  let c37 : Index := 37#32
  let arg0 : BitVec 32 := BitVec.ofNat 32 (i 0).val
  let c2_i32_960 : BitVec 32 := 2#32
  let v1924 : BitVec 32 := Scalar.muli arg0 c2_i32_960
  let v1925 : BitVec 32 := Scalar.addi v1924 c0_i32_961
  let v1926 : Index := Scalar.indexCast v1925
  ![37, v1926.toNat]
def k0_off39 (i : grid0.Coords) (c0_i32_987 : BitVec 32) : Fin 2 → Nat :=
  let c38 : Index := 38#32
  let arg0 : BitVec 32 := BitVec.ofNat 32 (i 0).val
  let c2_i32_986 : BitVec 32 := 2#32
  let v1976 : BitVec 32 := Scalar.muli arg0 c2_i32_986
  let v1977 : BitVec 32 := Scalar.addi v1976 c0_i32_987
  let v1978 : Index := Scalar.indexCast v1977
  ![38, v1978.toNat]
def k0_off40 (i : grid0.Coords) (c0_i32_1013 : BitVec 32) : Fin 2 → Nat :=
  let c39 : Index := 39#32
  let arg0 : BitVec 32 := BitVec.ofNat 32 (i 0).val
  let c2_i32_1012 : BitVec 32 := 2#32
  let v2028 : BitVec 32 := Scalar.muli arg0 c2_i32_1012
  let v2029 : BitVec 32 := Scalar.addi v2028 c0_i32_1013
  let v2030 : Index := Scalar.indexCast v2029
  ![39, v2030.toNat]
def k0_off41 (i : grid0.Coords) (c0_i32_1039 : BitVec 32) : Fin 2 → Nat :=
  let c40 : Index := 40#32
  let arg0 : BitVec 32 := BitVec.ofNat 32 (i 0).val
  let c2_i32_1038 : BitVec 32 := 2#32
  let v2080 : BitVec 32 := Scalar.muli arg0 c2_i32_1038
  let v2081 : BitVec 32 := Scalar.addi v2080 c0_i32_1039
  let v2082 : Index := Scalar.indexCast v2081
  ![40, v2082.toNat]
def k0_off42 (i : grid0.Coords) (c0_i32_1065 : BitVec 32) : Fin 2 → Nat :=
  let c41 : Index := 41#32
  let arg0 : BitVec 32 := BitVec.ofNat 32 (i 0).val
  let c2_i32_1064 : BitVec 32 := 2#32
  let v2132 : BitVec 32 := Scalar.muli arg0 c2_i32_1064
  let v2133 : BitVec 32 := Scalar.addi v2132 c0_i32_1065
  let v2134 : Index := Scalar.indexCast v2133
  ![41, v2134.toNat]
def k0_off43 (i : grid0.Coords) (c0_i32_1091 : BitVec 32) : Fin 2 → Nat :=
  let c42 : Index := 42#32
  let arg0 : BitVec 32 := BitVec.ofNat 32 (i 0).val
  let c2_i32_1090 : BitVec 32 := 2#32
  let v2184 : BitVec 32 := Scalar.muli arg0 c2_i32_1090
  let v2185 : BitVec 32 := Scalar.addi v2184 c0_i32_1091
  let v2186 : Index := Scalar.indexCast v2185
  ![42, v2186.toNat]
def k0_off44 (i : grid0.Coords) (c0_i32_1117 : BitVec 32) : Fin 2 → Nat :=
  let c43 : Index := 43#32
  let arg0 : BitVec 32 := BitVec.ofNat 32 (i 0).val
  let c2_i32_1116 : BitVec 32 := 2#32
  let v2236 : BitVec 32 := Scalar.muli arg0 c2_i32_1116
  let v2237 : BitVec 32 := Scalar.addi v2236 c0_i32_1117
  let v2238 : Index := Scalar.indexCast v2237
  ![43, v2238.toNat]
def k0_off45 (i : grid0.Coords) (c0_i32_1143 : BitVec 32) : Fin 2 → Nat :=
  let c44 : Index := 44#32
  let arg0 : BitVec 32 := BitVec.ofNat 32 (i 0).val
  let c2_i32_1142 : BitVec 32 := 2#32
  let v2288 : BitVec 32 := Scalar.muli arg0 c2_i32_1142
  let v2289 : BitVec 32 := Scalar.addi v2288 c0_i32_1143
  let v2290 : Index := Scalar.indexCast v2289
  ![44, v2290.toNat]
def k0_off46 (i : grid0.Coords) (c0_i32_1169 : BitVec 32) : Fin 2 → Nat :=
  let c45 : Index := 45#32
  let arg0 : BitVec 32 := BitVec.ofNat 32 (i 0).val
  let c2_i32_1168 : BitVec 32 := 2#32
  let v2340 : BitVec 32 := Scalar.muli arg0 c2_i32_1168
  let v2341 : BitVec 32 := Scalar.addi v2340 c0_i32_1169
  let v2342 : Index := Scalar.indexCast v2341
  ![45, v2342.toNat]
def k0_off47 (i : grid0.Coords) (c0_i32_1195 : BitVec 32) : Fin 2 → Nat :=
  let c46 : Index := 46#32
  let arg0 : BitVec 32 := BitVec.ofNat 32 (i 0).val
  let c2_i32_1194 : BitVec 32 := 2#32
  let v2392 : BitVec 32 := Scalar.muli arg0 c2_i32_1194
  let v2393 : BitVec 32 := Scalar.addi v2392 c0_i32_1195
  let v2394 : Index := Scalar.indexCast v2393
  ![46, v2394.toNat]
def k0_off48 (i : grid0.Coords) (c0_i32_1221 : BitVec 32) : Fin 2 → Nat :=
  let c47 : Index := 47#32
  let arg0 : BitVec 32 := BitVec.ofNat 32 (i 0).val
  let c2_i32_1220 : BitVec 32 := 2#32
  let v2444 : BitVec 32 := Scalar.muli arg0 c2_i32_1220
  let v2445 : BitVec 32 := Scalar.addi v2444 c0_i32_1221
  let v2446 : Index := Scalar.indexCast v2445
  ![47, v2446.toNat]
def k0_off49 (i : grid0.Coords) (c0_i32_1247 : BitVec 32) : Fin 2 → Nat :=
  let c48 : Index := 48#32
  let arg0 : BitVec 32 := BitVec.ofNat 32 (i 0).val
  let c2_i32_1246 : BitVec 32 := 2#32
  let v2496 : BitVec 32 := Scalar.muli arg0 c2_i32_1246
  let v2497 : BitVec 32 := Scalar.addi v2496 c0_i32_1247
  let v2498 : Index := Scalar.indexCast v2497
  ![48, v2498.toNat]
def k0_off50 (i : grid0.Coords) (c0_i32_1273 : BitVec 32) : Fin 2 → Nat :=
  let c49 : Index := 49#32
  let arg0 : BitVec 32 := BitVec.ofNat 32 (i 0).val
  let c2_i32_1272 : BitVec 32 := 2#32
  let v2548 : BitVec 32 := Scalar.muli arg0 c2_i32_1272
  let v2549 : BitVec 32 := Scalar.addi v2548 c0_i32_1273
  let v2550 : Index := Scalar.indexCast v2549
  ![49, v2550.toNat]
def k0_off51 (i : grid0.Coords) (c0_i32_1299 : BitVec 32) : Fin 2 → Nat :=
  let c50 : Index := 50#32
  let arg0 : BitVec 32 := BitVec.ofNat 32 (i 0).val
  let c2_i32_1298 : BitVec 32 := 2#32
  let v2600 : BitVec 32 := Scalar.muli arg0 c2_i32_1298
  let v2601 : BitVec 32 := Scalar.addi v2600 c0_i32_1299
  let v2602 : Index := Scalar.indexCast v2601
  ![50, v2602.toNat]
def k0_off52 (i : grid0.Coords) (c0_i32_1325 : BitVec 32) : Fin 2 → Nat :=
  let c51 : Index := 51#32
  let arg0 : BitVec 32 := BitVec.ofNat 32 (i 0).val
  let c2_i32_1324 : BitVec 32 := 2#32
  let v2652 : BitVec 32 := Scalar.muli arg0 c2_i32_1324
  let v2653 : BitVec 32 := Scalar.addi v2652 c0_i32_1325
  let v2654 : Index := Scalar.indexCast v2653
  ![51, v2654.toNat]
def k0_off53 (i : grid0.Coords) (c0_i32_1351 : BitVec 32) : Fin 2 → Nat :=
  let c52 : Index := 52#32
  let arg0 : BitVec 32 := BitVec.ofNat 32 (i 0).val
  let c2_i32_1350 : BitVec 32 := 2#32
  let v2704 : BitVec 32 := Scalar.muli arg0 c2_i32_1350
  let v2705 : BitVec 32 := Scalar.addi v2704 c0_i32_1351
  let v2706 : Index := Scalar.indexCast v2705
  ![52, v2706.toNat]
def k0_off54 (i : grid0.Coords) (c0_i32_1377 : BitVec 32) : Fin 2 → Nat :=
  let c53 : Index := 53#32
  let arg0 : BitVec 32 := BitVec.ofNat 32 (i 0).val
  let c2_i32_1376 : BitVec 32 := 2#32
  let v2756 : BitVec 32 := Scalar.muli arg0 c2_i32_1376
  let v2757 : BitVec 32 := Scalar.addi v2756 c0_i32_1377
  let v2758 : Index := Scalar.indexCast v2757
  ![53, v2758.toNat]
def k0_off55 (i : grid0.Coords) (c0_i32_1403 : BitVec 32) : Fin 2 → Nat :=
  let c54 : Index := 54#32
  let arg0 : BitVec 32 := BitVec.ofNat 32 (i 0).val
  let c2_i32_1402 : BitVec 32 := 2#32
  let v2808 : BitVec 32 := Scalar.muli arg0 c2_i32_1402
  let v2809 : BitVec 32 := Scalar.addi v2808 c0_i32_1403
  let v2810 : Index := Scalar.indexCast v2809
  ![54, v2810.toNat]
def k0_off56 (i : grid0.Coords) (c0_i32_1429 : BitVec 32) : Fin 2 → Nat :=
  let c55 : Index := 55#32
  let arg0 : BitVec 32 := BitVec.ofNat 32 (i 0).val
  let c2_i32_1428 : BitVec 32 := 2#32
  let v2860 : BitVec 32 := Scalar.muli arg0 c2_i32_1428
  let v2861 : BitVec 32 := Scalar.addi v2860 c0_i32_1429
  let v2862 : Index := Scalar.indexCast v2861
  ![55, v2862.toNat]
@[reducible] def k0_t1_loop : Scf.Loop 32 :=
  let c0_i32_1456 : BitVec 32 := 0#32
  let c4_i32 : BitVec 32 := 4#32
  let v2916 : BitVec 32 := Scalar.addi c0_i32_1456 c4_i32
  let c1_i32_1457 : BitVec 32 := 1#32
  ⟨c0_i32_1456, v2916, c1_i32_1457⟩
def k0_mult1 (k0_t1 : Fin k0_t1_loop.trips) : BitVec 32 :=
  let c0_i32_1456 : BitVec 32 := 0#32
  let c1_i32_1457 : BitVec 32 := 1#32
  let arg11 : BitVec 32 := Scf.iv c0_i32_1456 c1_i32_1457 k0_t1
  let c448_i32 : BitVec 32 := 448#32
  let v2919 : BitVec 32 := Scalar.muli arg11 c448_i32
  v2919
def k0_off57 (k0_t1 : Fin k0_t1_loop.trips) : Fin 2 → Nat :=
  let c0_i32_1456 : BitVec 32 := 0#32
  let c1_i32_1457 : BitVec 32 := 1#32
  let arg11 : BitVec 32 := Scf.iv c0_i32_1456 c1_i32_1457 k0_t1
  let c448_i32 : BitVec 32 := 448#32
  let v2919 : BitVec 32 := Scalar.muli arg11 c448_i32
  let v2920 : BitVec 32 := v2919
  let v2921 : Index := Scalar.indexCast v2920
  let c0_1463 : Index := 0#32
  ![v2921.toNat, 0]
def k0_off58 (k0_t1 : Fin k0_t1_loop.trips) : Fin 2 → Nat :=
  let c0_i32_1456 : BitVec 32 := 0#32
  let c1_i32_1457 : BitVec 32 := 1#32
  let arg11 : BitVec 32 := Scf.iv c0_i32_1456 c1_i32_1457 k0_t1
  let c448_i32 : BitVec 32 := 448#32
  let v2919 : BitVec 32 := Scalar.muli arg11 c448_i32
  let v2920 : BitVec 32 := v2919
  let v2930 : Index := Scalar.indexCast v2920
  let c0_1466 : Index := 0#32
  ![v2930.toNat, 0]
def k0_off59 (k0_t1 : Fin k0_t1_loop.trips) : Fin 2 → Nat :=
  let c0_i32_1456 : BitVec 32 := 0#32
  let c1_i32_1457 : BitVec 32 := 1#32
  let arg11 : BitVec 32 := Scf.iv c0_i32_1456 c1_i32_1457 k0_t1
  let c448_i32 : BitVec 32 := 448#32
  let v2919 : BitVec 32 := Scalar.muli arg11 c448_i32
  let v2920 : BitVec 32 := v2919
  let v3074 : Index := Scalar.indexCast v2920
  let c0_1515 : Index := 0#32
  ![v3074.toNat, 0]
def k0_off60 (k0_t1 : Fin k0_t1_loop.trips) : Fin 2 → Nat :=
  let c0_i32_1456 : BitVec 32 := 0#32
  let c1_i32_1457 : BitVec 32 := 1#32
  let arg11 : BitVec 32 := Scf.iv c0_i32_1456 c1_i32_1457 k0_t1
  let c448_i32 : BitVec 32 := 448#32
  let v2919 : BitVec 32 := Scalar.muli arg11 c448_i32
  let v2920 : BitVec 32 := v2919
  let v3231 : Index := Scalar.indexCast v2920
  let c128_1575 : Index := 128#32
  ![v3231.toNat, 128]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .smem S56x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S56x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1792x7168 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S7168x256 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S7168x256 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1792x256 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1792x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1792x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== GateUpReferenceIdeal.lean ====
abbrev S56x16 : Shape := ⟨2, ![56, 16]⟩
abbrev S1792x7168 : Shape := ⟨2, ![1792, 7168]⟩
abbrev S7168x2048 : Shape := ⟨2, ![7168, 2048]⟩
abbrev S1792x2048 : Shape := ⟨2, ![1792, 2048]⟩
abbrev S1792x16 : Shape := ⟨2, ![1792, 16]⟩
abbrev S56x128x16x128 : Shape := ⟨4, ![56, 128, 16, 128]⟩
abbrev S56x1x16x1 : Shape := ⟨4, ![56, 1, 16, 1]⟩
abbrev S1792x16x128 : Shape := ⟨3, ![1792, 16, 128]⟩
abbrev S1x1x247 : Shape := ⟨3, ![1, 1, 247]⟩
abbrev S1792x16x1 : Shape := ⟨3, ![1792, 16, 1]⟩
abbrev S1792x16x247 : Shape := ⟨3, ![1792, 16, 247]⟩

abbrev nBuf : Space → Nat
  | .hbm => 8
  | .vmem => 8
  | .smem => 0
  | _ => 0

abbrev bufTy : (tb : Table) → Fin (tcTables nBuf tb) → BufTy
  | .hbm, ⟨0, _⟩ => ⟨S56x16, .f32⟩
  | .hbm, ⟨1, _⟩ => ⟨S56x16, .f32⟩
  | .hbm, ⟨2, _⟩ => ⟨S1792x7168, .bf16⟩
  | .hbm, ⟨3, _⟩ => ⟨S7168x2048, .fp8e4m3⟩
  | .hbm, ⟨4, _⟩ => ⟨S7168x2048, .fp8e4m3⟩
  | .hbm, ⟨5, _⟩ => ⟨S1792x2048, .fp8e4m3⟩
  | .hbm, ⟨6, _⟩ => ⟨S1792x16, .f32⟩
  | .hbm, ⟨7, _⟩ => ⟨S1792x2048, .bf16⟩
  | .local _ .vmem, ⟨0, _⟩ => ⟨S56x16, .f32⟩
  | .local _ .vmem, ⟨1, _⟩ => ⟨S56x16, .f32⟩
  | .local _ .vmem, ⟨2, _⟩ => ⟨S1792x7168, .bf16⟩
  | .local _ .vmem, ⟨3, _⟩ => ⟨S7168x2048, .fp8e4m3⟩
  | .local _ .vmem, ⟨4, _⟩ => ⟨S7168x2048, .fp8e4m3⟩
  | .local _ .vmem, ⟨5, _⟩ => ⟨S1792x2048, .fp8e4m3⟩
  | .local _ .vmem, ⟨6, _⟩ => ⟨S1792x16, .f32⟩
  | .local _ .vmem, ⟨7, _⟩ => ⟨S1792x2048, .bf16⟩
  | _, _ => ⟨S56x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S56x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S56x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1792x7168 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S7168x2048 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S7168x2048 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1792x2048 .fp8e4m3 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1792x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1792x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.DownTile.lean ====
/-
  Hand-written, untrusted. The kernel's dequantised weight block: what the scratch of one grid point holds once the 64 tiles
  are stored.
-/
module

public import proofs.«01_k».proof.Proof.Gen.DownIdeal.Value
public import Idealize.ShloMosaic.Lib.Pointwise
public import Idealize.ShloMosaic.Lib.WholeRead

@[expose] public section

set_option maxRecDepth 16384

noncomputable section

namespace Cert.Proof.Down

open Idealize.ShloMosaic Idealize.ShloMosaic.TcCoe Idealize.SL.Sem
open Cert.DownIdeal Cert.DownIdeal.Gen

variable {F : FTy → Type} [FloatOps F]

/-- Grid point `i`'s scale for element `y` of its weight block: the scale of the 128x128 tile that `y` lies in. The block is
    512 columns wide, so its tiles are columns `4 * i` to `4 * i + 3` of the scale table. -/
def scaleIdx (i : grid0.Coords) (y : S2048x512.Idx) : S16x56.Idx :=
  ix2 (⟨(y 0).val / 128, by have h : (y 0).val < 2048 := (y 0).isLt; omega⟩ : Fin 16)
    (⟨4 * (i 0).val + (y 1).val / 128, by
      have h : (y 1).val < 512 := (y 1).isLt
      have h' : (i 0).val < 14 := (i 0).isLt
      omega⟩ : Fin 56)

/-- One element of the dequantised block: the stored weight times the scale of its tile. -/
def deq (i : grid0.Coords) (x0 : Vec F S16x56 .f32) (x2 : Vec F S2048x512 .fp8e4m3) : S2048x512.Idx → F .bf16 := fun y =>
  FloatOps.mulf (FloatOps.extf .bf16 bitsLt_fp8e4m3_bf16 (x2 y)) (FloatOps.truncf .bf16 bitsLt_bf16_f32 (x0 (scaleIdx i y)))

/-- The word that addresses tile column `q` of grid point `i`. -/
theorem col_toNat (n : ℕ) (hn : n < 14) (q : ℕ) (hq : q < 4) :
    (BitVec.ofNat 32 n * 4#32 + BitVec.ofNat 32 q).toNat = 4 * n + q := by
  simp only [BitVec.toNat_add, BitVec.toNat_mul, BitVec.toNat_ofNat]
  omega

/-- One stored tile is the dequantised block on the tile's rectangle: rows from `a`, columns from `b`, the scale read from the
    table at row `a / 128` and column `4 * i + b / 128`. -/
theorem tile_ok (i : grid0.Coords) (arg1 : Memref sig .tc .smem S16x56 .f32) (harg1 : arg1.IsWhole)
    (arg3 : Memref sig .tc .vmem S2048x512 .fp8e4m3) (harg3 : arg3.IsWhole) (x0 : Vec F S16x56 .f32) (x2 : Vec F S2048x512 .fp8e4m3)
    (a b : ℕ) (inb : ∀ x, (![a, b] : Fin 2 → ℕ) x + S128x128.size x ≤ S2048x512.size x)
    (off : Fin 2 → ℕ) (inb' : ∀ x, off x + S1x1.size x ≤ S16x56.size x) (hne : 0 < S1x1.numel)
    (ha : a % 128 = 0) (hb : b % 128 = 0) (hb' : b / 128 < 4)
    (hoff : off = ![a / 128, (BitVec.ofNat 32 (i 0).val * 4#32 + BitVec.ofNat 32 (b / 128)).toNat]) (x : S128x128.Idx) :
    k0_pay3 (View.readAt (Elt F) arg1.view (Rect.unit (s := S16x56) off S1x1.size inb').toLoadRect (harg1.unread x0) (Shape.Idx.first hne))
        (View.readAt (Elt F) arg3.view (Rect.unit (s := S2048x512) ![a, b] S128x128.size inb).toLoadRect (harg3.unread x2)) x
      = deq i x0 x2 ((Rect.unit (s := S2048x512) ![a, b] S128x128.size inb).emb x) := by
  have hx0 : (x 0).val < 128 := (x 0).isLt
  have hx1 : (x 1).val < 128 := (x 1).isLt
  have e0 : ((Rect.unit (s := S2048x512) ![a, b] S128x128.size inb).emb x 0).val = a + (x 0).val := by
    show a + 1 * (x 0).val = _; omega
  have e1 : ((Rect.unit (s := S2048x512) ![a, b] S128x128.size inb).emb x 1).val = b + (x 1).val := by
    show b + 1 * (x 1).val = _; omega
  rw [harg1.readAt_unread]
  have hs : (Rect.unit (s := S16x56) off S1x1.size inb').toLoadRect.idx (Shape.Idx.first hne)
      = scaleIdx i ((Rect.unit (s := S2048x512) ![a, b] S128x128.size inb).emb x) := by
    subst hoff
    funext k; apply Fin.ext
    match k with
    | ⟨0, _⟩ =>
      show a / 128 + 1 * _ = ((Rect.unit (s := S2048x512) ![a, b] S128x128.size inb).emb x 0).val / 128
      rw [e0]; simp; omega
    | ⟨1, _⟩ =>
      show (BitVec.ofNat 32 (i 0).val * 4#32 + BitVec.ofNat 32 (b / 128)).toNat + 1 * _
        = 4 * (i 0).val + ((Rect.unit (s := S2048x512) ![a, b] S128x128.size inb).emb x 1).val / 128
      have hw := col_toNat _ (i 0).isLt _ hb'
      have hf : (Shape.Idx.first hne (1 : Fin 2)).val = 0 := rfl
      rw [e1]; refine Eq.trans (congrArg₂ (fun u v => u + 1 * v) hw hf) ?_; omega
  rw [hs]
  unfold deq k0_pay3
  pointwise
  rw [harg3.readAt_unread]
  rfl

/-- Every tile of the list agrees with the dequantised block. -/
theorem tiles_ok (c : Dev nD) (i : grid0.Coords) (arg1 : Memref sig .tc .smem S16x56 .f32) (harg1 : arg1.IsWhole)
    (arg3 : Memref sig .tc .vmem S2048x512 .fp8e4m3) (harg3 : arg3.IsWhole) (x0 : Vec F S16x56 .f32) (x2 : Vec F S2048x512 .fp8e4m3) :
    ∀ p ∈ kernelRun0_A.sl.HS0_64 c i arg1 harg1 arg3 harg3 x0 x2, ∀ x : p.1.shape.Idx, p.2 x = deq i x0 x2 (p.1.emb x) := by
  unfold kernelRun0_A.sl.HS0_64
  repeat' refine List.forall_mem_cons.2 ⟨fun x => tile_ok i arg1 harg1 arg3 harg3 x0 x2 _ _ _ _ _ _ rfl rfl (by decide) rfl x, ?_⟩
  exact List.forall_mem_nil _

/-- The scratch read back whole, once the tiles are stored, is the dequantised block: the 64 tiles cover it. -/
theorem scratch_read (c : Dev nD) (i : grid0.Coords) (arg1 : Memref sig .tc .smem S16x56 .f32) (harg1 : arg1.IsWhole)
    (arg3 : Memref sig .tc .vmem S2048x512 .fp8e4m3) (harg3 : arg3.IsWhole) (arg5 : Memref sig .tc .vmem S2048x512 .bf16)
    (x0 : Vec F S16x56 .f32) (x2 : Vec F S2048x512 .fp8e4m3) (f : BufTy.Contents (Elt F) arg5.view.ty)
    (inb : ∀ a, (![0, 0] : Fin 2 → ℕ) a + S2048x512.size a ≤ S2048x512.size a) :
    View.readAt (Elt F) arg5.view (Rect.unit (s := S2048x512) ![0, 0] S2048x512.size inb).toLoadRect
        (arg5.view.writes (Elt F) f (kernelRun0_A.sl.HS0_64 c i arg1 harg1 arg3 harg3 x0 x2))
      = deq i x0 x2 := by
  funext y
  rw [View.readAt_apply]
  have hy : (Rect.unit (s := S2048x512) ![0, 0] S2048x512.size inb).toLoadRect.idx y = y := by
    funext k; apply Fin.ext
    match k with
    | ⟨0, _⟩ => show 0 + 1 * (y 0).val = (y 0).val; omega
    | ⟨1, _⟩ => show 0 + 1 * (y 1).val = (y 1).val; omega
  rw [hy]
  exact View.read_writes_apply_of_pieces arg5.view f _ _ (tiles_ok c i arg1 harg1 arg3 harg3 x0 x2) y
    (View.cover_of_tiledL (kernelRun0_A.sl.HS0_64 c i arg1 harg1 arg3 harg3 x0 x2) S128x128.size (by sl_kernel_rfl) y)

end Cert.Proof.Down

end
-- ==== Proof.DownBlock.lean ====
/-
  Hand-written, untrusted. What one grid point of the kernel writes: the product of the whole left operand and the point's
  dequantised weight block, at the ideal reading of floats.
-/
module

public import proofs.«01_k».proof.Proof.DownTile

@[expose] public section

set_option maxRecDepth 16384

noncomputable section

namespace Cert.Proof.Down

open Idealize.ShloMosaic Idealize.ShloMosaic.TcCoe Idealize.SL.Sem
open Cert.DownIdeal Cert.DownIdeal.Gen

/-- The product of the left operand and the dequantised block, at one element. -/
def prod (i : grid0.Coords) (x0 : Vec Ideal S16x56 .f32) (x1 : Vec Ideal S1792x2048 .bf16) (x2 : Vec Ideal S2048x512 .fp8e4m3) :
    S1792x512.Idx → Ideal .bf16 := fun y =>
  ∑ k : Fin 2048, x1 (ix2 (y 0) k) * (x2 (ix2 k (y 1)) * x0 (scaleIdx i (ix2 k (y 1))))

/-- One trip's piece is the product on the trip's 448 rows. -/
theorem trip_ok (c : Dev nD) (i : grid0.Coords) (arg1 : Memref sig .tc .smem S16x56 .f32) (harg1 : arg1.IsWhole)
    (arg2 : Memref sig .tc .vmem S1792x2048 .bf16) (harg2 : arg2.IsWhole) (arg3 : Memref sig .tc .vmem S2048x512 .fp8e4m3)
    (harg3 : arg3.IsWhole) (arg4 : Memref sig .tc .vmem S1792x512 .bf16) (harg4 : arg4.IsWhole)
    (arg5 : Memref sig .tc .vmem S2048x512 .bf16) (harg5 : arg5.IsWhole)
    (x0 : Vec Ideal S16x56 .f32) (x1 : Vec Ideal S1792x2048 .bf16) (x2 : Vec Ideal S2048x512 .fp8e4m3) (k : Fin k0_t1_loop.trips) :
    ∀ p ∈ tripL_k0_t1 (F := Ideal) Variants.none c none i arg1 harg1 arg2 harg2 arg3 harg3 arg4 harg4 arg5 harg5 (harg2.unread x1)
        (arg5.view.writes (Elt Ideal) arg5.view.junk (kernelRun0_A.sl.HS0_64 c i arg1 harg1 arg3 harg3 x0 x2)) k,
      ∀ x : p.1.shape.Idx, p.2 x = prod i x0 x1 x2 (p.1.emb x) := by
  unfold tripL_k0_t1 trip_k0_t1
  refine List.forall_mem_cons.2 ⟨fun x => ?_, List.forall_mem_nil _⟩
  dsimp only
  rw [scratch_read]
  unfold k0_pay2 prod deq
  pointwise
  refine Finset.sum_congr rfl fun j _ => ?_
  rw [harg2.readAt_unread]
  have h1 : (x 1 : Fin 512) = ((Rect.unit (s := S1792x512) (k0_off18 k) S448x512.size (k0_off18_inb k)).emb x 1 : Fin 512) := by
    apply Fin.ext; show (x 1).val = 0 + 1 * (x 1).val; omega
  have h0 : (Rect.unit (s := S1792x2048) (k0_off17 k) S448x2048.size (k0_off17_inb k)).toLoadRect.idx (ix2 (x 0) j)
      = ix2 ((Rect.unit (s := S1792x512) (k0_off18 k) S448x512.size (k0_off18_inb k)).emb x 0) j := by
    funext a; apply Fin.ext
    match a with
    | ⟨0, _⟩ => rfl
    | ⟨1, _⟩ => show 0 + 1 * j.val = j.val; omega
  exact congrArg₂ (· * ·) (congrArg x1 h0) (congrArg (fun q : Fin 512 => x2 (ix2 j q) * x0 (scaleIdx i (ix2 j q))) h1)

/-- Every piece of the trips before `n` is the product on its rows. -/
theorem trips_ok (c : Dev nD) (i : grid0.Coords) (arg1 : Memref sig .tc .smem S16x56 .f32) (harg1 : arg1.IsWhole)
    (arg2 : Memref sig .tc .vmem S1792x2048 .bf16) (harg2 : arg2.IsWhole) (arg3 : Memref sig .tc .vmem S2048x512 .fp8e4m3)
    (harg3 : arg3.IsWhole) (arg4 : Memref sig .tc .vmem S1792x512 .bf16) (harg4 : arg4.IsWhole)
    (arg5 : Memref sig .tc .vmem S2048x512 .bf16) (harg5 : arg5.IsWhole)
    (x0 : Vec Ideal S16x56 .f32) (x1 : Vec Ideal S1792x2048 .bf16) (x2 : Vec Ideal S2048x512 .fp8e4m3) (n : ℕ)
    (hn : n ≤ k0_t1_loop.trips) :
    ∀ p ∈ pb_k0_t1 (F := Ideal) Variants.none c none i arg1 harg1 arg2 harg2 arg3 harg3 arg4 harg4 arg5 harg5 (harg2.unread x1)
        (arg5.view.writes (Elt Ideal) arg5.view.junk (kernelRun0_A.sl.HS0_64 c i arg1 harg1 arg3 harg3 x0 x2)) n,
      ∀ x : p.1.shape.Idx, p.2 x = prod i x0 x1 x2 (p.1.emb x) := by
  induction n with
  | zero => exact List.forall_mem_nil _
  | succ n ih =>
    rw [pb_k0_t1_succ (F := Ideal) Variants.none c none i arg1 harg1 arg2 harg2 arg3 harg3 arg4 harg4 arg5 harg5 (harg2.unread x1)
      (arg5.view.writes (Elt Ideal) arg5.view.junk (kernelRun0_A.sl.HS0_64 c i arg1 harg1 arg3 harg3 x0 x2)) ⟨n, hn⟩]
    intro p hp
    rcases List.mem_append.1 hp with hp | hp
    · exact trip_ok c i arg1 harg1 arg2 harg2 arg3 harg3 arg4 harg4 arg5 harg5 x0 x1 x2 ⟨n, hn⟩ p hp
    · exact ih (Nat.le_of_lt hn) p hp

/-- What the point leaves in its output block is the product. -/
theorem out_eq (c : Dev nD) (i : grid0.Coords) (arg1 : Memref sig .tc .smem S16x56 .f32) (harg1 : arg1.IsWhole)
    (arg2 : Memref sig .tc .vmem S1792x2048 .bf16) (harg2 : arg2.IsWhole) (arg3 : Memref sig .tc .vmem S2048x512 .fp8e4m3)
    (harg3 : arg3.IsWhole) (arg4 : Memref sig .tc .vmem S1792x512 .bf16) (harg4 : arg4.IsWhole)
    (arg5 : Memref sig .tc .vmem S2048x512 .bf16) (harg5 : arg5.IsWhole)
    (x0 : Vec Ideal S16x56 .f32) (x1 : Vec Ideal S1792x2048 .bf16) (x2 : Vec Ideal S2048x512 .fp8e4m3) :
    out0_A_3 (F := Ideal) c i arg1 harg1 arg2 harg2 arg3 harg3 arg4 harg4 arg5 harg5 x0 x1 x2 = prod i x0 x1 x2 := by
  funext y
  unfold out0_A_3
  exact View.read_writes_apply_of_pieces VO0_3 VO0_3.junk (prod i x0 x1 x2) _
    (trips_ok c i arg1 harg1 arg2 harg2 arg3 harg3 arg4 harg4 arg5 harg5 x0 x1 x2 k0_t1_loop.trips le_rfl) y
    (cover0_A_3 c i arg1 harg1 arg2 harg2 arg3 harg3 arg4 harg4 arg5 harg5 x0 x1 x2 y)

end Cert.Proof.Down

end
-- ==== Proof.DownArray.lean ====
/-
  Hand-written, untrusted. What the kernel's output array holds after the run, and what the reference computes: the same sum of
  products, so the two results are equal.
-/
module

public import proofs.«01_k».proof.Proof.DownBlock
public import proofs.«01_k».proof.Proof.Gen.DownReferenceIdeal.Value

@[expose] public section

set_option maxRecDepth 16384

noncomputable section

namespace Cert.Proof.Down

open Idealize.ShloMosaic Idealize.ShloMosaic.TcCoe Idealize.SL.Sem
open Cert.DownIdeal Cert.DownIdeal.Gen

variable (m : (ℓ : Loc nD τ sig) → Buf (Elt Ideal) ℓ)

/-- The shared expert's projection down, at one element: the row of codes against the column of weights, each weight times the
    scale of the 128x128 tile it lies in. -/
def shared (u : Vec Ideal S1792x2048 .bf16) (w : Vec Ideal S2048x7168 .fp8e4m3) (s : Vec Ideal S16x56 .f32) :
    S1792x7168.Idx → Ideal .bf16 := fun y =>
  ∑ k : Fin 2048, u (ix2 (y 0) k) * (w (ix2 k (y 1)) *
    s (ix2 (⟨k.val / 128, by omega⟩ : Fin 16) (⟨(y 1).val / 128, by have h : (y 1).val < 7168 := (y 1).isLt; omega⟩ : Fin 56)))

/-! ## The windows -/

/-- The grid is one axis, and a point's coordinate is its number. -/
theorem coord : ∀ t : Fin cfg0.N, (grid0.coords t 0).val = t.val := (by decide +kernel : ∀ t : Fin grid0.N, (grid0.coords t 0).val = t.val)

theorem idx0 : ∀ t : Fin cfg0.N, win0_0.index t (0 : Fin 2) = 0 ∧ win0_0.index t (1 : Fin 2) = 0 :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 2) = 0 ∧ win0_2.index t (1 : Fin 2) = t.val :=
  (by decide +kernel : ∀ t : Fin grid0.N, _)
theorem idx3 : ∀ t : Fin cfg0.N, win0_3.index t (0 : Fin 2) = 0 ∧ win0_3.index t (1 : Fin 2) = t.val :=
  (by decide +kernel : ∀ t : Fin grid0.N, _)

/-- The scale table is staged whole. -/
theorem iblk0_eq (c : Dev nD) (t : Fin cfg0.N) : iblk m c 0 t = V m c main_arg2 := by
  obtain ⟨e0, e1⟩ := idx0 t
  funext j
  refine congrArg (V m c main_arg2) (funext fun a => Fin.ext ?_)
  match a with
  | ⟨0, _⟩ => show win0_0.index t (0 : Fin 2) * 16 + 1 * (j 0).val = (j 0).val; omega
  | ⟨1, _⟩ => show win0_0.index t (1 : Fin 2) * 56 + 1 * (j 1).val = (j 1).val; omega

/-- The left operand is staged whole. -/
theorem iblk1_eq (c : Dev nD) (t : Fin cfg0.N) : iblk m c 1 t = V m c main_arg0 := by
  obtain ⟨e0, e1⟩ := idx1 t
  funext j
  refine congrArg (V m c main_arg0) (funext fun a => Fin.ext ?_)
  match a with
  | ⟨0, _⟩ => show win0_1.index t (0 : Fin 2) * 1792 + 1 * (j 0).val = (j 0).val; omega
  | ⟨1, _⟩ => show win0_1.index t (1 : Fin 2) * 2048 + 1 * (j 1).val = (j 1).val; omega

/-- Point `t` is given the weight columns from `512 * t`. -/
theorem iblk2_eq (c : Dev nD) (t : Fin cfg0.N) (r : Fin 2048) (q : Fin 512) (q' : Fin 7168) (h : q'.val = 512 * t.val + q.val) :
    iblk m c 2 t (ix2 r q) = V m c main_arg1 (ix2 r q') := by
  obtain ⟨e0, e1⟩ := idx2 t
  refine congrArg (V m c main_arg1) (funext fun a => Fin.ext ?_)
  match a with
  | ⟨0, _⟩ => show win0_2.index t (0 : Fin 2) * 2048 + 1 * r.val = r.val; omega
  | ⟨1, _⟩ => show win0_2.index t (1 : Fin 2) * 512 + 1 * q.val = q'.val; omega

theorem emb3_0 (t : Fin cfg0.N) (j : S1792x512.Idx) : (((cfg0.win 3).blk t).view.emb j (0 : Fin 2)).val = (j 0).val := by
  obtain ⟨e0, e1⟩ := idx3 t
  show win0_3.index t (0 : Fin 2) * 1792 + 1 * (j 0).val = (j 0).val; omega
theorem emb3_1 (t : Fin cfg0.N) (j : S1792x512.Idx) : (((cfg0.win 3).blk t).view.emb j (1 : Fin 2)).val = 512 * t.val + (j 1).val := by
  obtain ⟨e0, e1⟩ := idx3 t
  show win0_3.index t (1 : Fin 2) * 512 + 1 * (j 1).val = 512 * t.val + (j 1).val; omega

/-- What point `t` writes back is its block of `shared`. -/
theorem flushed_eq (c : Dev nD) (t : Fin cfg0.N) :
    (dats (F := Ideal) m 0 c).flushed 3 t
      = ((cfg0.win 3).blk t).view.read (Elt Ideal) (shared (V m c main_arg0) (V m c main_arg1) (V m c main_arg2)) := by
  rw [Value.flushed3_A, out_eq, iblk0_eq, iblk1_eq]
  funext j
  show prod (grid0.coords t) (V m c main_arg2) (V m c main_arg0) (iblk m c 2 t) j
    = shared (V m c main_arg0) (V m c main_arg1) (V m c main_arg2) (((cfg0.win 3).blk t).view.emb j)
  have h0 : (j 0 : Fin 1792) = ((cfg0.win 3).blk t).view.emb j (0 : Fin 2) := Fin.ext (emb3_0 t j).symm
  have h1 := emb3_1 t j
  have hj : (j 1).val < 512 := (j 1).isLt
  refine Finset.sum_congr rfl fun k _ => ?_
  refine congrArg₂ (· * ·) (congrArg (fun q : Fin 1792 => V m c main_arg0 (ix2 q k)) h0) ?_
  refine congrArg₂ (· * ·) (iblk2_eq m c t k (j 1) _ h1) (congrArg (V m c main_arg2) (funext fun a => Fin.ext ?_))
  match a with
  | ⟨0, _⟩ => rfl
  | ⟨1, _⟩ =>
    show 4 * (grid0.coords t 0).val + (j 1).val / 128 = (((cfg0.win 3).blk t).view.emb j (1 : Fin 2)).val / 128
    rw [coord, h1]; omega

/-- Every element of the output lies in the block of the point that owns its column. -/
theorem covered (y : S1792x7168.Idx) : ∃ t : Fin cfg0.N, (cfg0.win 3).flush t = true ∧ y ∈ ((cfg0.win 3).blk t).view.set := by
  have hy : (y 1).val < 7168 := (y 1).isLt
  have ht : (y 1).val / 512 < 14 := by omega
  refine ⟨⟨(y 1).val / 512, ht⟩, flush0_3 _, ?_⟩
  have hm := ((cfg0.win 3).blk ⟨(y 1).val / 512, ht⟩).view.emb_mem_set
    (ix2 (y 0) (⟨(y 1).val % 512, by omega⟩ : Fin 512))
  have e : ((cfg0.win 3).blk ⟨(y 1).val / 512, ht⟩).view.emb (ix2 (y 0) (⟨(y 1).val % 512, by omega⟩ : Fin 512)) = y := by
    funext a; apply Fin.ext
    match a with
    | ⟨0, _⟩ => exact emb3_0 _ _
    | ⟨1, _⟩ =>
      refine (emb3_1 _ _).trans ?_
      show 512 * ((y 1).val / 512) + (y 1).val % 512 = (y 1).val; omega
  rwa [e] at hm

/-- The kernel's output array after the run is `shared` of the arguments. -/
theorem final_eq (c : Dev nD) : (dats (F := Ideal) m 0 c).arrAt 3 cfg0.N
    = shared (m ((c : Thread nD τ).loc main_arg0)) (m ((c : Thread nD τ).loc main_arg1)) (m ((c : Thread nD τ).loc main_arg2)) :=
  (dats (F := Ideal) m 0 c).arrAt_eq_of_cover 3 (shared (V m c main_arg0) (V m c main_arg1) (V m c main_arg2))
    (fun t _ => flushed_eq m c t) covered

/-- The reference's product is `shared` of its arguments. -/
theorem reference_eq (u : Vec Ideal S1792x2048 .bf16) (w : Vec Ideal S2048x7168 .fp8e4m3) (s : Vec Ideal S16x56 .f32) :
    Cert.DownReferenceIdeal.Value.G3 (F := Ideal) u w s = shared u w s := by
  funext y
  unfold Cert.DownReferenceIdeal.Value.G3 Cert.DownReferenceIdeal.Gen.k0_pay1 shared
  pointwise

end Cert.Proof.Down

end
-- ==== Proof.GateUpRun.lean ====
/-
  Hand-written, untrusted. The kernel's body run whole, at any reading of floats: what one grid point leaves in the three
  outputs and in the scratch that carries the scales from point to point.
-/
module

public import proofs.«01_k».proof.Proof.Gen.GateUp.Frame
public import proofs.«01_k».proof.Proof.Gen.GateUp.Skeleton
public import proofs.«01_k».proof.Proof.Gen.GateUp.Loops

@[expose] public section

set_option maxRecDepth 16384

noncomputable section

namespace Cert.GateUp.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 8 = 0 :=
  (fun t => by
    have ht : t.val < 8 := Nat.lt_of_lt_of_eq t.isLt N_0
    have e0 : (grid0.coords t 0).val = t.val / 1 % 8 := Pipeline.Grid.coords_val t 0 (by decide) rfl
    simp only [cond0_0, e0]
    word_cmp
   : ∀ t : Fin grid0.N, cond0_0 (grid0.coords t) ↔ t.val % 8 = 0)

/-! ## The kernel body on any staging memrefs: a subtype the run finds -/

/-- Each window's current staging memref at point `t`, spelled as the pipeline passes it (`bodyAt0`), and its wholeness. -/
abbrev ms0_0 (t : Fin cfg0.N) : Memref sig .tc .smem S56x16 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .smem S56x16 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1792x7168 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S7168x256 .fp8e4m3 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S7168x256 .fp8e4m3 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1792x256 .fp8e4m3 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1792x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1792x256 .bf16 := win0_7.stage (cfg0.slots t 7)
abbrev hs0_7 (t : Fin cfg0.N) : (ms0_7 t).IsWhole := hstage0_7 ((cfg0.slots t 7).cast nbuf0_7)
/-- The two scratch buffers. -/
abbrev scM0_0 : Memref sig .tc .vmem S7168x512 .bf16 := Memref.whole cc0_scratch0
abbrev scM0_1 : Memref sig .tc .vmem S1792x128 .f32 := Memref.whole cc0_scratch1
/-- The scratch `arg10` the kernel carries between points, as a view: what it holds is stated through it. -/
abbrev VS0_1 : View sig .tc .vmem S1792x128 .f32 := scM0_1.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

/-! ## One point's run -/

/-- A whole-buffer store reads back as what was stored. -/
theorem whole_read (v : View sig .tc .vmem S1792x128 .f32) (f : v.ty.Contents (Elt F)) (x : Vec F S1792x128 .f32)
    (inb : ∀ a, (![0, 0] : Fin 2 → ℕ) a + S1792x128.size a ≤ S1792x128.size a) :
    v.read (Elt F) (v.writes (Elt F) f [⟨Rect.unit (s := S1792x128) ![0, 0] S1792x128.size inb, x⟩]) = x := by
  funext y
  have h := View.read_writes_cons_emb v f (Rect.unit (s := S1792x128) ![0, 0] S1792x128.size inb) x [] y
  have hy : (Rect.unit (s := S1792x128) ![0, 0] S1792x128.size inb).emb y = y := by
    funext k; apply Fin.ext
    match k with
    | ⟨0, _⟩ => show 0 + 1 * (y 0).val = (y 0).val; omega
    | ⟨1, _⟩ => show 0 + 1 * (y 1).val = (y 1).val; omega
  rwa [hy] at h

/-- A whole-buffer load is the buffer's contents. -/
theorem whole_load (v : View sig .tc .vmem S1792x128 .f32) (f : v.ty.Contents (Elt F))
    (inb : ∀ a, (![0, 0] : Fin 2 → ℕ) a + S1792x128.size a ≤ S1792x128.size a) :
    View.readAt (Elt F) v (Rect.unit (s := S1792x128) ![0, 0] S1792x128.size inb).toLoadRect f = v.read (Elt F) f := by
  funext y
  rw [View.readAt_apply]
  have hy : (Rect.unit (s := S1792x128) ![0, 0] S1792x128.size inb).toLoadRect.idx y = y := by
    funext k; apply Fin.ext
    match k with
    | ⟨0, _⟩ => show 0 + 1 * (y 0).val = (y 0).val; omega
    | ⟨1, _⟩ => show 0 + 1 * (y 1).val = (y 1).val; omega
  rw [hy]

/-- A row and a tile of zeros: the trips take two such operands and read neither. -/
def anyRow : FVec F S1x128 .bf16 := fun _ => Scalar.ofBits .bf16 0x0000#16
def anyTile : FVec F S128x128 .bf16 := fun _ => Scalar.ofBits .bf16 0x0000#16

section Trips

variable (c : Dev nD) (i : grid0.Coords) (arg1 : Memref sig .tc .smem S56x16 .f32) (harg1 : arg1.IsWhole) (arg2 : Memref sig .tc .smem S56x16 .f32) (harg2 : arg2.IsWhole) (arg3 : Memref sig .tc .vmem S1792x7168 .bf16) (harg3 : arg3.IsWhole) (arg4 : Memref sig .tc .vmem S7168x256 .fp8e4m3) (harg4 : arg4.IsWhole) (arg5 : Memref sig .tc .vmem S7168x256 .fp8e4m3) (harg5 : arg5.IsWhole) (arg6 : Memref sig .tc .vmem S1792x256 .fp8e4m3) (harg6 : arg6.IsWhole) (arg7 : Memref sig .tc .vmem S1792x128 .f32) (harg7 : arg7.IsWhole) (arg8 : Memref sig .tc .vmem S1792x256 .bf16) (harg8 : arg8.IsWhole) (arg9 : Memref sig .tc .vmem S7168x512 .bf16) (harg9 : arg9.IsWhole) (arg10 : Memref sig .tc .vmem S1792x128 .f32) (harg10 : arg10.IsWhole) (w : BitVec 32) (lane : IVec S448x128 32)
  (X3 : BufTy.Contents (Elt F) arg3.view.ty) (X9 : BufTy.Contents (Elt F) arg9.view.ty)

/-- A trip's pieces depend on the scales it finds alone, not on what the two outputs held. -/
theorem trip_indep (u u' : FVec F S1x128 .bf16) (v v' : FVec F S128x128 .bf16) (k : Fin k0_t1_loop.trips) (f6 f6' : BufTy.Contents (Elt F) arg6.view.ty)
    (f8 f8' : BufTy.Contents (Elt F) arg8.view.ty) (f10 : BufTy.Contents (Elt F) arg10.view.ty) :
    tripL_k0_t1 (F := F) Variants.none c none i arg1 harg1 arg2 harg2 arg3 harg3 arg4 harg4 arg5 harg5 arg6 harg6 arg7 harg7 arg8 harg8 arg9 harg9 arg10 harg10 w u v lane X3 X9 k f6 f8 f10
      = tripL_k0_t1 (F := F) Variants.none c none i arg1 harg1 arg2 harg2 arg3 harg3 arg4 harg4 arg5 harg5 arg6 harg6 arg7 harg7 arg8 harg8 arg9 harg9 arg10 harg10 w u' v' lane X3 X9 k f6' f8' f10 := by
  unfold tripL_k0_t1 trip_k0_t1
  rfl

/-- Nor do the pieces of all the trips before `n`. -/
theorem trips_indep (u u' : FVec F S1x128 .bf16) (v v' : FVec F S128x128 .bf16) (G6 G6' : BufTy.Contents (Elt F) arg6.view.ty)
    (G8 G8' : BufTy.Contents (Elt F) arg8.view.ty) (G10 : BufTy.Contents (Elt F) arg10.view.ty) (n : ℕ) :
    pb_k0_t1 (F := F) Variants.none c none i arg1 harg1 arg2 harg2 arg3 harg3 arg4 harg4 arg5 harg5 arg6 harg6 arg7 harg7 arg8 harg8 arg9 harg9 arg10 harg10 w u v lane X3 X9 G6 G8 G10 n
      = pb_k0_t1 (F := F) Variants.none c none i arg1 harg1 arg2 harg2 arg3 harg3 arg4 harg4 arg5 harg5 arg6 harg6 arg7 harg7 arg8 harg8 arg9 harg9 arg10 harg10 w u' v' lane X3 X9 G6' G8' G10 n := by
  induction n with
  | zero => rfl
  | succ n ih =>
    rw [pb_k0_t1.eq_2, pb_k0_t1.eq_2, ih]
    unfold pb_k0_t1Step
    by_cases h : n < k0_t1_loop.trips
    · rw [dif_pos h, dif_pos h]
      rw [trip_indep c i arg1 harg1 arg2 harg2 arg3 harg3 arg4 harg4 arg5 harg5 arg6 harg6 arg7 harg7 arg8 harg8 arg9 harg9 arg10 harg10 w lane X3 X9 u u' v v' ⟨n, h⟩ _ (arg6.view.writes (Elt F) G6' _) _ (arg8.view.writes (Elt F) G8' _)]
    · rw [dif_neg h, dif_neg h]

variable (G10 : BufTy.Contents (Elt F) arg10.view.ty)

/-- The pieces of all four trips. -/
abbrev pieces : List (View.Piece (Elt F) S1792x256 .fp8e4m3) × List (View.Piece (Elt F) S1792x256 .bf16) × List (View.Piece (Elt F) S1792x128 .f32) :=
  pb_k0_t1 (F := F) Variants.none c none i arg1 harg1 arg2 harg2 arg3 harg3 arg4 harg4 arg5 harg5 arg6 harg6 arg7 harg7 arg8 harg8 arg9 harg9 arg10 harg10 w (anyRow (F := F)) (anyTile (F := F)) lane X3 X9 arg6.view.junk arg8.view.junk G10 k0_t1_loop.trips

/-- The codes' pieces cover their block. -/
theorem codes_cover (y : S1792x256.Idx) :
    ∃ pc ∈ (pieces c i arg1 harg1 arg2 harg2 arg3 harg3 arg4 harg4 arg5 harg5 arg6 harg6 arg7 harg7 arg8 harg8 arg9 harg9 arg10 harg10 w lane X3 X9 G10).1, y ∈ pc.1.set :=
  View.cover_of_tiledL (pieces c i arg1 harg1 arg2 harg2 arg3 harg3 arg4 harg4 arg5 harg5 arg6 harg6 arg7 harg7 arg8 harg8 arg9 harg9 arg10 harg10 w lane X3 X9 G10).1 S448x128.size (by sl_kernel_rfl) y

/-- The decoded values' pieces cover their block. -/
theorem decoded_cover (y : S1792x256.Idx) :
    ∃ pc ∈ (pieces c i arg1 harg1 arg2 harg2 arg3 harg3 arg4 harg4 arg5 harg5 arg6 harg6 arg7 harg7 arg8 harg8 arg9 harg9 arg10 harg10 w lane X3 X9 G10).2.1, y ∈ pc.1.set :=
  View.cover_of_tiledL (pieces c i arg1 harg1 arg2 harg2 arg3 harg3 arg4 harg4 arg5 harg5 arg6 harg6 arg7 harg7 arg8 harg8 arg9 harg9 arg10 harg10 w lane X3 X9 G10).2.1 S448x128.size (by sl_kernel_rfl) y

/-- The scales' pieces cover the scratch. -/
theorem scales_cover (y : S1792x128.Idx) :
    ∃ pc ∈ (pieces c i arg1 harg1 arg2 harg2 arg3 harg3 arg4 harg4 arg5 harg5 arg6 harg6 arg7 harg7 arg8 harg8 arg9 harg9 arg10 harg10 w lane X3 X9 G10).2.2, y ∈ pc.1.set :=
  View.cover_of_tiledL (pieces c i arg1 harg1 arg2 harg2 arg3 harg3 arg4 harg4 arg5 harg5 arg6 harg6 arg7 harg7 arg8 harg8 arg9 harg9 arg10 harg10 w lane X3 X9 G10).2.2 S448x128.size (by sl_kernel_rfl) y

/-- What the trips leave in the block of codes. -/
def codesAt : Vec F S1792x256 .fp8e4m3 :=
  arg6.view.read (Elt F) (arg6.view.writes (Elt F) arg6.view.junk (pieces c i arg1 harg1 arg2 harg2 arg3 harg3 arg4 harg4 arg5 harg5 arg6 harg6 arg7 harg7 arg8 harg8 arg9 harg9 arg10 harg10 w lane X3 X9 G10).1)

/-- What they leave in the block of decoded values. -/
def decodedAt : Vec F S1792x256 .bf16 :=
  arg8.view.read (Elt F) (arg8.view.writes (Elt F) arg8.view.junk (pieces c i arg1 harg1 arg2 harg2 arg3 harg3 arg4 harg4 arg5 harg5 arg6 harg6 arg7 harg7 arg8 harg8 arg9 harg9 arg10 harg10 w lane X3 X9 G10).2.1)

/-- What they leave in the scratch of scales. -/
def scalesAt : Vec F S1792x128 .f32 :=
  arg10.view.read (Elt F) (arg10.view.writes (Elt F) G10 (pieces c i arg1 harg1 arg2 harg2 arg3 harg3 arg4 harg4 arg5 harg5 arg6 harg6 arg7 harg7 arg8 harg8 arg9 harg9 arg10 harg10 w lane X3 X9 G10).2.2)

theorem codes_read (u : FVec F S1x128 .bf16) (v : FVec F S128x128 .bf16) (G6 : BufTy.Contents (Elt F) arg6.view.ty) (G8 : BufTy.Contents (Elt F) arg8.view.ty) :
    arg6.view.read (Elt F) (arg6.view.writes (Elt F) G6 (pb_k0_t1 (F := F) Variants.none c none i arg1 harg1 arg2 harg2 arg3 harg3 arg4 harg4 arg5 harg5 arg6 harg6 arg7 harg7 arg8 harg8 arg9 harg9 arg10 harg10 w u v lane X3 X9 G6 G8 G10 k0_t1_loop.trips).1)
      = codesAt c i arg1 harg1 arg2 harg2 arg3 harg3 arg4 harg4 arg5 harg5 arg6 harg6 arg7 harg7 arg8 harg8 arg9 harg9 arg10 harg10 w lane X3 X9 G10 := by
  rw [trips_indep c i arg1 harg1 arg2 harg2 arg3 harg3 arg4 harg4 arg5 harg5 arg6 harg6 arg7 harg7 arg8 harg8 arg9 harg9 arg10 harg10 w lane X3 X9 u (anyRow (F := F)) v (anyTile (F := F)) G6 arg6.view.junk G8 arg8.view.junk G10]
  exact View.read_writes_of_cover _ _ _ _ _ (codes_cover c i arg1 harg1 arg2 harg2 arg3 harg3 arg4 harg4 arg5 harg5 arg6 harg6 arg7 harg7 arg8 harg8 arg9 harg9 arg10 harg10 w lane X3 X9 G10)

theorem decoded_read (u : FVec F S1x128 .bf16) (v : FVec F S128x128 .bf16) (G6 : BufTy.Contents (Elt F) arg6.view.ty) (G8 : BufTy.Contents (Elt F) arg8.view.ty) :
    arg8.view.read (Elt F) (arg8.view.writes (Elt F) G8 (pb_k0_t1 (F := F) Variants.none c none i arg1 harg1 arg2 harg2 arg3 harg3 arg4 harg4 arg5 harg5 arg6 harg6 arg7 harg7 arg8 harg8 arg9 harg9 arg10 harg10 w u v lane X3 X9 G6 G8 G10 k0_t1_loop.trips).2.1)
      = decodedAt c i arg1 harg1 arg2 harg2 arg3 harg3 arg4 harg4 arg5 harg5 arg6 harg6 arg7 harg7 arg8 harg8 arg9 harg9 arg10 harg10 w lane X3 X9 G10 := by
  rw [trips_indep c i arg1 harg1 arg2 harg2 arg3 harg3 arg4 harg4 arg5 harg5 arg6 harg6 arg7 harg7 arg8 harg8 arg9 harg9 arg10 harg10 w lane X3 X9 u (anyRow (F := F)) v (anyTile (F := F)) G6 arg6.view.junk G8 arg8.view.junk G10]
  exact View.read_writes_of_cover _ _ _ _ _ (decoded_cover c i arg1 harg1 arg2 harg2 arg3 harg3 arg4 harg4 arg5 harg5 arg6 harg6 arg7 harg7 arg8 harg8 arg9 harg9 arg10 harg10 w lane X3 X9 G10)

theorem scales_read (u : FVec F S1x128 .bf16) (v : FVec F S128x128 .bf16) (G6 : BufTy.Contents (Elt F) arg6.view.ty) (G8 : BufTy.Contents (Elt F) arg8.view.ty) :
    arg10.view.read (Elt F) (arg10.view.writes (Elt F) G10 (pb_k0_t1 (F := F) Variants.none c none i arg1 harg1 arg2 harg2 arg3 harg3 arg4 harg4 arg5 harg5 arg6 harg6 arg7 harg7 arg8 harg8 arg9 harg9 arg10 harg10 w u v lane X3 X9 G6 G8 G10 k0_t1_loop.trips).2.2)
      = scalesAt c i arg1 harg1 arg2 harg2 arg3 harg3 arg4 harg4 arg5 harg5 arg6 harg6 arg7 harg7 arg8 harg8 arg9 harg9 arg10 harg10 w lane X3 X9 G10 := by
  rw [trips_indep c i arg1 harg1 arg2 harg2 arg3 harg3 arg4 harg4 arg5 harg5 arg6 harg6 arg7 harg7 arg8 harg8 arg9 harg9 arg10 harg10 w lane X3 X9 u (anyRow (F := F)) v (anyTile (F := F)) G6 arg6.view.junk G8 arg8.view.junk G10]
  rfl

/-- The same read over any earlier contents: the pieces cover the scratch. -/
theorem scales_read_any (u : FVec F S1x128 .bf16) (v : FVec F S128x128 .bf16) (f : BufTy.Contents (Elt F) arg10.view.ty) (G6 : BufTy.Contents (Elt F) arg6.view.ty) (G8 : BufTy.Contents (Elt F) arg8.view.ty) :
    arg10.view.read (Elt F) (arg10.view.writes (Elt F) f (pb_k0_t1 (F := F) Variants.none c none i arg1 harg1 arg2 harg2 arg3 harg3 arg4 harg4 arg5 harg5 arg6 harg6 arg7 harg7 arg8 harg8 arg9 harg9 arg10 harg10 w u v lane X3 X9 G6 G8 G10 k0_t1_loop.trips).2.2)
      = scalesAt c i arg1 harg1 arg2 harg2 arg3 harg3 arg4 harg4 arg5 harg5 arg6 harg6 arg7 harg7 arg8 harg8 arg9 harg9 arg10 harg10 w lane X3 X9 G10 := by
  rw [trips_indep c i arg1 harg1 arg2 harg2 arg3 harg3 arg4 harg4 arg5 harg5 arg6 harg6 arg7 harg7 arg8 harg8 arg9 harg9 arg10 harg10 w lane X3 X9 u (anyRow (F := F)) v (anyTile (F := F)) G6 arg6.view.junk G8 arg8.view.junk G10]
  exact View.read_writes_of_cover _ _ _ _ _ (scales_cover c i arg1 harg1 arg2 harg2 arg3 harg3 arg4 harg4 arg5 harg5 arg6 harg6 arg7 harg7 arg8 harg8 arg9 harg9 arg10 harg10 w lane X3 X9 G10)

end Trips

/-- The scratch of scales as the first point zeroes it. -/
abbrev zeroed (arg10 : Memref sig .tc .vmem S1792x128 .f32) : BufTy.Contents (Elt F) arg10.view.ty :=
  arg10.view.writes (Elt F) arg10.view.junk [⟨Rect.unit (s := S1792x128) ![0, 0] S1792x128.size inb_S1792x128_S1792x128_0_0, k0_pay353 (F := F)⟩]

end Cert.GateUp.Gen

end
-- ==== Proof.GateUpFirst.lean ====
module

public import proofs.«01_k».proof.Proof.GateUpRun

@[expose] public section

set_option maxRecDepth 16384

noncomputable section

namespace Cert.GateUp.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 96896000 in
noncomputable def run_A (c : Dev nD) (i : grid0.Coords) (arg1 : Memref sig .tc .smem S56x16 .f32) (harg1 : arg1.IsWhole) (arg2 : Memref sig .tc .smem S56x16 .f32) (harg2 : arg2.IsWhole) (arg3 : Memref sig .tc .vmem S1792x7168 .bf16) (harg3 : arg3.IsWhole) (arg4 : Memref sig .tc .vmem S7168x256 .fp8e4m3) (harg4 : arg4.IsWhole) (arg5 : Memref sig .tc .vmem S7168x256 .fp8e4m3) (harg5 : arg5.IsWhole) (arg6 : Memref sig .tc .vmem S1792x256 .fp8e4m3) (harg6 : arg6.IsWhole) (arg7 : Memref sig .tc .vmem S1792x128 .f32) (harg7 : arg7.IsWhole) (arg8 : Memref sig .tc .vmem S1792x256 .bf16) (harg8 : arg8.IsWhole) (arg9 : Memref sig .tc .vmem S7168x512 .bf16) (harg9 : arg9.IsWhole) (arg10 : Memref sig .tc .vmem S1792x128 .f32) (harg10 : arg10.IsWhole) (hc0 : cond0_0 i)
    (x0 : Vec F S56x16 .f32) (x1 : Vec F S56x16 .f32) (x2 : Vec F S1792x7168 .bf16) (x3 : Vec F S7168x256 .fp8e4m3) (x4 : Vec F S7168x256 .fp8e4m3) :
    { X : BufTy.Contents (Elt F) arg9.view.ty //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (codesAt c i arg1 harg1 arg2 harg2 arg3 harg3 arg4 harg4 arg5 harg5 arg6 harg6 arg7 harg7 arg8 harg8 arg9 harg9 arg10 harg10 (BitVec.ofNat 32 (i 0).val) (iota .tc S448x128 32 [1] iota_S448x128_d1_w32) (harg3.unread x2) X (zeroed arg10)) ∗ owns (c : Thread nD τ) arg7 fullShare (scalesAt c i arg1 harg1 arg2 harg2 arg3 harg3 arg4 harg4 arg5 harg5 arg6 harg6 arg7 harg7 arg8 harg8 arg9 harg9 arg10 harg10 (BitVec.ofNat 32 (i 0).val) (iota .tc S448x128 32 [1] iota_S448x128_d1_w32) (harg3.unread x2) X (zeroed arg10)) ∗ owns (c : Thread nD τ) arg8 fullShare (decodedAt c i arg1 harg1 arg2 harg2 arg3 harg3 arg4 harg4 arg5 harg5 arg6 harg6 arg7 harg7 arg8 harg8 arg9 harg9 arg10 harg10 (BitVec.ofNat 32 (i 0).val) (iota .tc S448x128 32 [1] iota_S448x128_d1_w32) (harg3.unread x2) X (zeroed arg10)) ∗ (arg9.view.loc (c : Thread nD τ) ↦[arg9.view.set]{fullShare} X) ∗ owns (c : Thread nD τ) arg10 fullShare (scalesAt c i arg1 harg1 arg2 harg2 arg3 harg3 arg4 harg4 arg5 harg5 arg6 harg6 arg7 harg7 arg8 harg8 arg9 harg9 arg10 harg10 (BitVec.ofNat 32 (i 0).val) (iota .tc S448x128 32 [1] iota_S448x128_d1_w32) (harg3.unread x2) X (zeroed arg10))) -∗ K ⟨⟩))
          ⊢ wp frame (wpE (defs₀ (F := F)) Variants.none c none) E (cc0_gate_up i arg1 harg1 arg2 harg2 arg3 harg3 arg4 harg4 arg5 harg5 arg6 harg6 arg7 harg7 arg8 harg8 arg9 harg9 arg10 harg10) K } := by
  refine ⟨?_, fun E K => ?run⟩
  case run =>
    simp only [cc0_gate_up_eq_skeleton]; unfold cc0_gate_up_skel
    simp only [k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitr [H6 H7 HS0 HS1]; swap
    isplitr [H7 HS0 HS1]; swap
    isplitr [HS0 HS1]; swap
    isplitl [HS0]; · iexact HS0
    · iexists _; isplitr; swap; · iexact HS1
      ipureintro
      exact (congrArg (arg10.view.read (Elt F)) (View.writes_append _ _ _ _)).trans (scales_read c i arg1 harg1 arg2 harg2 arg3 harg3 arg4 harg4 arg5 harg5 arg6 harg6 arg7 harg7 arg8 harg8 arg9 harg9 arg10 harg10 _ _ _ _ (zeroed arg10) _ _ _ _)
    · iexists _; isplitr; swap; · iexact H7
      ipureintro; exact decoded_read c i arg1 harg1 arg2 harg2 arg3 harg3 arg4 harg4 arg5 harg5 arg6 harg6 arg7 harg7 arg8 harg8 arg9 harg9 arg10 harg10 _ _ _ _ (zeroed arg10) _ _ _ _
    · iexists _; isplitr; swap; · iexact H6
      ipureintro
      exact (whole_read _ _ _ _).trans ((whole_load _ _ _).trans ((congrArg (arg10.view.read (Elt F)) (View.writes_append _ _ _ _)).trans
        (scales_read c i arg1 harg1 arg2 harg2 arg3 harg3 arg4 harg4 arg5 harg5 arg6 harg6 arg7 harg7 arg8 harg8 arg9 harg9 arg10 harg10 _ _ _ _ (zeroed arg10) _ _ _ _)))
    · iexists _; isplitr; swap; · iexact H5
      ipureintro; exact codes_read c i arg1 harg1 arg2 harg2 arg3 harg3 arg4 harg4 arg5 harg5 arg6 harg6 arg7 harg7 arg8 harg8 arg9 harg9 arg10 harg10 _ _ _ _ (zeroed arg10) _ _ _ _

end Cert.GateUp.Gen

end
-- ==== Proof.GateUpLater.lean ====
module

public import proofs.«01_k».proof.Proof.GateUpRun

@[expose] public section

set_option maxRecDepth 16384

noncomputable section

namespace Cert.GateUp.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 96896000 in
noncomputable def run_B (c : Dev nD) (i : grid0.Coords) (arg1 : Memref sig .tc .smem S56x16 .f32) (harg1 : arg1.IsWhole) (arg2 : Memref sig .tc .smem S56x16 .f32) (harg2 : arg2.IsWhole) (arg3 : Memref sig .tc .vmem S1792x7168 .bf16) (harg3 : arg3.IsWhole) (arg4 : Memref sig .tc .vmem S7168x256 .fp8e4m3) (harg4 : arg4.IsWhole) (arg5 : Memref sig .tc .vmem S7168x256 .fp8e4m3) (harg5 : arg5.IsWhole) (arg6 : Memref sig .tc .vmem S1792x256 .fp8e4m3) (harg6 : arg6.IsWhole) (arg7 : Memref sig .tc .vmem S1792x128 .f32) (harg7 : arg7.IsWhole) (arg8 : Memref sig .tc .vmem S1792x256 .bf16) (harg8 : arg8.IsWhole) (arg9 : Memref sig .tc .vmem S7168x512 .bf16) (harg9 : arg9.IsWhole) (arg10 : Memref sig .tc .vmem S1792x128 .f32) (harg10 : arg10.IsWhole) (hc0 : ¬cond0_0 i)
    (x0 : Vec F S56x16 .f32) (x1 : Vec F S56x16 .f32) (x2 : Vec F S1792x7168 .bf16) (x3 : Vec F S7168x256 .fp8e4m3) (x4 : Vec F S7168x256 .fp8e4m3) (xs : Vec F S1792x128 .f32) :
    { X : BufTy.Contents (Elt F) arg9.view.ty //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ owns (c : Thread nD τ) arg10 fullShare xs
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (codesAt c i arg1 harg1 arg2 harg2 arg3 harg3 arg4 harg4 arg5 harg5 arg6 harg6 arg7 harg7 arg8 harg8 arg9 harg9 arg10 harg10 (BitVec.ofNat 32 (i 0).val) (iota .tc S448x128 32 [1] iota_S448x128_d1_w32) (harg3.unread x2) X (harg10.unread xs)) ∗ owns (c : Thread nD τ) arg7 fullShare (scalesAt c i arg1 harg1 arg2 harg2 arg3 harg3 arg4 harg4 arg5 harg5 arg6 harg6 arg7 harg7 arg8 harg8 arg9 harg9 arg10 harg10 (BitVec.ofNat 32 (i 0).val) (iota .tc S448x128 32 [1] iota_S448x128_d1_w32) (harg3.unread x2) X (harg10.unread xs)) ∗ owns (c : Thread nD τ) arg8 fullShare (decodedAt c i arg1 harg1 arg2 harg2 arg3 harg3 arg4 harg4 arg5 harg5 arg6 harg6 arg7 harg7 arg8 harg8 arg9 harg9 arg10 harg10 (BitVec.ofNat 32 (i 0).val) (iota .tc S448x128 32 [1] iota_S448x128_d1_w32) (harg3.unread x2) X (harg10.unread xs)) ∗ (arg9.view.loc (c : Thread nD τ) ↦[arg9.view.set]{fullShare} X) ∗ owns (c : Thread nD τ) arg10 fullShare (scalesAt c i arg1 harg1 arg2 harg2 arg3 harg3 arg4 harg4 arg5 harg5 arg6 harg6 arg7 harg7 arg8 harg8 arg9 harg9 arg10 harg10 (BitVec.ofNat 32 (i 0).val) (iota .tc S448x128 32 [1] iota_S448x128_d1_w32) (harg3.unread x2) X (harg10.unread xs))) -∗ K ⟨⟩))
          ⊢ wp frame (wpE (defs₀ (F := F)) Variants.none c none) E (cc0_gate_up i arg1 harg1 arg2 harg2 arg3 harg3 arg4 harg4 arg5 harg5 arg6 harg6 arg7 harg7 arg8 harg8 arg9 harg9 arg10 harg10) K } := by
  refine ⟨?_, fun E K => ?run⟩
  case run =>
    simp only [cc0_gate_up_eq_skeleton]; unfold cc0_gate_up_skel
    simp only [k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%ds0, %fs0, -, HS0⟩, ⟨%fs1, %hs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg10.eq_unread hs1
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitr [H6 H7 HS0 HS1]; swap
    isplitr [H7 HS0 HS1]; swap
    isplitr [HS0 HS1]; swap
    isplitl [HS0]; · iexact HS0
    · iexists _; isplitr; swap; · iexact HS1
      ipureintro
      exact (scales_read c i arg1 harg1 arg2 harg2 arg3 harg3 arg4 harg4 arg5 harg5 arg6 harg6 arg7 harg7 arg8 harg8 arg9 harg9 arg10 harg10 _ _ _ _ (harg10.unread xs) _ _ _ _)
    · iexists _; isplitr; swap; · iexact H7
      ipureintro; exact decoded_read c i arg1 harg1 arg2 harg2 arg3 harg3 arg4 harg4 arg5 harg5 arg6 harg6 arg7 harg7 arg8 harg8 arg9 harg9 arg10 harg10 _ _ _ _ (harg10.unread xs) _ _ _ _
    · iexists _; isplitr; swap; · iexact H6
      ipureintro
      unfold run_B.sl.v2917
      exact (whole_read _ _ _ _).trans ((whole_load _ _ _).trans
        (scales_read c i arg1 harg1 arg2 harg2 arg3 harg3 arg4 harg4 arg5 harg5 arg6 harg6 arg7 harg7 arg8 harg8 arg9 harg9 arg10 harg10 _ _ _ _ (harg10.unread xs) _ _ _ _))
    · iexists _; isplitr; swap; · iexact H5
      ipureintro; exact codes_read c i arg1 harg1 arg2 harg2 arg3 harg3 arg4 harg4 arg5 harg5 arg6 harg6 arg7 harg7 arg8 harg8 arg9 harg9 arg10 harg10 _ _ _ _ (harg10.unread xs) _ _ _ _

end Cert.GateUp.Gen

end
-- ==== Proof.GateUpBody.lean ====
/-
  Hand-written, untrusted. The whole call at any reading of floats: what the three outputs hold after each grid point, the run,
  and the frame.
-/
module

public import proofs.«01_k».proof.Proof.GateUpFirst
public import proofs.«01_k».proof.Proof.GateUpLater
public import Idealize.ShloMosaic.Lib.Claim

@[expose] public section

set_option maxRecDepth 16384

noncomputable section

namespace Cert.GateUp.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What a point leaves -/

/-- The point's codes, scales and decoded values, from the weight block `X` it has dequantised and the scales `G` it finds. -/
def leaves (c : Dev nD) (t : Fin cfg0.N) (X : BufTy.Contents (Elt F) scM0_0.view.ty) (G : BufTy.Contents (Elt F) scM0_1.view.ty) :
    Vec F S1792x256 .fp8e4m3 × Vec F S1792x128 .f32 × Vec F S1792x256 .bf16 :=
  (codesAt c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (BitVec.ofNat 32 (grid0.coords t 0).val) (iota .tc S448x128 32 [1] iota_S448x128_d1_w32) ((hs0_2 t).unread (iblk m c 2 t)) X G,
    scalesAt c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (BitVec.ofNat 32 (grid0.coords t 0).val) (iota .tc S448x128 32 [1] iota_S448x128_d1_w32) ((hs0_2 t).unread (iblk m c 2 t)) X G,
    decodedAt c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (BitVec.ofNat 32 (grid0.coords t 0).val) (iota .tc S448x128 32 [1] iota_S448x128_d1_w32) ((hs0_2 t).unread (iblk m c 2 t)) X G)

/-- The first point's weight block. -/
def tilesFirst (c : Dev nD) (t : Fin cfg0.N) (h : cond0_0 (grid0.coords t)) : BufTy.Contents (Elt F) scM0_0.view.ty :=
  (run_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) h (iblk m c 0 t) (iblk m c 1 t) (iblk m c 2 t) (iblk m c 3 t) (iblk m c 4 t)).1

/-- A later point's weight block. -/
def tilesLater (c : Dev nD) (t : Fin cfg0.N) (h : ¬cond0_0 (grid0.coords t)) (xs : Vec F S1792x128 .f32) : BufTy.Contents (Elt F) scM0_0.view.ty :=
  (run_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) h (iblk m c 0 t) (iblk m c 1 t) (iblk m c 2 t) (iblk m c 3 t) (iblk m c 4 t) xs).1

theorem later (n : ℕ) (hn : n + 1 < cfg0.N) : ¬cond0_0 (grid0.coords ⟨n + 1, hn⟩) := fun h => by
  have h8 : n + 1 < 8 := lt_of_lt_of_eq hn (show cfg0.N = 8 from N_0)
  have := (hcond0_0 ⟨n + 1, hn⟩).mp h
  dsimp only at this
  omega

/-- What the outputs' staging buffers hold after the point at position `n`; the scales are also what the scratch carries on. -/
def outsAt0 (c : Dev nD) : (n : ℕ) → n < cfg0.N → Vec F S1792x256 .fp8e4m3 × Vec F S1792x128 .f32 × Vec F S1792x256 .bf16
  | 0, hn => leaves m c ⟨0, hn⟩ (tilesFirst m c ⟨0, hn⟩ ((hcond0_0 ⟨0, hn⟩).mpr (Nat.zero_mod _))) (zeroed scM0_1)
  | n + 1, hn => leaves m c ⟨n + 1, hn⟩ (tilesLater m c ⟨n + 1, hn⟩ (later n hn) (outsAt0 c n (Nat.lt_of_succ_lt hn)).2.1)
      ((Memref.isWhole_whole cc0_scratch1).unread (outsAt0 c n (Nat.lt_of_succ_lt hn)).2.1)

theorem outsAt0_A (c : Dev nD) (t : Fin cfg0.N) (h0 : t.val % 8 = 0) :
    outsAt0 m c t.val t.isLt = leaves m c t (tilesFirst m c t ((hcond0_0 t).mpr h0)) (zeroed scM0_1) := by
  obtain ⟨n, hn⟩ := t
  cases n with
  | zero => exact rfl
  | succ n => exact absurd ((hcond0_0 _).mpr h0) (later n hn)

theorem outsAt0_B (c : Dev nD) (t : Fin cfg0.N) (h0 : ¬t.val % 8 = 0) :
    outsAt0 m c t.val t.isLt = leaves m c t
      (tilesLater m c t (fun h => h0 ((hcond0_0 t).mp h)) (outsAt0 m c (t.val - 1) (Nat.lt_of_le_of_lt (Nat.sub_le _ _) t.isLt)).2.1)
      ((Memref.isWhole_whole cc0_scratch1).unread (outsAt0 m c (t.val - 1) (Nat.lt_of_le_of_lt (Nat.sub_le _ _) t.isLt)).2.1) := by
  obtain ⟨n, hn⟩ := t
  cases n with
  | zero => exact absurd (Nat.zero_mod _) h0
  | succ n => rfl

/-- The region invariant before position `n`: before the first point every scratch at anything; afterwards the scratch of scales at
    what the point before left, the other at anything, and the generator register at some state. -/
def PhiS (c : Dev nD) : (n : ℕ) → n ≤ cfg0.N → sProp 𝕄
  | 0, _ => Pipeline.ΦA spec0 c
  | n + 1, hn => iprop(iprop((∃ d, owns (c : Thread nD τ) scM0_0 fullShare d) ∗ owns (c : Thread nD τ) scM0_1 fullShare (outsAt0 m c n hn).2.1) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop((∃ d, owns (c : Thread nD τ) scM0_0 fullShare d) ∗ owns (c : Thread nD τ) scM0_1 fullShare (outsAt0 m c n hn).2.1) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop((∃ d, owns (c : Thread nD τ) scM0_0 fullShare d) ∗ owns (c : Thread nD τ) scM0_1 fullShare (outsAt0 m c (n - 1) (by omega)).2.1) ∗ (∃ r, prngReg c r)) := by
  cases n with
  | zero => exact absurd rfl hz
  | succ n => rfl

/-! ## The pipeline's proof data -/

/-- The proof data of the one pipeline on core `c`: the arrays as the region finds them; after the body at point `t` each input's buffer
    at its block and the outputs' at `outsAt0`; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt0 m c t.val t.isLt).1
    | ⟨6, _⟩ => (outsAt0 m c t.val t.isLt).2.1
    | ⟨7, _⟩ => (outsAt0 m c t.val t.isLt).2.2
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = (outsAt0 m c t.val t.isLt).1 := by dsimp only [dats]
theorem after0_6 (c : Dev nD) (t : Fin cfg0.N) : (dats m 0 c).after 6 t = (outsAt0 m c t.val t.isLt).2.1 := by dsimp only [dats]
theorem after0_7 (c : Dev nD) (t : Fin cfg0.N) : (dats m 0 c).after 7 t = (outsAt0 m c t.val t.isLt).2.2 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t))

set_option maxHeartbeats 6400000 in
/-- The body at any point: the inputs' buffers hold their blocks; at the first point the scratch of scales holds anything, later what the
    point before left; and the case's run applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl,
    after0_0, after0_1, after0_2, after0_3, after0_4, after0_5, after0_6, after0_7]
  rw [show (dats m 0 c).Φ t.succ = PhiS m c (t.val + 1) t.isLt from rfl, PhiS_succ]
  have hN : t.val < 8 := lt_of_lt_of_eq t.isLt (show cfg0.N = 8 from N_0)
  by_cases h0 : t.val % 8 = 0
  · by_cases hz : t.val = 0
    · rw [PhiS_castSucc m c t, PhiS_zero m c _ _ hz, PhiA0_eq]
      rw [outsAt0_A m c t h0]
      unfold leaves tilesFirst
      dsimp only
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((run_A c (grid0.coords t) _ _ _ _ _ _ _ _ _ _ _ _ _ _ _ _ _ _ _ _ ((hcond0_0 t).mpr h0) (iblk m c 0 t) (iblk m c 1 t) (iblk m c 2 t) (iblk m c 3 t) (iblk m c 4 t)).2 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexists _; iexact H7
      isplitl [HS0]; · iexact HS0
      isplitl [HS1]; · iexact HS1
      iintro ⟨H0, H1, H2, H3, H4, H5, H6, H7, HS0, HS1⟩
      isplitl [HS0 HS1 Hg]
      · isplitl [HS0 HS1]
        · isplitl [HS0]
          · iexists _; unfold owns; iexists _; isplitr
            swap; · iexact HS0
            ipureintro; rfl
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · exfalso; have hN : t.val < 8 := lt_of_lt_of_eq t.isLt (show cfg0.N = 8 from N_0); omega
  · by_cases hz : t.val = 0
    · exfalso; have hN : t.val < 8 := lt_of_lt_of_eq t.isLt (show cfg0.N = 8 from N_0); omega
    · rw [PhiS_castSucc m c t, PhiS_pos m c _ _ hz]
      rw [outsAt0_B m c t h0]
      unfold leaves tilesLater
      dsimp only
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((run_B c (grid0.coords t) _ _ _ _ _ _ _ _ _ _ _ _ _ _ _ _ _ _ _ _ (fun h => h0 ((hcond0_0 t).mp h)) (iblk m c 0 t) (iblk m c 1 t) (iblk m c 2 t) (iblk m c 3 t) (iblk m c 4 t) _).2 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexists _; iexact H7
      isplitl [HS0]; · iexact HS0
      isplitl [HS1]; · iexact HS1
      iintro ⟨H0, H1, H2, H3, H4, H5, H6, H7, HS0, HS1⟩
      isplitl [HS0 HS1 Hg]
      · isplitl [HS0 HS1]
        · isplitl [HS0]
          · iexists _; unfold owns; iexists _; isplitr
            swap; · iexact HS0
            ipureintro; rfl
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexact HS0
    iexists _; iexact HS1
  iexact Hg

/-- The same after the last point. -/
theorem hout (c : Dev nD) : (dats m 0 c).Φ (Fin.last cfg0.N) ⊢ Pipeline.ΦA spec0 c :=
  Phi_out m c _ (by rw [Fin.val_last]; have : cfg0.N = 8 := N_0; omega)

/-! ## The run and the frame -/

set_option backward.isDefEq.respectTransparency.types false in
set_option maxHeartbeats 800000 in
/-- The launch: the arrays end as the proof data says, the lines after the call read them, and every counter ends at zero. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- The frame: the arguments end unchanged and every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.GateUp.Gen

end
-- ==== Proof.GateUpIdealRun.lean ====
/-
  Hand-written, untrusted. The kernel's body run whole, at any reading of floats: what one grid point leaves in the three
  outputs and in the scratch that carries the scales from point to point.
-/
module

public import proofs.«01_k».proof.Proof.Gen.GateUpIdeal.Frame
public import proofs.«01_k».proof.Proof.Gen.GateUpIdeal.Skeleton
public import proofs.«01_k».proof.Proof.Gen.GateUpIdeal.Loops

@[expose] public section

set_option maxRecDepth 16384

noncomputable section

namespace Cert.GateUpIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 8 = 0 :=
  (fun t => by
    have ht : t.val < 8 := Nat.lt_of_lt_of_eq t.isLt N_0
    have e0 : (grid0.coords t 0).val = t.val / 1 % 8 := Pipeline.Grid.coords_val t 0 (by decide) rfl
    simp only [cond0_0, e0]
    word_cmp
   : ∀ t : Fin grid0.N, cond0_0 (grid0.coords t) ↔ t.val % 8 = 0)

/-! ## The kernel body on any staging memrefs: a subtype the run finds -/

/-- Each window's current staging memref at point `t`, spelled as the pipeline passes it (`bodyAt0`), and its wholeness. -/
abbrev ms0_0 (t : Fin cfg0.N) : Memref sig .tc .smem S56x16 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .smem S56x16 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1792x7168 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S7168x256 .fp8e4m3 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S7168x256 .fp8e4m3 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1792x256 .fp8e4m3 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1792x128 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1792x256 .bf16 := win0_7.stage (cfg0.slots t 7)
abbrev hs0_7 (t : Fin cfg0.N) : (ms0_7 t).IsWhole := hstage0_7 ((cfg0.slots t 7).cast nbuf0_7)
/-- The two scratch buffers. -/
abbrev scM0_0 : Memref sig .tc .vmem S7168x512 .bf16 := Memref.whole cc0_scratch0
abbrev scM0_1 : Memref sig .tc .vmem S1792x128 .f32 := Memref.whole cc0_scratch1
/-- The scratch `arg10` the kernel carries between points, as a view: what it holds is stated through it. -/
abbrev VS0_1 : View sig .tc .vmem S1792x128 .f32 := scM0_1.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

/-! ## One point's run -/

/-- A whole-buffer store reads back as what was stored. -/
theorem whole_read (v : View sig .tc .vmem S1792x128 .f32) (f : v.ty.Contents (Elt F)) (x : Vec F S1792x128 .f32)
    (inb : ∀ a, (![0, 0] : Fin 2 → ℕ) a + S1792x128.size a ≤ S1792x128.size a) :
    v.read (Elt F) (v.writes (Elt F) f [⟨Rect.unit (s := S1792x128) ![0, 0] S1792x128.size inb, x⟩]) = x := by
  funext y
  have h := View.read_writes_cons_emb v f (Rect.unit (s := S1792x128) ![0, 0] S1792x128.size inb) x [] y
  have hy : (Rect.unit (s := S1792x128) ![0, 0] S1792x128.size inb).emb y = y := by
    funext k; apply Fin.ext
    match k with
    | ⟨0, _⟩ => show 0 + 1 * (y 0).val = (y 0).val; omega
    | ⟨1, _⟩ => show 0 + 1 * (y 1).val = (y 1).val; omega
  rwa [hy] at h

/-- A whole-buffer load is the buffer's contents. -/
theorem whole_load (v : View sig .tc .vmem S1792x128 .f32) (f : v.ty.Contents (Elt F))
    (inb : ∀ a, (![0, 0] : Fin 2 → ℕ) a + S1792x128.size a ≤ S1792x128.size a) :
    View.readAt (Elt F) v (Rect.unit (s := S1792x128) ![0, 0] S1792x128.size inb).toLoadRect f = v.read (Elt F) f := by
  funext y
  rw [View.readAt_apply]
  have hy : (Rect.unit (s := S1792x128) ![0, 0] S1792x128.size inb).toLoadRect.idx y = y := by
    funext k; apply Fin.ext
    match k with
    | ⟨0, _⟩ => show 0 + 1 * (y 0).val = (y 0).val; omega
    | ⟨1, _⟩ => show 0 + 1 * (y 1).val = (y 1).val; omega
  rw [hy]

/-- A row and a tile of zeros: the trips take two such operands and read neither. -/
def anyRow : FVec F S1x128 .bf16 := fun _ => Scalar.ofBits .bf16 0x0000#16
def anyTile : FVec F S128x128 .bf16 := fun _ => Scalar.ofBits .bf16 0x0000#16

section Trips

variable (c : Dev nD) (i : grid0.Coords) (arg1 : Memref sig .tc .smem S56x16 .f32) (harg1 : arg1.IsWhole) (arg2 : Memref sig .tc .smem S56x16 .f32) (harg2 : arg2.IsWhole) (arg3 : Memref sig .tc .vmem S1792x7168 .bf16) (harg3 : arg3.IsWhole) (arg4 : Memref sig .tc .vmem S7168x256 .fp8e4m3) (harg4 : arg4.IsWhole) (arg5 : Memref sig .tc .vmem S7168x256 .fp8e4m3) (harg5 : arg5.IsWhole) (arg6 : Memref sig .tc .vmem S1792x256 .fp8e4m3) (harg6 : arg6.IsWhole) (arg7 : Memref sig .tc .vmem S1792x128 .f32) (harg7 : arg7.IsWhole) (arg8 : Memref sig .tc .vmem S1792x256 .bf16) (harg8 : arg8.IsWhole) (arg9 : Memref sig .tc .vmem S7168x512 .bf16) (harg9 : arg9.IsWhole) (arg10 : Memref sig .tc .vmem S1792x128 .f32) (harg10 : arg10.IsWhole) (w : BitVec 32) (lane : IVec S448x128 32)
  (X3 : BufTy.Contents (Elt F) arg3.view.ty) (X9 : BufTy.Contents (Elt F) arg9.view.ty)

/-- A trip's pieces depend on the scales it finds alone, not on what the two outputs held. -/
theorem trip_indep (u u' : FVec F S1x128 .bf16) (v v' : FVec F S128x128 .bf16) (k : Fin k0_t1_loop.trips) (f6 f6' : BufTy.Contents (Elt F) arg6.view.ty)
    (f8 f8' : BufTy.Contents (Elt F) arg8.view.ty) (f10 : BufTy.Contents (Elt F) arg10.view.ty) :
    tripL_k0_t1 (F := F) Variants.none c none i arg1 harg1 arg2 harg2 arg3 harg3 arg4 harg4 arg5 harg5 arg6 harg6 arg7 harg7 arg8 harg8 arg9 harg9 arg10 harg10 w u v lane X3 X9 k f6 f8 f10
      = tripL_k0_t1 (F := F) Variants.none c none i arg1 harg1 arg2 harg2 arg3 harg3 arg4 harg4 arg5 harg5 arg6 harg6 arg7 harg7 arg8 harg8 arg9 harg9 arg10 harg10 w u' v' lane X3 X9 k f6' f8' f10 := by
  unfold tripL_k0_t1 trip_k0_t1
  rfl

/-- Nor do the pieces of all the trips before `n`. -/
theorem trips_indep (u u' : FVec F S1x128 .bf16) (v v' : FVec F S128x128 .bf16) (G6 G6' : BufTy.Contents (Elt F) arg6.view.ty)
    (G8 G8' : BufTy.Contents (Elt F) arg8.view.ty) (G10 : BufTy.Contents (Elt F) arg10.view.ty) (n : ℕ) :
    pb_k0_t1 (F := F) Variants.none c none i arg1 harg1 arg2 harg2 arg3 harg3 arg4 harg4 arg5 harg5 arg6 harg6 arg7 harg7 arg8 harg8 arg9 harg9 arg10 harg10 w u v lane X3 X9 G6 G8 G10 n
      = pb_k0_t1 (F := F) Variants.none c none i arg1 harg1 arg2 harg2 arg3 harg3 arg4 harg4 arg5 harg5 arg6 harg6 arg7 harg7 arg8 harg8 arg9 harg9 arg10 harg10 w u' v' lane X3 X9 G6' G8' G10 n := by
  induction n with
  | zero => rfl
  | succ n ih =>
    rw [pb_k0_t1.eq_2, pb_k0_t1.eq_2, ih]
    unfold pb_k0_t1Step
    by_cases h : n < k0_t1_loop.trips
    · rw [dif_pos h, dif_pos h]
      rw [trip_indep c i arg1 harg1 arg2 harg2 arg3 harg3 arg4 harg4 arg5 harg5 arg6 harg6 arg7 harg7 arg8 harg8 arg9 harg9 arg10 harg10 w lane X3 X9 u u' v v' ⟨n, h⟩ _ (arg6.view.writes (Elt F) G6' _) _ (arg8.view.writes (Elt F) G8' _)]
    · rw [dif_neg h, dif_neg h]

variable (G10 : BufTy.Contents (Elt F) arg10.view.ty)

/-- The pieces of all four trips. -/
abbrev pieces : List (View.Piece (Elt F) S1792x256 .fp8e4m3) × List (View.Piece (Elt F) S1792x256 .bf16) × List (View.Piece (Elt F) S1792x128 .f32) :=
  pb_k0_t1 (F := F) Variants.none c none i arg1 harg1 arg2 harg2 arg3 harg3 arg4 harg4 arg5 harg5 arg6 harg6 arg7 harg7 arg8 harg8 arg9 harg9 arg10 harg10 w (anyRow (F := F)) (anyTile (F := F)) lane X3 X9 arg6.view.junk arg8.view.junk G10 k0_t1_loop.trips

/-- The codes' pieces cover their block. -/
theorem codes_cover (y : S1792x256.Idx) :
    ∃ pc ∈ (pieces c i arg1 harg1 arg2 harg2 arg3 harg3 arg4 harg4 arg5 harg5 arg6 harg6 arg7 harg7 arg8 harg8 arg9 harg9 arg10 harg10 w lane X3 X9 G10).1, y ∈ pc.1.set :=
  View.cover_of_tiledL (pieces c i arg1 harg1 arg2 harg2 arg3 harg3 arg4 harg4 arg5 harg5 arg6 harg6 arg7 harg7 arg8 harg8 arg9 harg9 arg10 harg10 w lane X3 X9 G10).1 S448x128.size (by sl_kernel_rfl) y

/-- The decoded values' pieces cover their block. -/
theorem decoded_cover (y : S1792x256.Idx) :
    ∃ pc ∈ (pieces c i arg1 harg1 arg2 harg2 arg3 harg3 arg4 harg4 arg5 harg5 arg6 harg6 arg7 harg7 arg8 harg8 arg9 harg9 arg10 harg10 w lane X3 X9 G10).2.1, y ∈ pc.1.set :=
  View.cover_of_tiledL (pieces c i arg1 harg1 arg2 harg2 arg3 harg3 arg4 harg4 arg5 harg5 arg6 harg6 arg7 harg7 arg8 harg8 arg9 harg9 arg10 harg10 w lane X3 X9 G10).2.1 S448x128.size (by sl_kernel_rfl) y

/-- The scales' pieces cover the scratch. -/
theorem scales_cover (y : S1792x128.Idx) :
    ∃ pc ∈ (pieces c i arg1 harg1 arg2 harg2 arg3 harg3 arg4 harg4 arg5 harg5 arg6 harg6 arg7 harg7 arg8 harg8 arg9 harg9 arg10 harg10 w lane X3 X9 G10).2.2, y ∈ pc.1.set :=
  View.cover_of_tiledL (pieces c i arg1 harg1 arg2 harg2 arg3 harg3 arg4 harg4 arg5 harg5 arg6 harg6 arg7 harg7 arg8 harg8 arg9 harg9 arg10 harg10 w lane X3 X9 G10).2.2 S448x128.size (by sl_kernel_rfl) y

/-- What the trips leave in the block of codes. -/
def codesAt : Vec F S1792x256 .fp8e4m3 :=
  arg6.view.read (Elt F) (arg6.view.writes (Elt F) arg6.view.junk (pieces c i arg1 harg1 arg2 harg2 arg3 harg3 arg4 harg4 arg5 harg5 arg6 harg6 arg7 harg7 arg8 harg8 arg9 harg9 arg10 harg10 w lane X3 X9 G10).1)

/-- What they leave in the block of decoded values. -/
def decodedAt : Vec F S1792x256 .bf16 :=
  arg8.view.read (Elt F) (arg8.view.writes (Elt F) arg8.view.junk (pieces c i arg1 harg1 arg2 harg2 arg3 harg3 arg4 harg4 arg5 harg5 arg6 harg6 arg7 harg7 arg8 harg8 arg9 harg9 arg10 harg10 w lane X3 X9 G10).2.1)

/-- What they leave in the scratch of scales. -/
def scalesAt : Vec F S1792x128 .f32 :=
  arg10.view.read (Elt F) (arg10.view.writes (Elt F) G10 (pieces c i arg1 harg1 arg2 harg2 arg3 harg3 arg4 harg4 arg5 harg5 arg6 harg6 arg7 harg7 arg8 harg8 arg9 harg9 arg10 harg10 w lane X3 X9 G10).2.2)

theorem codes_read (u : FVec F S1x128 .bf16) (v : FVec F S128x128 .bf16) (G6 : BufTy.Contents (Elt F) arg6.view.ty) (G8 : BufTy.Contents (Elt F) arg8.view.ty) :
    arg6.view.read (Elt F) (arg6.view.writes (Elt F) G6 (pb_k0_t1 (F := F) Variants.none c none i arg1 harg1 arg2 harg2 arg3 harg3 arg4 harg4 arg5 harg5 arg6 harg6 arg7 harg7 arg8 harg8 arg9 harg9 arg10 harg10 w u v lane X3 X9 G6 G8 G10 k0_t1_loop.trips).1)
      = codesAt c i arg1 harg1 arg2 harg2 arg3 harg3 arg4 harg4 arg5 harg5 arg6 harg6 arg7 harg7 arg8 harg8 arg9 harg9 arg10 harg10 w lane X3 X9 G10 := by
  rw [trips_indep c i arg1 harg1 arg2 harg2 arg3 harg3 arg4 harg4 arg5 harg5 arg6 harg6 arg7 harg7 arg8 harg8 arg9 harg9 arg10 harg10 w lane X3 X9 u (anyRow (F := F)) v (anyTile (F := F)) G6 arg6.view.junk G8 arg8.view.junk G10]
  exact View.read_writes_of_cover _ _ _ _ _ (codes_cover c i arg1 harg1 arg2 harg2 arg3 harg3 arg4 harg4 arg5 harg5 arg6 harg6 arg7 harg7 arg8 harg8 arg9 harg9 arg10 harg10 w lane X3 X9 G10)

theorem decoded_read (u : FVec F S1x128 .bf16) (v : FVec F S128x128 .bf16) (G6 : BufTy.Contents (Elt F) arg6.view.ty) (G8 : BufTy.Contents (Elt F) arg8.view.ty) :
    arg8.view.read (Elt F) (arg8.view.writes (Elt F) G8 (pb_k0_t1 (F := F) Variants.none c none i arg1 harg1 arg2 harg2 arg3 harg3 arg4 harg4 arg5 harg5 arg6 harg6 arg7 harg7 arg8 harg8 arg9 harg9 arg10 harg10 w u v lane X3 X9 G6 G8 G10 k0_t1_loop.trips).2.1)
      = decodedAt c i arg1 harg1 arg2 harg2 arg3 harg3 arg4 harg4 arg5 harg5 arg6 harg6 arg7 harg7 arg8 harg8 arg9 harg9 arg10 harg10 w lane X3 X9 G10 := by
  rw [trips_indep c i arg1 harg1 arg2 harg2 arg3 harg3 arg4 harg4 arg5 harg5 arg6 harg6 arg7 harg7 arg8 harg8 arg9 harg9 arg10 harg10 w lane X3 X9 u (anyRow (F := F)) v (anyTile (F := F)) G6 arg6.view.junk G8 arg8.view.junk G10]
  exact View.read_writes_of_cover _ _ _ _ _ (decoded_cover c i arg1 harg1 arg2 harg2 arg3 harg3 arg4 harg4 arg5 harg5 arg6 harg6 arg7 harg7 arg8 harg8 arg9 harg9 arg10 harg10 w lane X3 X9 G10)

theorem scales_read (u : FVec F S1x128 .bf16) (v : FVec F S128x128 .bf16) (G6 : BufTy.Contents (Elt F) arg6.view.ty) (G8 : BufTy.Contents (Elt F) arg8.view.ty) :
    arg10.view.read (Elt F) (arg10.view.writes (Elt F) G10 (pb_k0_t1 (F := F) Variants.none c none i arg1 harg1 arg2 harg2 arg3 harg3 arg4 harg4 arg5 harg5 arg6 harg6 arg7 harg7 arg8 harg8 arg9 harg9 arg10 harg10 w u v lane X3 X9 G6 G8 G10 k0_t1_loop.trips).2.2)
      = scalesAt c i arg1 harg1 arg2 harg2 arg3 harg3 arg4 harg4 arg5 harg5 arg6 harg6 arg7 harg7 arg8 harg8 arg9 harg9 arg10 harg10 w lane X3 X9 G10 := by
  rw [trips_indep c i arg1 harg1 arg2 harg2 arg3 harg3 arg4 harg4 arg5 harg5 arg6 harg6 arg7 harg7 arg8 harg8 arg9 harg9 arg10 harg10 w lane X3 X9 u (anyRow (F := F)) v (anyTile (F := F)) G6 arg6.view.junk G8 arg8.view.junk G10]
  rfl

/-- The same read over any earlier contents: the pieces cover the scratch. -/
theorem scales_read_any (u : FVec F S1x128 .bf16) (v : FVec F S128x128 .bf16) (f : BufTy.Contents (Elt F) arg10.view.ty) (G6 : BufTy.Contents (Elt F) arg6.view.ty) (G8 : BufTy.Contents (Elt F) arg8.view.ty) :
    arg10.view.read (Elt F) (arg10.view.writes (Elt F) f (pb_k0_t1 (F := F) Variants.none c none i arg1 harg1 arg2 harg2 arg3 harg3 arg4 harg4 arg5 harg5 arg6 harg6 arg7 harg7 arg8 harg8 arg9 harg9 arg10 harg10 w u v lane X3 X9 G6 G8 G10 k0_t1_loop.trips).2.2)
      = scalesAt c i arg1 harg1 arg2 harg2 arg3 harg3 arg4 harg4 arg5 harg5 arg6 harg6 arg7 harg7 arg8 harg8 arg9 harg9 arg10 harg10 w lane X3 X9 G10 := by
  rw [trips_indep c i arg1 harg1 arg2 harg2 arg3 harg3 arg4 harg4 arg5 harg5 arg6 harg6 arg7 harg7 arg8 harg8 arg9 harg9 arg10 harg10 w lane X3 X9 u (anyRow (F := F)) v (anyTile (F := F)) G6 arg6.view.junk G8 arg8.view.junk G10]
  exact View.read_writes_of_cover _ _ _ _ _ (scales_cover c i arg1 harg1 arg2 harg2 arg3 harg3 arg4 harg4 arg5 harg5 arg6 harg6 arg7 harg7 arg8 harg8 arg9 harg9 arg10 harg10 w lane X3 X9 G10)

end Trips

/-- The scratch of scales as the first point zeroes it. -/
abbrev zeroed (arg10 : Memref sig .tc .vmem S1792x128 .f32) : BufTy.Contents (Elt F) arg10.view.ty :=
  arg10.view.writes (Elt F) arg10.view.junk [⟨Rect.unit (s := S1792x128) ![0, 0] S1792x128.size inb_S1792x128_S1792x128_0_0, k0_pay353 (F := F)⟩]

end Cert.GateUpIdeal.Gen

end
-- ==== Proof.GateUpIdealFirst.lean ====
module

public import proofs.«01_k».proof.Proof.GateUpIdealRun

@[expose] public section

set_option maxRecDepth 16384

noncomputable section

namespace Cert.GateUpIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 96896000 in
noncomputable def run_A (c : Dev nD) (i : grid0.Coords) (arg1 : Memref sig .tc .smem S56x16 .f32) (harg1 : arg1.IsWhole) (arg2 : Memref sig .tc .smem S56x16 .f32) (harg2 : arg2.IsWhole) (arg3 : Memref sig .tc .vmem S1792x7168 .bf16) (harg3 : arg3.IsWhole) (arg4 : Memref sig .tc .vmem S7168x256 .fp8e4m3) (harg4 : arg4.IsWhole) (arg5 : Memref sig .tc .vmem S7168x256 .fp8e4m3) (harg5 : arg5.IsWhole) (arg6 : Memref sig .tc .vmem S1792x256 .fp8e4m3) (harg6 : arg6.IsWhole) (arg7 : Memref sig .tc .vmem S1792x128 .f32) (harg7 : arg7.IsWhole) (arg8 : Memref sig .tc .vmem S1792x256 .bf16) (harg8 : arg8.IsWhole) (arg9 : Memref sig .tc .vmem S7168x512 .bf16) (harg9 : arg9.IsWhole) (arg10 : Memref sig .tc .vmem S1792x128 .f32) (harg10 : arg10.IsWhole) (hc0 : cond0_0 i)
    (x0 : Vec F S56x16 .f32) (x1 : Vec F S56x16 .f32) (x2 : Vec F S1792x7168 .bf16) (x3 : Vec F S7168x256 .fp8e4m3) (x4 : Vec F S7168x256 .fp8e4m3) :
    { X : BufTy.Contents (Elt F) arg9.view.ty //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (codesAt c i arg1 harg1 arg2 harg2 arg3 harg3 arg4 harg4 arg5 harg5 arg6 harg6 arg7 harg7 arg8 harg8 arg9 harg9 arg10 harg10 (BitVec.ofNat 32 (i 0).val) (iota .tc S448x128 32 [1] iota_S448x128_d1_w32) (harg3.unread x2) X (zeroed arg10)) ∗ owns (c : Thread nD τ) arg7 fullShare (scalesAt c i arg1 harg1 arg2 harg2 arg3 harg3 arg4 harg4 arg5 harg5 arg6 harg6 arg7 harg7 arg8 harg8 arg9 harg9 arg10 harg10 (BitVec.ofNat 32 (i 0).val) (iota .tc S448x128 32 [1] iota_S448x128_d1_w32) (harg3.unread x2) X (zeroed arg10)) ∗ owns (c : Thread nD τ) arg8 fullShare (decodedAt c i arg1 harg1 arg2 harg2 arg3 harg3 arg4 harg4 arg5 harg5 arg6 harg6 arg7 harg7 arg8 harg8 arg9 harg9 arg10 harg10 (BitVec.ofNat 32 (i 0).val) (iota .tc S448x128 32 [1] iota_S448x128_d1_w32) (harg3.unread x2) X (zeroed arg10)) ∗ (arg9.view.loc (c : Thread nD τ) ↦[arg9.view.set]{fullShare} X) ∗ owns (c : Thread nD τ) arg10 fullShare (scalesAt c i arg1 harg1 arg2 harg2 arg3 harg3 arg4 harg4 arg5 harg5 arg6 harg6 arg7 harg7 arg8 harg8 arg9 harg9 arg10 harg10 (BitVec.ofNat 32 (i 0).val) (iota .tc S448x128 32 [1] iota_S448x128_d1_w32) (harg3.unread x2) X (zeroed arg10))) -∗ K ⟨⟩))
          ⊢ wp frame (wpE (defs₀ (F := F)) Variants.none c none) E (cc0_gate_up i arg1 harg1 arg2 harg2 arg3 harg3 arg4 harg4 arg5 harg5 arg6 harg6 arg7 harg7 arg8 harg8 arg9 harg9 arg10 harg10) K } := by
  refine ⟨?_, fun E K => ?run⟩
  case run =>
    simp only [cc0_gate_up_eq_skeleton]; unfold cc0_gate_up_skel
    simp only [k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitr [H6 H7 HS0 HS1]; swap
    isplitr [H7 HS0 HS1]; swap
    isplitr [HS0 HS1]; swap
    isplitl [HS0]; · iexact HS0
    · iexists _; isplitr; swap; · iexact HS1
      ipureintro
      exact (congrArg (arg10.view.read (Elt F)) (View.writes_append _ _ _ _)).trans (scales_read c i arg1 harg1 arg2 harg2 arg3 harg3 arg4 harg4 arg5 harg5 arg6 harg6 arg7 harg7 arg8 harg8 arg9 harg9 arg10 harg10 _ _ _ _ (zeroed arg10) _ _ _ _)
    · iexists _; isplitr; swap; · iexact H7
      ipureintro; exact decoded_read c i arg1 harg1 arg2 harg2 arg3 harg3 arg4 harg4 arg5 harg5 arg6 harg6 arg7 harg7 arg8 harg8 arg9 harg9 arg10 harg10 _ _ _ _ (zeroed arg10) _ _ _ _
    · iexists _; isplitr; swap; · iexact H6
      ipureintro
      exact (whole_read _ _ _ _).trans ((whole_load _ _ _).trans ((congrArg (arg10.view.read (Elt F)) (View.writes_append _ _ _ _)).trans
        (scales_read c i arg1 harg1 arg2 harg2 arg3 harg3 arg4 harg4 arg5 harg5 arg6 harg6 arg7 harg7 arg8 harg8 arg9 harg9 arg10 harg10 _ _ _ _ (zeroed arg10) _ _ _ _)))
    · iexists _; isplitr; swap; · iexact H5
      ipureintro; exact codes_read c i arg1 harg1 arg2 harg2 arg3 harg3 arg4 harg4 arg5 harg5 arg6 harg6 arg7 harg7 arg8 harg8 arg9 harg9 arg10 harg10 _ _ _ _ (zeroed arg10) _ _ _ _

end Cert.GateUpIdeal.Gen

end
-- ==== Proof.GateUpIdealLater.lean ====
module

public import proofs.«01_k».proof.Proof.GateUpIdealRun

@[expose] public section

set_option maxRecDepth 16384

noncomputable section

namespace Cert.GateUpIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

set_option maxHeartbeats 96896000 in
noncomputable def run_B (c : Dev nD) (i : grid0.Coords) (arg1 : Memref sig .tc .smem S56x16 .f32) (harg1 : arg1.IsWhole) (arg2 : Memref sig .tc .smem S56x16 .f32) (harg2 : arg2.IsWhole) (arg3 : Memref sig .tc .vmem S1792x7168 .bf16) (harg3 : arg3.IsWhole) (arg4 : Memref sig .tc .vmem S7168x256 .fp8e4m3) (harg4 : arg4.IsWhole) (arg5 : Memref sig .tc .vmem S7168x256 .fp8e4m3) (harg5 : arg5.IsWhole) (arg6 : Memref sig .tc .vmem S1792x256 .fp8e4m3) (harg6 : arg6.IsWhole) (arg7 : Memref sig .tc .vmem S1792x128 .f32) (harg7 : arg7.IsWhole) (arg8 : Memref sig .tc .vmem S1792x256 .bf16) (harg8 : arg8.IsWhole) (arg9 : Memref sig .tc .vmem S7168x512 .bf16) (harg9 : arg9.IsWhole) (arg10 : Memref sig .tc .vmem S1792x128 .f32) (harg10 : arg10.IsWhole) (hc0 : ¬cond0_0 i)
    (x0 : Vec F S56x16 .f32) (x1 : Vec F S56x16 .f32) (x2 : Vec F S1792x7168 .bf16) (x3 : Vec F S7168x256 .fp8e4m3) (x4 : Vec F S7168x256 .fp8e4m3) (xs : Vec F S1792x128 .f32) :
    { X : BufTy.Contents (Elt F) arg9.view.ty //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ owns (c : Thread nD τ) arg10 fullShare xs
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (codesAt c i arg1 harg1 arg2 harg2 arg3 harg3 arg4 harg4 arg5 harg5 arg6 harg6 arg7 harg7 arg8 harg8 arg9 harg9 arg10 harg10 (BitVec.ofNat 32 (i 0).val) (iota .tc S448x128 32 [1] iota_S448x128_d1_w32) (harg3.unread x2) X (harg10.unread xs)) ∗ owns (c : Thread nD τ) arg7 fullShare (scalesAt c i arg1 harg1 arg2 harg2 arg3 harg3 arg4 harg4 arg5 harg5 arg6 harg6 arg7 harg7 arg8 harg8 arg9 harg9 arg10 harg10 (BitVec.ofNat 32 (i 0).val) (iota .tc S448x128 32 [1] iota_S448x128_d1_w32) (harg3.unread x2) X (harg10.unread xs)) ∗ owns (c : Thread nD τ) arg8 fullShare (decodedAt c i arg1 harg1 arg2 harg2 arg3 harg3 arg4 harg4 arg5 harg5 arg6 harg6 arg7 harg7 arg8 harg8 arg9 harg9 arg10 harg10 (BitVec.ofNat 32 (i 0).val) (iota .tc S448x128 32 [1] iota_S448x128_d1_w32) (harg3.unread x2) X (harg10.unread xs)) ∗ (arg9.view.loc (c : Thread nD τ) ↦[arg9.view.set]{fullShare} X) ∗ owns (c : Thread nD τ) arg10 fullShare (scalesAt c i arg1 harg1 arg2 harg2 arg3 harg3 arg4 harg4 arg5 harg5 arg6 harg6 arg7 harg7 arg8 harg8 arg9 harg9 arg10 harg10 (BitVec.ofNat 32 (i 0).val) (iota .tc S448x128 32 [1] iota_S448x128_d1_w32) (harg3.unread x2) X (harg10.unread xs))) -∗ K ⟨⟩))
          ⊢ wp frame (wpE (defs₀ (F := F)) Variants.none c none) E (cc0_gate_up i arg1 harg1 arg2 harg2 arg3 harg3 arg4 harg4 arg5 harg5 arg6 harg6 arg7 harg7 arg8 harg8 arg9 harg9 arg10 harg10) K } := by
  refine ⟨?_, fun E K => ?run⟩
  case run =>
    simp only [cc0_gate_up_eq_skeleton]; unfold cc0_gate_up_skel
    simp only [k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%d7, %f7, -, H7⟩, ⟨%ds0, %fs0, -, HS0⟩, ⟨%fs1, %hs1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg10.eq_unread hs1
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitr [H6 H7 HS0 HS1]; swap
    isplitr [H7 HS0 HS1]; swap
    isplitr [HS0 HS1]; swap
    isplitl [HS0]; · iexact HS0
    · iexists _; isplitr; swap; · iexact HS1
      ipureintro
      exact (scales_read c i arg1 harg1 arg2 harg2 arg3 harg3 arg4 harg4 arg5 harg5 arg6 harg6 arg7 harg7 arg8 harg8 arg9 harg9 arg10 harg10 _ _ _ _ (harg10.unread xs) _ _ _ _)
    · iexists _; isplitr; swap; · iexact H7
      ipureintro; exact decoded_read c i arg1 harg1 arg2 harg2 arg3 harg3 arg4 harg4 arg5 harg5 arg6 harg6 arg7 harg7 arg8 harg8 arg9 harg9 arg10 harg10 _ _ _ _ (harg10.unread xs) _ _ _ _
    · iexists _; isplitr; swap; · iexact H6
      ipureintro
      unfold run_B.sl.v2917
      exact (whole_read _ _ _ _).trans ((whole_load _ _ _).trans
        (scales_read c i arg1 harg1 arg2 harg2 arg3 harg3 arg4 harg4 arg5 harg5 arg6 harg6 arg7 harg7 arg8 harg8 arg9 harg9 arg10 harg10 _ _ _ _ (harg10.unread xs) _ _ _ _))
    · iexists _; isplitr; swap; · iexact H5
      ipureintro; exact codes_read c i arg1 harg1 arg2 harg2 arg3 harg3 arg4 harg4 arg5 harg5 arg6 harg6 arg7 harg7 arg8 harg8 arg9 harg9 arg10 harg10 _ _ _ _ (harg10.unread xs) _ _ _ _

end Cert.GateUpIdeal.Gen

end
-- ==== Proof.GateUpIdealBody.lean ====
/-
  Hand-written, untrusted. The whole call at any reading of floats: what the three outputs hold after each grid point, the run,
  and the frame.
-/
module

public import proofs.«01_k».proof.Proof.GateUpIdealFirst
public import proofs.«01_k».proof.Proof.GateUpIdealLater
public import Idealize.ShloMosaic.Lib.Claim

@[expose] public section

set_option maxRecDepth 16384

noncomputable section

namespace Cert.GateUpIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What a point leaves -/

/-- The point's codes, scales and decoded values, from the weight block `X` it has dequantised and the scales `G` it finds. -/
def leaves (c : Dev nD) (t : Fin cfg0.N) (X : BufTy.Contents (Elt F) scM0_0.view.ty) (G : BufTy.Contents (Elt F) scM0_1.view.ty) :
    Vec F S1792x256 .fp8e4m3 × Vec F S1792x128 .f32 × Vec F S1792x256 .bf16 :=
  (codesAt c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (BitVec.ofNat 32 (grid0.coords t 0).val) (iota .tc S448x128 32 [1] iota_S448x128_d1_w32) ((hs0_2 t).unread (iblk m c 2 t)) X G,
    scalesAt c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (BitVec.ofNat 32 (grid0.coords t 0).val) (iota .tc S448x128 32 [1] iota_S448x128_d1_w32) ((hs0_2 t).unread (iblk m c 2 t)) X G,
    decodedAt c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) (BitVec.ofNat 32 (grid0.coords t 0).val) (iota .tc S448x128 32 [1] iota_S448x128_d1_w32) ((hs0_2 t).unread (iblk m c 2 t)) X G)

/-- The first point's weight block. -/
def tilesFirst (c : Dev nD) (t : Fin cfg0.N) (h : cond0_0 (grid0.coords t)) : BufTy.Contents (Elt F) scM0_0.view.ty :=
  (run_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) h (iblk m c 0 t) (iblk m c 1 t) (iblk m c 2 t) (iblk m c 3 t) (iblk m c 4 t)).1

/-- A later point's weight block. -/
def tilesLater (c : Dev nD) (t : Fin cfg0.N) (h : ¬cond0_0 (grid0.coords t)) (xs : Vec F S1792x128 .f32) : BufTy.Contents (Elt F) scM0_0.view.ty :=
  (run_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) h (iblk m c 0 t) (iblk m c 1 t) (iblk m c 2 t) (iblk m c 3 t) (iblk m c 4 t) xs).1

theorem later (n : ℕ) (hn : n + 1 < cfg0.N) : ¬cond0_0 (grid0.coords ⟨n + 1, hn⟩) := fun h => by
  have h8 : n + 1 < 8 := lt_of_lt_of_eq hn (show cfg0.N = 8 from N_0)
  have := (hcond0_0 ⟨n + 1, hn⟩).mp h
  dsimp only at this
  omega

/-- What the outputs' staging buffers hold after the point at position `n`; the scales are also what the scratch carries on. -/
def outsAt0 (c : Dev nD) : (n : ℕ) → n < cfg0.N → Vec F S1792x256 .fp8e4m3 × Vec F S1792x128 .f32 × Vec F S1792x256 .bf16
  | 0, hn => leaves m c ⟨0, hn⟩ (tilesFirst m c ⟨0, hn⟩ ((hcond0_0 ⟨0, hn⟩).mpr (Nat.zero_mod _))) (zeroed scM0_1)
  | n + 1, hn => leaves m c ⟨n + 1, hn⟩ (tilesLater m c ⟨n + 1, hn⟩ (later n hn) (outsAt0 c n (Nat.lt_of_succ_lt hn)).2.1)
      ((Memref.isWhole_whole cc0_scratch1).unread (outsAt0 c n (Nat.lt_of_succ_lt hn)).2.1)

theorem outsAt0_A (c : Dev nD) (t : Fin cfg0.N) (h0 : t.val % 8 = 0) :
    outsAt0 m c t.val t.isLt = leaves m c t (tilesFirst m c t ((hcond0_0 t).mpr h0)) (zeroed scM0_1) := by
  obtain ⟨n, hn⟩ := t
  cases n with
  | zero => exact rfl
  | succ n => exact absurd ((hcond0_0 _).mpr h0) (later n hn)

theorem outsAt0_B (c : Dev nD) (t : Fin cfg0.N) (h0 : ¬t.val % 8 = 0) :
    outsAt0 m c t.val t.isLt = leaves m c t
      (tilesLater m c t (fun h => h0 ((hcond0_0 t).mp h)) (outsAt0 m c (t.val - 1) (Nat.lt_of_le_of_lt (Nat.sub_le _ _) t.isLt)).2.1)
      ((Memref.isWhole_whole cc0_scratch1).unread (outsAt0 m c (t.val - 1) (Nat.lt_of_le_of_lt (Nat.sub_le _ _) t.isLt)).2.1) := by
  obtain ⟨n, hn⟩ := t
  cases n with
  | zero => exact absurd (Nat.zero_mod _) h0
  | succ n => rfl

/-- The region invariant before position `n`: before the first point every scratch at anything; afterwards the scratch of scales at
    what the point before left, the other at anything, and the generator register at some state. -/
def PhiS (c : Dev nD) : (n : ℕ) → n ≤ cfg0.N → sProp 𝕄
  | 0, _ => Pipeline.ΦA spec0 c
  | n + 1, hn => iprop(iprop((∃ d, owns (c : Thread nD τ) scM0_0 fullShare d) ∗ owns (c : Thread nD τ) scM0_1 fullShare (outsAt0 m c n hn).2.1) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop((∃ d, owns (c : Thread nD τ) scM0_0 fullShare d) ∗ owns (c : Thread nD τ) scM0_1 fullShare (outsAt0 m c n hn).2.1) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop((∃ d, owns (c : Thread nD τ) scM0_0 fullShare d) ∗ owns (c : Thread nD τ) scM0_1 fullShare (outsAt0 m c (n - 1) (by omega)).2.1) ∗ (∃ r, prngReg c r)) := by
  cases n with
  | zero => exact absurd rfl hz
  | succ n => rfl

/-! ## The pipeline's proof data -/

/-- The proof data of the one pipeline on core `c`: the arrays as the region finds them; after the body at point `t` each input's buffer
    at its block and the outputs' at `outsAt0`; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => (outsAt0 m c t.val t.isLt).1
    | ⟨6, _⟩ => (outsAt0 m c t.val t.isLt).2.1
    | ⟨7, _⟩ => (outsAt0 m c t.val t.isLt).2.2
  Φ t := PhiS m c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = (outsAt0 m c t.val t.isLt).1 := by dsimp only [dats]
theorem after0_6 (c : Dev nD) (t : Fin cfg0.N) : (dats m 0 c).after 6 t = (outsAt0 m c t.val t.isLt).2.1 := by dsimp only [dats]
theorem after0_7 (c : Dev nD) (t : Fin cfg0.N) : (dats m 0 c).after 7 t = (outsAt0 m c t.val t.isLt).2.2 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t))

set_option maxHeartbeats 6400000 in
/-- The body at any point: the inputs' buffers hold their blocks; at the first point the scratch of scales holds anything, later what the
    point before left; and the case's run applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl,
    after0_0, after0_1, after0_2, after0_3, after0_4, after0_5, after0_6, after0_7]
  rw [show (dats m 0 c).Φ t.succ = PhiS m c (t.val + 1) t.isLt from rfl, PhiS_succ]
  have hN : t.val < 8 := lt_of_lt_of_eq t.isLt (show cfg0.N = 8 from N_0)
  by_cases h0 : t.val % 8 = 0
  · by_cases hz : t.val = 0
    · rw [PhiS_castSucc m c t, PhiS_zero m c _ _ hz, PhiA0_eq]
      rw [outsAt0_A m c t h0]
      unfold leaves tilesFirst
      dsimp only
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((run_A c (grid0.coords t) _ _ _ _ _ _ _ _ _ _ _ _ _ _ _ _ _ _ _ _ ((hcond0_0 t).mpr h0) (iblk m c 0 t) (iblk m c 1 t) (iblk m c 2 t) (iblk m c 3 t) (iblk m c 4 t)).2 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexists _; iexact H7
      isplitl [HS0]; · iexact HS0
      isplitl [HS1]; · iexact HS1
      iintro ⟨H0, H1, H2, H3, H4, H5, H6, H7, HS0, HS1⟩
      isplitl [HS0 HS1 Hg]
      · isplitl [HS0 HS1]
        · isplitl [HS0]
          · iexists _; unfold owns; iexists _; isplitr
            swap; · iexact HS0
            ipureintro; rfl
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    · exfalso; have hN : t.val < 8 := lt_of_lt_of_eq t.isLt (show cfg0.N = 8 from N_0); omega
  · by_cases hz : t.val = 0
    · exfalso; have hN : t.val < 8 := lt_of_lt_of_eq t.isLt (show cfg0.N = 8 from N_0); omega
    · rw [PhiS_castSucc m c t, PhiS_pos m c _ _ hz]
      rw [outsAt0_B m c t h0]
      unfold leaves tilesLater
      dsimp only
      iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply ((run_B c (grid0.coords t) _ _ _ _ _ _ _ _ _ _ _ _ _ _ _ _ _ _ _ _ (fun h => h0 ((hcond0_0 t).mp h)) (iblk m c 0 t) (iblk m c 1 t) (iblk m c 2 t) (iblk m c 3 t) (iblk m c 4 t) _).2 Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [H7]; · iexists _; iexact H7
      isplitl [HS0]; · iexact HS0
      isplitl [HS1]; · iexact HS1
      iintro ⟨H0, H1, H2, H3, H4, H5, H6, H7, HS0, HS1⟩
      isplitl [HS0 HS1 Hg]
      · isplitl [HS0 HS1]
        · isplitl [HS0]
          · iexists _; unfold owns; iexists _; isplitr
            swap; · iexact HS0
            ipureintro; rfl
          iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexact HS0
    iexists _; iexact HS1
  iexact Hg

/-- The same after the last point. -/
theorem hout (c : Dev nD) : (dats m 0 c).Φ (Fin.last cfg0.N) ⊢ Pipeline.ΦA spec0 c :=
  Phi_out m c _ (by rw [Fin.val_last]; have : cfg0.N = 8 := N_0; omega)

/-! ## The run and the frame -/

set_option backward.isDefEq.respectTransparency.types false in
set_option maxHeartbeats 800000 in
/-- The launch: the arrays end as the proof data says, the lines after the call read them, and every counter ends at zero. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- The frame: the arguments end unchanged and every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.GateUpIdeal.Gen

end
-- ==== Proof.GateUpTile.lean ====
/-
  Hand-written, untrusted. The kernel's dequantised weight block: what the scratch of one grid point holds once the 224 tiles
  are stored. Gate weights fill columns 0 to 255, up weights columns 256 to 511.
-/
module

public import proofs.«01_k».proof.Proof.GateUpIdealFirst
public import proofs.«01_k».proof.Proof.GateUpIdealLater
public import Idealize.ShloMosaic.Lib.Pointwise
public import Idealize.ShloMosaic.Lib.WholeRead

@[expose] public section

set_option maxRecDepth 16384

noncomputable section

namespace Cert.Proof.GateUp

open Idealize.ShloMosaic Idealize.ShloMosaic.TcCoe Idealize.SL.Sem
open Cert.GateUpIdeal Cert.GateUpIdeal.Gen

variable {F : FTy → Type} [FloatOps F]

/-- Grid point `i`'s scale for row `k` and column `q` of its 256 columns: the scale of the 128x128 tile they lie in. -/
def scaleIdx (i : grid0.Coords) (k : Fin 7168) (q : Fin 256) : S56x16.Idx :=
  ix2 (⟨k.val / 128, by omega⟩ : Fin 56)
    (⟨2 * (i 0).val + q.val / 128, by have h' : (i 0).val < 8 := (i 0).isLt; omega⟩ : Fin 16)

/-- One dequantised weight: the stored weight times the scale of its tile. -/
def deq (i : grid0.Coords) (s : Vec F S56x16 .f32) (w : Vec F S7168x256 .fp8e4m3) (k : Fin 7168) (q : Fin 256) : F .bf16 :=
  FloatOps.mulf (FloatOps.extf .bf16 bitsLt_fp8e4m3_bf16 (w (ix2 k q))) (FloatOps.truncf .bf16 bitsLt_bf16_f32 (s (scaleIdx i k q)))

/-- The point's weight block: gate weights on the left, up weights on the right. -/
def block (i : grid0.Coords) (x0 x1 : Vec F S56x16 .f32) (x3 x4 : Vec F S7168x256 .fp8e4m3) : S7168x512.Idx → F .bf16 := fun y =>
  if h : (y 1).val < 256 then deq i x0 x3 (y 0) ⟨(y 1).val, h⟩
  else deq i x1 x4 (y 0) ⟨(y 1).val - 256, by have h2 : (y 1).val < 512 := (y 1).isLt; omega⟩

/-- The word that addresses tile column `q` of grid point `i`. -/
theorem col_toNat (n : ℕ) (hn : n < 8) (q : ℕ) (hq : q < 2) :
    (BitVec.ofNat 32 n * 2#32 + BitVec.ofNat 32 q).toNat = 2 * n + q := by
  simp only [BitVec.toNat_add, BitVec.toNat_mul, BitVec.toNat_ofNat]
  omega

/-- One tile of either matrix: rows from `a` and columns from `b` of the point's 256 columns, the scale read from the table at row
    `a / 128` and column `2 * i + b / 128`. -/
theorem tile_deq (i : grid0.Coords) (args : Memref sig .tc .smem S56x16 .f32) (hargs : args.IsWhole)
    (argw : Memref sig .tc .vmem S7168x256 .fp8e4m3) (hargw : argw.IsWhole) (s : Vec F S56x16 .f32) (w : Vec F S7168x256 .fp8e4m3)
    (a b : ℕ) (inb : ∀ x, (![a, b] : Fin 2 → ℕ) x + S128x128.size x ≤ S7168x256.size x)
    (off : Fin 2 → ℕ) (inb' : ∀ x, off x + S1x1.size x ≤ S56x16.size x) (hne : 0 < S1x1.numel)
    (ha : a % 128 = 0) (hb : b % 128 = 0) (hb' : b / 128 < 2)
    (hoff : off = ![a / 128, (BitVec.ofNat 32 (i 0).val * 2#32 + BitVec.ofNat 32 (b / 128)).toNat]) (x : S128x128.Idx)
    (k : Fin 7168) (hk : k.val = a + (x 0).val) (q : Fin 256) (hq : q.val = b + (x 1).val) :
    k0_pay28 (View.readAt (Elt F) args.view (Rect.unit (s := S56x16) off S1x1.size inb').toLoadRect (hargs.unread s) (Shape.Idx.first hne))
        (View.readAt (Elt F) argw.view (Rect.unit (s := S7168x256) ![a, b] S128x128.size inb).toLoadRect (hargw.unread w)) x
      = deq i s w k q := by
  have hx0 : (x 0).val < 128 := (x 0).isLt
  have hx1 : (x 1).val < 128 := (x 1).isLt
  rw [hargs.readAt_unread]
  have hs : (Rect.unit (s := S56x16) off S1x1.size inb').toLoadRect.idx (Shape.Idx.first hne) = scaleIdx i k q := by
    subst hoff
    funext d; apply Fin.ext
    match d with
    | ⟨0, _⟩ =>
      show a / 128 + 1 * _ = k.val / 128
      rw [hk]; simp; omega
    | ⟨1, _⟩ =>
      show (BitVec.ofNat 32 (i 0).val * 2#32 + BitVec.ofNat 32 (b / 128)).toNat + 1 * _ = 2 * (i 0).val + q.val / 128
      have hw := col_toNat _ (i 0).isLt _ hb'
      have hf : (Shape.Idx.first hne (1 : Fin 2)).val = 0 := rfl
      rw [hq]; refine Eq.trans (congrArg₂ (fun u v => u + 1 * v) hw hf) ?_; omega
  rw [hs]
  have hi : (Rect.unit (s := S7168x256) ![a, b] S128x128.size inb).toLoadRect.idx x = ix2 k q := by
    funext d; apply Fin.ext
    match d with
    | ⟨0, _⟩ => show a + 1 * (x 0).val = k.val; omega
    | ⟨1, _⟩ => show b + 1 * (x 1).val = q.val; omega
  unfold deq k0_pay28
  pointwise
  rw [hargw.readAt_unread]
  exact congrArg (fun z => FloatOps.mulf (FloatOps.extf .bf16 bitsLt_fp8e4m3_bf16 (w z)) _) hi

theorem left_inb (a b : ℕ) (inb : ∀ x, (![a, b] : Fin 2 → ℕ) x + S128x128.size x ≤ S7168x256.size x) :
    ∀ x, (![a, b] : Fin 2 → ℕ) x + S128x128.size x ≤ S7168x512.size x := fun x => (inb x).trans (by revert x; decide)

theorem right_inb (a b b2 : ℕ) (hb2 : b2 = 256 + b) (inb : ∀ x, (![a, b] : Fin 2 → ℕ) x + S128x128.size x ≤ S7168x256.size x) :
    ∀ x, (![a, b2] : Fin 2 → ℕ) x + S128x128.size x ≤ S7168x512.size x := fun x => by
  subst hb2
  match x with
  | ⟨0, _⟩ => exact inb 0
  | ⟨1, _⟩ =>
    have h : b + 128 ≤ 256 := inb 1
    show 256 + b + 128 ≤ 512
    omega

/-- A gate tile is the block on the tile's rectangle. -/
theorem gate_ok (i : grid0.Coords) (arg1 : Memref sig .tc .smem S56x16 .f32) (harg1 : arg1.IsWhole)
    (arg4 : Memref sig .tc .vmem S7168x256 .fp8e4m3) (harg4 : arg4.IsWhole) (x0 x1 : Vec F S56x16 .f32) (x3 x4 : Vec F S7168x256 .fp8e4m3)
    (a b : ℕ) (inb : ∀ x, (![a, b] : Fin 2 → ℕ) x + S128x128.size x ≤ S7168x256.size x)
    (off : Fin 2 → ℕ) (inb' : ∀ x, off x + S1x1.size x ≤ S56x16.size x) (hne : 0 < S1x1.numel)
    (ha : a % 128 = 0) (hb : b % 128 = 0) (hb' : b / 128 < 2)
    (hoff : off = ![a / 128, (BitVec.ofNat 32 (i 0).val * 2#32 + BitVec.ofNat 32 (b / 128)).toNat]) (x : S128x128.Idx) :
    k0_pay28 (View.readAt (Elt F) arg1.view (Rect.unit (s := S56x16) off S1x1.size inb').toLoadRect (harg1.unread x0) (Shape.Idx.first hne))
        (View.readAt (Elt F) arg4.view (Rect.unit (s := S7168x256) ![a, b] S128x128.size inb).toLoadRect (harg4.unread x3)) x
      = block i x0 x1 x3 x4 ((Rect.unit (s := S7168x512) ![a, b] S128x128.size (left_inb a b inb)).emb x) := by
  have hx1 : (x 1).val < 128 := (x 1).isLt
  have e0 : ((Rect.unit (s := S7168x512) ![a, b] S128x128.size (left_inb a b inb)).emb x 0).val = a + (x 0).val := by
    show a + 1 * (x 0).val = _; omega
  have e1 : ((Rect.unit (s := S7168x512) ![a, b] S128x128.size (left_inb a b inb)).emb x 1).val = b + (x 1).val := by
    show b + 1 * (x 1).val = _; omega
  unfold block
  rw [dif_pos (by rw [e1]; omega)]
  exact tile_deq i arg1 harg1 arg4 harg4 x0 x3 a b inb off inb' hne ha hb hb' hoff x _ e0 _ e1

/-- An up tile is the block on the tile's rectangle, 256 columns further right. -/
theorem up_ok (i : grid0.Coords) (arg2 : Memref sig .tc .smem S56x16 .f32) (harg2 : arg2.IsWhole)
    (arg5 : Memref sig .tc .vmem S7168x256 .fp8e4m3) (harg5 : arg5.IsWhole) (x0 x1 : Vec F S56x16 .f32) (x3 x4 : Vec F S7168x256 .fp8e4m3)
    (a b b2 : ℕ) (inb : ∀ x, (![a, b] : Fin 2 → ℕ) x + S128x128.size x ≤ S7168x256.size x)
    (off : Fin 2 → ℕ) (inb' : ∀ x, off x + S1x1.size x ≤ S56x16.size x) (hne : 0 < S1x1.numel)
    (hb2 : b2 = 256 + b) (ha : a % 128 = 0) (hb : b % 128 = 0) (hb' : b / 128 < 2)
    (hoff : off = ![a / 128, (BitVec.ofNat 32 (i 0).val * 2#32 + BitVec.ofNat 32 (b / 128)).toNat]) (x : S128x128.Idx) :
    k0_pay28 (View.readAt (Elt F) arg2.view (Rect.unit (s := S56x16) off S1x1.size inb').toLoadRect (harg2.unread x1) (Shape.Idx.first hne))
        (View.readAt (Elt F) arg5.view (Rect.unit (s := S7168x256) ![a, b] S128x128.size inb).toLoadRect (harg5.unread x4)) x
      = block i x0 x1 x3 x4 ((Rect.unit (s := S7168x512) ![a, b2] S128x128.size (right_inb a b b2 hb2 inb)).emb x) := by
  subst hb2
  have hx1 : (x 1).val < 128 := (x 1).isLt
  have e0 : ((Rect.unit (s := S7168x512) ![a, 256 + b] S128x128.size (right_inb a b _ rfl inb)).emb x 0).val = a + (x 0).val := by
    show a + 1 * (x 0).val = _; omega
  have e1 : ((Rect.unit (s := S7168x512) ![a, 256 + b] S128x128.size (right_inb a b _ rfl inb)).emb x 1).val = 256 + b + (x 1).val := by
    show 256 + b + 1 * (x 1).val = _; omega
  unfold block
  rw [dif_neg (by rw [e1]; omega)]
  refine tile_deq i arg2 harg2 arg5 harg5 x1 x4 a b inb off inb' hne ha hb hb' hoff x _ e0 _ ?_
  show _ - 256 = _
  rw [e1]; omega

/-- Every tile of the first point's list agrees with the block: the tiles come in pairs, an up tile and a gate tile. -/
theorem tilesFirst_ok (c : Dev nD) (i : grid0.Coords) (arg1 : Memref sig .tc .smem S56x16 .f32) (harg1 : arg1.IsWhole)
    (arg2 : Memref sig .tc .smem S56x16 .f32) (harg2 : arg2.IsWhole) (arg4 : Memref sig .tc .vmem S7168x256 .fp8e4m3) (harg4 : arg4.IsWhole)
    (arg5 : Memref sig .tc .vmem S7168x256 .fp8e4m3) (harg5 : arg5.IsWhole) (x0 x1 : Vec F S56x16 .f32) (x3 x4 : Vec F S7168x256 .fp8e4m3) :
    ∀ p ∈ run_A.sl.HS0_224 c i arg1 harg1 arg2 harg2 arg4 harg4 arg5 harg5 x0 x1 x3 x4,
      ∀ x : p.1.shape.Idx, p.2 x = block i x0 x1 x3 x4 (p.1.emb x) := by
  unfold run_A.sl.HS0_224
  repeat' refine List.forall_mem_cons.2 ⟨fun x => up_ok i arg2 harg2 arg5 harg5 x0 x1 x3 x4 _ _ _ _ _ _ _ rfl rfl rfl (by decide) rfl x,
    List.forall_mem_cons.2 ⟨fun x => gate_ok i arg1 harg1 arg4 harg4 x0 x1 x3 x4 _ _ _ _ _ _ rfl rfl (by decide) rfl x, ?_⟩⟩
  exact List.forall_mem_nil _

/-- The same for a later point's list. -/
theorem tilesLater_ok (c : Dev nD) (i : grid0.Coords) (arg1 : Memref sig .tc .smem S56x16 .f32) (harg1 : arg1.IsWhole)
    (arg2 : Memref sig .tc .smem S56x16 .f32) (harg2 : arg2.IsWhole) (arg4 : Memref sig .tc .vmem S7168x256 .fp8e4m3) (harg4 : arg4.IsWhole)
    (arg5 : Memref sig .tc .vmem S7168x256 .fp8e4m3) (harg5 : arg5.IsWhole) (x0 x1 : Vec F S56x16 .f32) (x3 x4 : Vec F S7168x256 .fp8e4m3) :
    ∀ p ∈ run_B.sl.HS0_224 c i arg1 harg1 arg2 harg2 arg4 harg4 arg5 harg5 x0 x1 x3 x4,
      ∀ x : p.1.shape.Idx, p.2 x = block i x0 x1 x3 x4 (p.1.emb x) := by
  unfold run_B.sl.HS0_224
  repeat' refine List.forall_mem_cons.2 ⟨fun x => up_ok i arg2 harg2 arg5 harg5 x0 x1 x3 x4 _ _ _ _ _ _ _ rfl rfl rfl (by decide) rfl x,
    List.forall_mem_cons.2 ⟨fun x => gate_ok i arg1 harg1 arg4 harg4 x0 x1 x3 x4 _ _ _ _ _ _ rfl rfl (by decide) rfl x, ?_⟩⟩
  exact List.forall_mem_nil _

omit [FloatOps F] in
/-- The scratch read back whole once tiles that cover it and agree with the block are stored. -/
theorem scratch_read (arg9 : Memref sig .tc .vmem S7168x512 .bf16) (f : BufTy.Contents (Elt F) arg9.view.ty)
    (L : List (View.Piece (Elt F) S7168x512 .bf16)) (g : S7168x512.Idx → F .bf16)
    (hL : ∀ p ∈ L, ∀ x : p.1.shape.Idx, p.2 x = g (p.1.emb x)) (hc : ∀ y : S7168x512.Idx, ∃ p ∈ L, y ∈ p.1.set)
    (inb : ∀ a, (![0, 0] : Fin 2 → ℕ) a + S7168x512.size a ≤ S7168x512.size a) :
    View.readAt (Elt F) arg9.view (Rect.unit (s := S7168x512) ![0, 0] S7168x512.size inb).toLoadRect (arg9.view.writes (Elt F) f L) = g := by
  funext y
  rw [View.readAt_apply]
  have hy : (Rect.unit (s := S7168x512) ![0, 0] S7168x512.size inb).toLoadRect.idx y = y := by
    funext k; apply Fin.ext
    match k with
    | ⟨0, _⟩ => show 0 + 1 * (y 0).val = (y 0).val; omega
    | ⟨1, _⟩ => show 0 + 1 * (y 1).val = (y 1).val; omega
  rw [hy]
  exact View.read_writes_apply_of_pieces arg9.view f _ _ hL y (hc y)

/-- The scratch after the first point's tiles, read back whole, is the block. -/
theorem read_First (c : Dev nD) (i : grid0.Coords) (arg1 : Memref sig .tc .smem S56x16 .f32) (harg1 : arg1.IsWhole) (arg2 : Memref sig .tc .smem S56x16 .f32) (harg2 : arg2.IsWhole) (arg3 : Memref sig .tc .vmem S1792x7168 .bf16) (harg3 : arg3.IsWhole) (arg4 : Memref sig .tc .vmem S7168x256 .fp8e4m3) (harg4 : arg4.IsWhole) (arg5 : Memref sig .tc .vmem S7168x256 .fp8e4m3) (harg5 : arg5.IsWhole) (arg6 : Memref sig .tc .vmem S1792x256 .fp8e4m3) (harg6 : arg6.IsWhole) (arg7 : Memref sig .tc .vmem S1792x128 .f32) (harg7 : arg7.IsWhole) (arg8 : Memref sig .tc .vmem S1792x256 .bf16) (harg8 : arg8.IsWhole) (arg9 : Memref sig .tc .vmem S7168x512 .bf16) (harg9 : arg9.IsWhole) (arg10 : Memref sig .tc .vmem S1792x128 .f32) (harg10 : arg10.IsWhole) (hc0 : cond0_0 i)
    (x0 x1 : Vec F S56x16 .f32) (x2 : Vec F S1792x7168 .bf16) (x3 x4 : Vec F S7168x256 .fp8e4m3)
    (inb : ∀ a, (![0, 0] : Fin 2 → ℕ) a + S7168x512.size a ≤ S7168x512.size a) :
    View.readAt (Elt F) arg9.view (Rect.unit (s := S7168x512) ![0, 0] S7168x512.size inb).toLoadRect
        (run_A c i arg1 harg1 arg2 harg2 arg3 harg3 arg4 harg4 arg5 harg5 arg6 harg6 arg7 harg7 arg8 harg8 arg9 harg9 arg10 harg10 hc0 x0 x1 x2 x3 x4 ).1 = block i x0 x1 x3 x4 :=
  scratch_read arg9 arg9.view.junk (run_A.sl.HS0_224 c i arg1 harg1 arg2 harg2 arg4 harg4 arg5 harg5 x0 x1 x3 x4) _
    (tilesFirst_ok c i arg1 harg1 arg2 harg2 arg4 harg4 arg5 harg5 x0 x1 x3 x4)
    (View.cover_of_tiledL (run_A.sl.HS0_224 c i arg1 harg1 arg2 harg2 arg4 harg4 arg5 harg5 x0 x1 x3 x4) S128x128.size (by sl_kernel_rfl)) inb

/-- The scratch after a later point's tiles, read back whole, is the block. -/
theorem read_Later (c : Dev nD) (i : grid0.Coords) (arg1 : Memref sig .tc .smem S56x16 .f32) (harg1 : arg1.IsWhole) (arg2 : Memref sig .tc .smem S56x16 .f32) (harg2 : arg2.IsWhole) (arg3 : Memref sig .tc .vmem S1792x7168 .bf16) (harg3 : arg3.IsWhole) (arg4 : Memref sig .tc .vmem S7168x256 .fp8e4m3) (harg4 : arg4.IsWhole) (arg5 : Memref sig .tc .vmem S7168x256 .fp8e4m3) (harg5 : arg5.IsWhole) (arg6 : Memref sig .tc .vmem S1792x256 .fp8e4m3) (harg6 : arg6.IsWhole) (arg7 : Memref sig .tc .vmem S1792x128 .f32) (harg7 : arg7.IsWhole) (arg8 : Memref sig .tc .vmem S1792x256 .bf16) (harg8 : arg8.IsWhole) (arg9 : Memref sig .tc .vmem S7168x512 .bf16) (harg9 : arg9.IsWhole) (arg10 : Memref sig .tc .vmem S1792x128 .f32) (harg10 : arg10.IsWhole) (hc0 : ¬cond0_0 i)
    (x0 x1 : Vec F S56x16 .f32) (x2 : Vec F S1792x7168 .bf16) (x3 x4 : Vec F S7168x256 .fp8e4m3) (xs : Vec F S1792x128 .f32)
    (inb : ∀ a, (![0, 0] : Fin 2 → ℕ) a + S7168x512.size a ≤ S7168x512.size a) :
    View.readAt (Elt F) arg9.view (Rect.unit (s := S7168x512) ![0, 0] S7168x512.size inb).toLoadRect
        (run_B c i arg1 harg1 arg2 harg2 arg3 harg3 arg4 harg4 arg5 harg5 arg6 harg6 arg7 harg7 arg8 harg8 arg9 harg9 arg10 harg10 hc0 x0 x1 x2 x3 x4 xs).1 = block i x0 x1 x3 x4 :=
  scratch_read arg9 arg9.view.junk (run_B.sl.HS0_224 c i arg1 harg1 arg2 harg2 arg4 harg4 arg5 harg5 x0 x1 x3 x4) _
    (tilesLater_ok c i arg1 harg1 arg2 harg2 arg4 harg4 arg5 harg5 x0 x1 x3 x4)
    (View.cover_of_tiledL (run_B.sl.HS0_224 c i arg1 harg1 arg2 harg2 arg4 harg4 arg5 harg5 x0 x1 x3 x4) S128x128.size (by sl_kernel_rfl)) inb

end Cert.Proof.GateUp

end
-- ==== Proof.Exponent.lean ====
/-
  Hand-written, untrusted. The exponent of a block's scale, at the ideal reading of floats: the word the kernel finds by bisection
  and the least power of two the reference looks for are the same power of two.
-/
module

public import Idealize.ShloMosaic.PureOps.Ideal
public import Idealize.ShloMosaic.Lib.Pointwise
public import Mathlib.Data.Nat.Find

@[expose] public section

noncomputable section

namespace Cert.Proof.Exponent

open Idealize.ShloMosaic

/-! ## Powers of two and their words -/

/-- The power of two with exponent `z`. -/
def two (z : ℤ) : EReal := (((2 : ℝ) ^ z : ℝ) : EReal)

theorem two_mono {y z : ℤ} (h : y ≤ z) : two y ≤ two z :=
  EReal.coe_le_coe_iff.2 (zpow_le_zpow_right₀ (by norm_num) h)

theorem two_lt {y z : ℤ} (h : y < z) : two y < two z :=
  EReal.coe_lt_coe_iff.2 (zpow_lt_zpow_right₀ (by norm_num) h)

/-- The float whose word is `w` shifted into the exponent field. -/
def pw (w : BitVec 32) : EReal := Ideal.ofBits .f32 (IntOp.shli .vector w 23#32)

/-- An exponent field from 1 to 254 reads as its power of two. -/
theorem pw_ofNat (n : ℕ) (h1 : 1 ≤ n) (h2 : n ≤ 254) : pw (BitVec.ofNat 32 n) = two ((n : ℤ) - 127) := by
  have hs : ∀ n : Fin 255, (IntOp.shli .vector (BitVec.ofNat 32 n.val) 23#32).extractLsb' 31 1 = 0#1
      ∧ ((IntOp.shli .vector (BitVec.ofNat 32 n.val) 23#32).extractLsb' 23 8).toNat = n.val
      ∧ ((IntOp.shli .vector (BitVec.ofNat 32 n.val) 23#32).extractLsb' 0 23).toNat = 0 := by decide +kernel
  obtain ⟨e0, e1, e2⟩ := hs ⟨n, by omega⟩
  simp only at e0 e1 e2
  unfold pw
  show Ideal.ieee 8 23 _ = _
  unfold Ideal.ieee
  simp only [e0, e1, e2]
  rw [if_neg (by omega), if_neg (by omega)]
  unfold two
  refine congrArg Real.toEReal ?_
  have e : (2 : ℝ) ^ ((n : ℤ) - 127) = 2 ^ (23 : ℤ) * 2 ^ ((n : ℤ) - 127 - 23) := by
    rw [← zpow_add₀ (two_ne_zero : (2 : ℝ) ≠ 0)]
    exact congrArg (fun z : ℤ => (2 : ℝ) ^ z) (by ring)
  rw [e]
  norm_num

/-! ## The bisection -/

/-- One step: `b` joins the field if the power of two then reached is no more than `v`. -/
def step (v : EReal) (b n : BitVec 32) : BitVec 32 :=
  if pw (IntOp.addi (IntOp.subi (IntOp.addi n b) 127#32) 127#32) ≤ v then IntOp.addi n b else n

/-- The field of `v`: eight steps from zero. -/
def field (v : EReal) : BitVec 32 :=
  step v 1#32 (step v 2#32 (step v 4#32 (step v 8#32 (step v 16#32 (step v 32#32 (step v 64#32 (step v 128#32 0#32)))))))

/-- The largest `n` up to 246 with `2^(n-127) ≤ x`, or 0. -/
def top (x : EReal) : ℕ := by classical exact Nat.findGreatest (fun n => two ((n : ℤ) - 127) ≤ x) 246

theorem top_le (x : EReal) : top x ≤ 246 := Nat.findGreatest_le _

theorem le_top_iff (x : EReal) (n : ℕ) (h1 : 1 ≤ n) (h2 : n ≤ 246) : n ≤ top x ↔ two ((n : ℤ) - 127) ≤ x := by
  classical
  constructor
  · intro h
    refine le_trans (two_mono (by omega)) (Nat.findGreatest_of_ne_zero (P := fun n => two ((n : ℤ) - 127) ≤ x) (n := 246) (m := top x) rfl ?_)
    omega
  · intro h
    exact Nat.le_findGreatest h2 h

/-- With `2^119` for a larger `x`, any `n` from 1 to 254 is at most `top x` just when its power of two is. -/
theorem le_top_iff' (x : EReal) (n : ℕ) (h1 : 1 ≤ n) (h2 : n ≤ 254) : n ≤ top x ↔ two ((n : ℤ) - 127) ≤ min x (two 119) := by
  by_cases h : n ≤ 246
  · rw [le_top_iff x n h1 h, le_min_iff]
    exact ⟨fun h' => ⟨h', two_mono (by omega)⟩, fun h' => h'.1⟩
  · have := top_le x
    refine iff_of_false (by omega) fun h' => ?_
    exact absurd (le_min_iff.1 h').2 (not_le.2 (two_lt (by omega)))

theorem step_spec (x : EReal) (N b : ℕ) (hb : 1 ≤ b) (h : N + b ≤ 254 ∨ N + b = 255) (hN : N ≤ top x) (hK : top x < N + 2 * b) :
    ∃ N', step (min x (two 119)) (BitVec.ofNat 32 b) (BitVec.ofNat 32 N) = BitVec.ofNat 32 N' ∧ N' ≤ top x ∧ top x < N' + b
      ∧ (N' = N ∨ N' = N + b) := by
  have h246 := top_le x
  have hadd : IntOp.addi (BitVec.ofNat 32 N) (BitVec.ofNat 32 b) = BitVec.ofNat 32 (N + b) := by
    show BitVec.ofNat 32 N + BitVec.ofNat 32 b = _
    rw [BitVec.ofNat_add]
  have hid : IntOp.addi (IntOp.subi (BitVec.ofNat 32 (N + b)) 127#32) 127#32 = BitVec.ofNat 32 (N + b) := by
    show BitVec.ofNat 32 (N + b) - 127#32 + 127#32 = _
    rw [BitVec.sub_add_cancel]
  unfold step
  rw [hadd, hid]
  rcases h with h | h
  · rw [pw_ofNat (N + b) (by omega) h]
    by_cases hp : N + b ≤ top x
    · rw [if_pos ((le_top_iff' x (N + b) (by omega) h).1 hp)]
      exact ⟨N + b, rfl, hp, by omega, .inr rfl⟩
    · rw [if_neg fun h' => hp ((le_top_iff' x (N + b) (by omega) h).2 h')]
      exact ⟨N, rfl, hN, by omega, .inl rfl⟩
  · have e : pw (BitVec.ofNat 32 (N + b)) = ⊤ := by
      rw [h]; unfold pw
      have a0 : (IntOp.shli .vector (BitVec.ofNat 32 255) 23#32).extractLsb' 31 1 = 0#1 := by decide +kernel
      have a1 : ((IntOp.shli .vector (BitVec.ofNat 32 255) 23#32).extractLsb' 23 8).toNat = 255 := by decide +kernel
      have a2 : ((IntOp.shli .vector (BitVec.ofNat 32 255) 23#32).extractLsb' 0 23).toNat = 0 := by decide +kernel
      unfold Ideal.ofBits Ideal.ieee
      simp only [a0, a1, a2]
      norm_num
    rw [e, if_neg fun h' => ?_]
    · exact ⟨N, rfl, hN, by omega, .inl rfl⟩
    · exact absurd (le_min_iff.1 h').2 (not_le.2 (EReal.coe_lt_top _))

/-- The bisection finds `top`. -/
theorem field_eq (x : EReal) : field (min x (two 119)) = BitVec.ofNat 32 (top x) := by
  have h246 := top_le x
  unfold field
  obtain ⟨n1, e1, l1, u1, c1⟩ := step_spec x 0 128 (by omega) (by omega) (by omega) (by omega)
  obtain ⟨n2, e2, l2, u2, c2⟩ := step_spec x n1 64 (by omega) (by omega) (by omega) (by omega)
  obtain ⟨n3, e3, l3, u3, c3⟩ := step_spec x n2 32 (by omega) (by omega) (by omega) (by omega)
  obtain ⟨n4, e4, l4, u4, c4⟩ := step_spec x n3 16 (by omega) (by omega) (by omega) (by omega)
  obtain ⟨n5, e5, l5, u5, c5⟩ := step_spec x n4 8 (by omega) (by omega) (by omega) (by omega)
  obtain ⟨n6, e6, l6, u6, c6⟩ := step_spec x n5 4 (by omega) (by omega) (by omega) (by omega)
  obtain ⟨n7, e7, l7, u7, c7⟩ := step_spec x n6 2 (by omega) (by omega) (by omega) (by omega)
  obtain ⟨n8, e8, l8, u8, c8⟩ := step_spec x n7 1 (by omega) (by omega) (by omega) (by omega)
  rw [e1, e2, e3, e4, e5, e6, e7, e8]
  congr 1; omega

/-! ## The exponent of a block -/

/-- 1/448 as an f32. -/
def r448 : EReal := Ideal.ofBits .f32 0x3B124925#32

theorem r448_ne : r448 ≠ 0 := by
  simp [r448, Ideal.ofBits, Ideal.ieee, -EReal.coe_mul]

/-- The exponent of a block whose largest magnitude is `a`. -/
def exponent (a : EReal) : ℤ := if a = 0 then 0 else (top (a * r448) : ℤ) - 126

theorem exponent_le (a : EReal) : exponent a ≤ 120 := by
  unfold exponent; have := top_le (a * r448); split <;> omega
theorem le_exponent (a : EReal) : -126 ≤ exponent a := by
  unfold exponent; split <;> omega

/-- The word of the exponent as the kernel chooses it: zero for a block of zeros, else the field less 126. -/
def word (a : EReal) : BitVec 32 :=
  if a = 0 then 0#32
  else Scalar.select (BitVec.ofBool (decide (a * r448 = 0))) (0#32)
    (IntOp.subi (field (min (a * r448) (Ideal.ofBits .f32 0x7B000000#32))) 126#32)

theorem cap_eq : Ideal.ofBits .f32 0x7B000000#32 = two 119 := by
  have := pw_ofNat 246 (by omega) (by omega)
  have e : IntOp.shli .vector (BitVec.ofNat 32 246) 23#32 = 0x7B000000#32 := by decide +kernel
  unfold pw at this
  rw [e] at this
  exact this

theorem word_eq (a : EReal) : word a = BitVec.ofInt 32 (exponent a) := by
  unfold word exponent
  by_cases h : a = 0
  · rw [if_pos h, if_pos h]; rfl
  · have h' : ¬ a * r448 = 0 := fun e => (mul_eq_zero.1 e).elim h r448_ne
    rw [if_neg h, if_neg h, cap_eq, field_eq, decide_eq_false h']
    show BitVec.ofNat 32 (top (a * r448)) - 126#32 = _
    have hw : ∀ n : Fin 247, BitVec.ofNat 32 n.val - 126#32 = BitVec.ofInt 32 ((n.val : ℤ) - 126) := by decide +kernel
    exact hw ⟨top (a * r448), Nat.lt_succ_of_le (top_le _)⟩

theorem exponent_range (a : EReal) : ∃ n : Fin 247, exponent a = (n.val : ℤ) - 126 := by
  have h1 := exponent_le a
  have h2 := le_exponent a
  exact ⟨⟨(exponent a + 126).toNat, by omega⟩, by simp only; omega⟩

/-- The scale the kernel builds from the word. -/
theorem pw_pos (a : EReal) : pw (IntOp.addi (word a) 127#32) = two (exponent a) := by
  obtain ⟨n, hn⟩ := exponent_range a
  have hw : ∀ n : Fin 247, IntOp.addi (BitVec.ofInt 32 ((n.val : ℤ) - 126)) 127#32 = BitVec.ofNat 32 (n.val + 1) := by decide +kernel
  rw [word_eq, hn, hw, pw_ofNat _ (by omega) (by omega)]
  congr 1; omega

/-- The inverse scale the kernel builds from the word. -/
theorem pw_neg (a : EReal) : pw (IntOp.addi (IntOp.subi 0#32 (word a)) 127#32) = two (-exponent a) := by
  obtain ⟨n, hn⟩ := exponent_range a
  have hw : ∀ n : Fin 247, IntOp.addi (IntOp.subi 0#32 (BitVec.ofInt 32 ((n.val : ℤ) - 126))) 127#32 = BitVec.ofNat 32 (253 - n.val) := by
    decide +kernel
  rw [word_eq, hn, hw, pw_ofNat _ (by omega) (by omega)]
  congr 1; omega

/-! ## The reference's exponent -/

theorem exp2_int (z : ℤ) : Ideal.exp2 (((z : ℝ) : ℝ) : EReal) = two z := by
  rw [Ideal.exp2_coe]
  unfold two
  congr 1
  exact Real.rpow_intCast 2 z

theorem c126 : Ideal.ofBits .f32 0x42FC0000#32 = (((126 : ℝ) : ℝ) : EReal) := by
  simp [Ideal.ofBits, Ideal.ieee, -EReal.coe_mul]; norm_num
theorem c120 : Ideal.ofBits .f32 0x42F00000#32 = (((120 : ℝ) : ℝ) : EReal) := by
  simp [Ideal.ofBits, Ideal.ieee, -EReal.coe_mul]; norm_num
theorem ctop : Ideal.ofBits .f32 0x7F800000#32 = ⊤ := by
  simp [Ideal.ofBits, Ideal.ieee]

/-- The `j`-th exponent the reference tries, as it computes it. -/
theorem lane_eq (j : Fin 247) :
    ((((BitVec.ofNat 32 j.val).toInt : ℝ) : EReal) - Ideal.ofBits .f32 0x42FC0000#32) = ((((j.val : ℤ) - 126 : ℤ) : ℝ) : EReal) := by
  have h : (BitVec.ofNat 32 j.val).toInt = (j.val : ℤ) := by
    have := j.isLt
    rw [BitVec.toInt_eq_toNat_cond, BitVec.toNat_ofNat]
    omega
  rw [h, c126, ← EReal.coe_sub]
  congr 1; push_cast; ring

/-- The least of the tried exponents whose power of two exceeds `x`, 120 if none does. -/
theorem fold_eq (x : EReal) (f : Fin 247 → EReal)
    (hf : ∀ j : Fin 247, f j = if x < two ((j.val : ℤ) - 126) then ((((j.val : ℤ) - 126 : ℤ) : ℝ) : EReal) else (((120 : ℝ) : ℝ) : EReal)) :
    Finset.fold min ⊤ f Finset.univ = ((((top x : ℤ) - 126 : ℤ) : ℝ) : EReal) := by
  have h246 := top_le x
  have key : ∀ j : Fin 247, f j = if top x ≤ j.val then ((((j.val : ℤ) - 126 : ℤ) : ℝ) : EReal) else (((120 : ℝ) : ℝ) : EReal) := by
    intro j
    rw [hf j]
    have hj := j.isLt
    rcases Nat.lt_or_ge j.val 246 with h | h
    · have := le_top_iff x (j.val + 1) (by omega) (by omega)
      have e : ((j.val + 1 : ℕ) : ℤ) - 127 = (j.val : ℤ) - 126 := by omega
      rw [e] at this
      by_cases h' : top x ≤ j.val
      · rw [if_pos h', if_pos (not_le.1 fun h'' => by have := this.2 h''; omega)]
      · rw [if_neg h', if_neg (not_lt.2 (this.1 (by omega)))]
    · have e : j.val = 246 := by omega
      rw [e, if_pos h246]
      split <;> norm_num
  apply le_antisymm
  · have := (Finset.fold_min_le (s := Finset.univ) (f := f) (b := (⊤ : EReal)) (c := f ⟨top x, by omega⟩)).2 (.inr ⟨⟨top x, by omega⟩, Finset.mem_univ _, le_rfl⟩)
    rw [key ⟨top x, by omega⟩, if_pos le_rfl] at this
    exact this
  · refine (Finset.le_fold_min (s := Finset.univ) (f := f) (b := (⊤ : EReal)) (c := ((((top x : ℤ) - 126 : ℤ) : ℝ) : EReal))).2 ⟨le_top, fun j _ => ?_⟩
    rw [key j]
    split
    · refine EReal.coe_le_coe_iff.2 ?_
      exact_mod_cast (by omega : (top x : ℤ) - 126 ≤ (j.val : ℤ) - 126)
    · refine EReal.coe_le_coe_iff.2 ?_
      exact_mod_cast (by omega : (top x : ℤ) - 126 ≤ 120)

end Cert.Proof.Exponent

end
-- ==== Proof.GateUpQuant.lean ====
/-
  Hand-written, untrusted. One trip of the gate/up kernel, at the ideal reading of floats: from 448 rows of activations and the
  dequantised weight block to the codes, the scales and the decoded values of two blocks of 128 columns.
-/
module

public import proofs.«01_k».proof.Proof.Exponent
public import proofs.«01_k».proof.Proof.Gen.GateUpIdeal.Skeleton

@[expose] public section

set_option maxRecDepth 16384

noncomputable section

namespace Cert.Proof.GateUp

open Idealize.ShloMosaic Idealize.ShloMosaic.TcCoe Idealize.SL.Sem
open Cert.GateUpIdeal Cert.GateUpIdeal.Gen Cert.Proof.Exponent

/-! ## One block of 128 values -/

/-- The largest magnitude of a block. -/
def magnitude (v : Fin 128 → EReal) : EReal :=
  Finset.fold max (Ideal.ofBits .f32 0xFF800000#32) (fun l => (FloatOps.absf (v l : Ideal .f32) : Ideal .f32)) Finset.univ

/-- The block's scale, a power of two. -/
def scale (v : Fin 128 → EReal) : EReal := two (exponent (magnitude v))

/-- The block's codes: the values over the scale, clipped to -448 to 448. -/
def code (v : Fin 128 → EReal) (l : Fin 128) : EReal :=
  min (Ideal.ofBits .f32 0x43E00000#32) (max (Ideal.ofBits .f32 0xC3E00000#32) (v l * two (-exponent (magnitude v))))

/-- A row against a column. -/
def dot (a w : Fin 7168 → EReal) : EReal := ∑ k, a k * w k

/-- The gated unit: `g * sigmoid(g) * u` for `g` and `u` a row against a gate column and an up column. -/
def unit (a wg wu : Fin 7168 → EReal) : EReal := dot a wg * Ideal.logistic (dot a wg) * dot a wu

/-! ## The units of a trip -/

theorem pay1_ok (A : Vec Ideal S448x7168 .bf16) (W : Vec Ideal S7168x512 .bf16) (x : S448x256.Idx) :
    k0_pay1 (F := Ideal) A W x = unit (fun k => A (ix2 (x 0) k))
      (fun k => W (ix2 k (⟨(x 1).val, by have h : (x 1).val < 256 := (x 1).isLt; omega⟩ : Fin 512)))
      (fun k => W (ix2 k (⟨256 + (x 1).val, by have h : (x 1).val < 256 := (x 1).isLt; omega⟩ : Fin 512))) := by
  unfold k0_pay1
  pointwise
  rfl

theorem pay2_ok (A : Vec Ideal S448x7168 .bf16) (W : Vec Ideal S7168x512 .bf16) (r : Fin 448) (l : Fin 128) :
    k0_pay2 (F := Ideal) A W (ix2 r l) = k0_pay1 (F := Ideal) A W (ix2 r (⟨l.val, by omega⟩ : Fin 256)) := by
  unfold k0_pay2
  generalize k0_pay1 (F := Ideal) A W = u
  pointwise

theorem pay17_ok (u : FVec Ideal S448x256 .f32) (r : Fin 448) (l : Fin 128) :
    k0_pay17 (F := Ideal) u (ix2 r l) = u (ix2 r (⟨128 + l.val, by omega⟩ : Fin 256)) := by
  unfold k0_pay17
  pointwise

/-! ## The first block -/

theorem pay3_ok (A : Vec Ideal S448x7168 .bf16) (W : Vec Ideal S7168x512 .bf16) (x : S448x1.Idx) :
    k0_pay3 (F := Ideal) A W x = magnitude fun l => k0_pay2 (F := Ideal) A W (ix2 (x 0) l) := by
  unfold k0_pay3
  generalize k0_pay2 (F := Ideal) A W = u
  pointwise
  rfl

theorem pay4_ok (A : Vec Ideal S448x7168 .bf16) (W : Vec Ideal S7168x512 .bf16) (x : S448x1.Idx) :
    k0_pay4 (F := Ideal) A W x = k0_pay3 (F := Ideal) A W x * r448 := by
  unfold k0_pay4
  generalize k0_pay3 (F := Ideal) A W = u
  pointwise
  rfl

theorem pay5_ok (A : Vec Ideal S448x7168 .bf16) (W : Vec Ideal S7168x512 .bf16) (x : S448x1.Idx) :
    k0_pay5 (F := Ideal) A W x = BitVec.ofBool (decide (k0_pay3 (F := Ideal) A W x * r448 = 0)) := by
  rw [← pay4_ok]
  unfold k0_pay5
  generalize k0_pay4 (F := Ideal) A W = u
  pointwise

theorem pay6_ok (A : Vec Ideal S448x7168 .bf16) (W : Vec Ideal S7168x512 .bf16) (x : S448x1.Idx) :
    k0_pay6 (F := Ideal) A W x = min (k0_pay3 (F := Ideal) A W x * r448) (Ideal.ofBits .f32 0x7B000000#32) := by
  rw [← pay4_ok]
  unfold k0_pay6
  generalize k0_pay4 (F := Ideal) A W = u
  pointwise

theorem pay7_ok (A : Vec Ideal S448x7168 .bf16) (W : Vec Ideal S7168x512 .bf16) (x : S448x1.Idx) :
    k0_pay7 (F := Ideal) A W x = step (k0_pay6 (F := Ideal) A W x) 128#32 0#32 := by
  unfold k0_pay7
  generalize k0_pay6 (F := Ideal) A W = u
  pointwise
  rfl

theorem pay8_ok (A : Vec Ideal S448x7168 .bf16) (W : Vec Ideal S7168x512 .bf16) (x : S448x1.Idx) :
    k0_pay8 (F := Ideal) A W x = IntOp.subi (IntOp.addi (k0_pay7 (F := Ideal) A W x) 64#32) 127#32 := by
  unfold k0_pay8
  generalize k0_pay7 (F := Ideal) A W = u
  pointwise

theorem pay9_ok (v : FVec Ideal S448x1 .f32) (n s : IVec S448x1 32) (x : S448x1.Idx)
    (hs : s x = IntOp.subi (IntOp.addi (n x) 64#32) 127#32) :
    k0_pay9 (F := Ideal) v n s x = step (v x) 16#32 (step (v x) 32#32 (step (v x) 64#32 (n x))) := by
  unfold k0_pay9
  pointwise
  rw [hs]
  rfl

theorem pay10_ok (v : FVec Ideal S448x1 .f32) (n s : IVec S448x1 32) (x : S448x1.Idx) :
    k0_pay10 (F := Ideal) v n s x
      = IntOp.shli .vector (IntOp.addi (IntOp.subi (IntOp.addi (k0_pay9 (F := Ideal) v n s x) 8#32) 127#32) 127#32) 23#32 := by
  unfold k0_pay10
  generalize k0_pay9 (F := Ideal) v n s = u
  pointwise

theorem pay11_ok (v : FVec Ideal S448x1 .f32) (n s : IVec S448x1 32) (x : S448x1.Idx)
    (hs : s x = IntOp.shli .vector (IntOp.addi (IntOp.subi (IntOp.addi (n x) 8#32) 127#32) 127#32) 23#32) :
    k0_pay11 (F := Ideal) v n s x = step (v x) 1#32 (step (v x) 2#32 (step (v x) 4#32 (step (v x) 8#32 (n x)))) := by
  unfold k0_pay11
  pointwise
  rw [hs]
  rfl

/-- The exponent field of the first block. -/
theorem field0_ok (A : Vec Ideal S448x7168 .bf16) (W : Vec Ideal S7168x512 .bf16) (x : S448x1.Idx) :
    k0_pay11 (F := Ideal) (k0_pay6 (F := Ideal) A W)
        (k0_pay9 (F := Ideal) (k0_pay6 (F := Ideal) A W) (k0_pay7 (F := Ideal) A W) (k0_pay8 (F := Ideal) A W))
        (k0_pay10 (F := Ideal) (k0_pay6 (F := Ideal) A W) (k0_pay7 (F := Ideal) A W) (k0_pay8 (F := Ideal) A W)) x
      = field (min (k0_pay3 (F := Ideal) A W x * r448) (Ideal.ofBits .f32 0x7B000000#32)) := by
  rw [pay11_ok _ _ _ _ (pay10_ok _ _ _ _), pay9_ok _ _ _ _ (pay8_ok _ _ _), pay7_ok, pay6_ok]
  rfl

theorem pay12_ok (a : FVec Ideal S448x1 .f32) (z : IVec S448x1 1) (e : IVec S448x1 32) (x : S448x1.Idx)
    (hz : z x = BitVec.ofBool (decide (a x * r448 = 0)))
    (he : e x = field (min (a x * r448) (Ideal.ofBits .f32 0x7B000000#32))) :
    k0_pay12 (F := Ideal) a z e x = word (a x) := by
  unfold k0_pay12
  pointwise
  rw [hz, he]
  rfl

theorem pay13_ok (v : FVec Ideal S448x128 .f32) (a : FVec Ideal S448x1 .f32) (z : IVec S448x1 1) (e : IVec S448x1 32)
    (hv : ∀ x, a x = magnitude fun l => v (ix2 (x 0) l))
    (hw : ∀ x, k0_pay12 (F := Ideal) a z e x = word (a x)) (x : S448x128.Idx) :
    k0_pay13 (F := Ideal) v a z e x = code (fun l => v (ix2 (x 0) l)) (x 1) := by
  unfold k0_pay13
  generalize k0_pay12 (F := Ideal) a z e = w at hw ⊢
  pointwise
  rw [hw, hv]
  unfold code
  rw [← pw_neg]
  exact congrArg (fun u => min (Ideal.ofBits .f32 0x43E00000#32) (max (Ideal.ofBits .f32 0xC3E00000#32)
    (v u * pw (IntOp.addi (IntOp.subi 0#32 (word (magnitude fun l => v (ix2 (x 0) l)))) 127#32)))) (ix2_eta x).symm

theorem pay14_ok (v : FVec Ideal S448x128 .f32) (a : FVec Ideal S448x1 .f32) (z : IVec S448x1 1) (e : IVec S448x1 32)
    (hv : ∀ x, a x = magnitude fun l => v (ix2 (x 0) l))
    (hw : ∀ x, k0_pay12 (F := Ideal) a z e x = word (a x)) (x : S448x1.Idx) :
    k0_pay14 (F := Ideal) a z e x = scale fun l => v (ix2 (x 0) l) := by
  unfold k0_pay14
  generalize k0_pay12 (F := Ideal) a z e = w at hw ⊢
  pointwise
  rw [hw, hv]
  unfold scale
  rw [← pw_pos]
  rfl

theorem pay15_ok (v : FVec Ideal S448x128 .f32) (a : FVec Ideal S448x1 .f32) (z : IVec S448x1 1) (e : IVec S448x1 32)
    (hv : ∀ x, a x = magnitude fun l => v (ix2 (x 0) l))
    (hw : ∀ x, k0_pay12 (F := Ideal) a z e x = word (a x)) (x : S448x128.Idx) :
    k0_pay15 (F := Ideal) v a z e x = code (fun l => v (ix2 (x 0) l)) (x 1) * scale fun l => v (ix2 (x 0) l) := by
  have h13 := pay13_ok v a z e hv hw x
  have h14 := pay14_ok v a z e hv hw (ix2 (x 0) (0 : Fin 1))
  unfold k0_pay15
  generalize k0_pay13 (F := Ideal) v a z e = p at h13 ⊢
  generalize k0_pay14 (F := Ideal) a z e = q at h14 ⊢
  pointwise
  rw [h13]
  exact congrArg _ h14

theorem pay16_ok (i : BitVec 32) (n : IVec S448x128 32) (o : Vec Ideal S448x128 .f32) (v : FVec Ideal S448x128 .f32)
    (a : FVec Ideal S448x1 .f32) (z : IVec S448x1 1) (e : IVec S448x1 32)
    (hv : ∀ x, a x = magnitude fun l => v (ix2 (x 0) l))
    (hw : ∀ x, k0_pay12 (F := Ideal) a z e x = word (a x)) (x : S448x128.Idx) :
    k0_pay16 (F := Ideal) i n o a z e x
      = Scalar.select (IntOp.cmpi .eq (n x) (Scalar.addi (Scalar.muli i 2#32) 0#32)) (scale fun l => v (ix2 (x 0) l)) (o x) := by
  have h14 := pay14_ok v a z e hv hw (ix2 (x 0) (0 : Fin 1))
  unfold k0_pay16
  generalize k0_pay14 (F := Ideal) a z e = q at h14 ⊢
  pointwise
  exact congrArg (fun u : EReal => Scalar.select (IntOp.cmpi .eq (n x) (Scalar.addi (Scalar.muli i 2#32) 0#32)) u (o x)) h14

/-! ## The second block -/

theorem pay18_ok (v : FVec Ideal S448x128 .f32) (x : S448x1.Idx) :
    k0_pay18 (F := Ideal) v x = magnitude fun l => v (ix2 (x 0) l) := by
  unfold k0_pay18
  pointwise
  rfl

theorem pay19_ok (v : FVec Ideal S448x128 .f32) (x : S448x1.Idx) :
    k0_pay19 (F := Ideal) v x = k0_pay18 (F := Ideal) v x * r448 := by
  unfold k0_pay19
  generalize k0_pay18 (F := Ideal) v = u
  pointwise
  rfl

theorem pay20_ok (v : FVec Ideal S448x128 .f32) (x : S448x1.Idx) :
    k0_pay20 (F := Ideal) v x = BitVec.ofBool (decide (k0_pay18 (F := Ideal) v x * r448 = 0)) := by
  rw [← pay19_ok]
  unfold k0_pay20
  generalize k0_pay19 (F := Ideal) v = u
  pointwise

theorem pay21_ok (v : FVec Ideal S448x128 .f32) (x : S448x1.Idx) :
    k0_pay21 (F := Ideal) v x = min (k0_pay18 (F := Ideal) v x * r448) (Ideal.ofBits .f32 0x7B000000#32) := by
  rw [← pay19_ok]
  unfold k0_pay21
  generalize k0_pay19 (F := Ideal) v = u
  pointwise

theorem pay22_ok (v : FVec Ideal S448x128 .f32) (x : S448x1.Idx) :
    k0_pay22 (F := Ideal) v x = step (k0_pay21 (F := Ideal) v x) 64#32 (step (k0_pay21 (F := Ideal) v x) 128#32 0#32) := by
  unfold k0_pay22
  generalize k0_pay21 (F := Ideal) v = u
  pointwise
  rfl

theorem pay23_ok (v : FVec Ideal S448x128 .f32) (x : S448x1.Idx) :
    k0_pay23 (F := Ideal) v x = IntOp.addi (IntOp.subi (IntOp.addi (k0_pay22 (F := Ideal) v x) 32#32) 127#32) 127#32 := by
  unfold k0_pay23
  generalize k0_pay22 (F := Ideal) v = u
  pointwise

theorem pay24_ok (v : FVec Ideal S448x1 .f32) (n s : IVec S448x1 32) (x : S448x1.Idx)
    (hs : s x = IntOp.addi (IntOp.subi (IntOp.addi (n x) 32#32) 127#32) 127#32) :
    k0_pay24 (F := Ideal) v n s x = step (v x) 8#32 (step (v x) 16#32 (step (v x) 32#32 (n x))) := by
  unfold k0_pay24
  pointwise
  rw [hs]
  rfl

theorem pay25_ok (v : FVec Ideal S448x1 .f32) (n s : IVec S448x1 32) (x : S448x1.Idx) :
    k0_pay25 (F := Ideal) v n s x = BitVec.ofBool (decide
      (pw (IntOp.addi (IntOp.subi (IntOp.addi (k0_pay24 (F := Ideal) v n s x) 4#32) 127#32) 127#32) ≤ v x)) := by
  unfold k0_pay25
  generalize k0_pay24 (F := Ideal) v n s = u
  pointwise
  rfl

theorem pay26_ok (a : FVec Ideal S448x1 .f32) (z : IVec S448x1 1) (c : FVec Ideal S448x1 .f32) (w : IVec S448x1 32)
    (t : IVec S448x1 1) (x : S448x1.Idx)
    (hz : z x = BitVec.ofBool (decide (a x * r448 = 0)))
    (ht : t x = BitVec.ofBool (decide (pw (IntOp.addi (IntOp.subi (IntOp.addi (w x) 4#32) 127#32) 127#32) ≤ c x))) :
    k0_pay26 (F := Ideal) a z c w t 4#32 x = if a x = 0 then 0#32
      else Scalar.select (BitVec.ofBool (decide (a x * r448 = 0))) (0#32)
        (IntOp.subi (step (c x) 1#32 (step (c x) 2#32 (step (c x) 4#32 (w x)))) 126#32) := by
  have e4 : Scalar.select (t x) (IntOp.addi (w x) 4#32) (w x) = step (c x) 4#32 (w x) := by
    rw [ht]
    unfold step Scalar.select
    by_cases h : pw (IntOp.addi (IntOp.subi (IntOp.addi (w x) 4#32) 127#32) 127#32) ≤ c x
    · rw [if_pos h, decide_eq_true h]; rfl
    · rw [if_neg h, decide_eq_false h]; rfl
  rw [← e4, ← hz]
  unfold k0_pay26
  pointwise
  rfl

/-- The exponent word of the second block. -/
theorem word1_ok (v : FVec Ideal S448x128 .f32) (x : S448x1.Idx) :
    k0_pay26 (F := Ideal) (k0_pay18 (F := Ideal) v) (k0_pay20 (F := Ideal) v) (k0_pay21 (F := Ideal) v)
        (k0_pay24 (F := Ideal) (k0_pay21 (F := Ideal) v) (k0_pay22 (F := Ideal) v) (k0_pay23 (F := Ideal) v))
        (k0_pay25 (F := Ideal) (k0_pay21 (F := Ideal) v) (k0_pay22 (F := Ideal) v) (k0_pay23 (F := Ideal) v)) 4#32 x
      = word (magnitude fun l => v (ix2 (x 0) l)) := by
  rw [pay26_ok _ _ _ _ _ x (pay20_ok v x) (pay25_ok _ _ _ x), pay24_ok _ _ _ x (pay23_ok v x), pay22_ok, pay21_ok, pay18_ok]
  rfl

theorem pay27_ok (a : FVec Ideal S448x1 .f32) (z : IVec S448x1 1) (c : FVec Ideal S448x1 .f32) (w : IVec S448x1 32)
    (t : IVec S448x1 1) (b : BitVec 32) (x : S448x1.Idx) :
    k0_pay27 (F := Ideal) a z c w t b x
      = IntOp.shli .vector (IntOp.addi (IntOp.subi 0#32 (k0_pay26 (F := Ideal) a z c w t b x)) 127#32) 23#32 := by
  unfold k0_pay27
  generalize k0_pay26 (F := Ideal) a z c w t b = u
  pointwise

theorem pay354_ok (v : FVec Ideal S448x128 .f32) (w : IVec S448x1 32)
    (hw : ∀ x, w x = IntOp.shli .vector (IntOp.addi (IntOp.subi 0#32 (word (magnitude fun l => v (ix2 (x 0) l)))) 127#32) 23#32)
    (x : S448x128.Idx) :
    k0_pay354 (F := Ideal) v w x = code (fun l => v (ix2 (x 0) l)) (x 1) := by
  unfold k0_pay354
  pointwise
  rw [hw]
  unfold code
  rw [← pw_neg]
  exact congrArg (fun u => min (Ideal.ofBits .f32 0x43E00000#32) (max (Ideal.ofBits .f32 0xC3E00000#32)
    (v u * pw (IntOp.addi (IntOp.subi 0#32 (word (magnitude fun l => v (ix2 (x 0) l)))) 127#32)))) (ix2_eta x).symm

theorem pay355_ok (v : FVec Ideal S448x128 .f32) (w : IVec S448x1 32)
    (hw : ∀ x, w x = word (magnitude fun l => v (ix2 (x 0) l))) (x : S448x1.Idx) :
    k0_pay355 (F := Ideal) w x = scale fun l => v (ix2 (x 0) l) := by
  unfold k0_pay355
  pointwise
  rw [hw]
  unfold scale
  rw [← pw_pos]
  rfl

theorem pay356_ok (v : FVec Ideal S448x128 .f32) (w s : IVec S448x1 32)
    (hw : ∀ x, w x = word (magnitude fun l => v (ix2 (x 0) l)))
    (hs : ∀ x, s x = IntOp.shli .vector (IntOp.addi (IntOp.subi 0#32 (word (magnitude fun l => v (ix2 (x 0) l)))) 127#32) 23#32)
    (x : S448x128.Idx) :
    k0_pay356 (F := Ideal) v w s x = code (fun l => v (ix2 (x 0) l)) (x 1) * scale fun l => v (ix2 (x 0) l) := by
  have h13 := pay354_ok v s hs x
  have h14 := pay355_ok v w hw (ix2 (x 0) (0 : Fin 1))
  unfold k0_pay356
  generalize k0_pay354 (F := Ideal) v s = p at h13 ⊢
  generalize k0_pay355 (F := Ideal) w = q at h14 ⊢
  pointwise
  rw [h13]
  exact congrArg _ h14

theorem pay357_ok (i : BitVec 32) (o : FVec Ideal S448x128 .f32) (v : FVec Ideal S448x128 .f32) (w : IVec S448x1 32)
    (hw : ∀ x, w x = word (magnitude fun l => v (ix2 (x 0) l))) (x : S448x128.Idx) :
    k0_pay357 (F := Ideal) i o w x
      = Scalar.select (IntOp.cmpi .eq (BitVec.ofNat 32 (x 1).val) (Scalar.addi (Scalar.muli i 2#32) 1#32))
          (scale fun l => v (ix2 (x 0) l)) (o x) := by
  have h14 := pay355_ok v w hw (ix2 (x 0) (0 : Fin 1))
  unfold k0_pay357
  generalize k0_pay355 (F := Ideal) w = q at h14 ⊢
  pointwise
  exact congrArg (fun u : EReal => Scalar.select (IntOp.cmpi .eq (BitVec.ofNat 32 (x 1).val) (Scalar.addi (Scalar.muli i 2#32) 1#32)) u (o x)) h14

end Cert.Proof.GateUp

end
-- ==== Proof.GateUpBlock.lean ====
/-
  Hand-written, untrusted. One grid point's outputs, element by element: each row's 256 gated units fall into two blocks of 128
  values, and each block gets its scale, its codes and its decoded values.
-/
module

public import proofs.«01_k».proof.Proof.GateUpIdealRun
public import proofs.«01_k».proof.Proof.GateUpQuant
public import Idealize.ShloMosaic.Lib.WholeRead
public import Idealize.ShloMosaic.Lib.WritesUnit

@[expose] public section

set_option maxRecDepth 16384

noncomputable section

namespace Cert.Proof.GateUp

open Idealize.ShloMosaic Idealize.ShloMosaic.TcCoe Idealize.SL.Sem
open Cert.GateUpIdeal Cert.GateUpIdeal.Gen Cert.Proof.Exponent

/-! ## The closed forms -/

/-- Block `p` of row `r`: its 128 gated units. The weight block `W` holds gate columns, then up columns. -/
def half (a : Vec Ideal S1792x7168 .bf16) (W : Vec Ideal S7168x512 .bf16) (r : Fin 1792) (p : Fin 2) (l : Fin 128) : EReal :=
  unit (fun j => a (ix2 r j)) (fun j => W (ix2 j (⟨128 * p.val + l.val, by omega⟩ : Fin 512)))
    (fun j => W (ix2 j (⟨256 + (128 * p.val + l.val), by omega⟩ : Fin 512)))

/-- The block of codes. -/
def codesOf (a : Vec Ideal S1792x7168 .bf16) (W : Vec Ideal S7168x512 .bf16) : S1792x256.Idx → EReal := fun y =>
  code (half a W (y 0) ⟨(y 1).val / 128, by have h : (y 1).val < 256 := (y 1).isLt; omega⟩) ⟨(y 1).val % 128, by omega⟩

/-- The block of decoded values: codes times scales. -/
def decodedOf (a : Vec Ideal S1792x7168 .bf16) (W : Vec Ideal S7168x512 .bf16) : S1792x256.Idx → EReal := fun y =>
  codesOf a W y * scale (half a W (y 0) ⟨(y 1).val / 128, by have h : (y 1).val < 256 := (y 1).isLt; omega⟩)

/-- The scales after point `n`: its two lanes are new, the others as they were. -/
def scalesOf (a : Vec Ideal S1792x7168 .bf16) (W : Vec Ideal S7168x512 .bf16) (n : ℕ) (G : S1792x128.Idx → EReal) :
    S1792x128.Idx → EReal := fun y =>
  if (y 1).val = 2 * n + 1 then scale (half a W (y 0) 1) else if (y 1).val = 2 * n then scale (half a W (y 0) 0) else G y

theorem codesOf_at (a : Vec Ideal S1792x7168 .bf16) (W : Vec Ideal S7168x512 .bf16) (y : S1792x256.Idx) (r : Fin 1792) (p : Fin 2)
    (l : Fin 128) (h0 : (y 0).val = r.val) (h1 : (y 1).val = 128 * p.val + l.val) : codesOf a W y = code (half a W r p) l := by
  have e0 : (y 0 : Fin 1792) = r := Fin.ext h0
  have e1 : (⟨(y 1).val / 128, by have h : (y 1).val < 256 := (y 1).isLt; omega⟩ : Fin 2) = p := Fin.ext (by dsimp only; omega)
  have e2 : (⟨(y 1).val % 128, by omega⟩ : Fin 128) = l := Fin.ext (by dsimp only; omega)
  show code (half a W (y 0) _) _ = _
  rw [e0, e1, e2]

theorem decodedOf_at (a : Vec Ideal S1792x7168 .bf16) (W : Vec Ideal S7168x512 .bf16) (y : S1792x256.Idx) (r : Fin 1792) (p : Fin 2)
    (l : Fin 128) (h0 : (y 0).val = r.val) (h1 : (y 1).val = 128 * p.val + l.val) :
    decodedOf a W y = code (half a W r p) l * scale (half a W r p) := by
  have e0 : (y 0 : Fin 1792) = r := Fin.ext h0
  have e1 : (⟨(y 1).val / 128, by have h : (y 1).val < 256 := (y 1).isLt; omega⟩ : Fin 2) = p := Fin.ext (by dsimp only; omega)
  show codesOf a W y * scale (half a W (y 0) _) = _
  rw [codesOf_at a W y r p l h0 h1, e0, e1]

/-- Lane `n` is selected when it is the point's lane `b`. -/
theorem lane_select (i n b : ℕ) (hi : i < 8) (hn : n < 128) (hb : b < 2) (t e : EReal) :
    Scalar.select (IntOp.cmpi .eq (BitVec.ofNat 32 n) (Scalar.addi (Scalar.muli (BitVec.ofNat 32 i) 2#32) (BitVec.ofNat 32 b))) t e
      = if n = 2 * i + b then t else e := by
  have h : (BitVec.ofNat 32 n = BitVec.ofNat 32 i * 2#32 + BitVec.ofNat 32 b) ↔ n = 2 * i + b := by
    rw [← BitVec.toNat_inj]
    simp only [BitVec.toNat_add, BitVec.toNat_mul, BitVec.toNat_ofNat]
    omega
  by_cases hc : n = 2 * i + b
  · rw [if_pos hc]
    have := h.mpr hc
    simp [Scalar.select, IntOp.cmpi, Scalar.addi, Scalar.muli, IntOp.addi, IntOp.muli, this]
  · rw [if_neg hc]
    have : (BitVec.ofNat 32 n == BitVec.ofNat 32 i * 2#32 + BitVec.ofNat 32 b) = false := beq_eq_false_iff_ne.mpr fun q => hc (h.mp q)
    simp [Scalar.select, IntOp.cmpi, Scalar.addi, Scalar.muli, IntOp.addi, IntOp.muli, this]

/-! ## A trip's payloads -/

theorem off57_eq : ∀ k, k0_off57 k = ![448 * k.val, 0] := by decide +kernel
theorem off58_eq : ∀ k, k0_off58 k = ![448 * k.val, 0] := by decide +kernel
theorem off59_eq : ∀ k, k0_off59 k = ![448 * k.val, 0] := by decide +kernel
theorem off60_eq : ∀ k, k0_off60 k = ![448 * k.val, 128] := by decide +kernel
theorem trips_eq : k0_t1_loop.trips = 4 := by decide +kernel

/-- The row of the whole operand that row `r` of trip `k` is. -/
def row (k : Fin k0_t1_loop.trips) (r : Fin 448) : Fin 1792 := ⟨448 * k.val + r.val, by
  have h := k.isLt
  have e := trips_eq
  omega⟩

/-- The left operand's rows of trip `k`. -/
def rows (a : Vec Ideal S1792x7168 .bf16) (k : Fin k0_t1_loop.trips) : Vec Ideal S448x7168 .bf16 := fun x => a (ix2 (row k (x 0)) (x 1))

theorem rows_read (arg3 : Memref sig .tc .vmem S1792x7168 .bf16) (harg3 : arg3.IsWhole) (a : Vec Ideal S1792x7168 .bf16)
    (k : Fin k0_t1_loop.trips) :
    View.readAt (Elt Ideal) arg3.view (Rect.unit (s := S1792x7168) (k0_off57 k) S448x7168.size (k0_off57_inb k)).toLoadRect (harg3.unread a)
      = rows a k := by
  funext x
  rw [harg3.readAt_unread]
  unfold rows
  refine congrArg a ?_
  have h0 : k0_off57 k 0 = 448 * k.val := congrFun (off57_eq k) 0
  have h1 : k0_off57 k 1 = 0 := congrFun (off57_eq k) 1
  funext d; apply Fin.ext
  match d with
  | ⟨0, _⟩ => show k0_off57 k 0 + 1 * (x 0).val = 448 * k.val + (x 0).val; omega
  | ⟨1, _⟩ => show k0_off57 k 1 + 1 * (x 1).val = (x 1).val; omega

section Payloads

variable (a : Vec Ideal S1792x7168 .bf16) (W : Vec Ideal S7168x512 .bf16) (k : Fin k0_t1_loop.trips)

theorem low_ok (r : Fin 448) : (fun l => k0_pay2 (F := Ideal) (rows a k) W (ix2 r l)) = half a W (row k r) 0 := by
  funext l
  rw [pay2_ok, pay1_ok]
  unfold half rows
  congr 1
  · funext j; exact congrArg (fun q : Fin 512 => W (ix2 j q)) (Fin.ext (by show l.val = 128 * 0 + l.val; omega))
  · funext j; exact congrArg (fun q : Fin 512 => W (ix2 j q)) (Fin.ext (by show 256 + l.val = 256 + (128 * 0 + l.val); omega))

theorem high_ok (r : Fin 448) :
    (fun l => k0_pay17 (F := Ideal) (k0_pay1 (F := Ideal) (rows a k) W) (ix2 r l)) = half a W (row k r) 1 := by
  funext l
  rw [pay17_ok, pay1_ok]
  unfold half rows
  congr 1

end Payloads

section Halves

variable (A : Vec Ideal S448x7168 .bf16) (W : Vec Ideal S7168x512 .bf16)

theorem low_word (x : S448x1.Idx) :
    k0_pay12 (F := Ideal) (k0_pay3 (F := Ideal) A W) (k0_pay5 (F := Ideal) A W) (k0_pay11 (F := Ideal) (k0_pay6 (F := Ideal) A W) (k0_pay9 (F := Ideal) (k0_pay6 (F := Ideal) A W) (k0_pay7 (F := Ideal) A W) (k0_pay8 (F := Ideal) A W)) (k0_pay10 (F := Ideal) (k0_pay6 (F := Ideal) A W) (k0_pay7 (F := Ideal) A W) (k0_pay8 (F := Ideal) A W))) x = word (k0_pay3 (F := Ideal) A W x) :=
  pay12_ok _ _ _ x (pay5_ok _ _ x) (field0_ok _ _ x)

theorem low_codes (x : S448x128.Idx) :
    k0_pay13 (F := Ideal) (k0_pay2 (F := Ideal) A W) (k0_pay3 (F := Ideal) A W) (k0_pay5 (F := Ideal) A W) (k0_pay11 (F := Ideal) (k0_pay6 (F := Ideal) A W) (k0_pay9 (F := Ideal) (k0_pay6 (F := Ideal) A W) (k0_pay7 (F := Ideal) A W) (k0_pay8 (F := Ideal) A W)) (k0_pay10 (F := Ideal) (k0_pay6 (F := Ideal) A W) (k0_pay7 (F := Ideal) A W) (k0_pay8 (F := Ideal) A W))) x = code (fun l => k0_pay2 (F := Ideal) A W (ix2 (x 0) l)) (x 1) :=
  pay13_ok _ _ _ _ (fun x => pay3_ok A W x) (fun x => low_word A W x) x

theorem low_decoded (x : S448x128.Idx) :
    k0_pay15 (F := Ideal) (k0_pay2 (F := Ideal) A W) (k0_pay3 (F := Ideal) A W) (k0_pay5 (F := Ideal) A W) (k0_pay11 (F := Ideal) (k0_pay6 (F := Ideal) A W) (k0_pay9 (F := Ideal) (k0_pay6 (F := Ideal) A W) (k0_pay7 (F := Ideal) A W) (k0_pay8 (F := Ideal) A W)) (k0_pay10 (F := Ideal) (k0_pay6 (F := Ideal) A W) (k0_pay7 (F := Ideal) A W) (k0_pay8 (F := Ideal) A W))) x = code (fun l => k0_pay2 (F := Ideal) A W (ix2 (x 0) l)) (x 1) * scale (fun l => k0_pay2 (F := Ideal) A W (ix2 (x 0) l)) :=
  pay15_ok _ _ _ _ (fun x => pay3_ok A W x) (fun x => low_word A W x) x

theorem low_scales (i : BitVec 32) (n : IVec S448x128 32) (o : Vec Ideal S448x128 .f32) (x : S448x128.Idx) :
    k0_pay16 (F := Ideal) i n o (k0_pay3 (F := Ideal) A W) (k0_pay5 (F := Ideal) A W) (k0_pay11 (F := Ideal) (k0_pay6 (F := Ideal) A W) (k0_pay9 (F := Ideal) (k0_pay6 (F := Ideal) A W) (k0_pay7 (F := Ideal) A W) (k0_pay8 (F := Ideal) A W)) (k0_pay10 (F := Ideal) (k0_pay6 (F := Ideal) A W) (k0_pay7 (F := Ideal) A W) (k0_pay8 (F := Ideal) A W))) x
      = Scalar.select (IntOp.cmpi .eq (n x) (Scalar.addi (Scalar.muli i 2#32) 0#32)) (scale (fun l => k0_pay2 (F := Ideal) A W (ix2 (x 0) l))) (o x) :=
  pay16_ok i n o (k0_pay2 (F := Ideal) A W) _ _ _ (fun x => pay3_ok A W x) (fun x => low_word A W x) x

theorem high_word (x : S448x1.Idx) :
    (k0_pay26 (F := Ideal) (k0_pay18 (F := Ideal) (k0_pay17 (F := Ideal) (k0_pay1 (F := Ideal) A W))) (k0_pay20 (F := Ideal) (k0_pay17 (F := Ideal) (k0_pay1 (F := Ideal) A W))) (k0_pay21 (F := Ideal) (k0_pay17 (F := Ideal) (k0_pay1 (F := Ideal) A W))) (k0_pay24 (F := Ideal) (k0_pay21 (F := Ideal) (k0_pay17 (F := Ideal) (k0_pay1 (F := Ideal) A W))) (k0_pay22 (F := Ideal) (k0_pay17 (F := Ideal) (k0_pay1 (F := Ideal) A W))) (k0_pay23 (F := Ideal) (k0_pay17 (F := Ideal) (k0_pay1 (F := Ideal) A W)))) (k0_pay25 (F := Ideal) (k0_pay21 (F := Ideal) (k0_pay17 (F := Ideal) (k0_pay1 (F := Ideal) A W))) (k0_pay22 (F := Ideal) (k0_pay17 (F := Ideal) (k0_pay1 (F := Ideal) A W))) (k0_pay23 (F := Ideal) (k0_pay17 (F := Ideal) (k0_pay1 (F := Ideal) A W)))) 4#32) x = word (magnitude (fun l => k0_pay17 (F := Ideal) (k0_pay1 (F := Ideal) A W) (ix2 (x 0) l))) :=
  word1_ok _ x

theorem high_shifted (x : S448x1.Idx) :
    (k0_pay27 (F := Ideal) (k0_pay18 (F := Ideal) (k0_pay17 (F := Ideal) (k0_pay1 (F := Ideal) A W))) (k0_pay20 (F := Ideal) (k0_pay17 (F := Ideal) (k0_pay1 (F := Ideal) A W))) (k0_pay21 (F := Ideal) (k0_pay17 (F := Ideal) (k0_pay1 (F := Ideal) A W))) (k0_pay24 (F := Ideal) (k0_pay21 (F := Ideal) (k0_pay17 (F := Ideal) (k0_pay1 (F := Ideal) A W))) (k0_pay22 (F := Ideal) (k0_pay17 (F := Ideal) (k0_pay1 (F := Ideal) A W))) (k0_pay23 (F := Ideal) (k0_pay17 (F := Ideal) (k0_pay1 (F := Ideal) A W)))) (k0_pay25 (F := Ideal) (k0_pay21 (F := Ideal) (k0_pay17 (F := Ideal) (k0_pay1 (F := Ideal) A W))) (k0_pay22 (F := Ideal) (k0_pay17 (F := Ideal) (k0_pay1 (F := Ideal) A W))) (k0_pay23 (F := Ideal) (k0_pay17 (F := Ideal) (k0_pay1 (F := Ideal) A W)))) 4#32) x = IntOp.shli .vector (IntOp.addi (IntOp.subi 0#32 (word (magnitude (fun l => k0_pay17 (F := Ideal) (k0_pay1 (F := Ideal) A W) (ix2 (x 0) l))))) 127#32) 23#32 := by
  rw [pay27_ok, word1_ok]

theorem high_codes (x : S448x128.Idx) : k0_pay354 (F := Ideal) (k0_pay17 (F := Ideal) (k0_pay1 (F := Ideal) A W)) (k0_pay27 (F := Ideal) (k0_pay18 (F := Ideal) (k0_pay17 (F := Ideal) (k0_pay1 (F := Ideal) A W))) (k0_pay20 (F := Ideal) (k0_pay17 (F := Ideal) (k0_pay1 (F := Ideal) A W))) (k0_pay21 (F := Ideal) (k0_pay17 (F := Ideal) (k0_pay1 (F := Ideal) A W))) (k0_pay24 (F := Ideal) (k0_pay21 (F := Ideal) (k0_pay17 (F := Ideal) (k0_pay1 (F := Ideal) A W))) (k0_pay22 (F := Ideal) (k0_pay17 (F := Ideal) (k0_pay1 (F := Ideal) A W))) (k0_pay23 (F := Ideal) (k0_pay17 (F := Ideal) (k0_pay1 (F := Ideal) A W)))) (k0_pay25 (F := Ideal) (k0_pay21 (F := Ideal) (k0_pay17 (F := Ideal) (k0_pay1 (F := Ideal) A W))) (k0_pay22 (F := Ideal) (k0_pay17 (F := Ideal) (k0_pay1 (F := Ideal) A W))) (k0_pay23 (F := Ideal) (k0_pay17 (F := Ideal) (k0_pay1 (F := Ideal) A W)))) 4#32) x = code (fun l => k0_pay17 (F := Ideal) (k0_pay1 (F := Ideal) A W) (ix2 (x 0) l)) (x 1) :=
  pay354_ok _ _ (fun x => high_shifted A W x) x

theorem high_decoded (x : S448x128.Idx) : k0_pay356 (F := Ideal) (k0_pay17 (F := Ideal) (k0_pay1 (F := Ideal) A W)) (k0_pay26 (F := Ideal) (k0_pay18 (F := Ideal) (k0_pay17 (F := Ideal) (k0_pay1 (F := Ideal) A W))) (k0_pay20 (F := Ideal) (k0_pay17 (F := Ideal) (k0_pay1 (F := Ideal) A W))) (k0_pay21 (F := Ideal) (k0_pay17 (F := Ideal) (k0_pay1 (F := Ideal) A W))) (k0_pay24 (F := Ideal) (k0_pay21 (F := Ideal) (k0_pay17 (F := Ideal) (k0_pay1 (F := Ideal) A W))) (k0_pay22 (F := Ideal) (k0_pay17 (F := Ideal) (k0_pay1 (F := Ideal) A W))) (k0_pay23 (F := Ideal) (k0_pay17 (F := Ideal) (k0_pay1 (F := Ideal) A W)))) (k0_pay25 (F := Ideal) (k0_pay21 (F := Ideal) (k0_pay17 (F := Ideal) (k0_pay1 (F := Ideal) A W))) (k0_pay22 (F := Ideal) (k0_pay17 (F := Ideal) (k0_pay1 (F := Ideal) A W))) (k0_pay23 (F := Ideal) (k0_pay17 (F := Ideal) (k0_pay1 (F := Ideal) A W)))) 4#32) (k0_pay27 (F := Ideal) (k0_pay18 (F := Ideal) (k0_pay17 (F := Ideal) (k0_pay1 (F := Ideal) A W))) (k0_pay20 (F := Ideal) (k0_pay17 (F := Ideal) (k0_pay1 (F := Ideal) A W))) (k0_pay21 (F := Ideal) (k0_pay17 (F := Ideal) (k0_pay1 (F := Ideal) A W))) (k0_pay24 (F := Ideal) (k0_pay21 (F := Ideal) (k0_pay17 (F := Ideal) (k0_pay1 (F := Ideal) A W))) (k0_pay22 (F := Ideal) (k0_pay17 (F := Ideal) (k0_pay1 (F := Ideal) A W))) (k0_pay23 (F := Ideal) (k0_pay17 (F := Ideal) (k0_pay1 (F := Ideal) A W)))) (k0_pay25 (F := Ideal) (k0_pay21 (F := Ideal) (k0_pay17 (F := Ideal) (k0_pay1 (F := Ideal) A W))) (k0_pay22 (F := Ideal) (k0_pay17 (F := Ideal) (k0_pay1 (F := Ideal) A W))) (k0_pay23 (F := Ideal) (k0_pay17 (F := Ideal) (k0_pay1 (F := Ideal) A W)))) 4#32) x = code (fun l => k0_pay17 (F := Ideal) (k0_pay1 (F := Ideal) A W) (ix2 (x 0) l)) (x 1) * scale (fun l => k0_pay17 (F := Ideal) (k0_pay1 (F := Ideal) A W) (ix2 (x 0) l)) :=
  pay356_ok _ _ _ (fun x => high_word A W x) (fun x => high_shifted A W x) x

theorem high_scales (i : BitVec 32) (o : FVec Ideal S448x128 .f32) (x : S448x128.Idx) :
    k0_pay357 (F := Ideal) i o (k0_pay26 (F := Ideal) (k0_pay18 (F := Ideal) (k0_pay17 (F := Ideal) (k0_pay1 (F := Ideal) A W))) (k0_pay20 (F := Ideal) (k0_pay17 (F := Ideal) (k0_pay1 (F := Ideal) A W))) (k0_pay21 (F := Ideal) (k0_pay17 (F := Ideal) (k0_pay1 (F := Ideal) A W))) (k0_pay24 (F := Ideal) (k0_pay21 (F := Ideal) (k0_pay17 (F := Ideal) (k0_pay1 (F := Ideal) A W))) (k0_pay22 (F := Ideal) (k0_pay17 (F := Ideal) (k0_pay1 (F := Ideal) A W))) (k0_pay23 (F := Ideal) (k0_pay17 (F := Ideal) (k0_pay1 (F := Ideal) A W)))) (k0_pay25 (F := Ideal) (k0_pay21 (F := Ideal) (k0_pay17 (F := Ideal) (k0_pay1 (F := Ideal) A W))) (k0_pay22 (F := Ideal) (k0_pay17 (F := Ideal) (k0_pay1 (F := Ideal) A W))) (k0_pay23 (F := Ideal) (k0_pay17 (F := Ideal) (k0_pay1 (F := Ideal) A W)))) 4#32) x
      = Scalar.select (IntOp.cmpi .eq (BitVec.ofNat 32 (x 1).val) (Scalar.addi (Scalar.muli i 2#32) 1#32)) (scale (fun l => k0_pay17 (F := Ideal) (k0_pay1 (F := Ideal) A W) (ix2 (x 0) l))) (o x) :=
  pay357_ok i o (k0_pay17 (F := Ideal) (k0_pay1 (F := Ideal) A W)) _ (fun x => high_word A W x) x

end Halves

/-! ## A trip's pieces -/

section Trips

variable (c : Dev nD) (i : grid0.Coords) (arg1 : Memref sig .tc .smem S56x16 .f32) (harg1 : arg1.IsWhole) (arg2 : Memref sig .tc .smem S56x16 .f32) (harg2 : arg2.IsWhole) (arg3 : Memref sig .tc .vmem S1792x7168 .bf16) (harg3 : arg3.IsWhole) (arg4 : Memref sig .tc .vmem S7168x256 .fp8e4m3) (harg4 : arg4.IsWhole) (arg5 : Memref sig .tc .vmem S7168x256 .fp8e4m3) (harg5 : arg5.IsWhole) (arg6 : Memref sig .tc .vmem S1792x256 .fp8e4m3) (harg6 : arg6.IsWhole) (arg7 : Memref sig .tc .vmem S1792x128 .f32) (harg7 : arg7.IsWhole) (arg8 : Memref sig .tc .vmem S1792x256 .bf16) (harg8 : arg8.IsWhole) (arg9 : Memref sig .tc .vmem S7168x512 .bf16) (harg9 : arg9.IsWhole) (arg10 : Memref sig .tc .vmem S1792x128 .f32) (harg10 : arg10.IsWhole)
  (u : FVec Ideal S1x128 .bf16) (v : FVec Ideal S128x128 .bf16) (a : Vec Ideal S1792x7168 .bf16)
  (X9 : BufTy.Contents (Elt Ideal) arg9.view.ty) (W : Vec Ideal S7168x512 .bf16)
  (hW : View.readAt (Elt Ideal) arg9.view (Rect.unit (s := S7168x512) ![0, 0] S7168x512.size inb_S7168x512_S7168x512_0_0).toLoadRect X9 = W)

include hW

/-- One trip's codes. -/
theorem trip_codes (k : Fin k0_t1_loop.trips) (f6 : BufTy.Contents (Elt Ideal) arg6.view.ty) (f8 : BufTy.Contents (Elt Ideal) arg8.view.ty)
    (f10 : BufTy.Contents (Elt Ideal) arg10.view.ty) :
    ∀ p ∈ (tripL_k0_t1 (F := Ideal) Variants.none c none i arg1 harg1 arg2 harg2 arg3 harg3 arg4 harg4 arg5 harg5 arg6 harg6 arg7 harg7 arg8 harg8 arg9 harg9 arg10 harg10 (BitVec.ofNat 32 (i 0).val) u v (iota .tc S448x128 32 [1] iota_S448x128_d1_w32) (harg3.unread a) X9 k f6 f8 f10).1, ∀ x : p.1.shape.Idx, p.2 x = codesOf a W (p.1.emb x) := by
  unfold tripL_k0_t1 trip_k0_t1
  refine List.forall_mem_cons.2 ⟨fun x => ?_, List.forall_mem_cons.2 ⟨fun x => ?_, List.forall_mem_nil _⟩⟩
  · refine (high_codes (View.readAt (Elt Ideal) arg3.view (Rect.unit (s := S1792x7168) (k0_off57 k) S448x7168.size (k0_off57_inb k)).toLoadRect (harg3.unread a)) (View.readAt (Elt Ideal) arg9.view (Rect.unit (s := S7168x512) ![0, 0] S7168x512.size inb_S7168x512_S7168x512_0_0).toLoadRect X9) x).trans ?_
    rw [rows_read, hW]
    refine (congrArg (fun h => code h (x 1)) (high_ok a W k (x 0))).trans ?_
    refine (codesOf_at a W _ (row k (x 0)) 1 (x 1) ?_ ?_).symm
    · show k0_off60 k 0 + 1 * (x 0).val = 448 * k.val + (x 0).val
      have h : k0_off60 k 0 = 448 * k.val := congrFun (off60_eq k) 0
      omega
    · show k0_off60 k 1 + 1 * (x 1).val = 128 * 1 + (x 1).val
      have h : k0_off60 k 1 = 128 := congrFun (off60_eq k) 1
      omega
  · refine (low_codes (View.readAt (Elt Ideal) arg3.view (Rect.unit (s := S1792x7168) (k0_off57 k) S448x7168.size (k0_off57_inb k)).toLoadRect (harg3.unread a)) (View.readAt (Elt Ideal) arg9.view (Rect.unit (s := S7168x512) ![0, 0] S7168x512.size inb_S7168x512_S7168x512_0_0).toLoadRect X9) x).trans ?_
    rw [rows_read, hW]
    refine (congrArg (fun h => code h (x 1)) (low_ok a W k (x 0))).trans ?_
    refine (codesOf_at a W _ (row k (x 0)) 0 (x 1) ?_ ?_).symm
    · show k0_off59 k 0 + 1 * (x 0).val = 448 * k.val + (x 0).val
      have h : k0_off59 k 0 = 448 * k.val := congrFun (off59_eq k) 0
      omega
    · show k0_off59 k 1 + 1 * (x 1).val = 128 * 0 + (x 1).val
      have h : k0_off59 k 1 = 0 := congrFun (off59_eq k) 1
      omega

/-- One trip's decoded values. -/
theorem trip_decoded (k : Fin k0_t1_loop.trips) (f6 : BufTy.Contents (Elt Ideal) arg6.view.ty) (f8 : BufTy.Contents (Elt Ideal) arg8.view.ty)
    (f10 : BufTy.Contents (Elt Ideal) arg10.view.ty) :
    ∀ p ∈ (tripL_k0_t1 (F := Ideal) Variants.none c none i arg1 harg1 arg2 harg2 arg3 harg3 arg4 harg4 arg5 harg5 arg6 harg6 arg7 harg7 arg8 harg8 arg9 harg9 arg10 harg10 (BitVec.ofNat 32 (i 0).val) u v (iota .tc S448x128 32 [1] iota_S448x128_d1_w32) (harg3.unread a) X9 k f6 f8 f10).2.1, ∀ x : p.1.shape.Idx, p.2 x = decodedOf a W (p.1.emb x) := by
  unfold tripL_k0_t1 trip_k0_t1
  refine List.forall_mem_cons.2 ⟨fun x => ?_, List.forall_mem_cons.2 ⟨fun x => ?_, List.forall_mem_nil _⟩⟩
  · refine (high_decoded (View.readAt (Elt Ideal) arg3.view (Rect.unit (s := S1792x7168) (k0_off57 k) S448x7168.size (k0_off57_inb k)).toLoadRect (harg3.unread a)) (View.readAt (Elt Ideal) arg9.view (Rect.unit (s := S7168x512) ![0, 0] S7168x512.size inb_S7168x512_S7168x512_0_0).toLoadRect X9) x).trans ?_
    rw [rows_read, hW]
    refine (congrArg (fun h => code h (x 1) * scale h) (high_ok a W k (x 0))).trans ?_
    refine (decodedOf_at a W _ (row k (x 0)) 1 (x 1) ?_ ?_).symm
    · show k0_off60 k 0 + 1 * (x 0).val = 448 * k.val + (x 0).val
      have h : k0_off60 k 0 = 448 * k.val := congrFun (off60_eq k) 0
      omega
    · show k0_off60 k 1 + 1 * (x 1).val = 128 * 1 + (x 1).val
      have h : k0_off60 k 1 = 128 := congrFun (off60_eq k) 1
      omega
  · refine (low_decoded (View.readAt (Elt Ideal) arg3.view (Rect.unit (s := S1792x7168) (k0_off57 k) S448x7168.size (k0_off57_inb k)).toLoadRect (harg3.unread a)) (View.readAt (Elt Ideal) arg9.view (Rect.unit (s := S7168x512) ![0, 0] S7168x512.size inb_S7168x512_S7168x512_0_0).toLoadRect X9) x).trans ?_
    rw [rows_read, hW]
    refine (congrArg (fun h => code h (x 1) * scale h) (low_ok a W k (x 0))).trans ?_
    refine (decodedOf_at a W _ (row k (x 0)) 0 (x 1) ?_ ?_).symm
    · show k0_off59 k 0 + 1 * (x 0).val = 448 * k.val + (x 0).val
      have h : k0_off59 k 0 = 448 * k.val := congrFun (off59_eq k) 0
      omega
    · show k0_off59 k 1 + 1 * (x 1).val = 128 * 0 + (x 1).val
      have h : k0_off59 k 1 = 0 := congrFun (off59_eq k) 1
      omega

/-- One trip's scales: one piece, its 448 rows of all lanes, the two new ones set and the others as read. -/
theorem trip_scales (k : Fin k0_t1_loop.trips) (f6 : BufTy.Contents (Elt Ideal) arg6.view.ty) (f8 : BufTy.Contents (Elt Ideal) arg8.view.ty)
    (f10 : BufTy.Contents (Elt Ideal) arg10.view.ty) :
    ∃ w : (Rect.unit (s := S1792x128) (k0_off58 k) S448x128.size (k0_off58_inb k)).shape.Idx → EReal,
      (tripL_k0_t1 (F := Ideal) Variants.none c none i arg1 harg1 arg2 harg2 arg3 harg3 arg4 harg4 arg5 harg5 arg6 harg6 arg7 harg7 arg8 harg8 arg9 harg9 arg10 harg10 (BitVec.ofNat 32 (i 0).val) u v (iota .tc S448x128 32 [1] iota_S448x128_d1_w32) (harg3.unread a) X9 k f6 f8 f10).2.2 = [⟨Rect.unit (s := S1792x128) (k0_off58 k) S448x128.size (k0_off58_inb k), w⟩]
      ∧ ∀ (x : S448x128.Idx) (y : S1792x128.Idx), (y 0).val = 448 * k.val + (x 0).val → (y 1).val = (x 1).val →
          w x = scalesOf a W (i 0).val (arg10.view.read (Elt Ideal) f10) y := by
  unfold tripL_k0_t1 trip_k0_t1
  refine ⟨_, rfl, fun x y hy0 hy1 => ?_⟩
  refine (high_scales (View.readAt (Elt Ideal) arg3.view (Rect.unit (s := S1792x7168) (k0_off57 k) S448x7168.size (k0_off57_inb k)).toLoadRect (harg3.unread a)) (View.readAt (Elt Ideal) arg9.view (Rect.unit (s := S7168x512) ![0, 0] S7168x512.size inb_S7168x512_S7168x512_0_0).toLoadRect X9) _ _ x).trans ?_
  refine (lane_select (i 0).val (x 1).val 1 (i 0).isLt (x 1).isLt (by omega) _ _).trans ?_
  have hlow := low_scales (View.readAt (Elt Ideal) arg3.view (Rect.unit (s := S1792x7168) (k0_off57 k) S448x7168.size (k0_off57_inb k)).toLoadRect (harg3.unread a)) (View.readAt (Elt Ideal) arg9.view (Rect.unit (s := S7168x512) ![0, 0] S7168x512.size inb_S7168x512_S7168x512_0_0).toLoadRect X9) (BitVec.ofNat 32 (i 0).val) (iota .tc S448x128 32 [1] iota_S448x128_d1_w32)
    (View.readAt (Elt Ideal) arg10.view (Rect.unit (s := S1792x128) (k0_off58 k) S448x128.size (k0_off58_inb k)).toLoadRect f10) x
  have hlane : (iota .tc S448x128 32 [1] iota_S448x128_d1_w32 : IVec S448x128 32) x = BitVec.ofNat 32 (x 1).val := by pointwise
  have hrow : (row k (x 0)) = (y 0 : Fin 1792) := Fin.ext hy0.symm
  have hread : View.readAt (Elt Ideal) arg10.view (Rect.unit (s := S1792x128) (k0_off58 k) S448x128.size (k0_off58_inb k)).toLoadRect f10 x
      = arg10.view.read (Elt Ideal) f10 y := by
    rw [View.readAt_apply]
    refine congrArg _ ?_
    have h0 : k0_off58 k 0 = 448 * k.val := congrFun (off58_eq k) 0
    have h1 : k0_off58 k 1 = 0 := congrFun (off58_eq k) 1
    funext d; apply Fin.ext
    match d with
    | ⟨0, _⟩ => show k0_off58 k 0 + 1 * (x 0).val = (y 0).val; omega
    | ⟨1, _⟩ => show k0_off58 k 1 + 1 * (x 1).val = (y 1).val; omega
  have hlow' := hlow.trans (b := _) (c := if (x 1).val = 2 * (i 0).val then scale (half a W (y 0) 0) else arg10.view.read (Elt Ideal) f10 y) (by
    rw [hlane, hread, rows_read, hW, low_ok a W k (x 0), hrow]
    exact lane_select (i 0).val (x 1).val 0 (i 0).isLt (x 1).isLt (by omega) _ _)
  rw [rows_read, hW, high_ok a W k (x 0), hrow]
  unfold scalesOf
  rw [hy1]
  exact congrArg (fun z => if (x 1).val = 2 * (i 0).val + 1 then scale (half a W (y 0) 1) else z) hlow'

variable (G6 : BufTy.Contents (Elt Ideal) arg6.view.ty) (G8 : BufTy.Contents (Elt Ideal) arg8.view.ty) (G10 : BufTy.Contents (Elt Ideal) arg10.view.ty)

/-- The codes and decoded values of the trips before `n`. -/
theorem trips_blocks (n : ℕ) (hn : n ≤ k0_t1_loop.trips) :
    (∀ p ∈ (pb_k0_t1 (F := Ideal) Variants.none c none i arg1 harg1 arg2 harg2 arg3 harg3 arg4 harg4 arg5 harg5 arg6 harg6 arg7 harg7 arg8 harg8 arg9 harg9 arg10 harg10 (BitVec.ofNat 32 (i 0).val) u v (iota .tc S448x128 32 [1] iota_S448x128_d1_w32) (harg3.unread a) X9 G6 G8 G10 n).1, ∀ x : p.1.shape.Idx, p.2 x = codesOf a W (p.1.emb x))
      ∧ (∀ p ∈ (pb_k0_t1 (F := Ideal) Variants.none c none i arg1 harg1 arg2 harg2 arg3 harg3 arg4 harg4 arg5 harg5 arg6 harg6 arg7 harg7 arg8 harg8 arg9 harg9 arg10 harg10 (BitVec.ofNat 32 (i 0).val) u v (iota .tc S448x128 32 [1] iota_S448x128_d1_w32) (harg3.unread a) X9 G6 G8 G10 n).2.1, ∀ x : p.1.shape.Idx, p.2 x = decodedOf a W (p.1.emb x)) := by
  induction n with
  | zero => exact ⟨List.forall_mem_nil _, List.forall_mem_nil _⟩
  | succ n ih =>
    rw [pb_k0_t1_succ (F := Ideal) Variants.none c none i arg1 harg1 arg2 harg2 arg3 harg3 arg4 harg4 arg5 harg5 arg6 harg6 arg7 harg7 arg8 harg8 arg9 harg9 arg10 harg10 (BitVec.ofNat 32 (i 0).val) u v (iota .tc S448x128 32 [1] iota_S448x128_d1_w32) (harg3.unread a) X9 G6 G8 G10 ⟨n, hn⟩]
    obtain ⟨ih1, ih2⟩ := ih (Nat.le_of_lt hn)
    refine ⟨fun p hp => ?_, fun p hp => ?_⟩
    · rcases List.mem_append.1 hp with hp | hp
      · exact trip_codes c i arg1 harg1 arg2 harg2 arg3 harg3 arg4 harg4 arg5 harg5 arg6 harg6 arg7 harg7 arg8 harg8 arg9 harg9 arg10 harg10 u v a X9 W hW ⟨n, hn⟩ _ _ _ p hp
      · exact ih1 p hp
    · rcases List.mem_append.1 hp with hp | hp
      · exact trip_decoded c i arg1 harg1 arg2 harg2 arg3 harg3 arg4 harg4 arg5 harg5 arg6 harg6 arg7 harg7 arg8 harg8 arg9 harg9 arg10 harg10 u v a X9 W hW ⟨n, hn⟩ _ _ _ p hp
      · exact ih2 p hp

/-- The scratch of scales after the trips before `n`: their rows are done, the others as they were. -/
theorem trips_scales (n : ℕ) (hn : n ≤ k0_t1_loop.trips) (y : S1792x128.Idx) :
    arg10.view.read (Elt Ideal) (arg10.view.writes (Elt Ideal) G10 (pb_k0_t1 (F := Ideal) Variants.none c none i arg1 harg1 arg2 harg2 arg3 harg3 arg4 harg4 arg5 harg5 arg6 harg6 arg7 harg7 arg8 harg8 arg9 harg9 arg10 harg10 (BitVec.ofNat 32 (i 0).val) u v (iota .tc S448x128 32 [1] iota_S448x128_d1_w32) (harg3.unread a) X9 G6 G8 G10 n).2.2) y
      = if (y 0).val < 448 * n then scalesOf a W (i 0).val (arg10.view.read (Elt Ideal) G10) y else arg10.view.read (Elt Ideal) G10 y := by
  induction n generalizing y with
  | zero => rw [if_neg (by omega)]; rfl
  | succ n ih =>
    rw [pb_k0_t1_succ (F := Ideal) Variants.none c none i arg1 harg1 arg2 harg2 arg3 harg3 arg4 harg4 arg5 harg5 arg6 harg6 arg7 harg7 arg8 harg8 arg9 harg9 arg10 harg10 (BitVec.ofNat 32 (i 0).val) u v (iota .tc S448x128 32 [1] iota_S448x128_d1_w32) (harg3.unread a) X9 G6 G8 G10 ⟨n, hn⟩]
    obtain ⟨w, hw, hx⟩ := trip_scales c i arg1 harg1 arg2 harg2 arg3 harg3 arg4 harg4 arg5 harg5 arg6 harg6 arg7 harg7 arg8 harg8 arg9 harg9 arg10 harg10 u v a X9 W hW ⟨n, hn⟩ (arg6.view.writes (Elt Ideal) G6 (pb_k0_t1 (F := Ideal) Variants.none c none i arg1 harg1 arg2 harg2 arg3 harg3 arg4 harg4 arg5 harg5 arg6 harg6 arg7 harg7 arg8 harg8 arg9 harg9 arg10 harg10 (BitVec.ofNat 32 (i 0).val) u v (iota .tc S448x128 32 [1] iota_S448x128_d1_w32) (harg3.unread a) X9 G6 G8 G10 n).1)
      (arg8.view.writes (Elt Ideal) G8 (pb_k0_t1 (F := Ideal) Variants.none c none i arg1 harg1 arg2 harg2 arg3 harg3 arg4 harg4 arg5 harg5 arg6 harg6 arg7 harg7 arg8 harg8 arg9 harg9 arg10 harg10 (BitVec.ofNat 32 (i 0).val) u v (iota .tc S448x128 32 [1] iota_S448x128_d1_w32) (harg3.unread a) X9 G6 G8 G10 n).2.1) (arg10.view.writes (Elt Ideal) G10 (pb_k0_t1 (F := Ideal) Variants.none c none i arg1 harg1 arg2 harg2 arg3 harg3 arg4 harg4 arg5 harg5 arg6 harg6 arg7 harg7 arg8 harg8 arg9 harg9 arg10 harg10 (BitVec.ofNat 32 (i 0).val) u v (iota .tc S448x128 32 [1] iota_S448x128_d1_w32) (harg3.unread a) X9 G6 G8 G10 n).2.2)
    refine (congrArg (fun L => arg10.view.read (Elt Ideal) (arg10.view.writes (Elt Ideal) G10 (L ++ (pb_k0_t1 (F := Ideal) Variants.none c none i arg1 harg1 arg2 harg2 arg3 harg3 arg4 harg4 arg5 harg5 arg6 harg6 arg7 harg7 arg8 harg8 arg9 harg9 arg10 harg10 (BitVec.ofNat 32 (i 0).val) u v (iota .tc S448x128 32 [1] iota_S448x128_d1_w32) (harg3.unread a) X9 G6 G8 G10 n).2.2)) y) hw).trans ?_
    dsimp only
    rw [List.singleton_append]
    have ih := ih (Nat.le_of_lt hn)
    by_cases hlt : (y 0).val < 448 * n
    · rw [View.read_writes_cons_rows_of_not_mem arg10.view G10 _ w _ y (off58_eq ⟨n, hn⟩) rfl (Or.inl hlt), ih y, if_pos hlt, if_pos (by omega)]
    by_cases hge : 448 * n + 448 ≤ (y 0).val
    · rw [View.read_writes_cons_rows_of_not_mem arg10.view G10 _ w _ y (off58_eq ⟨n, hn⟩) rfl (Or.inr hge), ih y, if_neg hlt, if_neg (by omega)]
    have hx' := hx (ix2 (⟨(y 0).val - 448 * n, by omega⟩ : Fin 448) (y 1)) y (by show _ = 448 * n + ((y 0).val - 448 * n); omega) rfl
    rw [View.read_writes_cons_rows_of_mem arg10.view G10 _ w _ y (ix2 (⟨(y 0).val - 448 * n, by omega⟩ : Fin 448) (y 1)) (off58_eq ⟨n, hn⟩)
      (by show _ = 448 * n + ((y 0).val - 448 * n); omega) rfl, hx', if_pos (by omega)]
    unfold scalesOf
    rw [ih y, if_neg hlt]

/-- The point's codes. -/
theorem codesAt_eq : codesAt (F := Ideal) c i arg1 harg1 arg2 harg2 arg3 harg3 arg4 harg4 arg5 harg5 arg6 harg6 arg7 harg7 arg8 harg8 arg9 harg9 arg10 harg10 (BitVec.ofNat 32 (i 0).val) (iota .tc S448x128 32 [1] iota_S448x128_d1_w32) (harg3.unread a) X9 G10 = codesOf a W := by
  funext y
  unfold codesAt
  exact View.read_writes_apply_of_pieces arg6.view arg6.view.junk (codesOf a W) _
    (trips_blocks c i arg1 harg1 arg2 harg2 arg3 harg3 arg4 harg4 arg5 harg5 arg6 harg6 arg7 harg7 arg8 harg8 arg9 harg9 arg10 harg10 anyRow anyTile a X9 W hW arg6.view.junk arg8.view.junk G10 k0_t1_loop.trips le_rfl).1 y
    (codes_cover c i arg1 harg1 arg2 harg2 arg3 harg3 arg4 harg4 arg5 harg5 arg6 harg6 arg7 harg7 arg8 harg8 arg9 harg9 arg10 harg10 (BitVec.ofNat 32 (i 0).val) (iota .tc S448x128 32 [1] iota_S448x128_d1_w32) (harg3.unread a) X9 G10 y)

/-- The point's decoded values. -/
theorem decodedAt_eq : decodedAt (F := Ideal) c i arg1 harg1 arg2 harg2 arg3 harg3 arg4 harg4 arg5 harg5 arg6 harg6 arg7 harg7 arg8 harg8 arg9 harg9 arg10 harg10 (BitVec.ofNat 32 (i 0).val) (iota .tc S448x128 32 [1] iota_S448x128_d1_w32) (harg3.unread a) X9 G10 = decodedOf a W := by
  funext y
  unfold decodedAt
  exact View.read_writes_apply_of_pieces arg8.view arg8.view.junk (decodedOf a W) _
    (trips_blocks c i arg1 harg1 arg2 harg2 arg3 harg3 arg4 harg4 arg5 harg5 arg6 harg6 arg7 harg7 arg8 harg8 arg9 harg9 arg10 harg10 anyRow anyTile a X9 W hW arg6.view.junk arg8.view.junk G10 k0_t1_loop.trips le_rfl).2 y
    (decoded_cover c i arg1 harg1 arg2 harg2 arg3 harg3 arg4 harg4 arg5 harg5 arg6 harg6 arg7 harg7 arg8 harg8 arg9 harg9 arg10 harg10 (BitVec.ofNat 32 (i 0).val) (iota .tc S448x128 32 [1] iota_S448x128_d1_w32) (harg3.unread a) X9 G10 y)

/-- The scratch of scales after the point. -/
theorem scalesAt_eq : scalesAt (F := Ideal) c i arg1 harg1 arg2 harg2 arg3 harg3 arg4 harg4 arg5 harg5 arg6 harg6 arg7 harg7 arg8 harg8 arg9 harg9 arg10 harg10 (BitVec.ofNat 32 (i 0).val) (iota .tc S448x128 32 [1] iota_S448x128_d1_w32) (harg3.unread a) X9 G10 = scalesOf a W (i 0).val (arg10.view.read (Elt Ideal) G10) := by
  funext y
  unfold scalesAt
  refine (trips_scales c i arg1 harg1 arg2 harg2 arg3 harg3 arg4 harg4 arg5 harg5 arg6 harg6 arg7 harg7 arg8 harg8 arg9 harg9 arg10 harg10 anyRow anyTile a X9 W hW arg6.view.junk arg8.view.junk G10 k0_t1_loop.trips le_rfl y).trans ?_
  have h : (y 0).val < 1792 := (y 0).isLt
  rw [if_pos (by rw [trips_eq]; omega)]

end Trips

end Cert.Proof.GateUp

end
-- ==== Proof.GateUpWhole.lean ====
/-
  Hand-written, untrusted. The three results of the gate/up call as functions of its whole arguments: each row's 2048 gated units
  fall into sixteen blocks of 128 values; the results are the blocks' codes, their scales, and codes times scales.
-/
module

public import proofs.«01_k».proof.Proof.GateUpQuant

@[expose] public section

set_option maxRecDepth 16384

noncomputable section

namespace Cert.Proof.GateUp

open Idealize.ShloMosaic Idealize.ShloMosaic.TcCoe Idealize.SL.Sem
open Cert.GateUpIdeal Cert.GateUpIdeal.Gen Cert.Proof.Exponent

/-- Block `p` of row `r`: its gated units, every weight times the scale of the 128x128 tile it lies in. `sg` and `su` are the gate's
    and the up projection's scales, `hd` the left operand, `wg` and `wu` the weights. -/
def units (sg su : Vec Ideal S56x16 .f32) (hd : Vec Ideal S1792x7168 .bf16) (wg wu : Vec Ideal S7168x2048 .fp8e4m3)
    (r : Fin 1792) (p : Fin 16) (l : Fin 128) : EReal :=
  unit (fun k => hd (ix2 r k))
    (fun k => wg (ix2 k (⟨128 * p.val + l.val, by omega⟩ : Fin 2048)) * sg (ix2 (⟨k.val / 128, by omega⟩ : Fin 56) p))
    (fun k => wu (ix2 k (⟨128 * p.val + l.val, by omega⟩ : Fin 2048)) * su (ix2 (⟨k.val / 128, by omega⟩ : Fin 56) p))

/-- The block of column `q`. -/
def blockNo (q : Fin 2048) : Fin 16 := ⟨q.val / 128, by omega⟩

/-- The codes. -/
def codes (sg su : Vec Ideal S56x16 .f32) (hd : Vec Ideal S1792x7168 .bf16) (wg wu : Vec Ideal S7168x2048 .fp8e4m3) :
    S1792x2048.Idx → EReal := fun y =>
  code (units sg su hd wg wu (y 0) (blockNo (y 1))) ⟨(y 1).val % 128, by omega⟩

/-- The scales. -/
def scales (sg su : Vec Ideal S56x16 .f32) (hd : Vec Ideal S1792x7168 .bf16) (wg wu : Vec Ideal S7168x2048 .fp8e4m3) :
    S1792x16.Idx → EReal := fun y =>
  scale (units sg su hd wg wu (y 0) (y 1))

/-- The decoded values. -/
def decoded (sg su : Vec Ideal S56x16 .f32) (hd : Vec Ideal S1792x7168 .bf16) (wg wu : Vec Ideal S7168x2048 .fp8e4m3) :
    S1792x2048.Idx → EReal := fun y =>
  codes sg su hd wg wu y * scale (units sg su hd wg wu (y 0) (blockNo (y 1)))

end Cert.Proof.GateUp

end
-- ==== Proof.GateUpArray.lean ====
/-
  Hand-written, untrusted. What the gate/up kernel's output arrays hold after the run: the codes, the scales and the decoded values
  of `GateUpWhole`, point by point.
-/
module

public import proofs.«01_k».proof.Proof.GateUpIdealBody
public import proofs.«01_k».proof.Proof.GateUpTile
public import proofs.«01_k».proof.Proof.GateUpBlock
public import proofs.«01_k».proof.Proof.GateUpWhole

@[expose] public section

set_option maxRecDepth 16384

noncomputable section

namespace Cert.Proof.GateUp

open Idealize.ShloMosaic Idealize.ShloMosaic.TcCoe Idealize.SL.Sem
open Cert.GateUpIdeal Cert.GateUpIdeal.Gen Cert.Proof.Exponent

variable (m : (ℓ : Loc nD τ sig) → Buf (Elt Ideal) ℓ)

/-! ## The windows -/

/-- The grid is one axis, and a point's coordinate is its number. -/
theorem coord : ∀ t : Fin cfg0.N, (grid0.coords t 0).val = t.val := (by decide +kernel : ∀ t : Fin grid0.N, (grid0.coords t 0).val = t.val)

theorem idx0 : ∀ t : Fin cfg0.N, win0_0.index t (0 : Fin 2) = 0 ∧ win0_0.index t (1 : Fin 2) = 0 :=
  (by decide +kernel : ∀ t : Fin grid0.N, _)
theorem idx1 : ∀ t : Fin cfg0.N, win0_1.index t (0 : Fin 2) = 0 ∧ win0_1.index t (1 : Fin 2) = 0 :=
  (by decide +kernel : ∀ t : Fin grid0.N, _)
theorem idx2 : ∀ t : Fin cfg0.N, win0_2.index t (0 : Fin 2) = 0 ∧ win0_2.index t (1 : Fin 2) = 0 :=
  (by decide +kernel : ∀ t : Fin grid0.N, _)
theorem idx3 : ∀ t : Fin cfg0.N, win0_3.index t (0 : Fin 2) = 0 ∧ win0_3.index t (1 : Fin 2) = t.val :=
  (by decide +kernel : ∀ t : Fin grid0.N, _)
theorem idx4 : ∀ t : Fin cfg0.N, win0_4.index t (0 : Fin 2) = 0 ∧ win0_4.index t (1 : Fin 2) = t.val :=
  (by decide +kernel : ∀ t : Fin grid0.N, _)
theorem idx5 : ∀ t : Fin cfg0.N, win0_5.index t (0 : Fin 2) = 0 ∧ win0_5.index t (1 : Fin 2) = t.val :=
  (by decide +kernel : ∀ t : Fin grid0.N, _)
theorem idx6 : ∀ t : Fin cfg0.N, win0_6.index t (0 : Fin 2) = 0 ∧ win0_6.index t (1 : Fin 2) = 0 :=
  (by decide +kernel : ∀ t : Fin grid0.N, _)
theorem idx7 : ∀ t : Fin cfg0.N, win0_7.index t (0 : Fin 2) = 0 ∧ win0_7.index t (1 : Fin 2) = t.val :=
  (by decide +kernel : ∀ t : Fin grid0.N, _)

/-- The gate's scale table is staged whole. -/
theorem iblk0_eq (c : Dev nD) (t : Fin cfg0.N) : iblk m c 0 t = V m c main_arg0 := by
  obtain ⟨e0, e1⟩ := idx0 t
  funext j
  refine congrArg (V m c main_arg0) (funext fun a => Fin.ext ?_)
  match a with
  | ⟨0, _⟩ => show win0_0.index t (0 : Fin 2) * 56 + 1 * (j 0).val = (j 0).val; omega
  | ⟨1, _⟩ => show win0_0.index t (1 : Fin 2) * 16 + 1 * (j 1).val = (j 1).val; omega

/-- The up projection's scale table is staged whole. -/
theorem iblk1_eq (c : Dev nD) (t : Fin cfg0.N) : iblk m c 1 t = V m c main_arg1 := by
  obtain ⟨e0, e1⟩ := idx1 t
  funext j
  refine congrArg (V m c main_arg1) (funext fun a => Fin.ext ?_)
  match a with
  | ⟨0, _⟩ => show win0_1.index t (0 : Fin 2) * 56 + 1 * (j 0).val = (j 0).val; omega
  | ⟨1, _⟩ => show win0_1.index t (1 : Fin 2) * 16 + 1 * (j 1).val = (j 1).val; omega

/-- The left operand is staged whole. -/
theorem iblk2_eq (c : Dev nD) (t : Fin cfg0.N) : iblk m c 2 t = V m c main_arg2 := by
  obtain ⟨e0, e1⟩ := idx2 t
  funext j
  refine congrArg (V m c main_arg2) (funext fun a => Fin.ext ?_)
  match a with
  | ⟨0, _⟩ => show win0_2.index t (0 : Fin 2) * 1792 + 1 * (j 0).val = (j 0).val; omega
  | ⟨1, _⟩ => show win0_2.index t (1 : Fin 2) * 7168 + 1 * (j 1).val = (j 1).val; omega

/-- Point `t` is given the gate's columns from `256 * t`. -/
theorem iblk3_eq (c : Dev nD) (t : Fin cfg0.N) (r : Fin 7168) (q : Fin 256) (q' : Fin 2048) (h : q'.val = 256 * t.val + q.val) :
    iblk m c 3 t (ix2 r q) = V m c main_arg3 (ix2 r q') := by
  obtain ⟨e0, e1⟩ := idx3 t
  refine congrArg (V m c main_arg3) (funext fun a => Fin.ext ?_)
  match a with
  | ⟨0, _⟩ => show win0_3.index t (0 : Fin 2) * 7168 + 1 * r.val = r.val; omega
  | ⟨1, _⟩ => show win0_3.index t (1 : Fin 2) * 256 + 1 * q.val = q'.val; omega

/-- Point `t` is given the up projection's columns from `256 * t`. -/
theorem iblk4_eq (c : Dev nD) (t : Fin cfg0.N) (r : Fin 7168) (q : Fin 256) (q' : Fin 2048) (h : q'.val = 256 * t.val + q.val) :
    iblk m c 4 t (ix2 r q) = V m c main_arg4 (ix2 r q') := by
  obtain ⟨e0, e1⟩ := idx4 t
  refine congrArg (V m c main_arg4) (funext fun a => Fin.ext ?_)
  match a with
  | ⟨0, _⟩ => show win0_4.index t (0 : Fin 2) * 7168 + 1 * r.val = r.val; omega
  | ⟨1, _⟩ => show win0_4.index t (1 : Fin 2) * 256 + 1 * q.val = q'.val; omega

theorem emb5_0 (t : Fin cfg0.N) (j : S1792x256.Idx) : (((cfg0.win 5).blk t).view.emb j (0 : Fin 2)).val = (j 0).val := by
  obtain ⟨e0, e1⟩ := idx5 t
  show win0_5.index t (0 : Fin 2) * 1792 + 1 * (j 0).val = (j 0).val; omega
theorem emb5_1 (t : Fin cfg0.N) (j : S1792x256.Idx) : (((cfg0.win 5).blk t).view.emb j (1 : Fin 2)).val = 256 * t.val + (j 1).val := by
  obtain ⟨e0, e1⟩ := idx5 t
  show win0_5.index t (1 : Fin 2) * 256 + 1 * (j 1).val = 256 * t.val + (j 1).val; omega
theorem emb7_0 (t : Fin cfg0.N) (j : S1792x256.Idx) : (((cfg0.win 7).blk t).view.emb j (0 : Fin 2)).val = (j 0).val := by
  obtain ⟨e0, e1⟩ := idx7 t
  show win0_7.index t (0 : Fin 2) * 1792 + 1 * (j 0).val = (j 0).val; omega
theorem emb7_1 (t : Fin cfg0.N) (j : S1792x256.Idx) : (((cfg0.win 7).blk t).view.emb j (1 : Fin 2)).val = 256 * t.val + (j 1).val := by
  obtain ⟨e0, e1⟩ := idx7 t
  show win0_7.index t (1 : Fin 2) * 256 + 1 * (j 1).val = 256 * t.val + (j 1).val; omega
theorem emb6 (t : Fin cfg0.N) (j : S1792x128.Idx) : ((cfg0.win 6).blk t).view.emb j = j := by
  obtain ⟨e0, e1⟩ := idx6 t
  funext a; apply Fin.ext
  match a with
  | ⟨0, _⟩ => show win0_6.index t (0 : Fin 2) * 1792 + 1 * (j 0).val = (j 0).val; omega
  | ⟨1, _⟩ => show win0_6.index t (1 : Fin 2) * 128 + 1 * (j 1).val = (j 1).val; omega

/-! ## One point -/

/-- The weights point `t` multiplies by: the gate's columns, then the up projection's, each weight times its tile's scale. -/
def weights (c : Dev nD) (t : Fin cfg0.N) : S7168x512.Idx → Ideal .bf16 :=
  block (F := Ideal) (grid0.coords t) (iblk m c 0 t) (iblk m c 1 t) (iblk m c 3 t) (iblk m c 4 t)

/-- The units of the argument arrays. -/
abbrev unitsOf (c : Dev nD) (r : Fin 1792) (p : Fin 16) (l : Fin 128) : EReal :=
  units (V m c main_arg0) (V m c main_arg1) (V m c main_arg2) (V m c main_arg3) (V m c main_arg4) r p l

/-- Point `t`'s two blocks are blocks `2 * t` and `2 * t + 1`. -/
theorem half_eq (c : Dev nD) (t : Fin cfg0.N) (r : Fin 1792) (p : Fin 2) (p' : Fin 16) (hp : p'.val = 2 * t.val + p.val) :
    half (iblk m c 2 t) (weights m c t) r p = unitsOf m c r p' := by
  funext l
  have ht : (grid0.coords t 0).val = t.val := coord t
  have hl := l.isLt
  have hp2 := p.isLt
  rw [iblk2_eq]
  unfold half unitsOf units
  congr 1
  · funext k
    refine (dif_pos (show 128 * p.val + l.val < 256 by omega)).trans ?_
    refine congrArg₂ (fun a b : EReal => a * b)
      (iblk3_eq m c t k _ (⟨128 * p'.val + l.val, by omega⟩ : Fin 2048) (by show 128 * p'.val + l.val = 256 * t.val + (128 * p.val + l.val); omega)) ?_
    rw [iblk0_eq]
    refine congrArg (V m c main_arg0) (funext fun a => Fin.ext ?_)
    match a with
    | ⟨0, _⟩ => rfl
    | ⟨1, _⟩ => show 2 * (grid0.coords t 0).val + (128 * p.val + l.val) / 128 = p'.val; omega
  · funext k
    refine (dif_neg (show ¬256 + (128 * p.val + l.val) < 256 by omega)).trans ?_
    refine congrArg₂ (fun a b : EReal => a * b)
      (iblk4_eq m c t k _ (⟨128 * p'.val + l.val, by omega⟩ : Fin 2048) (by show 128 * p'.val + l.val = 256 * t.val + (256 + (128 * p.val + l.val) - 256); omega)) ?_
    rw [iblk1_eq]
    refine congrArg (V m c main_arg1) (funext fun a => Fin.ext ?_)
    match a with
    | ⟨0, _⟩ => rfl
    | ⟨1, _⟩ => show 2 * (grid0.coords t 0).val + (256 + (128 * p.val + l.val) - 256) / 128 = p'.val; omega

/-- What a point leaves, from a scratch that reads as its weights. -/
theorem leaves_eq (c : Dev nD) (t : Fin cfg0.N) (X : BufTy.Contents (Elt Ideal) scM0_0.view.ty) (G : BufTy.Contents (Elt Ideal) scM0_1.view.ty)
    (hX : View.readAt (Elt Ideal) scM0_0.view (Rect.unit (s := S7168x512) ![0, 0] S7168x512.size inb_S7168x512_S7168x512_0_0).toLoadRect X = weights m c t) :
    leaves (F := Ideal) m c t X G = (codesOf (iblk m c 2 t) (weights m c t),
      scalesOf (iblk m c 2 t) (weights m c t) (grid0.coords t 0).val (scM0_1.view.read (Elt Ideal) G), decodedOf (iblk m c 2 t) (weights m c t)) := by
  unfold leaves
  rw [codesAt_eq _ _ _ _ _ _ _ _ _ _ _ _ _ _ _ _ _ _ _ _ _ _ _ _ _ hX, scalesAt_eq _ _ _ _ _ _ _ _ _ _ _ _ _ _ _ _ _ _ _ _ _ _ _ _ _ hX,
    decodedAt_eq _ _ _ _ _ _ _ _ _ _ _ _ _ _ _ _ _ _ _ _ _ _ _ _ _ hX]

/-- The outputs after point `n`: its own blocks' codes and decoded values, and the scales of all blocks so far. -/
theorem outs_eq (c : Dev nD) (n : ℕ) (hn : n < cfg0.N) :
    (outsAt0 (F := Ideal) m c n hn).1 = codesOf (iblk m c 2 ⟨n, hn⟩) (weights m c ⟨n, hn⟩)
      ∧ (outsAt0 (F := Ideal) m c n hn).2.2 = decodedOf (iblk m c 2 ⟨n, hn⟩) (weights m c ⟨n, hn⟩)
      ∧ ∀ (y : S1792x128.Idx) (p : Fin 16), p.val = (y 1).val → p.val < 2 * (n + 1) →
        (outsAt0 (F := Ideal) m c n hn).2.1 y = scale (unitsOf m c (y 0) p) := by
  have step : ∀ (t : Fin cfg0.N) (G : S1792x128.Idx → EReal) (y : S1792x128.Idx) (p : Fin 16), p.val = (y 1).val → p.val < 2 * (t.val + 1) →
      (p.val < 2 * t.val → G y = scale (unitsOf m c (y 0) p)) →
      scalesOf (iblk m c 2 t) (weights m c t) (grid0.coords t 0).val G y = scale (unitsOf m c (y 0) p) := by
    intro t G y p hp hlt hG
    unfold scalesOf
    have ht : (grid0.coords t 0).val = t.val := coord t
    split
    · rw [half_eq m c t (y 0) 1 p (by show p.val = 2 * t.val + 1; omega)]
    · split
      · rw [half_eq m c t (y 0) 0 p (by show p.val = 2 * t.val + 0; omega)]
      · exact hG (by omega)
  induction n with
  | zero =>
    have e := leaves_eq m c ⟨0, hn⟩ (tilesFirst m c ⟨0, hn⟩ ((hcond0_0 ⟨0, hn⟩).mpr (Nat.zero_mod _))) (zeroed scM0_1)
      (read_First _ _ _ _ _ _ _ _ _ _ _ _ _ _ _ _ _ _ _ _ _ _ _ _ _ _ _ _ _)
    refine ⟨congrArg (·.1) e, congrArg (·.2.2) e, fun y p hp hlt => ?_⟩
    refine (congrFun (congrArg (·.2.1) e) y).trans ?_
    exact step ⟨0, hn⟩ _ y p hp hlt fun h => absurd h (by simp)
  | succ n ih =>
    have e := leaves_eq m c ⟨n + 1, hn⟩ (tilesLater m c ⟨n + 1, hn⟩ (later n hn) (outsAt0 m c n (Nat.lt_of_succ_lt hn)).2.1)
      ((Memref.isWhole_whole cc0_scratch1).unread (outsAt0 m c n (Nat.lt_of_succ_lt hn)).2.1)
      (read_Later _ _ _ _ _ _ _ _ _ _ _ _ _ _ _ _ _ _ _ _ _ _ _ _ _ _ _ _ _ _)
    refine ⟨congrArg (·.1) e, congrArg (·.2.2) e, fun y p hp hlt => ?_⟩
    refine (congrFun (congrArg (·.2.1) e) y).trans ?_
    refine step ⟨n + 1, hn⟩ _ y p hp hlt fun h => ?_
    rw [(Memref.isWhole_whole cc0_scratch1).read_unread]
    exact (ih (Nat.lt_of_succ_lt hn)).2.2 y p hp h

/-! ## The arrays after the run -/

/-- The results of the argument arrays. -/
abbrev codesV (c : Dev nD) := codes (V m c main_arg0) (V m c main_arg1) (V m c main_arg2) (V m c main_arg3) (V m c main_arg4)
abbrev scalesV (c : Dev nD) := scales (V m c main_arg0) (V m c main_arg1) (V m c main_arg2) (V m c main_arg3) (V m c main_arg4)
abbrev decodedV (c : Dev nD) := decoded (V m c main_arg0) (V m c main_arg1) (V m c main_arg2) (V m c main_arg3) (V m c main_arg4)

/-- A point's codes are the codes of its columns. -/
theorem codes_at (c : Dev nD) (t : Fin cfg0.N) (j : S1792x256.Idx) (y : S1792x2048.Idx) (h0 : (y 0).val = (j 0).val)
    (h1 : (y 1).val = 256 * t.val + (j 1).val) : codesOf (iblk m c 2 t) (weights m c t) j = codesV m c y := by
  have hj : (j 1).val < 256 := (j 1).isLt
  have e := half_eq m c t (j 0) ⟨(j 1).val / 128, by omega⟩ (blockNo (y 1)) (by show (y 1).val / 128 = 2 * t.val + (j 1).val / 128; omega)
  unfold codesOf codesV codes
  refine congrArg₂ code (e.trans (congrArg (fun r : Fin 1792 => unitsOf m c r (blockNo (y 1))) (Fin.ext h0.symm))) (Fin.ext ?_)
  show (j 1).val % 128 = (y 1).val % 128
  omega

/-- A point's decoded values are the decoded values of its columns. -/
theorem decoded_at (c : Dev nD) (t : Fin cfg0.N) (j : S1792x256.Idx) (y : S1792x2048.Idx) (h0 : (y 0).val = (j 0).val)
    (h1 : (y 1).val = 256 * t.val + (j 1).val) : decodedOf (iblk m c 2 t) (weights m c t) j = decodedV m c y := by
  have hj : (j 1).val < 256 := (j 1).isLt
  have e := half_eq m c t (j 0) ⟨(j 1).val / 128, by omega⟩ (blockNo (y 1)) (by show (y 1).val / 128 = 2 * t.val + (j 1).val / 128; omega)
  unfold decodedOf decodedV decoded
  exact congrArg₂ (· * ·) (codes_at m c t j y h0 h1)
    (congrArg scale (e.trans (congrArg (fun r : Fin 1792 => unitsOf m c r (blockNo (y 1))) (Fin.ext h0.symm))))

theorem flushed5 (c : Dev nD) (t : Fin cfg0.N) :
    (dats (F := Ideal) m 0 c).flushed 5 t = ((cfg0.win 5).blk t).view.read (Elt Ideal) (codesV m c) := by
  have e : (dats (F := Ideal) m 0 c).flushed 5 t = (cfg0.win 5).cut (grid0.coords t) (codesOf (iblk m c 2 t) (weights m c t)) := by
    show (cfg0.win 5).cut (grid0.coords t) ((dats m 0 c).after 5 t) = _
    rw [after0_5, (outs_eq m c t.val t.isLt).1]
  rw [e]
  funext j
  exact codes_at m c t j _ (emb5_0 t j) (emb5_1 t j)

theorem flushed7 (c : Dev nD) (t : Fin cfg0.N) :
    (dats (F := Ideal) m 0 c).flushed 7 t = ((cfg0.win 7).blk t).view.read (Elt Ideal) (decodedV m c) := by
  have e : (dats (F := Ideal) m 0 c).flushed 7 t = (cfg0.win 7).cut (grid0.coords t) (decodedOf (iblk m c 2 t) (weights m c t)) := by
    show (cfg0.win 7).cut (grid0.coords t) ((dats m 0 c).after 7 t) = _
    rw [after0_7, (outs_eq m c t.val t.isLt).2.1]
  rw [e]
  funext j
  exact decoded_at m c t j _ (emb7_0 t j) (emb7_1 t j)

/-- The last point. -/
def last : Fin cfg0.N := (⟨7, by decide⟩ : Fin grid0.N)

/-- The scales go back once, after the last point. -/
theorem flushed6 (c : Dev nD) (t : Fin cfg0.N) (h : (cfg0.win 6).flush t = true) :
    (dats (F := Ideal) m 0 c).flushed 6 t = ((cfg0.win 6).blk t).view.read (Elt Ideal) (outsAt0 (F := Ideal) m c last.val last.isLt).2.1 := by
  have ht : t = last := by
    have h8 : t.val < 8 := lt_of_lt_of_eq t.isLt (show cfg0.N = 8 from N_0)
    have := (flush0_6 t).1 h
    exact Fin.ext (by show t.val = 7; omega)
  subst ht
  have e : (dats (F := Ideal) m 0 c).flushed 6 last = (cfg0.win 6).cut (grid0.coords last) (outsAt0 (F := Ideal) m c last.val last.isLt).2.1 := by
    show (cfg0.win 6).cut (grid0.coords last) ((dats m 0 c).after 6 last) = _
    rw [after0_6]
  rw [e]
  funext j
  exact congrArg (outsAt0 (F := Ideal) m c last.val last.isLt).2.1 (emb6 last j).symm

theorem covered5 (y : S1792x2048.Idx) : ∃ t : Fin cfg0.N, (cfg0.win 5).flush t = true ∧ y ∈ ((cfg0.win 5).blk t).view.set := by
  have hy : (y 1).val < 2048 := (y 1).isLt
  have ht : (y 1).val / 256 < 8 := by omega
  refine ⟨⟨(y 1).val / 256, ht⟩, flush0_5 _, ?_⟩
  have hm := ((cfg0.win 5).blk ⟨(y 1).val / 256, ht⟩).view.emb_mem_set
    (ix2 (y 0) (⟨(y 1).val % 256, by omega⟩ : Fin 256))
  have e : ((cfg0.win 5).blk ⟨(y 1).val / 256, ht⟩).view.emb (ix2 (y 0) (⟨(y 1).val % 256, by omega⟩ : Fin 256)) = y := by
    funext a; apply Fin.ext
    match a with
    | ⟨0, _⟩ => exact emb5_0 _ _
    | ⟨1, _⟩ =>
      refine (emb5_1 _ _).trans ?_
      show 256 * ((y 1).val / 256) + (y 1).val % 256 = (y 1).val; omega
  rwa [e] at hm

theorem covered7 (y : S1792x2048.Idx) : ∃ t : Fin cfg0.N, (cfg0.win 7).flush t = true ∧ y ∈ ((cfg0.win 7).blk t).view.set := by
  have hy : (y 1).val < 2048 := (y 1).isLt
  have ht : (y 1).val / 256 < 8 := by omega
  refine ⟨⟨(y 1).val / 256, ht⟩, flush0_7 _, ?_⟩
  have hm := ((cfg0.win 7).blk ⟨(y 1).val / 256, ht⟩).view.emb_mem_set
    (ix2 (y 0) (⟨(y 1).val % 256, by omega⟩ : Fin 256))
  have e : ((cfg0.win 7).blk ⟨(y 1).val / 256, ht⟩).view.emb (ix2 (y 0) (⟨(y 1).val % 256, by omega⟩ : Fin 256)) = y := by
    funext a; apply Fin.ext
    match a with
    | ⟨0, _⟩ => exact emb7_0 _ _
    | ⟨1, _⟩ =>
      refine (emb7_1 _ _).trans ?_
      show 256 * ((y 1).val / 256) + (y 1).val % 256 = (y 1).val; omega
  rwa [e] at hm

theorem covered6 (y : S1792x128.Idx) : ∃ t : Fin cfg0.N, (cfg0.win 6).flush t = true ∧ y ∈ ((cfg0.win 6).blk t).view.set := by
  refine ⟨last, (flush0_6 last).2 rfl, ?_⟩
  have hm := ((cfg0.win 6).blk last).view.emb_mem_set y
  have e : ((cfg0.win 6).blk last).view.emb y = y := emb6 last y
  rwa [e] at hm

/-- The array of codes after the run. -/
theorem final5 (c : Dev nD) : (dats (F := Ideal) m 0 c).arrAt 5 cfg0.N = codesV m c :=
  (dats (F := Ideal) m 0 c).arrAt_eq_of_cover 5 (codesV m c) (fun t _ => flushed5 m c t) covered5

/-- The array of decoded values after the run. -/
theorem final7 (c : Dev nD) : (dats (F := Ideal) m 0 c).arrAt 7 cfg0.N = decodedV m c :=
  (dats (F := Ideal) m 0 c).arrAt_eq_of_cover 7 (decodedV m c) (fun t _ => flushed7 m c t) covered7

/-- The array of scales after the run, 128 lanes wide. -/
theorem final6 (c : Dev nD) : (dats (F := Ideal) m 0 c).arrAt 6 cfg0.N = (outsAt0 (F := Ideal) m c last.val last.isLt).2.1 :=
  (dats (F := Ideal) m 0 c).arrAt_eq_of_cover 6 (outsAt0 (F := Ideal) m c last.val last.isLt).2.1 (fun t h => flushed6 m c t h) covered6

/-- The result cut out of it: its first 16 lanes. -/
theorem tail_eq (c : Dev nD) : Pipeline.afterTail₀ cfgs (dats (F := Ideal) m) 0 (V0 m) [hostOps1] c main_v1 = scalesV m c := by
  have e : Pipeline.afterTail₀ cfgs (dats (F := Ideal) m) 0 (V0 m) [hostOps1] c main_v1
      = extractStridedSlice S1792x16 ![0, 0] ((dats (F := Ideal) m 0 c).arrAt 6 cfg0.N) slices_S1792x128_S1792x16_0_0 := by
    unfold Pipeline.afterTail₀
    rw [← Pipeline.withArrays_arr (cfgs 0).spec launch0.win.arr_inj c (V0 m c) (fun w => (dats (F := Ideal) m 0 c).arrAt w cfg0.N) 6]
    generalize Pipeline.withArrays (cfgs 0).spec c (V0 m c) (fun w => (dats (F := Ideal) m 0 c).arrAt w (cfgs 0).N) = X
    show StableHlo.after hostOps1 X (Proc.tc.devRef main_v1) = extractStridedSlice S1792x16 ![0, 0] (X (Proc.tc.devRef main_v0_1)) slices_S1792x128_S1792x16_0_0
    unfold hostOps1
    after_results
  rw [e, final6]
  funext y
  have hy : (y 1).val < 16 := (y 1).isLt
  refine Eq.trans ?_ ((outs_eq m c last.val last.isLt).2.2 (ix2 (y 0) (⟨(y 1).val, by omega⟩ : Fin 128)) (y 1) rfl
    (by show (y 1).val < 2 * (7 + 1); omega))
  generalize (outsAt0 (F := Ideal) m c last.val last.isLt).2.1 = z
  pointwise

end Cert.Proof.GateUp

end
-- ==== Proof.GateUpReference.lean ====
/-
  Hand-written, untrusted. The reference of the gate/up call computes the three results of `GateUpWhole`: the least exponent it finds
  by trying every one is `Exponent.exponent`.
-/
module

public import proofs.«01_k».proof.Proof.GateUpWhole
public import proofs.«01_k».proof.Proof.Gen.GateUpReferenceIdeal.Value

@[expose] public section

set_option maxRecDepth 16384

noncomputable section

namespace Cert.Proof.GateUp

open Idealize.ShloMosaic Idealize.ShloMosaic.TcCoe Idealize.SL.Sem
open Cert.GateUpReferenceIdeal Cert.GateUpReferenceIdeal.Gen Cert.Proof.Exponent

variable (sg su : Vec Ideal S56x16 .f32) (hd : Vec Ideal S1792x7168 .bf16) (wg wu : Vec Ideal S7168x2048 .fp8e4m3)

/-- The gated units, cut into blocks. -/
theorem ref_units (r : Fin 1792) (p : Fin 16) (l : Fin 128) :
    Gen.k0_pay5 (F := Ideal) hd wg sg hd wu su (ix3 r p l) = units sg su hd wg wu r p l := by
  have e : ∀ (w : Vec Ideal S7168x2048 .fp8e4m3) (k : Fin 7168) (h : p.val * 128 + l.val < 2048),
      w (ix2 k ⟨p.val * 128 + l.val, h⟩) = w (ix2 k (⟨128 * p.val + l.val, by omega⟩ : Fin 2048)) :=
    fun w k h => congrArg (fun q : Fin 2048 => w (ix2 k q)) (Fin.ext (by show p.val * 128 + l.val = 128 * p.val + l.val; omega))
  unfold Gen.k0_pay5 units
  pointwise
  simp only [e]
  rfl

/-- The largest magnitude of a block. -/
theorem ref_magnitude (x : S1792x16.Idx) :
    Gen.k0_pay6 (F := Ideal) hd wg sg hd wu su x = magnitude (units sg su hd wg wu (x 0) (x 1)) := by
  have h := ref_units sg su hd wg wu
  unfold Gen.k0_pay6
  generalize Gen.k0_pay5 (F := Ideal) hd wg sg hd wu su = u at h
  pointwise
  unfold magnitude
  refine congrArg (fun f : Fin 128 → EReal => Finset.fold max (Ideal.ofBits .f32 0xFF800000#32) f Finset.univ) (funext fun l => ?_)
  exact congrArg (fun z : EReal => (FloatOps.absf (z : Ideal .f32) : Ideal .f32)) (h (x 0) (x 1) l)

/-- The `j`-th exponent the reference tries. -/
def tried (j : Fin 247) : EReal := (((((j.val : ℤ) - 126 : ℤ) : ℝ) : ℝ) : EReal)

theorem ref_seven (x : S1x1x247.Idx) : Gen.k0_pay7 (F := Ideal) x = tried (x 2) := by
  unfold Gen.k0_pay7
  pointwise
  exact lane_eq (x 2)

theorem ref_tried (r : Fin 1792) (p : Fin 16) (j : Fin 247) : Gen.k0_pay9 (F := Ideal) (ix3 r p j) = tried j := by
  have h := ref_seven
  unfold Gen.k0_pay9
  generalize Gen.k0_pay7 (F := Ideal) = e at h
  pointwise
  exact h _

theorem exp2_at {S : Shape} (X : FVec Ideal S .f32) (x : S.Idx) : exp2 X x = Ideal.exp2 (X x) := rfl

/-- One row of lanes, along every block. -/
theorem spread_lanes (e : FVec Ideal S1x1x247 .f32) (r : Fin 1792) (p : Fin 16) (j : Fin 247) :
    broadcastTo S1792x16x247 e broadcasts_S1x1x247_S1792x16x247 (ix3 r p j) = e (ix3 0 0 j) := by
  refine broadcastTo_apply e broadcasts_S1x1x247_S1792x16x247 (ix3 r p j) (ix3 0 0 j) fun ax => ?_
  match ax with
  | ⟨0, _⟩ => rfl
  | ⟨1, _⟩ => rfl
  | ⟨2, _⟩ => rfl

/-- Each block's bound, along every exponent. -/
theorem spread_blocks (u : FVec Ideal S1792x16 .f32) (r : Fin 1792) (p : Fin 16) (j : Fin 247) :
    broadcastTo S1792x16x247 (shapeCast S1792x16x1 u shapeCasts_S1792x16_S1792x16x1)
      broadcasts_S1792x16x1_S1792x16x247 (ix3 r p j) = u (ix2 r p) := by
  pointwise

theorem greater {S : Shape} (X Y : FVec Ideal S .f32) (x : S.Idx) : cmpf .ogt X Y x = BitVec.ofBool (decide ((Y x : EReal) < X x)) := by
  simp [cmpf, FloatOps.cmpf, Ideal.cmp]

/-- The largest magnitude over 448, as a product with the rounded reciprocal. -/
theorem over448 (u : FVec Ideal S1792x16 .f32) (x : S1792x16.Idx) :
    mulf u (broadcast S1792x16 (Scalar.ofBits .f32 0x3B124925#32)) x = (u x : EReal) * r448 := by
  unfold r448
  pointwise

/-- Whether the `j`-th exponent's power of two exceeds the largest magnitude over 448. -/
theorem ref_fits (r : Fin 1792) (p : Fin 16) (j : Fin 247) :
    Gen.k0_pay8 (F := Ideal) hd wg sg hd wu su (ix3 r p j)
      = BitVec.ofBool (decide (magnitude (units sg su hd wg wu r p) * r448 < two ((j.val : ℤ) - 126))) := by
  unfold Gen.k0_pay8
  refine (greater _ _ _).trans (congrArg₂ (fun x y : EReal => BitVec.ofBool (decide (y < x)))
    ((spread_lanes _ r p j).trans ?_) ((spread_blocks _ r p j).trans ?_))
  · exact (exp2_at _ _).trans ((congrArg Ideal.exp2 (ref_seven _)).trans (exp2_int _))
  · exact (over448 _ _).trans (congrArg (· * r448) (ref_magnitude sg su hd wg wu (ix2 r p)))

/-- The least exponent that fits, of arrays of comparisons, exponents and bounds. -/
theorem ref_least (a : FVec Ideal S1792x16 .f32) (b : IVec S1792x16x247 1) (e o : FVec Ideal S1792x16x247 .f32) (x : S1792x16.Idx) :
    Gen.k0_pay1 (F := Ideal) a b e o x
      = if a x = 0 then 0 else Finset.fold min (Ideal.ofBits .f32 0x7F800000#32)
          (fun j : Fin 247 => Scalar.select (b (ix3 (x 0) (x 1) j)) (e (ix3 (x 0) (x 1) j)) (o (ix3 (x 0) (x 1) j))) Finset.univ := by
  unfold Gen.k0_pay1
  pointwise

/-- The exponent the reference finds. -/
theorem ref_exponent (r : Fin 1792) (p : Fin 16) :
    Gen.k0_pay1 (F := Ideal) (Gen.k0_pay6 (F := Ideal) hd wg sg hd wu su) (Gen.k0_pay8 (F := Ideal) hd wg sg hd wu su) (Gen.k0_pay9 (F := Ideal))
        (Gen.k0_pay10 (F := Ideal)) (ix2 r p)
      = (((exponent (magnitude (units sg su hd wg wu r p)) : ℝ) : ℝ) : EReal) := by
  have hm : Gen.k0_pay6 (F := Ideal) hd wg sg hd wu su (ix2 r p) = magnitude (units sg su hd wg wu r p) := ref_magnitude sg su hd wg wu (ix2 r p)
  rw [ref_least, hm, ctop]
  unfold exponent
  by_cases h0 : magnitude (units sg su hd wg wu r p) = 0
  · rw [if_pos h0, if_pos h0]; simp
  rw [if_neg h0, if_neg h0]
  refine (fold_eq (magnitude (units sg su hd wg wu r p) * r448) _ fun j => ?_)
  refine (congrArg₂ (fun (b : BitVec 1) (e : EReal) => Scalar.select b e (Ideal.ofBits .f32 0x42F00000#32))
    (ref_fits sg su hd wg wu r p j) (ref_tried r p j)).trans ?_
  rw [c120]
  by_cases h : magnitude (units sg su hd wg wu r p) * r448 < two ((j.val : ℤ) - 126)
  · rw [if_pos h, decide_eq_true h]; rfl
  · rw [if_neg h, decide_eq_false h]; rfl

theorem whole0 : (![0, 0] : Fin 2 → Nat) = fun _ => 0 := by decide

theorem ldX (x : Vec Ideal S1792x7168 .bf16) : View.ld x r0_0 = x := View.ld_unit_zero (S := S1792x7168) whole0 _ x
theorem ldW (x : Vec Ideal S7168x2048 .fp8e4m3) : View.ld x r0_1 = x := View.ld_unit_zero (S := S7168x2048) whole0 _ x
theorem ldS (x : Vec Ideal S56x16 .f32) : View.ld x r0_2 = x := View.ld_unit_zero (S := S56x16) whole0 _ x

theorem arg11 : Gen.k0_pay11 (F := Ideal) sg su hd wg wu = Gen.k0_pay5 (F := Ideal) hd wg sg hd wu su := by
  unfold Gen.k0_pay11
  rw [ldX, ldW, ldW, ldS, ldS]
theorem arg12 : Gen.k0_pay12 (F := Ideal) sg su hd wg wu = Gen.k0_pay6 (F := Ideal) hd wg sg hd wu su := by
  unfold Gen.k0_pay12
  rw [ldX, ldW, ldW, ldS, ldS]
theorem arg13 : Gen.k0_pay13 (F := Ideal) sg su hd wg wu = Gen.k0_pay8 (F := Ideal) hd wg sg hd wu su := by
  unfold Gen.k0_pay13
  rw [ldX, ldW, ldW, ldS, ldS]

/-- The codes of units `v` at exponents `e`. -/
theorem ref_code (v : FVec Ideal S1792x16x128 .f32) (a : FVec Ideal S1792x16 .f32) (b : IVec S1792x16x247 1) (e o : FVec Ideal S1792x16x247 .f32)
    (y : S1792x2048.Idx) :
    Gen.k0_pay2 (F := Ideal) v a b e o y
      = min (Ideal.ofBits .f32 0x43E00000#32) (max (Ideal.ofBits .f32 0xC3E00000#32)
          (v (ix3 (y 0) (blockNo (y 1)) (⟨(y 1).val % 128, by omega⟩ : Fin 128)) *
            Ideal.exp2 (0 - Gen.k0_pay1 (F := Ideal) a b e o (ix2 (y 0) (blockNo (y 1)))))) := by
  unfold Gen.k0_pay2
  generalize Gen.k0_pay1 (F := Ideal) a b e o = x
  pointwise
  rfl

theorem ref_value (v : FVec Ideal S1792x16x128 .f32) (a : FVec Ideal S1792x16 .f32) (b : IVec S1792x16x247 1) (e o : FVec Ideal S1792x16x247 .f32)
    (y : S1792x2048.Idx) :
    Gen.k0_pay4 (F := Ideal) v a b e o y
      = Gen.k0_pay2 (F := Ideal) v a b e o y * Gen.k0_pay3 (F := Ideal) a b e o (ix2 (y 0) (blockNo (y 1))) := by
  unfold Gen.k0_pay4
  generalize Gen.k0_pay2 (F := Ideal) v a b e o = x
  generalize Gen.k0_pay3 (F := Ideal) a b e o = z
  pointwise
  rfl

theorem ref_scale (r : Fin 1792) (p : Fin 16) :
    Gen.k0_pay3 (F := Ideal) (Gen.k0_pay6 (F := Ideal) hd wg sg hd wu su) (Gen.k0_pay8 (F := Ideal) hd wg sg hd wu su) (Gen.k0_pay9 (F := Ideal))
      (Gen.k0_pay10 (F := Ideal)) (ix2 r p) = scale (units sg su hd wg wu r p) := by
  have h := ref_exponent sg su hd wg wu r p
  unfold Gen.k0_pay3 scale
  refine Eq.trans (exp2_at _ _) ((congrArg Ideal.exp2 h).trans (exp2_int _))

/-- The scales. -/
theorem ref_scales : Cert.GateUpReferenceIdeal.Value.G6 (F := Ideal) sg su hd wg wu = scales sg su hd wg wu := by
  funext y
  unfold Cert.GateUpReferenceIdeal.Value.G6
  rw [arg12, arg13]
  exact (congrArg _ (ix2_eta y).symm).trans (ref_scale sg su hd wg wu (y 0) (y 1))

/-- The codes. -/
theorem ref_codes : Cert.GateUpReferenceIdeal.Value.G5 (F := Ideal) sg su hd wg wu = codes sg su hd wg wu := by
  funext y
  unfold Cert.GateUpReferenceIdeal.Value.G5
  rw [arg11, arg12, arg13]
  refine (ref_code _ _ _ _ _ y).trans ?_
  refine congrArg (fun z : EReal => min (Ideal.ofBits .f32 0x43E00000#32) (max (Ideal.ofBits .f32 0xC3E00000#32) z)) (congrArg₂ (· * ·) (ref_units sg su hd wg wu _ _ _) ?_)
  refine (congrArg (fun z : EReal => Ideal.exp2 (0 - z)) (ref_exponent sg su hd wg wu (y 0) (blockNo (y 1)))).trans ?_
  rw [← exp2_int]
  push_cast
  simp

/-- The decoded values. -/
theorem ref_decoded : Cert.GateUpReferenceIdeal.Value.G7 (F := Ideal) sg su hd wg wu = decoded sg su hd wg wu := by
  funext y
  have h := congrFun (ref_codes sg su hd wg wu) y
  unfold Cert.GateUpReferenceIdeal.Value.G5 at h
  unfold Cert.GateUpReferenceIdeal.Value.G7
  rw [arg11, arg12, arg13] at *
  exact (ref_value _ _ _ _ _ y).trans (congrArg₂ (· * ·) h (ref_scale sg su hd wg wu (y 0) (blockNo (y 1))))

end Cert.Proof.GateUp

end
-- ==== Proof.ProjRun.lean ====
/-
  Hand-written, untrusted. The second loop of the call `proj`, at any reading of floats: what one trip leaves in the block of x1,
  in its unrounded copy and in the sum of squares.
-/
module

public import proofs.«01_k».proof.Proof.Gen.Proj.Frame
public import proofs.«01_k».proof.Proof.Gen.Proj.Skeleton
public import proofs.«01_k».proof.Proof.Gen.Proj.Loops
public import Idealize.ShloMosaic.Lib.Pointwise
public import Idealize.ShloMosaic.Lib.WholeRead
public import Idealize.ShloMosaic.Lib.WritesUnit

@[expose] public section

set_option maxRecDepth 16384

noncomputable section

namespace Cert.Proj.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄D" => MT nD τ sig Unit (Elt F) ℕ (UR sig nD τ × Counters) ℕ

theorem off35_eq : ∀ k, k0_off35 k = ![0, 256 * k.val] := by decide +kernel

/-- One dequantised weight of tile `k`: the stored weight times the scale of its 128x128 block. -/
def deqW (s : Vec F S16x56 .f32) (w : Vec F S2048x7168 .fp8e4m3) (k : Fin k0_t2_loop.trips) : S2048x256.Idx → F .bf16 := fun y =>
  FloatOps.mulf
    (FloatOps.extf .bf16 bitsLt_fp8e4m3_bf16 (w (ix2 (y 0) (⟨256 * k.val + (y 1).val, by
      have h : (y 1).val < 256 := (y 1).isLt
      have hk := Nat.lt_of_lt_of_le k.isLt k0_t2_abs.2.1
      omega⟩ : Fin 7168))))
    (FloatOps.truncf .bf16 bitsLt_bf16_f32 (s (ix2 (⟨(y 0).val / 128, by
      have h : (y 0).val < 2048 := (y 0).isLt
      omega⟩ : Fin 16) (⟨2 * k.val + (y 1).val / 128, by
      have h : (y 1).val < 256 := (y 1).isLt
      have hk := Nat.lt_of_lt_of_le k.isLt k0_t2_abs.2.1
      omega⟩ : Fin 56))))

/-- Tile `k` of the residual input. -/
def colsX (x : Vec F S256x7168 .bf16) (k : Fin k0_t2_loop.trips) : Vec F S256x256 .bf16 := fun y =>
  x (ix2 (y 0) (⟨256 * k.val + (y 1).val, by
      have h : (y 1).val < 256 := (y 1).isLt
      have hk := Nat.lt_of_lt_of_le k.isLt k0_t2_abs.2.1
      omega⟩ : Fin 7168))

/-- One stored tile is the dequantised block on the tile's rectangle. -/
theorem tile_ok (arg1 : Memref sig .tc .smem S16x56 .f32) (arg4 : Memref sig .tc .vmem S2048x7168 .fp8e4m3)
    (X1 : BufTy.Contents (Elt F) arg1.view.ty) (X4 : BufTy.Contents (Elt F) arg4.view.ty) (k : Fin k0_t2_loop.trips)
    (a b : ℕ) (inb : ∀ x, (![a, b] : Fin 2 → ℕ) x + S128x128.size x ≤ S2048x256.size x)
    (off : Fin 2 → ℕ) (inb1 : ∀ x, off x + S1x1.size x ≤ S16x56.size x) (hne : 0 < S1x1.numel)
    (off' : Fin 2 → ℕ) (inb4 : ∀ x, off' x + S128x128.size x ≤ S2048x7168.size x)
    (h1 : FTy.bits .fp8e4m3 < FTy.bits .bf16) (h2 : FTy.bits .bf16 < FTy.bits .f32) (h3 : S1x128.Broadcasts S128x128) (h4 : S128x128.ShapeCasts S128x128)
    (ha : a % 128 = 0) (hb : b % 128 = 0)
    (hoff : off = ![a / 128, 2 * k.val + b / 128]) (hoff' : off' = ![a, 256 * k.val + b]) (x : S128x128.Idx) :
    shapeCast S128x128 (mulf (extf .bf16 (View.readAt (Elt F) arg4.view (Rect.unit (s := S2048x7168) off' S128x128.size inb4).toLoadRect X4) h1)
        (broadcastTo S128x128 (truncf .bf16 (broadcast S1x128 (View.readAt (Elt F) arg1.view (Rect.unit (s := S16x56) off S1x1.size inb1).toLoadRect X1 (Shape.Idx.first hne))) h2) h3)) h4 x
      = deqW (arg1.view.read (Elt F) X1) (arg4.view.read (Elt F) X4) k ((Rect.unit (s := S2048x256) ![a, b] S128x128.size inb).emb x) := by
  have hx0 : (x 0).val < 128 := (x 0).isLt
  have hx1 : (x 1).val < 128 := (x 1).isLt
  subst hoff; subst hoff'
  have hf : ∀ d, (Shape.Idx.first hne d).val = 0 := fun d => by
    match d with
    | ⟨0, _⟩ => rfl
    | ⟨1, _⟩ => rfl
  have e0 : ((Rect.unit (s := S2048x256) ![a, b] S128x128.size inb).emb x 0).val = a + (x 0).val := by
    show a + 1 * (x 0).val = _; omega
  have e1 : ((Rect.unit (s := S2048x256) ![a, b] S128x128.size inb).emb x 1).val = b + (x 1).val := by
    show b + 1 * (x 1).val = _; omega
  unfold deqW
  pointwise
  rw [View.readAt_apply, View.readAt_apply]
  refine congrArg₂ FloatOps.mulf (congrArg (fun z => FloatOps.extf .bf16 bitsLt_fp8e4m3_bf16 (arg4.view.read (Elt F) X4 z)) ?_)
    (congrArg (fun z => FloatOps.truncf .bf16 bitsLt_bf16_f32 (arg1.view.read (Elt F) X1 z)) ?_)
  · funext d; apply Fin.ext
    match d with
    | ⟨0, _⟩ => show a + 1 * (x 0).val = (((Rect.unit (s := S2048x256) ![a, b] S128x128.size inb).emb x) 0).val; omega
    | ⟨1, _⟩ => show 256 * k.val + b + 1 * (x 1).val = 256 * k.val + (((Rect.unit (s := S2048x256) ![a, b] S128x128.size inb).emb x) 1).val; omega
  · funext d; apply Fin.ext
    match d with
    | ⟨0, _⟩ =>
      show a / 128 + 1 * (Shape.Idx.first hne (0 : Fin 2)).val = (((Rect.unit (s := S2048x256) ![a, b] S128x128.size inb).emb x) 0).val / 128
      have := hf 0; omega
    | ⟨1, _⟩ =>
      show 2 * k.val + b / 128 + 1 * (Shape.Idx.first hne (1 : Fin 2)).val = 2 * k.val + (((Rect.unit (s := S2048x256) ![a, b] S128x128.size inb).emb x) 1).val / 128
      have := hf 1; omega

omit [FloatOps F] in
/-- The tile block read back whole once tiles that cover it and agree with `g` are stored. -/
theorem wt_read (arg16 : Memref sig .tc .vmem S2048x256 .bf16) (f : BufTy.Contents (Elt F) arg16.view.ty)
    (L : List (View.Piece (Elt F) S2048x256 .bf16)) (g : S2048x256.Idx → F .bf16)
    (hL : ∀ p ∈ L, ∀ x : p.1.shape.Idx, p.2 x = g (p.1.emb x)) (hc : ∀ y : S2048x256.Idx, ∃ p ∈ L, y ∈ p.1.set)
    (inb : ∀ a, (![0, 0] : Fin 2 → ℕ) a + S2048x256.size a ≤ S2048x256.size a) :
    View.readAt (Elt F) arg16.view (Rect.unit (s := S2048x256) ![0, 0] S2048x256.size inb).toLoadRect (arg16.view.writes (Elt F) f L) = g := by
  funext y
  rw [View.readAt_apply]
  have hy : (Rect.unit (s := S2048x256) ![0, 0] S2048x256.size inb).toLoadRect.idx y = y := by
    funext k; apply Fin.ext
    match k with
    | ⟨0, _⟩ => show 0 + 1 * (y 0).val = (y 0).val; omega
    | ⟨1, _⟩ => show 0 + 1 * (y 1).val = (y 1).val; omega
  rw [hy]
  exact View.read_writes_apply_of_pieces arg16.view f _ _ hL y (hc y)

omit [FloatOps F] in
theorem adeq_read (arg15 : Memref sig .tc .vmem S256x2048 .bf16) (f : BufTy.Contents (Elt F) arg15.view.ty)
    (inb : ∀ a, (![0, 0] : Fin 2 → ℕ) a + S256x2048.size a ≤ S256x2048.size a) :
    View.readAt (Elt F) arg15.view (Rect.unit (s := S256x2048) ![0, 0] S256x2048.size inb).toLoadRect f = arg15.view.read (Elt F) f := by
  funext y
  rw [View.readAt_apply]
  congr 1
  funext k; apply Fin.ext
  match k with
  | ⟨0, _⟩ => show 0 + 1 * (y 0).val = (y 0).val; omega
  | ⟨1, _⟩ => show 0 + 1 * (y 1).val = (y 1).val; omega

omit [FloatOps F] in
theorem cols_read (arg5 : Memref sig .tc .vmem S256x7168 .bf16) (f : BufTy.Contents (Elt F) arg5.view.ty) (k : Fin k0_t2_loop.trips) :
    View.readAt (Elt F) arg5.view (Rect.unit (s := S256x7168) (k0_off35 k) S256x256.size (k0_off35_inb k)).toLoadRect f
      = colsX (arg5.view.read (Elt F) f) k := by
  funext y
  rw [View.readAt_apply]
  unfold colsX
  congr 1
  funext d; apply Fin.ext
  have h0 : k0_off35 k 0 = 0 := by rw [off35_eq]; rfl
  have h1 : k0_off35 k 1 = 256 * k.val := by rw [off35_eq]; rfl
  match d with
  | ⟨0, _⟩ =>
    show k0_off35 k 0 + 1 * (y 0).val = (y 0).val
    omega
  | ⟨1, _⟩ =>
    show k0_off35 k 1 + 1 * (y 1).val = 256 * k.val + (y 1).val
    omega

theorem step2 (𝒱 : Variants) (c : Dev nD) (bd : Option 𝒱.V) (E : Set ℕ) (i : grid0.Coords) (arg1 : Memref sig .tc .smem S16x56 .f32) (harg1 : arg1.IsWhole) (arg2 : Memref sig .tc .vmem S256x2048 .fp8e4m3) (harg2 : arg2.IsWhole) (arg3 : Memref sig .tc .vmem S256x16 .i8) (harg3 : arg3.IsWhole) (arg4 : Memref sig .tc .vmem S2048x7168 .fp8e4m3) (harg4 : arg4.IsWhole) (arg5 : Memref sig .tc .vmem S256x7168 .bf16) (harg5 : arg5.IsWhole) (arg6 : Memref sig .tc .vmem S1x7168 .f32) (harg6 : arg6.IsWhole) (arg7 : Memref sig .tc .hbm S256x7168 .f32) (harg7 : arg7.IsWhole) (arg8 : Memref sig .tc .vmem S1x256 .f32) (harg8 : arg8.IsWhole) (arg9 : Memref sig .tc .vmem S256x7168 .bf16) (harg9 : arg9.IsWhole) (arg10 : Memref sig .tc .vmem S256x256 .f32) (harg10 : arg10.IsWhole) (arg11 : Memref sig .tc .vmem S256x256 .f32) (harg11 : arg11.IsWhole) (arg12 : Memref sig .tc .vmem S256x7168 .fp8e4m3) (harg12 : arg12.IsWhole) (arg13 : Memref sig .tc .vmem S256x7168 .bf16) (harg13 : arg13.IsWhole) (arg14 : Memref sig .tc .vmem S256x128 .f32) (harg14 : arg14.IsWhole) (arg15 : Memref sig .tc .vmem S256x2048 .bf16) (harg15 : arg15.IsWhole) (arg16 : Memref sig .tc .vmem S2048x256 .bf16) (harg16 : arg16.IsWhole) (arg17 : Memref sig .tc .vmem S256x7168 .f32) (harg17 : arg17.IsWhole) (arg18 : Memref sig .tc .vmem S256x256 .f32) (harg18 : arg18.IsWhole) (arg19 : Memref sig .tc .vmem S256x7168 .bf16) (harg19 : arg19.IsWhole) (arg20 : Memref sig .tc .vmem S256x7168 .bf16) (harg20 : arg20.IsWhole) (arg21 : Memref sig .tc .vmem S256x7168 .bf16) (harg21 : arg21.IsWhole) (v275_r0 : DmaSems sig S_) (v184 : FVec F S256x128 .bf16)
    (X_arg1 : BufTy.Contents (Elt F) arg1.view.ty) (X_arg4 : BufTy.Contents (Elt F) arg4.view.ty) (X_arg5 : BufTy.Contents (Elt F) arg5.view.ty) (X_arg15 : BufTy.Contents (Elt F) arg15.view.ty)
    (k : Fin k0_t2_loop.trips) (acc : FVec F S256x128 .f32) (f_arg9 : BufTy.Contents (Elt F) arg9.view.ty) (f_arg16 : BufTy.Contents (Elt F) arg16.view.ty) (f_arg17 : BufTy.Contents (Elt F) arg17.view.ty) :
    (iprop((arg1.view.loc (c : Thread nD τ) ↦[arg1.view.set]{fullShare} X_arg1) ∗ (arg4.view.loc (c : Thread nD τ) ↦[arg4.view.set]{fullShare} X_arg4) ∗ (arg5.view.loc (c : Thread nD τ) ↦[arg5.view.set]{fullShare} X_arg5) ∗ (arg15.view.loc (c : Thread nD τ) ↦[arg15.view.set]{fullShare} X_arg15) ∗ (arg9.view.loc (c : Thread nD τ) ↦[arg9.view.set]{fullShare} f_arg9) ∗ (arg16.view.loc (c : Thread nD τ) ↦[arg16.view.set]{fullShare} f_arg16) ∗ (arg17.view.loc (c : Thread nD τ) ↦[arg17.view.set]{fullShare} f_arg17)) : sProp 𝕄D)
      ⊢ wp frame (wpE (defs₀ (F := F)) 𝒱 (c : Thread nD τ) bd) E (k0_t2_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v275_r0 v184 k acc)
          (fun yld => iprop((arg1.view.loc (c : Thread nD τ) ↦[arg1.view.set]{fullShare} X_arg1) ∗ (arg4.view.loc (c : Thread nD τ) ↦[arg4.view.set]{fullShare} X_arg4) ∗ (arg5.view.loc (c : Thread nD τ) ↦[arg5.view.set]{fullShare} X_arg5) ∗ (arg15.view.loc (c : Thread nD τ) ↦[arg15.view.set]{fullShare} X_arg15)
            ∗ (∃ f, (arg9.view.loc (c : Thread nD τ) ↦[arg9.view.set]{fullShare} f) ∗ ⌜f = arg9.view.writes (Elt F) f_arg9 [⟨Rect.unit (s := S256x7168) (k0_off35 k) S256x256.size (k0_off35_inb k), k0_pay105 (colsX (arg5.view.read (Elt F) X_arg5) k) (arg15.view.read (Elt F) X_arg15) (deqW (arg1.view.read (Elt F) X_arg1) (arg4.view.read (Elt F) X_arg4) k)⟩]⌝)
            ∗ (∃ f, (arg16.view.loc (c : Thread nD τ) ↦[arg16.view.set]{fullShare} f))
            ∗ (∃ f, (arg17.view.loc (c : Thread nD τ) ↦[arg17.view.set]{fullShare} f) ∗ ⌜f = arg17.view.writes (Elt F) f_arg17 [⟨Rect.unit (s := S256x7168) (k0_off35 k) S256x256.size (k0_off35_inb k), k0_pay104 (colsX (arg5.view.read (Elt F) X_arg5) k) (arg15.view.read (Elt F) X_arg15) (deqW (arg1.view.read (Elt F) X_arg1) (arg4.view.read (Elt F) X_arg4) k)⟩]⌝)
            ∗ ⌜yld = k0_pay106 acc (colsX (arg5.view.read (Elt F) X_arg5) k) (arg15.view.read (Elt F) X_arg15) (deqW (arg1.view.read (Elt F) X_arg1) (arg4.view.read (Elt F) X_arg4) k)⌝)) := by
  have hk : k.val < 28 := Nat.lt_of_lt_of_le k.isLt k0_t2_abs.2.1
  unfold k0_t2_body
  iintro ⟨HR_arg1, HR_arg4, HR_arg5, HR_arg15, HW_arg9, HW_arg16, HW_arg17⟩
  sl_exec
  sl_step
  have hv : step2.sl.v707 arg1 arg4 arg16 X_arg1 X_arg4 k = deqW (arg1.view.read (Elt F) X_arg1) (arg4.view.read (Elt F) X_arg4) k := by
    unfold step2.sl.v707
    unfold step2.sl.HW_arg16_32
    refine wt_read arg16 _ _ _ ?_ (View.cover_of_tiledL _ S128x128.size (by sl_kernel_rfl)) _
    dsimp -proj only [step2.sl.r, step2.sl.r_1, step2.sl.r_2, step2.sl.r_3, step2.sl.r_4, step2.sl.r_5, step2.sl.r_6, step2.sl.r_7, step2.sl.r_8, step2.sl.r_9, step2.sl.r_10, step2.sl.r_11, step2.sl.r_12, step2.sl.r_13, step2.sl.r_14, step2.sl.r_15, step2.sl.r_16, step2.sl.r_17, step2.sl.r_18, step2.sl.r_19, step2.sl.r_20, step2.sl.r_21, step2.sl.r_22, step2.sl.r_23, step2.sl.r_24, step2.sl.r_25, step2.sl.r_26, step2.sl.r_27, step2.sl.r_28, step2.sl.r_29, step2.sl.r_30, step2.sl.r_31, step2.sl.r_32, step2.sl.r_33, step2.sl.r_34, step2.sl.r_35, step2.sl.r_36, step2.sl.r_37, step2.sl.r_38, step2.sl.r_39, step2.sl.r_40, step2.sl.r_41, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80]
    repeat' refine List.forall_mem_cons.2 ⟨fun x => tile_ok arg1 arg4 X_arg1 X_arg4 k _ _ (by decide) _ _ _ _ _ _ _ _ _ rfl rfl (by clear hk x; revert k; decide +kernel) (by clear hk x; revert k; decide +kernel) x, ?_⟩
    exact List.forall_mem_nil _
  rw [hv, adeq_read, cols_read]
  isplitl [HR_arg1]; · iexact HR_arg1
  isplitl [HR_arg4]; · iexact HR_arg4
  isplitl [HR_arg5]; · iexact HR_arg5
  isplitl [HR_arg15]; · iexact HR_arg15
  isplitl [HW_arg9]
  · iexists _; isplitl [HW_arg9]; · iexact HW_arg9
    ipureintro
    rfl
  isplitl [HW_arg16]
  · iexists _; iexact HW_arg16
  isplitl [HW_arg17]
  · iexists _; isplitl [HW_arg17]; · iexact HW_arg17
    ipureintro
    rfl
  ipureintro
  rfl

/-- x1 of one block of 256 rows: column `256 k + q` is column `q` of tile `k`. -/
def x1Of (s : Vec F S16x56 .f32) (w : Vec F S2048x7168 .fp8e4m3) (x : Vec F S256x7168 .bf16) (a : Vec F S256x2048 .bf16) :
    S256x7168.Idx → F .bf16 := fun y =>
  k0_pay105 (colsX x ⟨(y 1).val / 256, by
      have h : (y 1).val < 7168 := (y 1).isLt
      show (y 1).val / 256 < 28
      omega⟩) a
    (deqW s w ⟨(y 1).val / 256, by
      have h : (y 1).val < 7168 := (y 1).isLt
      show (y 1).val / 256 < 28
      omega⟩) (ix2 (y 0) (⟨(y 1).val % 256, by omega⟩ : Fin 256))

/-- One more tile stored: the columns known so far grow by 256. -/
theorem x1_grow (arg9 : Memref sig .tc .vmem S256x7168 .bf16) (f : BufTy.Contents (Elt F) arg9.view.ty)
    (s : Vec F S16x56 .f32) (w : Vec F S2048x7168 .fp8e4m3) (x : Vec F S256x7168 .bf16) (a : Vec F S256x2048 .bf16) (k : Fin k0_t2_loop.trips)
    (h : ∀ y : S256x7168.Idx, (y 1).val < 256 * k.val → arg9.view.read (Elt F) f y = x1Of s w x a y) (y : S256x7168.Idx)
    (hy : (y 1).val < 256 * (k.val + 1)) :
    arg9.view.read (Elt F) (arg9.view.writes (Elt F) f [⟨Rect.unit (s := S256x7168) (k0_off35 k) S256x256.size (k0_off35_inb k), k0_pay105 (colsX x k) a (deqW s w k)⟩]) y
      = x1Of s w x a y := by
  by_cases hlt : (y 1).val < 256 * k.val
  · rw [View.read_writes_cons_unit_of_not_mem arg9.view f _ _ [] y (off35_eq k) 1 (Or.inl hlt)]
    exact h y hlt
  · refine (View.read_writes_cons_unit_of_mem arg9.view f (k0_off35_inb k) (k0_pay105 (colsX x k) a (deqW s w k)) [] y
      (ix2 (y 0) (⟨(y 1).val % 256, by omega⟩ : Fin 256)) (off35_eq k) (fun d => ?_)).trans ?_
    · match d with
      | ⟨0, _⟩ => show (y 0).val = 0 + (y 0).val; omega
      | ⟨1, _⟩ => show (y 1).val = 256 * k.val + (y 1).val % 256; omega
    unfold x1Of
    have hk : k = ⟨(y 1).val / 256, by
      have h : (y 1).val < 7168 := (y 1).isLt
      show (y 1).val / 256 < 28
      omega⟩ := Fin.ext (by show k.val = (y 1).val / 256; omega)
    rw [← hk]

set_option warn.classDefReducibility false in
/-- The second loop by its invariant: the stored columns of x1 so far. -/
@[sl_loop] def loop2 (𝒱 : Variants) (c : Dev nD) (bd : Option 𝒱.V) (E : Set ℕ) (i : grid0.Coords) (arg1 : Memref sig .tc .smem S16x56 .f32) (harg1 : arg1.IsWhole) (arg2 : Memref sig .tc .vmem S256x2048 .fp8e4m3) (harg2 : arg2.IsWhole) (arg3 : Memref sig .tc .vmem S256x16 .i8) (harg3 : arg3.IsWhole) (arg4 : Memref sig .tc .vmem S2048x7168 .fp8e4m3) (harg4 : arg4.IsWhole) (arg5 : Memref sig .tc .vmem S256x7168 .bf16) (harg5 : arg5.IsWhole) (arg6 : Memref sig .tc .vmem S1x7168 .f32) (harg6 : arg6.IsWhole) (arg7 : Memref sig .tc .hbm S256x7168 .f32) (harg7 : arg7.IsWhole) (arg8 : Memref sig .tc .vmem S1x256 .f32) (harg8 : arg8.IsWhole) (arg9 : Memref sig .tc .vmem S256x7168 .bf16) (harg9 : arg9.IsWhole) (arg10 : Memref sig .tc .vmem S256x256 .f32) (harg10 : arg10.IsWhole) (arg11 : Memref sig .tc .vmem S256x256 .f32) (harg11 : arg11.IsWhole) (arg12 : Memref sig .tc .vmem S256x7168 .fp8e4m3) (harg12 : arg12.IsWhole) (arg13 : Memref sig .tc .vmem S256x7168 .bf16) (harg13 : arg13.IsWhole) (arg14 : Memref sig .tc .vmem S256x128 .f32) (harg14 : arg14.IsWhole) (arg15 : Memref sig .tc .vmem S256x2048 .bf16) (harg15 : arg15.IsWhole) (arg16 : Memref sig .tc .vmem S2048x256 .bf16) (harg16 : arg16.IsWhole) (arg17 : Memref sig .tc .vmem S256x7168 .f32) (harg17 : arg17.IsWhole) (arg18 : Memref sig .tc .vmem S256x256 .f32) (harg18 : arg18.IsWhole) (arg19 : Memref sig .tc .vmem S256x7168 .bf16) (harg19 : arg19.IsWhole) (arg20 : Memref sig .tc .vmem S256x7168 .bf16) (harg20 : arg20.IsWhole) (arg21 : Memref sig .tc .vmem S256x7168 .bf16) (harg21 : arg21.IsWhole) (v275_r0 : DmaSems sig S_) (v184 : FVec F S256x128 .bf16)
    (X_arg1 : BufTy.Contents (Elt F) arg1.view.ty) (X_arg4 : BufTy.Contents (Elt F) arg4.view.ty) (X_arg5 : BufTy.Contents (Elt F) arg5.view.ty) (X_arg15 : BufTy.Contents (Elt F) arg15.view.ty) (init : FVec F S256x128 .f32) :
    LoopInvTy_k0_t2 (F := F) Unit ℕ (UR sig nD τ × Counters) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v275_r0 v184 init where
  inv k _ := iprop((arg1.view.loc (c : Thread nD τ) ↦[arg1.view.set]{fullShare} X_arg1) ∗ (arg4.view.loc (c : Thread nD τ) ↦[arg4.view.set]{fullShare} X_arg4) ∗ (arg5.view.loc (c : Thread nD τ) ↦[arg5.view.set]{fullShare} X_arg5) ∗ (arg15.view.loc (c : Thread nD τ) ↦[arg15.view.set]{fullShare} X_arg15)
    ∗ (∃ f, (arg9.view.loc (c : Thread nD τ) ↦[arg9.view.set]{fullShare} f) ∗ ⌜∀ y : S256x7168.Idx, (y 1).val < 256 * k → arg9.view.read (Elt F) f y = x1Of (arg1.view.read (Elt F) X_arg1) (arg4.view.read (Elt F) X_arg4) (arg5.view.read (Elt F) X_arg5) (arg15.view.read (Elt F) X_arg15) y⌝)
    ∗ (∃ f, (arg16.view.loc (c : Thread nD τ) ↦[arg16.view.set]{fullShare} f))
    ∗ (∃ f, (arg17.view.loc (c : Thread nD τ) ↦[arg17.view.set]{fullShare} f)))
  step k acc := by
    iintro ⟨HR_arg1, HR_arg4, HR_arg5, HR_arg15, ⟨%f_arg9, HW_arg9, %h_arg9⟩, ⟨%f_arg16, HW_arg16⟩, ⟨%f_arg17, HW_arg17⟩⟩
    iapply (wp_wand_r Idealize.ShloMosaic.frame (wpE (defs₀ (F := F)) 𝒱 (c : Thread nD τ) bd) E)
    isplitl [HR_arg1 HR_arg4 HR_arg5 HR_arg15 HW_arg9 HW_arg16 HW_arg17]
    · iapply (step2 (F := F) 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v275_r0 v184 X_arg1 X_arg4 X_arg5 X_arg15 k acc f_arg9 f_arg16 f_arg17)
      isplitl [HR_arg1]; · iexact HR_arg1
      isplitl [HR_arg4]; · iexact HR_arg4
      isplitl [HR_arg5]; · iexact HR_arg5
      isplitl [HR_arg15]; · iexact HR_arg15
      isplitl [HW_arg9]; · iexact HW_arg9
      isplitl [HW_arg16]; · iexact HW_arg16
      iexact HW_arg17
    · iintro %yld ⟨HR_arg1, HR_arg4, HR_arg5, HR_arg15, ⟨%g_arg9, HW_arg9, %e_arg9⟩, ⟨%g_arg16, HW_arg16⟩, ⟨%g_arg17, HW_arg17, %e_arg17⟩, %h_res⟩
      isplitl [HR_arg1]; · iexact HR_arg1
      isplitl [HR_arg4]; · iexact HR_arg4
      isplitl [HR_arg5]; · iexact HR_arg5
      isplitl [HR_arg15]; · iexact HR_arg15
      isplitl [HW_arg9]
      · iexists _; isplitl [HW_arg9]; · iexact HW_arg9
        ipureintro; rw [e_arg9]; exact x1_grow arg9 f_arg9 _ _ _ _ k h_arg9
      isplitl [HW_arg16]
      · iexists _; iexact HW_arg16
      iexists _; iexact HW_arg17

/-- One trip of the third loop: what it reads it leaves, what it writes holds something. -/
theorem step3 (𝒱 : Variants) (c : Dev nD) (bd : Option 𝒱.V) (E : Set ℕ) (i : grid0.Coords) (arg1 : Memref sig .tc .smem S16x56 .f32) (harg1 : arg1.IsWhole) (arg2 : Memref sig .tc .vmem S256x2048 .fp8e4m3) (harg2 : arg2.IsWhole) (arg3 : Memref sig .tc .vmem S256x16 .i8) (harg3 : arg3.IsWhole) (arg4 : Memref sig .tc .vmem S2048x7168 .fp8e4m3) (harg4 : arg4.IsWhole) (arg5 : Memref sig .tc .vmem S256x7168 .bf16) (harg5 : arg5.IsWhole) (arg6 : Memref sig .tc .vmem S1x7168 .f32) (harg6 : arg6.IsWhole) (arg7 : Memref sig .tc .hbm S256x7168 .f32) (harg7 : arg7.IsWhole) (arg8 : Memref sig .tc .vmem S1x256 .f32) (harg8 : arg8.IsWhole) (arg9 : Memref sig .tc .vmem S256x7168 .bf16) (harg9 : arg9.IsWhole) (arg10 : Memref sig .tc .vmem S256x256 .f32) (harg10 : arg10.IsWhole) (arg11 : Memref sig .tc .vmem S256x256 .f32) (harg11 : arg11.IsWhole) (arg12 : Memref sig .tc .vmem S256x7168 .fp8e4m3) (harg12 : arg12.IsWhole) (arg13 : Memref sig .tc .vmem S256x7168 .bf16) (harg13 : arg13.IsWhole) (arg14 : Memref sig .tc .vmem S256x128 .f32) (harg14 : arg14.IsWhole) (arg15 : Memref sig .tc .vmem S256x2048 .bf16) (harg15 : arg15.IsWhole) (arg16 : Memref sig .tc .vmem S2048x256 .bf16) (harg16 : arg16.IsWhole) (arg17 : Memref sig .tc .vmem S256x7168 .f32) (harg17 : arg17.IsWhole) (arg18 : Memref sig .tc .vmem S256x256 .f32) (harg18 : arg18.IsWhole) (arg19 : Memref sig .tc .vmem S256x7168 .bf16) (harg19 : arg19.IsWhole) (arg20 : Memref sig .tc .vmem S256x7168 .bf16) (harg20 : arg20.IsWhole) (arg21 : Memref sig .tc .vmem S256x7168 .bf16) (harg21 : arg21.IsWhole) (v275_r0 : DmaSems sig S_) (v219 : FVec F S256x1 .f32) (v221 : IVec S256x128 32)
    (X_arg6 : BufTy.Contents (Elt F) arg6.view.ty) (X_arg17 : BufTy.Contents (Elt F) arg17.view.ty) (X_arg19 : BufTy.Contents (Elt F) arg19.view.ty) (X_arg20 : BufTy.Contents (Elt F) arg20.view.ty) (X_arg21 : BufTy.Contents (Elt F) arg21.view.ty)
    (k : Fin k0_t3_loop.trips) (acc : FVec F S256x128 .f32 × FVec F S256x128 .f32) (f_arg10 : BufTy.Contents (Elt F) arg10.view.ty) (f_arg12 : BufTy.Contents (Elt F) arg12.view.ty) (f_arg13 : BufTy.Contents (Elt F) arg13.view.ty) :
    (iprop((arg6.view.loc (c : Thread nD τ) ↦[arg6.view.set]{fullShare} X_arg6) ∗ (arg17.view.loc (c : Thread nD τ) ↦[arg17.view.set]{fullShare} X_arg17) ∗ (arg19.view.loc (c : Thread nD τ) ↦[arg19.view.set]{fullShare} X_arg19) ∗ (arg20.view.loc (c : Thread nD τ) ↦[arg20.view.set]{fullShare} X_arg20) ∗ (arg21.view.loc (c : Thread nD τ) ↦[arg21.view.set]{fullShare} X_arg21) ∗ (arg10.view.loc (c : Thread nD τ) ↦[arg10.view.set]{fullShare} f_arg10) ∗ (arg12.view.loc (c : Thread nD τ) ↦[arg12.view.set]{fullShare} f_arg12) ∗ (arg13.view.loc (c : Thread nD τ) ↦[arg13.view.set]{fullShare} f_arg13)) : sProp 𝕄D)
      ⊢ wp frame (wpE (defs₀ (F := F)) 𝒱 (c : Thread nD τ) bd) E (k0_t3_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v275_r0 v219 v221 k acc)
          (fun _ => iprop((arg6.view.loc (c : Thread nD τ) ↦[arg6.view.set]{fullShare} X_arg6) ∗ (arg17.view.loc (c : Thread nD τ) ↦[arg17.view.set]{fullShare} X_arg17) ∗ (arg19.view.loc (c : Thread nD τ) ↦[arg19.view.set]{fullShare} X_arg19) ∗ (arg20.view.loc (c : Thread nD τ) ↦[arg20.view.set]{fullShare} X_arg20) ∗ (arg21.view.loc (c : Thread nD τ) ↦[arg21.view.set]{fullShare} X_arg21) ∗ (∃ f, (arg10.view.loc (c : Thread nD τ) ↦[arg10.view.set]{fullShare} f)) ∗ (∃ f, (arg12.view.loc (c : Thread nD τ) ↦[arg12.view.set]{fullShare} f)) ∗ (∃ f, (arg13.view.loc (c : Thread nD τ) ↦[arg13.view.set]{fullShare} f)))) := by
  have hk : k.val < 28 := Nat.lt_of_lt_of_le k.isLt k0_t3_abs.2.1
  unfold k0_t3_body
  iintro ⟨HR_arg6, HR_arg17, HR_arg19, HR_arg20, HR_arg21, HW_arg10, HW_arg12, HW_arg13⟩
  sl_exec
  sl_step
  isplitl [HR_arg6]; · iexact HR_arg6
  isplitl [HR_arg17]; · iexact HR_arg17
  isplitl [HR_arg19]; · iexact HR_arg19
  isplitl [HR_arg20]; · iexact HR_arg20
  isplitl [HR_arg21]; · iexact HR_arg21
  isplitl [HW_arg10]; · iexists _; iexact HW_arg10
  isplitl [HW_arg12]; · iexists _; iexact HW_arg12
  iexists _; iexact HW_arg13

set_option warn.classDefReducibility false in
/-- The third loop by its invariant. -/
@[sl_loop] def loop3 (𝒱 : Variants) (c : Dev nD) (bd : Option 𝒱.V) (E : Set ℕ) (i : grid0.Coords) (arg1 : Memref sig .tc .smem S16x56 .f32) (harg1 : arg1.IsWhole) (arg2 : Memref sig .tc .vmem S256x2048 .fp8e4m3) (harg2 : arg2.IsWhole) (arg3 : Memref sig .tc .vmem S256x16 .i8) (harg3 : arg3.IsWhole) (arg4 : Memref sig .tc .vmem S2048x7168 .fp8e4m3) (harg4 : arg4.IsWhole) (arg5 : Memref sig .tc .vmem S256x7168 .bf16) (harg5 : arg5.IsWhole) (arg6 : Memref sig .tc .vmem S1x7168 .f32) (harg6 : arg6.IsWhole) (arg7 : Memref sig .tc .hbm S256x7168 .f32) (harg7 : arg7.IsWhole) (arg8 : Memref sig .tc .vmem S1x256 .f32) (harg8 : arg8.IsWhole) (arg9 : Memref sig .tc .vmem S256x7168 .bf16) (harg9 : arg9.IsWhole) (arg10 : Memref sig .tc .vmem S256x256 .f32) (harg10 : arg10.IsWhole) (arg11 : Memref sig .tc .vmem S256x256 .f32) (harg11 : arg11.IsWhole) (arg12 : Memref sig .tc .vmem S256x7168 .fp8e4m3) (harg12 : arg12.IsWhole) (arg13 : Memref sig .tc .vmem S256x7168 .bf16) (harg13 : arg13.IsWhole) (arg14 : Memref sig .tc .vmem S256x128 .f32) (harg14 : arg14.IsWhole) (arg15 : Memref sig .tc .vmem S256x2048 .bf16) (harg15 : arg15.IsWhole) (arg16 : Memref sig .tc .vmem S2048x256 .bf16) (harg16 : arg16.IsWhole) (arg17 : Memref sig .tc .vmem S256x7168 .f32) (harg17 : arg17.IsWhole) (arg18 : Memref sig .tc .vmem S256x256 .f32) (harg18 : arg18.IsWhole) (arg19 : Memref sig .tc .vmem S256x7168 .bf16) (harg19 : arg19.IsWhole) (arg20 : Memref sig .tc .vmem S256x7168 .bf16) (harg20 : arg20.IsWhole) (arg21 : Memref sig .tc .vmem S256x7168 .bf16) (harg21 : arg21.IsWhole) (v275_r0 : DmaSems sig S_) (v219 : FVec F S256x1 .f32) (v221 : IVec S256x128 32)
    (X_arg6 : BufTy.Contents (Elt F) arg6.view.ty) (X_arg17 : BufTy.Contents (Elt F) arg17.view.ty) (X_arg19 : BufTy.Contents (Elt F) arg19.view.ty) (X_arg20 : BufTy.Contents (Elt F) arg20.view.ty) (X_arg21 : BufTy.Contents (Elt F) arg21.view.ty) (init : FVec F S256x128 .f32 × FVec F S256x128 .f32) :
    LoopInvTy_k0_t3 (F := F) Unit ℕ (UR sig nD τ × Counters) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v275_r0 v219 v221 init where
  inv _ _ := iprop((arg6.view.loc (c : Thread nD τ) ↦[arg6.view.set]{fullShare} X_arg6) ∗ (arg17.view.loc (c : Thread nD τ) ↦[arg17.view.set]{fullShare} X_arg17) ∗ (arg19.view.loc (c : Thread nD τ) ↦[arg19.view.set]{fullShare} X_arg19) ∗ (arg20.view.loc (c : Thread nD τ) ↦[arg20.view.set]{fullShare} X_arg20) ∗ (arg21.view.loc (c : Thread nD τ) ↦[arg21.view.set]{fullShare} X_arg21) ∗ (∃ f, (arg10.view.loc (c : Thread nD τ) ↦[arg10.view.set]{fullShare} f)) ∗ (∃ f, (arg12.view.loc (c : Thread nD τ) ↦[arg12.view.set]{fullShare} f)) ∗ (∃ f, (arg13.view.loc (c : Thread nD τ) ↦[arg13.view.set]{fullShare} f)))
  step k acc := by
    iintro ⟨HR_arg6, HR_arg17, HR_arg19, HR_arg20, HR_arg21, ⟨%f_arg10, HW_arg10⟩, ⟨%f_arg12, HW_arg12⟩, ⟨%f_arg13, HW_arg13⟩⟩
    iapply (step3 (F := F) 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v275_r0 v219 v221 X_arg6 X_arg17 X_arg19 X_arg20 X_arg21 k acc f_arg10 f_arg12 f_arg13)
    isplitl [HR_arg6]; · iexact HR_arg6
    isplitl [HR_arg17]; · iexact HR_arg17
    isplitl [HR_arg19]; · iexact HR_arg19
    isplitl [HR_arg20]; · iexact HR_arg20
    isplitl [HR_arg21]; · iexact HR_arg21
    isplitl [HW_arg10]; · iexact HW_arg10
    isplitl [HW_arg12]; · iexact HW_arg12
    iexact HW_arg13

/-- Scratch buffer 0. -/
abbrev sc0 : Memref sig .tc .vmem S256x2048 .bf16 := Memref.whole cc0_scratch0
/-- Scratch buffer 1. -/
abbrev sc1 : Memref sig .tc .vmem S2048x256 .bf16 := Memref.whole cc0_scratch1
/-- Scratch buffer 2. -/
abbrev sc2 : Memref sig .tc .vmem S256x7168 .f32 := Memref.whole cc0_scratch2
/-- Scratch buffer 3. -/
abbrev sc3 : Memref sig .tc .vmem S256x256 .f32 := Memref.whole cc0_scratch3
/-- Scratch buffer 4. -/
abbrev sc4 : Memref sig .tc .vmem S256x7168 .bf16 := Memref.whole cc0_scratch4
/-- Scratch buffer 5. -/
abbrev sc5 : Memref sig .tc .vmem S256x7168 .bf16 := Memref.whole cc0_scratch5
/-- Scratch buffer 6. -/
abbrev sc6 : Memref sig .tc .vmem S256x7168 .bf16 := Memref.whole cc0_scratch6
/-- The router weights, left in the slow memory. -/
abbrev hbM : Memref sig .tc .hbm S256x7168 .f32 := Memref.whole main_arg6
/-- A memref's buffer on core `c` held whole at `f`. -/
abbrev hbPt (c : Dev nD) {sp : Space} {S : Shape} {e : EltTy} (M : Memref sig .tc sp S e) (f : Buf (Elt F) (M.view.loc (c : Thread nD τ))) : sProp 𝕄D :=
  M.view.loc (c : Thread nD τ) ↦{fullShare} f

/-- The scale a byte stands for: the byte moved to the exponent field. -/
def byteScale {S : Shape} (b : Vec F S .i8) : FVec F S .bf16 :=
  truncf .bf16 (bitcastToFloat .f32 (shli (extui 32 b natLt_8_32) (broadcast S 23#32))) bitsLt_bf16_f32

/-- The dequantised attention block: each code times the scale of its 128 columns. -/
def adeqOf (a : Vec F S256x2048 .fp8e4m3) (b : Vec F S256x16 .i8) : S256x2048.Idx → F .bf16 := fun y =>
  FloatOps.mulf (FloatOps.extf .bf16 bitsLt_fp8e4m3_bf16 (a y))
    (byteScale b (ix2 (y 0) (⟨(y 1).val / 128, by
      have h : (y 1).val < 2048 := (y 1).isLt
      omega⟩ : Fin 16)))

/-- One stored tile of the dequantised attention block. -/
theorem atile_ok (arg2 : Memref sig .tc .vmem S256x2048 .fp8e4m3) (arg3 : Memref sig .tc .vmem S256x16 .i8)
    (X2 : BufTy.Contents (Elt F) arg2.view.ty) (X3 : BufTy.Contents (Elt F) arg3.view.ty)
    (b : ℕ) (inb : ∀ x, (![0, b] : Fin 2 → ℕ) x + S256x128.size x ≤ S256x2048.size x)
    (off : Fin 2 → ℕ) (inb3 : ∀ x, off x + S256x1.size x ≤ S256x16.size x)
    (h1 : FTy.bits .fp8e4m3 < FTy.bits .bf16) (h2 : FTy.bits .bf16 < FTy.bits .f32) (h3 : S256x1.Broadcasts S256x128) (h4 : S256x128.ShapeCasts S256x128) (h5 : 8 < 32)
    (hb : b % 128 = 0) (hoff : off = ![0, b / 128]) (x : S256x128.Idx) :
    shapeCast S256x128 (mulf (extf .bf16 (View.readAt (Elt F) arg2.view (Rect.unit (s := S256x2048) ![0, b] S256x128.size inb).toLoadRect X2) h1)
        (broadcastTo S256x128 (truncf .bf16 (bitcastToFloat .f32 (shli (extui 32 (View.readAt (Elt F) arg3.view (Rect.unit (s := S256x16) off S256x1.size inb3).toLoadRect X3) h5) (broadcast S256x1 23#32))) h2) h3)) h4 x
      = adeqOf (arg2.view.read (Elt F) X2) (arg3.view.read (Elt F) X3) ((Rect.unit (s := S256x2048) ![0, b] S256x128.size inb).emb x) := by
  have hx0 : (x 0).val < 256 := (x 0).isLt
  have hx1 : (x 1).val < 128 := (x 1).isLt
  subst hoff
  have e0 : ((Rect.unit (s := S256x2048) ![0, b] S256x128.size inb).emb x 0).val = (x 0).val := by
    show 0 + 1 * (x 0).val = _; omega
  have e1 : ((Rect.unit (s := S256x2048) ![0, b] S256x128.size inb).emb x 1).val = b + (x 1).val := by
    show b + 1 * (x 1).val = _; omega
  unfold adeqOf byteScale
  pointwise
  rw [View.readAt_apply, View.readAt_apply]
  refine congrArg₂ FloatOps.mulf rfl (congrArg (fun z => FloatOps.truncf .bf16 bitsLt_bf16_f32 (FloatOps.ofBits .f32 (IntOp.shli ArithUnit.vector (BitVec.setWidth 32 (arg3.view.read (Elt F) X3 z)) 23#32))) ?_)
  funext d; apply Fin.ext
  match d with
  | ⟨0, _⟩ => show 0 + 1 * (x 0).val = (((Rect.unit (s := S256x2048) ![0, b] S256x128.size inb).emb x) 0).val; omega
  | ⟨1, _⟩ => show b / 128 + 1 * 0 = (((Rect.unit (s := S256x2048) ![0, b] S256x128.size inb).emb x) 1).val / 128; omega

omit [FloatOps F] in
/-- The attention block read back whole once tiles that cover it and agree with `g` are stored. -/
theorem at_read (f : BufTy.Contents (Elt F) sc0.view.ty) (L : List (View.Piece (Elt F) S256x2048 .bf16))
    (g : S256x2048.Idx → F .bf16) (hL : ∀ p ∈ L, ∀ x, p.2 x = g (p.1.emb x))
    (hc : ∀ y, ∃ p ∈ L, y ∈ p.1.set) : sc0.view.read (Elt F) (sc0.view.writes (Elt F) f L) = g :=
  funext fun y => View.read_writes_apply_of_pieces sc0.view f g L hL y (hc y)

/-- The first grid point: the body runs to its return, x1 stored, everything else it writes holding something. -/
theorem kernelFirst (c : Dev nD) (i : grid0.Coords) (arg1 : Memref sig .tc .smem S16x56 .f32) (harg1 : arg1.IsWhole) (arg2 : Memref sig .tc .vmem S256x2048 .fp8e4m3) (harg2 : arg2.IsWhole) (arg3 : Memref sig .tc .vmem S256x16 .i8) (harg3 : arg3.IsWhole) (arg4 : Memref sig .tc .vmem S2048x7168 .fp8e4m3) (harg4 : arg4.IsWhole) (arg5 : Memref sig .tc .vmem S256x7168 .bf16) (harg5 : arg5.IsWhole) (arg6 : Memref sig .tc .vmem S1x7168 .f32) (harg6 : arg6.IsWhole) (arg8 : Memref sig .tc .vmem S1x256 .f32) (harg8 : arg8.IsWhole) (arg9 : Memref sig .tc .vmem S256x7168 .bf16) (harg9 : arg9.IsWhole) (arg10 : Memref sig .tc .vmem S256x256 .f32) (harg10 : arg10.IsWhole) (arg11 : Memref sig .tc .vmem S256x256 .f32) (harg11 : arg11.IsWhole) (arg12 : Memref sig .tc .vmem S256x7168 .fp8e4m3) (harg12 : arg12.IsWhole) (arg13 : Memref sig .tc .vmem S256x7168 .bf16) (harg13 : arg13.IsWhole) (arg14 : Memref sig .tc .vmem S256x128 .f32) (harg14 : arg14.IsWhole) (hc0 : k0_cond1 i = 1#1)
    (x1 : Vec F S16x56 .f32) (x2 : Vec F S256x2048 .fp8e4m3) (x3 : Vec F S256x16 .i8) (x4 : Vec F S2048x7168 .fp8e4m3) (x5 : Vec F S256x7168 .bf16) (x6 : Vec F S1x7168 .f32) (x8 : Vec F S1x256 .f32) (fh : Buf (Elt F) (hbM.view.loc (c : Thread nD τ))) (W : Waits sig Unit) (K : PUnit → sProp 𝕄D) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg8 fullShare x8 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d) ∗ (∃ d, owns (c : Thread nD τ) sc4 fullShare d) ∗ (∃ d, owns (c : Thread nD τ) sc5 fullShare d) ∗ (∃ d, owns (c : Thread nD τ) sc6 fullShare d) ∗ semVal ((c : Thread nD τ), SemLoc.dma cc0_scoped0.sem) 0 ∗ hbPt c hbM fh ∗ owes (c : Thread nD τ) 0 W
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg8 fullShare x8 ∗ owns (c : Thread nD τ) arg9 fullShare (x1Of x1 x4 x5 (adeqOf x2 x3)) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d) ∗ (∃ d, owns (c : Thread nD τ) sc4 fullShare d) ∗ (∃ d, owns (c : Thread nD τ) sc5 fullShare d) ∗ (∃ d, owns (c : Thread nD τ) sc6 fullShare d) ∗ semVal ((c : Thread nD τ), SemLoc.dma cc0_scoped0.sem) 0 ∗ hbPt c hbM fh ∗ ∃ W', owes (c : Thread nD τ) 0 W') -∗ K ⟨⟩))
      ⊢ wp frame (wpE (defs₀ (F := F)) Variants.none (c : Thread nD τ) none) Set.univ
          (cc0_proj (F := F) i arg1 harg1 arg2 harg2 arg3 harg3 arg4 harg4 arg5 harg5 arg6 harg6 hbM (Memref.isWhole_whole _) arg8 harg8 arg9 harg9 arg10 harg10 arg11 harg11 arg12 harg12 arg13 harg13 arg14 harg14 sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) cc0_scoped0) K := by
  simp only [cc0_proj_eq_skeleton]; unfold cc0_proj_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton]
  unfold owns
  iintro ⟨⟨%f1, %h1, H1⟩, ⟨%f2, %h2, H2⟩, ⟨%f3, %h3, H3⟩, ⟨%f4, %h4, H4⟩, ⟨%f5, %h5, H5⟩, ⟨%f6, %h6, H6⟩, ⟨%f8, %h8, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, Hq, Hh, HW, Hk⟩
  sl_exec (disch := first | sl_exact hc0)
  sl_step
  iapply Hk
  isplitl [H1]
  · iexists _; isplitr; swap; · iexact H1
    ipureintro; exact h1
  isplitl [H2]
  · iexists _; isplitr; swap; · iexact H2
    ipureintro; exact h2
  isplitl [H3]
  · iexists _; isplitr; swap; · iexact H3
    ipureintro; exact h3
  isplitl [H4]
  · iexists _; isplitr; swap; · iexact H4
    ipureintro; exact h4
  isplitl [H5]
  · iexists _; isplitr; swap; · iexact H5
    ipureintro; exact h5
  isplitl [H6]
  · iexists _; isplitr; swap; · iexact H6
    ipureintro; exact h6
  isplitl [H8]
  · iexists _; isplitr; swap; · iexact H8
    ipureintro; exact h8
  isplitl [H9]
  · iexists _; isplitr; swap; · iexact H9
    ipureintro
    have e : sc0.view.read (Elt F) (sc0.view.writes (Elt F) sc0.view.junk (kernelFirst.sl.HS0_16 c arg2 arg3 f2 f3)) = adeqOf (arg2.view.read (Elt F) f2) (arg3.view.read (Elt F) f3) := by
      unfold kernelFirst.sl.HS0_16
      refine at_read _ _ _ ?_ (View.cover_of_tiledL _ S256x128.size (by sl_kernel_rfl))
      dsimp -proj only [kernelFirst.sl.r, kernelFirst.sl.r_1, kernelFirst.sl.r_2, kernelFirst.sl.r_3, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100]
      repeat' refine List.forall_mem_cons.2 ⟨fun x => atile_ok arg2 arg3 f2 f3 _ (by decide) _ _ _ _ _ _ _ (by decide) rfl x, ?_⟩
      exact List.forall_mem_nil _
    funext y
    refine (hL15 y (y 1).isLt).trans ?_
    rw [e, h1, h2, h3, h4, h5]
  isplitl [H10]
  · iexists _, _; isplitr; swap; · iexact H10
    ipureintro; rfl
  isplitl [H11]
  · iexists _, _; isplitr; swap; · iexact H11
    ipureintro; rfl
  isplitl [H12]
  · iexists _, _; isplitr; swap; · iexact H12
    ipureintro; rfl
  isplitl [H13]
  · iexists _, _; isplitr; swap; · iexact H13
    ipureintro; rfl
  isplitl [H14]
  · iexists _, _; isplitr; swap; · iexact H14
    ipureintro; rfl
  isplitl [HS0]
  · iexists _, _; isplitr; swap; · iexact HS0
    ipureintro; rfl
  isplitl [HS1]
  · iexists _, _; isplitr; swap; · iexact HS1
    ipureintro; rfl
  isplitl [HS2]
  · iexists _, _; isplitr; swap; · iexact HS2
    ipureintro; rfl
  isplitl [HS3]
  · iexists _, _; isplitr; swap; · iexact HS3
    ipureintro; rfl
  isplitl [HS4]
  · iexists _, _; isplitr; swap; · iexact HS4
    ipureintro; rfl
  isplitl [HS5]
  · iexists _, _; isplitr; swap; · iexact HS5
    ipureintro; rfl
  isplitl [HS6]
  · iexists _, _; isplitr; swap; · iexact HS6
    ipureintro; rfl
  isplitl [Hq]; · iexact Hq
  isplitl [Hh]; · iexact Hh
  iexists _; iexact HW

/-- A later grid point: the body runs to its return, x1 stored, everything else it writes holding something. -/
theorem kernelLater (c : Dev nD) (i : grid0.Coords) (arg1 : Memref sig .tc .smem S16x56 .f32) (harg1 : arg1.IsWhole) (arg2 : Memref sig .tc .vmem S256x2048 .fp8e4m3) (harg2 : arg2.IsWhole) (arg3 : Memref sig .tc .vmem S256x16 .i8) (harg3 : arg3.IsWhole) (arg4 : Memref sig .tc .vmem S2048x7168 .fp8e4m3) (harg4 : arg4.IsWhole) (arg5 : Memref sig .tc .vmem S256x7168 .bf16) (harg5 : arg5.IsWhole) (arg6 : Memref sig .tc .vmem S1x7168 .f32) (harg6 : arg6.IsWhole) (arg8 : Memref sig .tc .vmem S1x256 .f32) (harg8 : arg8.IsWhole) (arg9 : Memref sig .tc .vmem S256x7168 .bf16) (harg9 : arg9.IsWhole) (arg10 : Memref sig .tc .vmem S256x256 .f32) (harg10 : arg10.IsWhole) (arg11 : Memref sig .tc .vmem S256x256 .f32) (harg11 : arg11.IsWhole) (arg12 : Memref sig .tc .vmem S256x7168 .fp8e4m3) (harg12 : arg12.IsWhole) (arg13 : Memref sig .tc .vmem S256x7168 .bf16) (harg13 : arg13.IsWhole) (arg14 : Memref sig .tc .vmem S256x128 .f32) (harg14 : arg14.IsWhole) (hc0 : ¬k0_cond1 i = 1#1)
    (x1 : Vec F S16x56 .f32) (x2 : Vec F S256x2048 .fp8e4m3) (x3 : Vec F S256x16 .i8) (x4 : Vec F S2048x7168 .fp8e4m3) (x5 : Vec F S256x7168 .bf16) (x6 : Vec F S1x7168 .f32) (x8 : Vec F S1x256 .f32) (fh : Buf (Elt F) (hbM.view.loc (c : Thread nD τ))) (W : Waits sig Unit) (K : PUnit → sProp 𝕄D) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg8 fullShare x8 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d) ∗ (∃ d, owns (c : Thread nD τ) sc4 fullShare d) ∗ (∃ d, owns (c : Thread nD τ) sc5 fullShare d) ∗ (∃ d, owns (c : Thread nD τ) sc6 fullShare d) ∗ semVal ((c : Thread nD τ), SemLoc.dma cc0_scoped0.sem) 0 ∗ hbPt c hbM fh ∗ owes (c : Thread nD τ) 0 W
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg8 fullShare x8 ∗ owns (c : Thread nD τ) arg9 fullShare (x1Of x1 x4 x5 (adeqOf x2 x3)) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d) ∗ (∃ d, owns (c : Thread nD τ) sc4 fullShare d) ∗ (∃ d, owns (c : Thread nD τ) sc5 fullShare d) ∗ (∃ d, owns (c : Thread nD τ) sc6 fullShare d) ∗ semVal ((c : Thread nD τ), SemLoc.dma cc0_scoped0.sem) 0 ∗ hbPt c hbM fh ∗ ∃ W', owes (c : Thread nD τ) 0 W') -∗ K ⟨⟩))
      ⊢ wp frame (wpE (defs₀ (F := F)) Variants.none (c : Thread nD τ) none) Set.univ
          (cc0_proj (F := F) i arg1 harg1 arg2 harg2 arg3 harg3 arg4 harg4 arg5 harg5 arg6 harg6 hbM (Memref.isWhole_whole _) arg8 harg8 arg9 harg9 arg10 harg10 arg11 harg11 arg12 harg12 arg13 harg13 arg14 harg14 sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) cc0_scoped0) K := by
  simp only [cc0_proj_eq_skeleton]; unfold cc0_proj_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton]
  unfold owns
  iintro ⟨⟨%f1, %h1, H1⟩, ⟨%f2, %h2, H2⟩, ⟨%f3, %h3, H3⟩, ⟨%f4, %h4, H4⟩, ⟨%f5, %h5, H5⟩, ⟨%f6, %h6, H6⟩, ⟨%f8, %h8, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, Hq, Hh, HW, Hk⟩
  sl_exec (disch := first | sl_exact hc0)
  sl_step
  iapply Hk
  isplitl [H1]
  · iexists _; isplitr; swap; · iexact H1
    ipureintro; exact h1
  isplitl [H2]
  · iexists _; isplitr; swap; · iexact H2
    ipureintro; exact h2
  isplitl [H3]
  · iexists _; isplitr; swap; · iexact H3
    ipureintro; exact h3
  isplitl [H4]
  · iexists _; isplitr; swap; · iexact H4
    ipureintro; exact h4
  isplitl [H5]
  · iexists _; isplitr; swap; · iexact H5
    ipureintro; exact h5
  isplitl [H6]
  · iexists _; isplitr; swap; · iexact H6
    ipureintro; exact h6
  isplitl [H8]
  · iexists _; isplitr; swap; · iexact H8
    ipureintro; exact h8
  isplitl [H9]
  · iexists _; isplitr; swap; · iexact H9
    ipureintro
    have e : sc0.view.read (Elt F) (sc0.view.writes (Elt F) sc0.view.junk (kernelLater.sl.HS0_16 c arg2 arg3 f2 f3)) = adeqOf (arg2.view.read (Elt F) f2) (arg3.view.read (Elt F) f3) := by
      unfold kernelLater.sl.HS0_16
      refine at_read _ _ _ ?_ (View.cover_of_tiledL _ S256x128.size (by sl_kernel_rfl))
      dsimp -proj only [kernelLater.sl.r, kernelLater.sl.r_1, kernelLater.sl.r_2, kernelLater.sl.r_3, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100]
      repeat' refine List.forall_mem_cons.2 ⟨fun x => atile_ok arg2 arg3 f2 f3 _ (by decide) _ _ _ _ _ _ _ (by decide) rfl x, ?_⟩
      exact List.forall_mem_nil _
    funext y
    refine (hL5 y (y 1).isLt).trans ?_
    rw [e, h1, h2, h3, h4, h5]
  isplitl [H10]
  · iexists _, _; isplitr; swap; · iexact H10
    ipureintro; rfl
  isplitl [H11]
  · iexists _, _; isplitr; swap; · iexact H11
    ipureintro; rfl
  isplitl [H12]
  · iexists _, _; isplitr; swap; · iexact H12
    ipureintro; rfl
  isplitl [H13]
  · iexists _, _; isplitr; swap; · iexact H13
    ipureintro; rfl
  isplitl [H14]
  · iexists _, _; isplitr; swap; · iexact H14
    ipureintro; rfl
  isplitl [HS0]
  · iexists _, _; isplitr; swap; · iexact HS0
    ipureintro; rfl
  isplitl [HS1]
  · iexists _, _; isplitr; swap; · iexact HS1
    ipureintro; rfl
  isplitl [HS2]
  · iexists _, _; isplitr; swap; · iexact HS2
    ipureintro; rfl
  isplitl [HS3]
  · iexists _, _; isplitr; swap; · iexact HS3
    ipureintro; rfl
  isplitl [HS4]
  · iexists _, _; isplitr; swap; · iexact HS4
    ipureintro; rfl
  isplitl [HS5]
  · iexists _, _; isplitr; swap; · iexact HS5
    ipureintro; rfl
  isplitl [HS6]
  · iexists _, _; isplitr; swap; · iexact HS6
    ipureintro; rfl
  isplitl [Hq]; · iexact Hq
  isplitl [Hh]; · iexact Hh
  iexists _; iexact HW

end Cert.Proj.Gen

end
-- ==== Proof.ProjBody.lean ====
/-
  Hand-written, untrusted. The frame of the first projection's call: its body's run (ProjRun.lean) at every grid point, then the
  launch. The x1 output ends at the blocks the run names; the five other outputs are forgotten: nothing here reads them. The router
  weights stay in the slow memory and are copied by the body itself at the first point.
-/
module

public import proofs.«01_k».proof.Proof.ProjRun
public import Idealize.ShloMosaic.Lib.Pipeline.Frame
public import Idealize.ShloMosaic.Lib.Transfers

@[expose] public section

set_option maxRecDepth 16384

noncomputable section

namespace Cert.Proj.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄P" => MT nD τ sig Unit (Elt F) ℕ (Pipeline.UD sig nD τ) ℕ

variable (m : (ℓ : Loc nD τ sig) → Buf (Elt F) ℓ) (ρ : Dev nD → PrngReg)

/-! ## The kernel's own semaphore and the operand it moves -/

/-- The cell of the body's own copy. -/
abbrev osem0 : Fin 1 → SemLoc sig := fun j => (![SemLoc.dma cc0_scoped0.sem] : Fin 1 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄P)
      = iprop(semVal ((c : Thread nD τ), SemLoc.dma cc0_scoped0.sem) 0) := by
  rw [Pipeline.ownSems0_eq_of_list c osem0 [0] (by decide) (by decide)]; rfl
/-- The router weights: unscoped and no window's array. -/
def H0 : Finset (Ref sig .tc) := {main_arg6}
theorem H0_sub : H0 ⊆ Pipeline.restRefs sig spec0 := by decide
theorem hbmPts0_eq (c : Dev nD) :
    (bigSep H0 (fun b => ((c : Thread nD τ).loc b) ↦{fullShare} V m c b) : sProp 𝕄P) = iprop(hbPt c hbM (V m c main_arg6)) := by
  rw [BI.bigSep_eq_bigSepL_of_eq [main_arg6] (by decide) (by decide)]; rfl

/-- The invariant between the points: the scratches owned at some contents, the generator register at some state, the cell at zero, the
    router weights at their launch contents. -/
theorem PhiD0_eq (c : Dev nD) :
    (Pipeline.ΦD osem0 spec0 H0 (V m) c : sProp 𝕄P)
      = iprop(iprop((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d) ∗ (∃ d, owns (c : Thread nD τ) sc4 fullShare d) ∗ (∃ d, owns (c : Thread nD τ) sc5 fullShare d) ∗ (∃ d, owns (c : Thread nD τ) sc6 fullShare d)) ∗ (∃ r, prngReg c r)
          ∗ iprop(semVal ((c : Thread nD τ), SemLoc.dma cc0_scoped0.sem) 0)
          ∗ iprop(hbPt c hbM (V m c main_arg6))) := by
  rw [Pipeline.ΦD_eq, scopedRest0_eq, ownSems00_eq, hbmPts0_eq]; simp only [sc0, sc1, sc2, sc3, sc4, sc5, sc6, owns_whole]; try rfl

/-! ## The proof data and the body obligation -/

/-- The outputs other than x1 are forgotten. -/
def forgets0 : Fin 13 → Bool := fun w => decide (8 ≤ w.val)

/-- The x1 block of point `t`. -/
def x1At (c : Dev nD) (t : Fin cfg0.N) : Vec F S256x7168 .bf16 :=
  x1Of (iblk m c 0 t) (iblk m c 3 t) (iblk m c 4 t) (adeqOf (iblk m c 1 t) (iblk m c 2 t))

/-- The proof data on core `c`: the arrays as the region finds them; each input's block in place after the body; x1 at its block; the
    other outputs unnamed; full shares; nothing owed. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => x1At m c t
    | ⟨w + 8, h⟩ => Pipeline.Dat.unnamed (cfg := cfg0) ⟨w + 8, h⟩ t
  Φ _ := Pipeline.ΦD osem0 spec0 H0 (V m) c
  q _ := fullShare
  owed _ := 0

theorem A_eq (c : Dev nD) (w : Fin cfg0.W) : (dats m 0 c).A w = V m c (Pipeline.arrRef spec0 w) := by dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = x1At m c t := by dsimp only [dats]

/-- Each input's current staging buffer holds its block at every point, fetched there or not. -/
theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)
theorem before0_4 (c : Dev nD) (t : Fin cfg0.N) (d) : (dats m 0 c).before 4 t d = iblk m c 4 t :=
  ((dats m 0 c).before_in_eq_fetched 4 rfl (fun _ => rfl) (fun _ _ _ => rfl) (fun t => by rw [after0_4]; unfold Dat.blockOf iblk; rw [A_eq]; try rfl) t d).trans
    (by unfold Dat.fetched Dat.blockOf iblk; rw [A_eq]; try rfl)
theorem before0_5 (c : Dev nD) (t : Fin cfg0.N) (d) : (dats m 0 c).before 5 t d = iblk m c 5 t :=
  ((dats m 0 c).before_in_eq_fetched 5 rfl (fun _ => rfl) (fun _ _ _ => rfl) (fun t => by rw [after0_5]; unfold Dat.blockOf iblk; rw [A_eq]; try rfl) t d).trans
    (by unfold Dat.fetched Dat.blockOf iblk; rw [A_eq]; try rfl)
theorem before0_6 (c : Dev nD) (t : Fin cfg0.N) (d) : (dats m 0 c).before 6 t d = iblk m c 6 t :=
  ((dats m 0 c).before_in_eq_fetched 6 rfl (fun _ => rfl) (fun _ _ _ => rfl) (fun t => by rw [after0_6]; unfold Dat.blockOf iblk; rw [A_eq]; try rfl) t d).trans
    (by unfold Dat.fetched Dat.blockOf iblk; rw [A_eq]; try rfl)

/-- What the body is called with at point `t`, -/
def bodyPre (c : Dev nD) (t : Fin cfg0.N) : sProp 𝕄P :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d))
    ∗ (∃ d, owns (c : Thread nD τ) (win0_8.stage (cfg0.slots t 8)) fullShare (d))
    ∗ (∃ d, owns (c : Thread nD τ) (win0_9.stage (cfg0.slots t 9)) fullShare (d))
    ∗ (∃ d, owns (c : Thread nD τ) (win0_10.stage (cfg0.slots t 10)) fullShare (d))
    ∗ (∃ d, owns (c : Thread nD τ) (win0_11.stage (cfg0.slots t 11)) fullShare (d))
    ∗ (∃ d, owns (c : Thread nD τ) (win0_12.stage (cfg0.slots t 12)) fullShare (d)))
/-- and what it returns. -/
def bodyPost (c : Dev nD) (t : Fin cfg0.N) : sProp 𝕄P :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t)
    ∗ owns (c : Thread nD τ) (win0_5.stage (cfg0.slots t 5)) fullShare ((dats m 0 c).after 5 t)
    ∗ owns (c : Thread nD τ) (win0_6.stage (cfg0.slots t 6)) fullShare ((dats m 0 c).after 6 t)
    ∗ owns (c : Thread nD τ) (win0_7.stage (cfg0.slots t 7)) fullShare ((dats m 0 c).after 7 t)
    ∗ (∃ d, owns (c : Thread nD τ) (win0_8.stage (cfg0.slots t 8)) fullShare d)
    ∗ (∃ d, owns (c : Thread nD τ) (win0_9.stage (cfg0.slots t 9)) fullShare d)
    ∗ (∃ d, owns (c : Thread nD τ) (win0_10.stage (cfg0.slots t 10)) fullShare d)
    ∗ (∃ d, owns (c : Thread nD τ) (win0_11.stage (cfg0.slots t 11)) fullShare d)
    ∗ (∃ d, owns (c : Thread nD τ) (win0_12.stage (cfg0.slots t 12)) fullShare d))

set_option maxHeartbeats 3200000 in
/-- The body at the point: the invariant opened, the run of its case, the invariant closed. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [after0_0, after0_1, after0_2, after0_3, after0_4, after0_5, after0_6, after0_7]
  unfold x1At
  rw [show (dats m 0 c).Φ t.succ = (dats m 0 c).Φ t.castSucc from rfl,
    show (dats m 0 c).owesAt () t.succ = (dats m 0 c).owesAt () t.castSucc from rfl,
    show (dats m 0 c).Φ t.castSucc = Pipeline.ΦD osem0 spec0 H0 (V m) c from rfl, PhiD0_eq]
  unfold Dat.owesAt Pipeline.owesWithin
  rw [show (dats m 0 c).owed t.castSucc = 0 from rfl]
  by_cases hc0 : k0_cond1 (grid0.coords t) = 1#1
  · iintro ⟨⟨⟨HS0, HS1, HS2, HS3, HS4, HS5, HS6⟩, Hg, Hq, Hh⟩, ⟨%W, %hW, HO⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply (kernelFirst c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) hc0 (iblk m c 0 t) (iblk m c 1 t) (iblk m c 2 t) (iblk m c 3 t) (iblk m c 4 t) (iblk m c 5 t) (iblk m c 6 t) (V m c main_arg6) W _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    isplitl [H10]; · iexists _; iexact H10
    isplitl [H11]; · iexists _; iexact H11
    isplitl [H12]; · iexists _; iexact H12
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    isplitl [Hq]; · iexact Hq
    isplitl [Hh]; · iexact Hh
    isplitl [HO]; · iexact HO
    iintro ⟨H0, H1, H2, H3, H4, H5, H6, H7, H8, H9, H10, H11, H12, HS0, HS1, HS2, HS3, HS4, HS5, HS6, Hq, Hh, ⟨%W', HO⟩⟩
    isplitl [HS0 HS1 HS2 HS3 HS4 HS5 HS6 Hg Hq Hh]
    · isplitl [HS0 HS1 HS2 HS3 HS4 HS5 HS6]
      · isplitl [HS0]; · iexact HS0
        isplitl [HS1]; · iexact HS1
        isplitl [HS2]; · iexact HS2
        isplitl [HS3]; · iexact HS3
        isplitl [HS4]; · iexact HS4
        isplitl [HS5]; · iexact HS5
        iexact HS6
      isplitl [Hg]; · iexact Hg
      isplitl [Hq]; · iexact Hq
      iexact Hh
    isplitl [HO]
    · iexists W'; isplitr; · ipureintro; exact fun _ _ => Or.inl trivial
      iexact HO
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12
  · iintro ⟨⟨⟨HS0, HS1, HS2, HS3, HS4, HS5, HS6⟩, Hg, Hq, Hh⟩, ⟨%W, %hW, HO⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply (kernelLater c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) hc0 (iblk m c 0 t) (iblk m c 1 t) (iblk m c 2 t) (iblk m c 3 t) (iblk m c 4 t) (iblk m c 5 t) (iblk m c 6 t) (V m c main_arg6) W _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    isplitl [H10]; · iexists _; iexact H10
    isplitl [H11]; · iexists _; iexact H11
    isplitl [H12]; · iexists _; iexact H12
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    isplitl [Hq]; · iexact Hq
    isplitl [Hh]; · iexact Hh
    isplitl [HO]; · iexact HO
    iintro ⟨H0, H1, H2, H3, H4, H5, H6, H7, H8, H9, H10, H11, H12, HS0, HS1, HS2, HS3, HS4, HS5, HS6, Hq, Hh, ⟨%W', HO⟩⟩
    isplitl [HS0 HS1 HS2 HS3 HS4 HS5 HS6 Hg Hq Hh]
    · isplitl [HS0 HS1 HS2 HS3 HS4 HS5 HS6]
      · isplitl [HS0]; · iexact HS0
        isplitl [HS1]; · iexact HS1
        isplitl [HS2]; · iexact HS2
        isplitl [HS3]; · iexact HS3
        isplitl [HS4]; · iexact HS4
        isplitl [HS5]; · iexact HS5
        iexact HS6
      isplitl [Hg]; · iexact Hg
      isplitl [Hq]; · iexact Hq
      iexact Hh
    isplitl [HO]
    · iexists W'; isplitr; · ipureintro; exact fun _ _ => Or.inl trivial
      iexact HO
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

/-- The library's body obligation, the outputs other than x1 forgotten. -/
theorem body_obligation (c : Dev nD) :
    BodyObligation (dats (F := F) m 0 c) (defs₀ (F := F)) Variants.none () Set.univ forgets0 := fun t => by
  rw [bigSep_W0, bigSep_W0, defs₀_row]
  exact triple_restated (sound_body m c t) rfl .rfl fun _ => .rfl

/-! ## The launch -/

/-- @main up to the region, at the algebra the copy's steps run in. -/
theorem hmainD (𝒱₀ : Variants) :
    Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

set_option backward.isDefEq.respectTransparency.types false in
/-- Every run of @main terminates with the arrays as the proof data says, x1 among them, and every counter at zero. -/
theorem run_main :
    θ_run defs (onTc (τ := τ) (main (F := F))) (s₀ m ρ)
      (fun r => Pipeline.RDat.FramePost (cfgs 0) (fun c => (dats m 0 c).toRForget forgets0) (V m) r ∧ r.2.sem = fun _ => 0) :=
  Pipeline.θ_run_frame_dma_forget (Q' := _) cfgs (dats m) (0 : Fin 1) launch0 osem0 defs₀ Variants.none forgets0 ownSemFacts0 H0 H0_sub m ρ main
    (hbody := fun c => (body_obligation m c).loose) (hshare := fun c => (dats m 0 c).share_full fun _ => rfl)
    (howed := fun _ _ => rfl) (V := V m) (hmain := hmainD m Variants.none) (hA := A_eq m)
    (hin := fun _ => .rfl) (hout := fun _ => .rfl)

/-- A window not forgotten ends at what the proof data says. -/
theorem arr_eq {r : PUnit × MemSt nD τ sig (Elt F)}
    (h : Pipeline.RDat.FramePost (cfgs 0) (fun c => (dats (F := F) m 0 c).toRForget forgets0) (V m) r) (c : Dev nD) (w : Fin cfg0.W)
    (hw : forgets0 w = false) :
    r.2.mem ((spec0 w).arr.view.loc (c : Thread nD τ)) = (dats m 0 c).arrAt w cfg0.N :=
  ((dats m 0 c).toRForget_arrAt_iff hw _ _).mp ((h c).1 w)

/-- The arguments end as launched. -/
theorem args_kept {r : PUnit × MemSt nD τ sig (Elt F)}
    (h : Pipeline.RDat.FramePost (cfgs 0) (fun c => (dats (F := F) m 0 c).toRForget forgets0) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  ⟨(arr_eq m h c 4 rfl).trans (((dats m 0 c).arrAt_in 4 rfl _).trans ((A_eq m c 4).trans (V_main_arg0 m c))),
    (arr_eq m h c 1 rfl).trans (((dats m 0 c).arrAt_in 1 rfl _).trans ((A_eq m c 1).trans (V_main_arg1 m c))),
    (arr_eq m h c 2 rfl).trans (((dats m 0 c).arrAt_in 2 rfl _).trans ((A_eq m c 2).trans (V_main_arg2 m c))),
    (arr_eq m h c 3 rfl).trans (((dats m 0 c).arrAt_in 3 rfl _).trans ((A_eq m c 3).trans (V_main_arg3 m c))),
    (arr_eq m h c 0 rfl).trans (((dats m 0 c).arrAt_in 0 rfl _).trans ((A_eq m c 0).trans (V_main_arg4 m c))),
    ((h c).2 main_arg5 (Pipeline.mem_restRefs_of main_arg5 (by decide) (by decide))).trans (V_main_arg5 m c),
    ((h c).2 main_arg6 (Pipeline.mem_restRefs_of main_arg6 (by decide) (by decide))).trans (V_main_arg6 m c),
    ((h c).2 main_arg7 (Pipeline.mem_restRefs_of main_arg7 (by decide) (by decide))).trans (V_main_arg7 m c)⟩

/-- The frame: every run terminates with the arguments as launched and every semaphore at zero. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) ∧ r.2.sem = fun _ => 0) :=
  (θ_run defs _ _).mono (fun _ h => ⟨fun c => args_kept m h.1 c, h.2⟩) (run_main m ρ)

end Cert.Proj.Gen

end
-- ==== Proof.ProjIdealRun.lean ====
/-
  Hand-written, untrusted. The second loop of the call `proj`, at any reading of floats: what one trip leaves in the block of x1,
  in its unrounded copy and in the sum of squares.
-/
module

public import proofs.«01_k».proof.Proof.Gen.ProjIdeal.Frame
public import proofs.«01_k».proof.Proof.Gen.ProjIdeal.Skeleton
public import proofs.«01_k».proof.Proof.Gen.ProjIdeal.Loops
public import Idealize.ShloMosaic.Lib.Pointwise
public import Idealize.ShloMosaic.Lib.WholeRead
public import Idealize.ShloMosaic.Lib.WritesUnit

@[expose] public section

set_option maxRecDepth 16384

noncomputable section

namespace Cert.ProjIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄D" => MT nD τ sig Unit (Elt F) ℕ (UR sig nD τ × Counters) ℕ

theorem off35_eq : ∀ k, k0_off35 k = ![0, 256 * k.val] := by decide +kernel

/-- One dequantised weight of tile `k`: the stored weight times the scale of its 128x128 block. -/
def deqW (s : Vec F S16x56 .f32) (w : Vec F S2048x7168 .fp8e4m3) (k : Fin k0_t2_loop.trips) : S2048x256.Idx → F .bf16 := fun y =>
  FloatOps.mulf
    (FloatOps.extf .bf16 bitsLt_fp8e4m3_bf16 (w (ix2 (y 0) (⟨256 * k.val + (y 1).val, by
      have h : (y 1).val < 256 := (y 1).isLt
      have hk := Nat.lt_of_lt_of_le k.isLt k0_t2_abs.2.1
      omega⟩ : Fin 7168))))
    (FloatOps.truncf .bf16 bitsLt_bf16_f32 (s (ix2 (⟨(y 0).val / 128, by
      have h : (y 0).val < 2048 := (y 0).isLt
      omega⟩ : Fin 16) (⟨2 * k.val + (y 1).val / 128, by
      have h : (y 1).val < 256 := (y 1).isLt
      have hk := Nat.lt_of_lt_of_le k.isLt k0_t2_abs.2.1
      omega⟩ : Fin 56))))

/-- Tile `k` of the residual input. -/
def colsX (x : Vec F S256x7168 .bf16) (k : Fin k0_t2_loop.trips) : Vec F S256x256 .bf16 := fun y =>
  x (ix2 (y 0) (⟨256 * k.val + (y 1).val, by
      have h : (y 1).val < 256 := (y 1).isLt
      have hk := Nat.lt_of_lt_of_le k.isLt k0_t2_abs.2.1
      omega⟩ : Fin 7168))

/-- One stored tile is the dequantised block on the tile's rectangle. -/
theorem tile_ok (arg1 : Memref sig .tc .smem S16x56 .f32) (arg4 : Memref sig .tc .vmem S2048x7168 .fp8e4m3)
    (X1 : BufTy.Contents (Elt F) arg1.view.ty) (X4 : BufTy.Contents (Elt F) arg4.view.ty) (k : Fin k0_t2_loop.trips)
    (a b : ℕ) (inb : ∀ x, (![a, b] : Fin 2 → ℕ) x + S128x128.size x ≤ S2048x256.size x)
    (off : Fin 2 → ℕ) (inb1 : ∀ x, off x + S1x1.size x ≤ S16x56.size x) (hne : 0 < S1x1.numel)
    (off' : Fin 2 → ℕ) (inb4 : ∀ x, off' x + S128x128.size x ≤ S2048x7168.size x)
    (h1 : FTy.bits .fp8e4m3 < FTy.bits .bf16) (h2 : FTy.bits .bf16 < FTy.bits .f32) (h3 : S1x128.Broadcasts S128x128) (h4 : S128x128.ShapeCasts S128x128)
    (ha : a % 128 = 0) (hb : b % 128 = 0)
    (hoff : off = ![a / 128, 2 * k.val + b / 128]) (hoff' : off' = ![a, 256 * k.val + b]) (x : S128x128.Idx) :
    shapeCast S128x128 (mulf (extf .bf16 (View.readAt (Elt F) arg4.view (Rect.unit (s := S2048x7168) off' S128x128.size inb4).toLoadRect X4) h1)
        (broadcastTo S128x128 (truncf .bf16 (broadcast S1x128 (View.readAt (Elt F) arg1.view (Rect.unit (s := S16x56) off S1x1.size inb1).toLoadRect X1 (Shape.Idx.first hne))) h2) h3)) h4 x
      = deqW (arg1.view.read (Elt F) X1) (arg4.view.read (Elt F) X4) k ((Rect.unit (s := S2048x256) ![a, b] S128x128.size inb).emb x) := by
  have hx0 : (x 0).val < 128 := (x 0).isLt
  have hx1 : (x 1).val < 128 := (x 1).isLt
  subst hoff; subst hoff'
  have hf : ∀ d, (Shape.Idx.first hne d).val = 0 := fun d => by
    match d with
    | ⟨0, _⟩ => rfl
    | ⟨1, _⟩ => rfl
  have e0 : ((Rect.unit (s := S2048x256) ![a, b] S128x128.size inb).emb x 0).val = a + (x 0).val := by
    show a + 1 * (x 0).val = _; omega
  have e1 : ((Rect.unit (s := S2048x256) ![a, b] S128x128.size inb).emb x 1).val = b + (x 1).val := by
    show b + 1 * (x 1).val = _; omega
  unfold deqW
  pointwise
  rw [View.readAt_apply, View.readAt_apply]
  refine congrArg₂ FloatOps.mulf (congrArg (fun z => FloatOps.extf .bf16 bitsLt_fp8e4m3_bf16 (arg4.view.read (Elt F) X4 z)) ?_)
    (congrArg (fun z => FloatOps.truncf .bf16 bitsLt_bf16_f32 (arg1.view.read (Elt F) X1 z)) ?_)
  · funext d; apply Fin.ext
    match d with
    | ⟨0, _⟩ => show a + 1 * (x 0).val = (((Rect.unit (s := S2048x256) ![a, b] S128x128.size inb).emb x) 0).val; omega
    | ⟨1, _⟩ => show 256 * k.val + b + 1 * (x 1).val = 256 * k.val + (((Rect.unit (s := S2048x256) ![a, b] S128x128.size inb).emb x) 1).val; omega
  · funext d; apply Fin.ext
    match d with
    | ⟨0, _⟩ =>
      show a / 128 + 1 * (Shape.Idx.first hne (0 : Fin 2)).val = (((Rect.unit (s := S2048x256) ![a, b] S128x128.size inb).emb x) 0).val / 128
      have := hf 0; omega
    | ⟨1, _⟩ =>
      show 2 * k.val + b / 128 + 1 * (Shape.Idx.first hne (1 : Fin 2)).val = 2 * k.val + (((Rect.unit (s := S2048x256) ![a, b] S128x128.size inb).emb x) 1).val / 128
      have := hf 1; omega

omit [FloatOps F] in
/-- The tile block read back whole once tiles that cover it and agree with `g` are stored. -/
theorem wt_read (arg16 : Memref sig .tc .vmem S2048x256 .bf16) (f : BufTy.Contents (Elt F) arg16.view.ty)
    (L : List (View.Piece (Elt F) S2048x256 .bf16)) (g : S2048x256.Idx → F .bf16)
    (hL : ∀ p ∈ L, ∀ x : p.1.shape.Idx, p.2 x = g (p.1.emb x)) (hc : ∀ y : S2048x256.Idx, ∃ p ∈ L, y ∈ p.1.set)
    (inb : ∀ a, (![0, 0] : Fin 2 → ℕ) a + S2048x256.size a ≤ S2048x256.size a) :
    View.readAt (Elt F) arg16.view (Rect.unit (s := S2048x256) ![0, 0] S2048x256.size inb).toLoadRect (arg16.view.writes (Elt F) f L) = g := by
  funext y
  rw [View.readAt_apply]
  have hy : (Rect.unit (s := S2048x256) ![0, 0] S2048x256.size inb).toLoadRect.idx y = y := by
    funext k; apply Fin.ext
    match k with
    | ⟨0, _⟩ => show 0 + 1 * (y 0).val = (y 0).val; omega
    | ⟨1, _⟩ => show 0 + 1 * (y 1).val = (y 1).val; omega
  rw [hy]
  exact View.read_writes_apply_of_pieces arg16.view f _ _ hL y (hc y)

omit [FloatOps F] in
theorem adeq_read (arg15 : Memref sig .tc .vmem S256x2048 .bf16) (f : BufTy.Contents (Elt F) arg15.view.ty)
    (inb : ∀ a, (![0, 0] : Fin 2 → ℕ) a + S256x2048.size a ≤ S256x2048.size a) :
    View.readAt (Elt F) arg15.view (Rect.unit (s := S256x2048) ![0, 0] S256x2048.size inb).toLoadRect f = arg15.view.read (Elt F) f := by
  funext y
  rw [View.readAt_apply]
  congr 1
  funext k; apply Fin.ext
  match k with
  | ⟨0, _⟩ => show 0 + 1 * (y 0).val = (y 0).val; omega
  | ⟨1, _⟩ => show 0 + 1 * (y 1).val = (y 1).val; omega

omit [FloatOps F] in
theorem cols_read (arg5 : Memref sig .tc .vmem S256x7168 .bf16) (f : BufTy.Contents (Elt F) arg5.view.ty) (k : Fin k0_t2_loop.trips) :
    View.readAt (Elt F) arg5.view (Rect.unit (s := S256x7168) (k0_off35 k) S256x256.size (k0_off35_inb k)).toLoadRect f
      = colsX (arg5.view.read (Elt F) f) k := by
  funext y
  rw [View.readAt_apply]
  unfold colsX
  congr 1
  funext d; apply Fin.ext
  have h0 : k0_off35 k 0 = 0 := by rw [off35_eq]; rfl
  have h1 : k0_off35 k 1 = 256 * k.val := by rw [off35_eq]; rfl
  match d with
  | ⟨0, _⟩ =>
    show k0_off35 k 0 + 1 * (y 0).val = (y 0).val
    omega
  | ⟨1, _⟩ =>
    show k0_off35 k 1 + 1 * (y 1).val = 256 * k.val + (y 1).val
    omega

theorem step2 (𝒱 : Variants) (c : Dev nD) (bd : Option 𝒱.V) (E : Set ℕ) (i : grid0.Coords) (arg1 : Memref sig .tc .smem S16x56 .f32) (harg1 : arg1.IsWhole) (arg2 : Memref sig .tc .vmem S256x2048 .fp8e4m3) (harg2 : arg2.IsWhole) (arg3 : Memref sig .tc .vmem S256x16 .i8) (harg3 : arg3.IsWhole) (arg4 : Memref sig .tc .vmem S2048x7168 .fp8e4m3) (harg4 : arg4.IsWhole) (arg5 : Memref sig .tc .vmem S256x7168 .bf16) (harg5 : arg5.IsWhole) (arg6 : Memref sig .tc .vmem S1x7168 .f32) (harg6 : arg6.IsWhole) (arg7 : Memref sig .tc .hbm S256x7168 .f32) (harg7 : arg7.IsWhole) (arg8 : Memref sig .tc .vmem S1x256 .f32) (harg8 : arg8.IsWhole) (arg9 : Memref sig .tc .vmem S256x7168 .bf16) (harg9 : arg9.IsWhole) (arg10 : Memref sig .tc .vmem S256x256 .f32) (harg10 : arg10.IsWhole) (arg11 : Memref sig .tc .vmem S256x256 .f32) (harg11 : arg11.IsWhole) (arg12 : Memref sig .tc .vmem S256x7168 .fp8e4m3) (harg12 : arg12.IsWhole) (arg13 : Memref sig .tc .vmem S256x7168 .bf16) (harg13 : arg13.IsWhole) (arg14 : Memref sig .tc .vmem S256x128 .f32) (harg14 : arg14.IsWhole) (arg15 : Memref sig .tc .vmem S256x2048 .bf16) (harg15 : arg15.IsWhole) (arg16 : Memref sig .tc .vmem S2048x256 .bf16) (harg16 : arg16.IsWhole) (arg17 : Memref sig .tc .vmem S256x7168 .f32) (harg17 : arg17.IsWhole) (arg18 : Memref sig .tc .vmem S256x256 .f32) (harg18 : arg18.IsWhole) (arg19 : Memref sig .tc .vmem S256x7168 .bf16) (harg19 : arg19.IsWhole) (arg20 : Memref sig .tc .vmem S256x7168 .bf16) (harg20 : arg20.IsWhole) (arg21 : Memref sig .tc .vmem S256x7168 .bf16) (harg21 : arg21.IsWhole) (v275_r0 : DmaSems sig S_) (v184 : FVec F S256x128 .bf16)
    (X_arg1 : BufTy.Contents (Elt F) arg1.view.ty) (X_arg4 : BufTy.Contents (Elt F) arg4.view.ty) (X_arg5 : BufTy.Contents (Elt F) arg5.view.ty) (X_arg15 : BufTy.Contents (Elt F) arg15.view.ty)
    (k : Fin k0_t2_loop.trips) (acc : FVec F S256x128 .f32) (f_arg9 : BufTy.Contents (Elt F) arg9.view.ty) (f_arg16 : BufTy.Contents (Elt F) arg16.view.ty) (f_arg17 : BufTy.Contents (Elt F) arg17.view.ty) :
    (iprop((arg1.view.loc (c : Thread nD τ) ↦[arg1.view.set]{fullShare} X_arg1) ∗ (arg4.view.loc (c : Thread nD τ) ↦[arg4.view.set]{fullShare} X_arg4) ∗ (arg5.view.loc (c : Thread nD τ) ↦[arg5.view.set]{fullShare} X_arg5) ∗ (arg15.view.loc (c : Thread nD τ) ↦[arg15.view.set]{fullShare} X_arg15) ∗ (arg9.view.loc (c : Thread nD τ) ↦[arg9.view.set]{fullShare} f_arg9) ∗ (arg16.view.loc (c : Thread nD τ) ↦[arg16.view.set]{fullShare} f_arg16) ∗ (arg17.view.loc (c : Thread nD τ) ↦[arg17.view.set]{fullShare} f_arg17)) : sProp 𝕄D)
      ⊢ wp frame (wpE (defs₀ (F := F)) 𝒱 (c : Thread nD τ) bd) E (k0_t2_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v275_r0 v184 k acc)
          (fun yld => iprop((arg1.view.loc (c : Thread nD τ) ↦[arg1.view.set]{fullShare} X_arg1) ∗ (arg4.view.loc (c : Thread nD τ) ↦[arg4.view.set]{fullShare} X_arg4) ∗ (arg5.view.loc (c : Thread nD τ) ↦[arg5.view.set]{fullShare} X_arg5) ∗ (arg15.view.loc (c : Thread nD τ) ↦[arg15.view.set]{fullShare} X_arg15)
            ∗ (∃ f, (arg9.view.loc (c : Thread nD τ) ↦[arg9.view.set]{fullShare} f) ∗ ⌜f = arg9.view.writes (Elt F) f_arg9 [⟨Rect.unit (s := S256x7168) (k0_off35 k) S256x256.size (k0_off35_inb k), k0_pay105 (colsX (arg5.view.read (Elt F) X_arg5) k) (arg15.view.read (Elt F) X_arg15) (deqW (arg1.view.read (Elt F) X_arg1) (arg4.view.read (Elt F) X_arg4) k)⟩]⌝)
            ∗ (∃ f, (arg16.view.loc (c : Thread nD τ) ↦[arg16.view.set]{fullShare} f))
            ∗ (∃ f, (arg17.view.loc (c : Thread nD τ) ↦[arg17.view.set]{fullShare} f) ∗ ⌜f = arg17.view.writes (Elt F) f_arg17 [⟨Rect.unit (s := S256x7168) (k0_off35 k) S256x256.size (k0_off35_inb k), k0_pay104 (colsX (arg5.view.read (Elt F) X_arg5) k) (arg15.view.read (Elt F) X_arg15) (deqW (arg1.view.read (Elt F) X_arg1) (arg4.view.read (Elt F) X_arg4) k)⟩]⌝)
            ∗ ⌜yld = k0_pay106 acc (colsX (arg5.view.read (Elt F) X_arg5) k) (arg15.view.read (Elt F) X_arg15) (deqW (arg1.view.read (Elt F) X_arg1) (arg4.view.read (Elt F) X_arg4) k)⌝)) := by
  have hk : k.val < 28 := Nat.lt_of_lt_of_le k.isLt k0_t2_abs.2.1
  unfold k0_t2_body
  iintro ⟨HR_arg1, HR_arg4, HR_arg5, HR_arg15, HW_arg9, HW_arg16, HW_arg17⟩
  sl_exec
  sl_step
  have hv : step2.sl.v707 arg1 arg4 arg16 X_arg1 X_arg4 k = deqW (arg1.view.read (Elt F) X_arg1) (arg4.view.read (Elt F) X_arg4) k := by
    unfold step2.sl.v707
    unfold step2.sl.HW_arg16_32
    refine wt_read arg16 _ _ _ ?_ (View.cover_of_tiledL _ S128x128.size (by sl_kernel_rfl)) _
    dsimp -proj only [step2.sl.r, step2.sl.r_1, step2.sl.r_2, step2.sl.r_3, step2.sl.r_4, step2.sl.r_5, step2.sl.r_6, step2.sl.r_7, step2.sl.r_8, step2.sl.r_9, step2.sl.r_10, step2.sl.r_11, step2.sl.r_12, step2.sl.r_13, step2.sl.r_14, step2.sl.r_15, step2.sl.r_16, step2.sl.r_17, step2.sl.r_18, step2.sl.r_19, step2.sl.r_20, step2.sl.r_21, step2.sl.r_22, step2.sl.r_23, step2.sl.r_24, step2.sl.r_25, step2.sl.r_26, step2.sl.r_27, step2.sl.r_28, step2.sl.r_29, step2.sl.r_30, step2.sl.r_31, step2.sl.r_32, step2.sl.r_33, step2.sl.r_34, step2.sl.r_35, step2.sl.r_36, step2.sl.r_37, step2.sl.r_38, step2.sl.r_39, step2.sl.r_40, step2.sl.r_41, k0_pay1, k0_pay2, k0_pay3, k0_pay4, k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay72, k0_pay73, k0_pay74, k0_pay75, k0_pay76, k0_pay77, k0_pay78, k0_pay79, k0_pay80]
    repeat' refine List.forall_mem_cons.2 ⟨fun x => tile_ok arg1 arg4 X_arg1 X_arg4 k _ _ (by decide) _ _ _ _ _ _ _ _ _ rfl rfl (by clear hk x; revert k; decide +kernel) (by clear hk x; revert k; decide +kernel) x, ?_⟩
    exact List.forall_mem_nil _
  rw [hv, adeq_read, cols_read]
  isplitl [HR_arg1]; · iexact HR_arg1
  isplitl [HR_arg4]; · iexact HR_arg4
  isplitl [HR_arg5]; · iexact HR_arg5
  isplitl [HR_arg15]; · iexact HR_arg15
  isplitl [HW_arg9]
  · iexists _; isplitl [HW_arg9]; · iexact HW_arg9
    ipureintro
    rfl
  isplitl [HW_arg16]
  · iexists _; iexact HW_arg16
  isplitl [HW_arg17]
  · iexists _; isplitl [HW_arg17]; · iexact HW_arg17
    ipureintro
    rfl
  ipureintro
  rfl

/-- x1 of one block of 256 rows: column `256 k + q` is column `q` of tile `k`. -/
def x1Of (s : Vec F S16x56 .f32) (w : Vec F S2048x7168 .fp8e4m3) (x : Vec F S256x7168 .bf16) (a : Vec F S256x2048 .bf16) :
    S256x7168.Idx → F .bf16 := fun y =>
  k0_pay105 (colsX x ⟨(y 1).val / 256, by
      have h : (y 1).val < 7168 := (y 1).isLt
      show (y 1).val / 256 < 28
      omega⟩) a
    (deqW s w ⟨(y 1).val / 256, by
      have h : (y 1).val < 7168 := (y 1).isLt
      show (y 1).val / 256 < 28
      omega⟩) (ix2 (y 0) (⟨(y 1).val % 256, by omega⟩ : Fin 256))

/-- One more tile stored: the columns known so far grow by 256. -/
theorem x1_grow (arg9 : Memref sig .tc .vmem S256x7168 .bf16) (f : BufTy.Contents (Elt F) arg9.view.ty)
    (s : Vec F S16x56 .f32) (w : Vec F S2048x7168 .fp8e4m3) (x : Vec F S256x7168 .bf16) (a : Vec F S256x2048 .bf16) (k : Fin k0_t2_loop.trips)
    (h : ∀ y : S256x7168.Idx, (y 1).val < 256 * k.val → arg9.view.read (Elt F) f y = x1Of s w x a y) (y : S256x7168.Idx)
    (hy : (y 1).val < 256 * (k.val + 1)) :
    arg9.view.read (Elt F) (arg9.view.writes (Elt F) f [⟨Rect.unit (s := S256x7168) (k0_off35 k) S256x256.size (k0_off35_inb k), k0_pay105 (colsX x k) a (deqW s w k)⟩]) y
      = x1Of s w x a y := by
  by_cases hlt : (y 1).val < 256 * k.val
  · rw [View.read_writes_cons_unit_of_not_mem arg9.view f _ _ [] y (off35_eq k) 1 (Or.inl hlt)]
    exact h y hlt
  · refine (View.read_writes_cons_unit_of_mem arg9.view f (k0_off35_inb k) (k0_pay105 (colsX x k) a (deqW s w k)) [] y
      (ix2 (y 0) (⟨(y 1).val % 256, by omega⟩ : Fin 256)) (off35_eq k) (fun d => ?_)).trans ?_
    · match d with
      | ⟨0, _⟩ => show (y 0).val = 0 + (y 0).val; omega
      | ⟨1, _⟩ => show (y 1).val = 256 * k.val + (y 1).val % 256; omega
    unfold x1Of
    have hk : k = ⟨(y 1).val / 256, by
      have h : (y 1).val < 7168 := (y 1).isLt
      show (y 1).val / 256 < 28
      omega⟩ := Fin.ext (by show k.val = (y 1).val / 256; omega)
    rw [← hk]

set_option warn.classDefReducibility false in
/-- The second loop by its invariant: the stored columns of x1 so far. -/
@[sl_loop] def loop2 (𝒱 : Variants) (c : Dev nD) (bd : Option 𝒱.V) (E : Set ℕ) (i : grid0.Coords) (arg1 : Memref sig .tc .smem S16x56 .f32) (harg1 : arg1.IsWhole) (arg2 : Memref sig .tc .vmem S256x2048 .fp8e4m3) (harg2 : arg2.IsWhole) (arg3 : Memref sig .tc .vmem S256x16 .i8) (harg3 : arg3.IsWhole) (arg4 : Memref sig .tc .vmem S2048x7168 .fp8e4m3) (harg4 : arg4.IsWhole) (arg5 : Memref sig .tc .vmem S256x7168 .bf16) (harg5 : arg5.IsWhole) (arg6 : Memref sig .tc .vmem S1x7168 .f32) (harg6 : arg6.IsWhole) (arg7 : Memref sig .tc .hbm S256x7168 .f32) (harg7 : arg7.IsWhole) (arg8 : Memref sig .tc .vmem S1x256 .f32) (harg8 : arg8.IsWhole) (arg9 : Memref sig .tc .vmem S256x7168 .bf16) (harg9 : arg9.IsWhole) (arg10 : Memref sig .tc .vmem S256x256 .f32) (harg10 : arg10.IsWhole) (arg11 : Memref sig .tc .vmem S256x256 .f32) (harg11 : arg11.IsWhole) (arg12 : Memref sig .tc .vmem S256x7168 .fp8e4m3) (harg12 : arg12.IsWhole) (arg13 : Memref sig .tc .vmem S256x7168 .bf16) (harg13 : arg13.IsWhole) (arg14 : Memref sig .tc .vmem S256x128 .f32) (harg14 : arg14.IsWhole) (arg15 : Memref sig .tc .vmem S256x2048 .bf16) (harg15 : arg15.IsWhole) (arg16 : Memref sig .tc .vmem S2048x256 .bf16) (harg16 : arg16.IsWhole) (arg17 : Memref sig .tc .vmem S256x7168 .f32) (harg17 : arg17.IsWhole) (arg18 : Memref sig .tc .vmem S256x256 .f32) (harg18 : arg18.IsWhole) (arg19 : Memref sig .tc .vmem S256x7168 .bf16) (harg19 : arg19.IsWhole) (arg20 : Memref sig .tc .vmem S256x7168 .bf16) (harg20 : arg20.IsWhole) (arg21 : Memref sig .tc .vmem S256x7168 .bf16) (harg21 : arg21.IsWhole) (v275_r0 : DmaSems sig S_) (v184 : FVec F S256x128 .bf16)
    (X_arg1 : BufTy.Contents (Elt F) arg1.view.ty) (X_arg4 : BufTy.Contents (Elt F) arg4.view.ty) (X_arg5 : BufTy.Contents (Elt F) arg5.view.ty) (X_arg15 : BufTy.Contents (Elt F) arg15.view.ty) (init : FVec F S256x128 .f32) :
    LoopInvTy_k0_t2 (F := F) Unit ℕ (UR sig nD τ × Counters) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v275_r0 v184 init where
  inv k _ := iprop((arg1.view.loc (c : Thread nD τ) ↦[arg1.view.set]{fullShare} X_arg1) ∗ (arg4.view.loc (c : Thread nD τ) ↦[arg4.view.set]{fullShare} X_arg4) ∗ (arg5.view.loc (c : Thread nD τ) ↦[arg5.view.set]{fullShare} X_arg5) ∗ (arg15.view.loc (c : Thread nD τ) ↦[arg15.view.set]{fullShare} X_arg15)
    ∗ (∃ f, (arg9.view.loc (c : Thread nD τ) ↦[arg9.view.set]{fullShare} f) ∗ ⌜∀ y : S256x7168.Idx, (y 1).val < 256 * k → arg9.view.read (Elt F) f y = x1Of (arg1.view.read (Elt F) X_arg1) (arg4.view.read (Elt F) X_arg4) (arg5.view.read (Elt F) X_arg5) (arg15.view.read (Elt F) X_arg15) y⌝)
    ∗ (∃ f, (arg16.view.loc (c : Thread nD τ) ↦[arg16.view.set]{fullShare} f))
    ∗ (∃ f, (arg17.view.loc (c : Thread nD τ) ↦[arg17.view.set]{fullShare} f)))
  step k acc := by
    iintro ⟨HR_arg1, HR_arg4, HR_arg5, HR_arg15, ⟨%f_arg9, HW_arg9, %h_arg9⟩, ⟨%f_arg16, HW_arg16⟩, ⟨%f_arg17, HW_arg17⟩⟩
    iapply (wp_wand_r Idealize.ShloMosaic.frame (wpE (defs₀ (F := F)) 𝒱 (c : Thread nD τ) bd) E)
    isplitl [HR_arg1 HR_arg4 HR_arg5 HR_arg15 HW_arg9 HW_arg16 HW_arg17]
    · iapply (step2 (F := F) 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v275_r0 v184 X_arg1 X_arg4 X_arg5 X_arg15 k acc f_arg9 f_arg16 f_arg17)
      isplitl [HR_arg1]; · iexact HR_arg1
      isplitl [HR_arg4]; · iexact HR_arg4
      isplitl [HR_arg5]; · iexact HR_arg5
      isplitl [HR_arg15]; · iexact HR_arg15
      isplitl [HW_arg9]; · iexact HW_arg9
      isplitl [HW_arg16]; · iexact HW_arg16
      iexact HW_arg17
    · iintro %yld ⟨HR_arg1, HR_arg4, HR_arg5, HR_arg15, ⟨%g_arg9, HW_arg9, %e_arg9⟩, ⟨%g_arg16, HW_arg16⟩, ⟨%g_arg17, HW_arg17, %e_arg17⟩, %h_res⟩
      isplitl [HR_arg1]; · iexact HR_arg1
      isplitl [HR_arg4]; · iexact HR_arg4
      isplitl [HR_arg5]; · iexact HR_arg5
      isplitl [HR_arg15]; · iexact HR_arg15
      isplitl [HW_arg9]
      · iexists _; isplitl [HW_arg9]; · iexact HW_arg9
        ipureintro; rw [e_arg9]; exact x1_grow arg9 f_arg9 _ _ _ _ k h_arg9
      isplitl [HW_arg16]
      · iexists _; iexact HW_arg16
      iexists _; iexact HW_arg17

/-- One trip of the third loop: what it reads it leaves, what it writes holds something. -/
theorem step3 (𝒱 : Variants) (c : Dev nD) (bd : Option 𝒱.V) (E : Set ℕ) (i : grid0.Coords) (arg1 : Memref sig .tc .smem S16x56 .f32) (harg1 : arg1.IsWhole) (arg2 : Memref sig .tc .vmem S256x2048 .fp8e4m3) (harg2 : arg2.IsWhole) (arg3 : Memref sig .tc .vmem S256x16 .i8) (harg3 : arg3.IsWhole) (arg4 : Memref sig .tc .vmem S2048x7168 .fp8e4m3) (harg4 : arg4.IsWhole) (arg5 : Memref sig .tc .vmem S256x7168 .bf16) (harg5 : arg5.IsWhole) (arg6 : Memref sig .tc .vmem S1x7168 .f32) (harg6 : arg6.IsWhole) (arg7 : Memref sig .tc .hbm S256x7168 .f32) (harg7 : arg7.IsWhole) (arg8 : Memref sig .tc .vmem S1x256 .f32) (harg8 : arg8.IsWhole) (arg9 : Memref sig .tc .vmem S256x7168 .bf16) (harg9 : arg9.IsWhole) (arg10 : Memref sig .tc .vmem S256x256 .f32) (harg10 : arg10.IsWhole) (arg11 : Memref sig .tc .vmem S256x256 .f32) (harg11 : arg11.IsWhole) (arg12 : Memref sig .tc .vmem S256x7168 .fp8e4m3) (harg12 : arg12.IsWhole) (arg13 : Memref sig .tc .vmem S256x7168 .bf16) (harg13 : arg13.IsWhole) (arg14 : Memref sig .tc .vmem S256x128 .f32) (harg14 : arg14.IsWhole) (arg15 : Memref sig .tc .vmem S256x2048 .bf16) (harg15 : arg15.IsWhole) (arg16 : Memref sig .tc .vmem S2048x256 .bf16) (harg16 : arg16.IsWhole) (arg17 : Memref sig .tc .vmem S256x7168 .f32) (harg17 : arg17.IsWhole) (arg18 : Memref sig .tc .vmem S256x256 .f32) (harg18 : arg18.IsWhole) (arg19 : Memref sig .tc .vmem S256x7168 .bf16) (harg19 : arg19.IsWhole) (arg20 : Memref sig .tc .vmem S256x7168 .bf16) (harg20 : arg20.IsWhole) (arg21 : Memref sig .tc .vmem S256x7168 .bf16) (harg21 : arg21.IsWhole) (v275_r0 : DmaSems sig S_) (v219 : FVec F S256x1 .f32) (v221 : IVec S256x128 32)
    (X_arg6 : BufTy.Contents (Elt F) arg6.view.ty) (X_arg17 : BufTy.Contents (Elt F) arg17.view.ty) (X_arg19 : BufTy.Contents (Elt F) arg19.view.ty) (X_arg20 : BufTy.Contents (Elt F) arg20.view.ty) (X_arg21 : BufTy.Contents (Elt F) arg21.view.ty)
    (k : Fin k0_t3_loop.trips) (acc : FVec F S256x128 .f32 × FVec F S256x128 .f32) (f_arg10 : BufTy.Contents (Elt F) arg10.view.ty) (f_arg12 : BufTy.Contents (Elt F) arg12.view.ty) (f_arg13 : BufTy.Contents (Elt F) arg13.view.ty) :
    (iprop((arg6.view.loc (c : Thread nD τ) ↦[arg6.view.set]{fullShare} X_arg6) ∗ (arg17.view.loc (c : Thread nD τ) ↦[arg17.view.set]{fullShare} X_arg17) ∗ (arg19.view.loc (c : Thread nD τ) ↦[arg19.view.set]{fullShare} X_arg19) ∗ (arg20.view.loc (c : Thread nD τ) ↦[arg20.view.set]{fullShare} X_arg20) ∗ (arg21.view.loc (c : Thread nD τ) ↦[arg21.view.set]{fullShare} X_arg21) ∗ (arg10.view.loc (c : Thread nD τ) ↦[arg10.view.set]{fullShare} f_arg10) ∗ (arg12.view.loc (c : Thread nD τ) ↦[arg12.view.set]{fullShare} f_arg12) ∗ (arg13.view.loc (c : Thread nD τ) ↦[arg13.view.set]{fullShare} f_arg13)) : sProp 𝕄D)
      ⊢ wp frame (wpE (defs₀ (F := F)) 𝒱 (c : Thread nD τ) bd) E (k0_t3_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v275_r0 v219 v221 k acc)
          (fun _ => iprop((arg6.view.loc (c : Thread nD τ) ↦[arg6.view.set]{fullShare} X_arg6) ∗ (arg17.view.loc (c : Thread nD τ) ↦[arg17.view.set]{fullShare} X_arg17) ∗ (arg19.view.loc (c : Thread nD τ) ↦[arg19.view.set]{fullShare} X_arg19) ∗ (arg20.view.loc (c : Thread nD τ) ↦[arg20.view.set]{fullShare} X_arg20) ∗ (arg21.view.loc (c : Thread nD τ) ↦[arg21.view.set]{fullShare} X_arg21) ∗ (∃ f, (arg10.view.loc (c : Thread nD τ) ↦[arg10.view.set]{fullShare} f)) ∗ (∃ f, (arg12.view.loc (c : Thread nD τ) ↦[arg12.view.set]{fullShare} f)) ∗ (∃ f, (arg13.view.loc (c : Thread nD τ) ↦[arg13.view.set]{fullShare} f)))) := by
  have hk : k.val < 28 := Nat.lt_of_lt_of_le k.isLt k0_t3_abs.2.1
  unfold k0_t3_body
  iintro ⟨HR_arg6, HR_arg17, HR_arg19, HR_arg20, HR_arg21, HW_arg10, HW_arg12, HW_arg13⟩
  sl_exec
  sl_step
  isplitl [HR_arg6]; · iexact HR_arg6
  isplitl [HR_arg17]; · iexact HR_arg17
  isplitl [HR_arg19]; · iexact HR_arg19
  isplitl [HR_arg20]; · iexact HR_arg20
  isplitl [HR_arg21]; · iexact HR_arg21
  isplitl [HW_arg10]; · iexists _; iexact HW_arg10
  isplitl [HW_arg12]; · iexists _; iexact HW_arg12
  iexists _; iexact HW_arg13

set_option warn.classDefReducibility false in
/-- The third loop by its invariant. -/
@[sl_loop] def loop3 (𝒱 : Variants) (c : Dev nD) (bd : Option 𝒱.V) (E : Set ℕ) (i : grid0.Coords) (arg1 : Memref sig .tc .smem S16x56 .f32) (harg1 : arg1.IsWhole) (arg2 : Memref sig .tc .vmem S256x2048 .fp8e4m3) (harg2 : arg2.IsWhole) (arg3 : Memref sig .tc .vmem S256x16 .i8) (harg3 : arg3.IsWhole) (arg4 : Memref sig .tc .vmem S2048x7168 .fp8e4m3) (harg4 : arg4.IsWhole) (arg5 : Memref sig .tc .vmem S256x7168 .bf16) (harg5 : arg5.IsWhole) (arg6 : Memref sig .tc .vmem S1x7168 .f32) (harg6 : arg6.IsWhole) (arg7 : Memref sig .tc .hbm S256x7168 .f32) (harg7 : arg7.IsWhole) (arg8 : Memref sig .tc .vmem S1x256 .f32) (harg8 : arg8.IsWhole) (arg9 : Memref sig .tc .vmem S256x7168 .bf16) (harg9 : arg9.IsWhole) (arg10 : Memref sig .tc .vmem S256x256 .f32) (harg10 : arg10.IsWhole) (arg11 : Memref sig .tc .vmem S256x256 .f32) (harg11 : arg11.IsWhole) (arg12 : Memref sig .tc .vmem S256x7168 .fp8e4m3) (harg12 : arg12.IsWhole) (arg13 : Memref sig .tc .vmem S256x7168 .bf16) (harg13 : arg13.IsWhole) (arg14 : Memref sig .tc .vmem S256x128 .f32) (harg14 : arg14.IsWhole) (arg15 : Memref sig .tc .vmem S256x2048 .bf16) (harg15 : arg15.IsWhole) (arg16 : Memref sig .tc .vmem S2048x256 .bf16) (harg16 : arg16.IsWhole) (arg17 : Memref sig .tc .vmem S256x7168 .f32) (harg17 : arg17.IsWhole) (arg18 : Memref sig .tc .vmem S256x256 .f32) (harg18 : arg18.IsWhole) (arg19 : Memref sig .tc .vmem S256x7168 .bf16) (harg19 : arg19.IsWhole) (arg20 : Memref sig .tc .vmem S256x7168 .bf16) (harg20 : arg20.IsWhole) (arg21 : Memref sig .tc .vmem S256x7168 .bf16) (harg21 : arg21.IsWhole) (v275_r0 : DmaSems sig S_) (v219 : FVec F S256x1 .f32) (v221 : IVec S256x128 32)
    (X_arg6 : BufTy.Contents (Elt F) arg6.view.ty) (X_arg17 : BufTy.Contents (Elt F) arg17.view.ty) (X_arg19 : BufTy.Contents (Elt F) arg19.view.ty) (X_arg20 : BufTy.Contents (Elt F) arg20.view.ty) (X_arg21 : BufTy.Contents (Elt F) arg21.view.ty) (init : FVec F S256x128 .f32 × FVec F S256x128 .f32) :
    LoopInvTy_k0_t3 (F := F) Unit ℕ (UR sig nD τ × Counters) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v275_r0 v219 v221 init where
  inv _ _ := iprop((arg6.view.loc (c : Thread nD τ) ↦[arg6.view.set]{fullShare} X_arg6) ∗ (arg17.view.loc (c : Thread nD τ) ↦[arg17.view.set]{fullShare} X_arg17) ∗ (arg19.view.loc (c : Thread nD τ) ↦[arg19.view.set]{fullShare} X_arg19) ∗ (arg20.view.loc (c : Thread nD τ) ↦[arg20.view.set]{fullShare} X_arg20) ∗ (arg21.view.loc (c : Thread nD τ) ↦[arg21.view.set]{fullShare} X_arg21) ∗ (∃ f, (arg10.view.loc (c : Thread nD τ) ↦[arg10.view.set]{fullShare} f)) ∗ (∃ f, (arg12.view.loc (c : Thread nD τ) ↦[arg12.view.set]{fullShare} f)) ∗ (∃ f, (arg13.view.loc (c : Thread nD τ) ↦[arg13.view.set]{fullShare} f)))
  step k acc := by
    iintro ⟨HR_arg6, HR_arg17, HR_arg19, HR_arg20, HR_arg21, ⟨%f_arg10, HW_arg10⟩, ⟨%f_arg12, HW_arg12⟩, ⟨%f_arg13, HW_arg13⟩⟩
    iapply (step3 (F := F) 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v275_r0 v219 v221 X_arg6 X_arg17 X_arg19 X_arg20 X_arg21 k acc f_arg10 f_arg12 f_arg13)
    isplitl [HR_arg6]; · iexact HR_arg6
    isplitl [HR_arg17]; · iexact HR_arg17
    isplitl [HR_arg19]; · iexact HR_arg19
    isplitl [HR_arg20]; · iexact HR_arg20
    isplitl [HR_arg21]; · iexact HR_arg21
    isplitl [HW_arg10]; · iexact HW_arg10
    isplitl [HW_arg12]; · iexact HW_arg12
    iexact HW_arg13

/-- Scratch buffer 0. -/
abbrev sc0 : Memref sig .tc .vmem S256x2048 .bf16 := Memref.whole cc0_scratch0
/-- Scratch buffer 1. -/
abbrev sc1 : Memref sig .tc .vmem S2048x256 .bf16 := Memref.whole cc0_scratch1
/-- Scratch buffer 2. -/
abbrev sc2 : Memref sig .tc .vmem S256x7168 .f32 := Memref.whole cc0_scratch2
/-- Scratch buffer 3. -/
abbrev sc3 : Memref sig .tc .vmem S256x256 .f32 := Memref.whole cc0_scratch3
/-- Scratch buffer 4. -/
abbrev sc4 : Memref sig .tc .vmem S256x7168 .bf16 := Memref.whole cc0_scratch4
/-- Scratch buffer 5. -/
abbrev sc5 : Memref sig .tc .vmem S256x7168 .bf16 := Memref.whole cc0_scratch5
/-- Scratch buffer 6. -/
abbrev sc6 : Memref sig .tc .vmem S256x7168 .bf16 := Memref.whole cc0_scratch6
/-- The router weights, left in the slow memory. -/
abbrev hbM : Memref sig .tc .hbm S256x7168 .f32 := Memref.whole main_arg6
/-- A memref's buffer on core `c` held whole at `f`. -/
abbrev hbPt (c : Dev nD) {sp : Space} {S : Shape} {e : EltTy} (M : Memref sig .tc sp S e) (f : Buf (Elt F) (M.view.loc (c : Thread nD τ))) : sProp 𝕄D :=
  M.view.loc (c : Thread nD τ) ↦{fullShare} f

/-- The scale a byte stands for: the byte moved to the exponent field. -/
def byteScale {S : Shape} (b : Vec F S .i8) : FVec F S .bf16 :=
  truncf .bf16 (bitcastToFloat .f32 (shli (extui 32 b natLt_8_32) (broadcast S 23#32))) bitsLt_bf16_f32

/-- The dequantised attention block: each code times the scale of its 128 columns. -/
def adeqOf (a : Vec F S256x2048 .fp8e4m3) (b : Vec F S256x16 .i8) : S256x2048.Idx → F .bf16 := fun y =>
  FloatOps.mulf (FloatOps.extf .bf16 bitsLt_fp8e4m3_bf16 (a y))
    (byteScale b (ix2 (y 0) (⟨(y 1).val / 128, by
      have h : (y 1).val < 2048 := (y 1).isLt
      omega⟩ : Fin 16)))

/-- One stored tile of the dequantised attention block. -/
theorem atile_ok (arg2 : Memref sig .tc .vmem S256x2048 .fp8e4m3) (arg3 : Memref sig .tc .vmem S256x16 .i8)
    (X2 : BufTy.Contents (Elt F) arg2.view.ty) (X3 : BufTy.Contents (Elt F) arg3.view.ty)
    (b : ℕ) (inb : ∀ x, (![0, b] : Fin 2 → ℕ) x + S256x128.size x ≤ S256x2048.size x)
    (off : Fin 2 → ℕ) (inb3 : ∀ x, off x + S256x1.size x ≤ S256x16.size x)
    (h1 : FTy.bits .fp8e4m3 < FTy.bits .bf16) (h2 : FTy.bits .bf16 < FTy.bits .f32) (h3 : S256x1.Broadcasts S256x128) (h4 : S256x128.ShapeCasts S256x128) (h5 : 8 < 32)
    (hb : b % 128 = 0) (hoff : off = ![0, b / 128]) (x : S256x128.Idx) :
    shapeCast S256x128 (mulf (extf .bf16 (View.readAt (Elt F) arg2.view (Rect.unit (s := S256x2048) ![0, b] S256x128.size inb).toLoadRect X2) h1)
        (broadcastTo S256x128 (truncf .bf16 (bitcastToFloat .f32 (shli (extui 32 (View.readAt (Elt F) arg3.view (Rect.unit (s := S256x16) off S256x1.size inb3).toLoadRect X3) h5) (broadcast S256x1 23#32))) h2) h3)) h4 x
      = adeqOf (arg2.view.read (Elt F) X2) (arg3.view.read (Elt F) X3) ((Rect.unit (s := S256x2048) ![0, b] S256x128.size inb).emb x) := by
  have hx0 : (x 0).val < 256 := (x 0).isLt
  have hx1 : (x 1).val < 128 := (x 1).isLt
  subst hoff
  have e0 : ((Rect.unit (s := S256x2048) ![0, b] S256x128.size inb).emb x 0).val = (x 0).val := by
    show 0 + 1 * (x 0).val = _; omega
  have e1 : ((Rect.unit (s := S256x2048) ![0, b] S256x128.size inb).emb x 1).val = b + (x 1).val := by
    show b + 1 * (x 1).val = _; omega
  unfold adeqOf byteScale
  pointwise
  rw [View.readAt_apply, View.readAt_apply]
  refine congrArg₂ FloatOps.mulf rfl (congrArg (fun z => FloatOps.truncf .bf16 bitsLt_bf16_f32 (FloatOps.ofBits .f32 (IntOp.shli ArithUnit.vector (BitVec.setWidth 32 (arg3.view.read (Elt F) X3 z)) 23#32))) ?_)
  funext d; apply Fin.ext
  match d with
  | ⟨0, _⟩ => show 0 + 1 * (x 0).val = (((Rect.unit (s := S256x2048) ![0, b] S256x128.size inb).emb x) 0).val; omega
  | ⟨1, _⟩ => show b / 128 + 1 * 0 = (((Rect.unit (s := S256x2048) ![0, b] S256x128.size inb).emb x) 1).val / 128; omega

omit [FloatOps F] in
/-- The attention block read back whole once tiles that cover it and agree with `g` are stored. -/
theorem at_read (f : BufTy.Contents (Elt F) sc0.view.ty) (L : List (View.Piece (Elt F) S256x2048 .bf16))
    (g : S256x2048.Idx → F .bf16) (hL : ∀ p ∈ L, ∀ x, p.2 x = g (p.1.emb x))
    (hc : ∀ y, ∃ p ∈ L, y ∈ p.1.set) : sc0.view.read (Elt F) (sc0.view.writes (Elt F) f L) = g :=
  funext fun y => View.read_writes_apply_of_pieces sc0.view f g L hL y (hc y)

/-- The first grid point: the body runs to its return, x1 stored, everything else it writes holding something. -/
theorem kernelFirst (c : Dev nD) (i : grid0.Coords) (arg1 : Memref sig .tc .smem S16x56 .f32) (harg1 : arg1.IsWhole) (arg2 : Memref sig .tc .vmem S256x2048 .fp8e4m3) (harg2 : arg2.IsWhole) (arg3 : Memref sig .tc .vmem S256x16 .i8) (harg3 : arg3.IsWhole) (arg4 : Memref sig .tc .vmem S2048x7168 .fp8e4m3) (harg4 : arg4.IsWhole) (arg5 : Memref sig .tc .vmem S256x7168 .bf16) (harg5 : arg5.IsWhole) (arg6 : Memref sig .tc .vmem S1x7168 .f32) (harg6 : arg6.IsWhole) (arg8 : Memref sig .tc .vmem S1x256 .f32) (harg8 : arg8.IsWhole) (arg9 : Memref sig .tc .vmem S256x7168 .bf16) (harg9 : arg9.IsWhole) (arg10 : Memref sig .tc .vmem S256x256 .f32) (harg10 : arg10.IsWhole) (arg11 : Memref sig .tc .vmem S256x256 .f32) (harg11 : arg11.IsWhole) (arg12 : Memref sig .tc .vmem S256x7168 .fp8e4m3) (harg12 : arg12.IsWhole) (arg13 : Memref sig .tc .vmem S256x7168 .bf16) (harg13 : arg13.IsWhole) (arg14 : Memref sig .tc .vmem S256x128 .f32) (harg14 : arg14.IsWhole) (hc0 : k0_cond1 i = 1#1)
    (x1 : Vec F S16x56 .f32) (x2 : Vec F S256x2048 .fp8e4m3) (x3 : Vec F S256x16 .i8) (x4 : Vec F S2048x7168 .fp8e4m3) (x5 : Vec F S256x7168 .bf16) (x6 : Vec F S1x7168 .f32) (x8 : Vec F S1x256 .f32) (fh : Buf (Elt F) (hbM.view.loc (c : Thread nD τ))) (W : Waits sig Unit) (K : PUnit → sProp 𝕄D) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg8 fullShare x8 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d) ∗ (∃ d, owns (c : Thread nD τ) sc4 fullShare d) ∗ (∃ d, owns (c : Thread nD τ) sc5 fullShare d) ∗ (∃ d, owns (c : Thread nD τ) sc6 fullShare d) ∗ semVal ((c : Thread nD τ), SemLoc.dma cc0_scoped0.sem) 0 ∗ hbPt c hbM fh ∗ owes (c : Thread nD τ) 0 W
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg8 fullShare x8 ∗ owns (c : Thread nD τ) arg9 fullShare (x1Of x1 x4 x5 (adeqOf x2 x3)) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d) ∗ (∃ d, owns (c : Thread nD τ) sc4 fullShare d) ∗ (∃ d, owns (c : Thread nD τ) sc5 fullShare d) ∗ (∃ d, owns (c : Thread nD τ) sc6 fullShare d) ∗ semVal ((c : Thread nD τ), SemLoc.dma cc0_scoped0.sem) 0 ∗ hbPt c hbM fh ∗ ∃ W', owes (c : Thread nD τ) 0 W') -∗ K ⟨⟩))
      ⊢ wp frame (wpE (defs₀ (F := F)) Variants.none (c : Thread nD τ) none) Set.univ
          (cc0_proj (F := F) i arg1 harg1 arg2 harg2 arg3 harg3 arg4 harg4 arg5 harg5 arg6 harg6 hbM (Memref.isWhole_whole _) arg8 harg8 arg9 harg9 arg10 harg10 arg11 harg11 arg12 harg12 arg13 harg13 arg14 harg14 sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) cc0_scoped0) K := by
  simp only [cc0_proj_eq_skeleton]; unfold cc0_proj_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton]
  unfold owns
  iintro ⟨⟨%f1, %h1, H1⟩, ⟨%f2, %h2, H2⟩, ⟨%f3, %h3, H3⟩, ⟨%f4, %h4, H4⟩, ⟨%f5, %h5, H5⟩, ⟨%f6, %h6, H6⟩, ⟨%f8, %h8, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, Hq, Hh, HW, Hk⟩
  sl_exec (disch := first | sl_exact hc0)
  sl_step
  iapply Hk
  isplitl [H1]
  · iexists _; isplitr; swap; · iexact H1
    ipureintro; exact h1
  isplitl [H2]
  · iexists _; isplitr; swap; · iexact H2
    ipureintro; exact h2
  isplitl [H3]
  · iexists _; isplitr; swap; · iexact H3
    ipureintro; exact h3
  isplitl [H4]
  · iexists _; isplitr; swap; · iexact H4
    ipureintro; exact h4
  isplitl [H5]
  · iexists _; isplitr; swap; · iexact H5
    ipureintro; exact h5
  isplitl [H6]
  · iexists _; isplitr; swap; · iexact H6
    ipureintro; exact h6
  isplitl [H8]
  · iexists _; isplitr; swap; · iexact H8
    ipureintro; exact h8
  isplitl [H9]
  · iexists _; isplitr; swap; · iexact H9
    ipureintro
    have e : sc0.view.read (Elt F) (sc0.view.writes (Elt F) sc0.view.junk (kernelFirst.sl.HS0_16 c arg2 arg3 f2 f3)) = adeqOf (arg2.view.read (Elt F) f2) (arg3.view.read (Elt F) f3) := by
      unfold kernelFirst.sl.HS0_16
      refine at_read _ _ _ ?_ (View.cover_of_tiledL _ S256x128.size (by sl_kernel_rfl))
      dsimp -proj only [kernelFirst.sl.r, kernelFirst.sl.r_1, kernelFirst.sl.r_2, kernelFirst.sl.r_3, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100]
      repeat' refine List.forall_mem_cons.2 ⟨fun x => atile_ok arg2 arg3 f2 f3 _ (by decide) _ _ _ _ _ _ _ (by decide) rfl x, ?_⟩
      exact List.forall_mem_nil _
    funext y
    refine (hL15 y (y 1).isLt).trans ?_
    rw [e, h1, h2, h3, h4, h5]
  isplitl [H10]
  · iexists _, _; isplitr; swap; · iexact H10
    ipureintro; rfl
  isplitl [H11]
  · iexists _, _; isplitr; swap; · iexact H11
    ipureintro; rfl
  isplitl [H12]
  · iexists _, _; isplitr; swap; · iexact H12
    ipureintro; rfl
  isplitl [H13]
  · iexists _, _; isplitr; swap; · iexact H13
    ipureintro; rfl
  isplitl [H14]
  · iexists _, _; isplitr; swap; · iexact H14
    ipureintro; rfl
  isplitl [HS0]
  · iexists _, _; isplitr; swap; · iexact HS0
    ipureintro; rfl
  isplitl [HS1]
  · iexists _, _; isplitr; swap; · iexact HS1
    ipureintro; rfl
  isplitl [HS2]
  · iexists _, _; isplitr; swap; · iexact HS2
    ipureintro; rfl
  isplitl [HS3]
  · iexists _, _; isplitr; swap; · iexact HS3
    ipureintro; rfl
  isplitl [HS4]
  · iexists _, _; isplitr; swap; · iexact HS4
    ipureintro; rfl
  isplitl [HS5]
  · iexists _, _; isplitr; swap; · iexact HS5
    ipureintro; rfl
  isplitl [HS6]
  · iexists _, _; isplitr; swap; · iexact HS6
    ipureintro; rfl
  isplitl [Hq]; · iexact Hq
  isplitl [Hh]; · iexact Hh
  iexists _; iexact HW

/-- A later grid point: the body runs to its return, x1 stored, everything else it writes holding something. -/
theorem kernelLater (c : Dev nD) (i : grid0.Coords) (arg1 : Memref sig .tc .smem S16x56 .f32) (harg1 : arg1.IsWhole) (arg2 : Memref sig .tc .vmem S256x2048 .fp8e4m3) (harg2 : arg2.IsWhole) (arg3 : Memref sig .tc .vmem S256x16 .i8) (harg3 : arg3.IsWhole) (arg4 : Memref sig .tc .vmem S2048x7168 .fp8e4m3) (harg4 : arg4.IsWhole) (arg5 : Memref sig .tc .vmem S256x7168 .bf16) (harg5 : arg5.IsWhole) (arg6 : Memref sig .tc .vmem S1x7168 .f32) (harg6 : arg6.IsWhole) (arg8 : Memref sig .tc .vmem S1x256 .f32) (harg8 : arg8.IsWhole) (arg9 : Memref sig .tc .vmem S256x7168 .bf16) (harg9 : arg9.IsWhole) (arg10 : Memref sig .tc .vmem S256x256 .f32) (harg10 : arg10.IsWhole) (arg11 : Memref sig .tc .vmem S256x256 .f32) (harg11 : arg11.IsWhole) (arg12 : Memref sig .tc .vmem S256x7168 .fp8e4m3) (harg12 : arg12.IsWhole) (arg13 : Memref sig .tc .vmem S256x7168 .bf16) (harg13 : arg13.IsWhole) (arg14 : Memref sig .tc .vmem S256x128 .f32) (harg14 : arg14.IsWhole) (hc0 : ¬k0_cond1 i = 1#1)
    (x1 : Vec F S16x56 .f32) (x2 : Vec F S256x2048 .fp8e4m3) (x3 : Vec F S256x16 .i8) (x4 : Vec F S2048x7168 .fp8e4m3) (x5 : Vec F S256x7168 .bf16) (x6 : Vec F S1x7168 .f32) (x8 : Vec F S1x256 .f32) (fh : Buf (Elt F) (hbM.view.loc (c : Thread nD τ))) (W : Waits sig Unit) (K : PUnit → sProp 𝕄D) :
    iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg8 fullShare x8 ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d) ∗ (∃ d, owns (c : Thread nD τ) sc4 fullShare d) ∗ (∃ d, owns (c : Thread nD τ) sc5 fullShare d) ∗ (∃ d, owns (c : Thread nD τ) sc6 fullShare d) ∗ semVal ((c : Thread nD τ), SemLoc.dma cc0_scoped0.sem) 0 ∗ hbPt c hbM fh ∗ owes (c : Thread nD τ) 0 W
        ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg8 fullShare x8 ∗ owns (c : Thread nD τ) arg9 fullShare (x1Of x1 x4 x5 (adeqOf x2 x3)) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d) ∗ (∃ d, owns (c : Thread nD τ) sc4 fullShare d) ∗ (∃ d, owns (c : Thread nD τ) sc5 fullShare d) ∗ (∃ d, owns (c : Thread nD τ) sc6 fullShare d) ∗ semVal ((c : Thread nD τ), SemLoc.dma cc0_scoped0.sem) 0 ∗ hbPt c hbM fh ∗ ∃ W', owes (c : Thread nD τ) 0 W') -∗ K ⟨⟩))
      ⊢ wp frame (wpE (defs₀ (F := F)) Variants.none (c : Thread nD τ) none) Set.univ
          (cc0_proj (F := F) i arg1 harg1 arg2 harg2 arg3 harg3 arg4 harg4 arg5 harg5 arg6 harg6 hbM (Memref.isWhole_whole _) arg8 harg8 arg9 harg9 arg10 harg10 arg11 harg11 arg12 harg12 arg13 harg13 arg14 harg14 sc0 (Memref.isWhole_whole _) sc1 (Memref.isWhole_whole _) sc2 (Memref.isWhole_whole _) sc3 (Memref.isWhole_whole _) sc4 (Memref.isWhole_whole _) sc5 (Memref.isWhole_whole _) sc6 (Memref.isWhole_whole _) cc0_scoped0) K := by
  simp only [cc0_proj_eq_skeleton]; unfold cc0_proj_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton]
  unfold owns
  iintro ⟨⟨%f1, %h1, H1⟩, ⟨%f2, %h2, H2⟩, ⟨%f3, %h3, H3⟩, ⟨%f4, %h4, H4⟩, ⟨%f5, %h5, H5⟩, ⟨%f6, %h6, H6⟩, ⟨%f8, %h8, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, Hq, Hh, HW, Hk⟩
  sl_exec (disch := first | sl_exact hc0)
  sl_step
  iapply Hk
  isplitl [H1]
  · iexists _; isplitr; swap; · iexact H1
    ipureintro; exact h1
  isplitl [H2]
  · iexists _; isplitr; swap; · iexact H2
    ipureintro; exact h2
  isplitl [H3]
  · iexists _; isplitr; swap; · iexact H3
    ipureintro; exact h3
  isplitl [H4]
  · iexists _; isplitr; swap; · iexact H4
    ipureintro; exact h4
  isplitl [H5]
  · iexists _; isplitr; swap; · iexact H5
    ipureintro; exact h5
  isplitl [H6]
  · iexists _; isplitr; swap; · iexact H6
    ipureintro; exact h6
  isplitl [H8]
  · iexists _; isplitr; swap; · iexact H8
    ipureintro; exact h8
  isplitl [H9]
  · iexists _; isplitr; swap; · iexact H9
    ipureintro
    have e : sc0.view.read (Elt F) (sc0.view.writes (Elt F) sc0.view.junk (kernelLater.sl.HS0_16 c arg2 arg3 f2 f3)) = adeqOf (arg2.view.read (Elt F) f2) (arg3.view.read (Elt F) f3) := by
      unfold kernelLater.sl.HS0_16
      refine at_read _ _ _ ?_ (View.cover_of_tiledL _ S256x128.size (by sl_kernel_rfl))
      dsimp -proj only [kernelLater.sl.r, kernelLater.sl.r_1, kernelLater.sl.r_2, kernelLater.sl.r_3, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100]
      repeat' refine List.forall_mem_cons.2 ⟨fun x => atile_ok arg2 arg3 f2 f3 _ (by decide) _ _ _ _ _ _ _ (by decide) rfl x, ?_⟩
      exact List.forall_mem_nil _
    funext y
    refine (hL5 y (y 1).isLt).trans ?_
    rw [e, h1, h2, h3, h4, h5]
  isplitl [H10]
  · iexists _, _; isplitr; swap; · iexact H10
    ipureintro; rfl
  isplitl [H11]
  · iexists _, _; isplitr; swap; · iexact H11
    ipureintro; rfl
  isplitl [H12]
  · iexists _, _; isplitr; swap; · iexact H12
    ipureintro; rfl
  isplitl [H13]
  · iexists _, _; isplitr; swap; · iexact H13
    ipureintro; rfl
  isplitl [H14]
  · iexists _, _; isplitr; swap; · iexact H14
    ipureintro; rfl
  isplitl [HS0]
  · iexists _, _; isplitr; swap; · iexact HS0
    ipureintro; rfl
  isplitl [HS1]
  · iexists _, _; isplitr; swap; · iexact HS1
    ipureintro; rfl
  isplitl [HS2]
  · iexists _, _; isplitr; swap; · iexact HS2
    ipureintro; rfl
  isplitl [HS3]
  · iexists _, _; isplitr; swap; · iexact HS3
    ipureintro; rfl
  isplitl [HS4]
  · iexists _, _; isplitr; swap; · iexact HS4
    ipureintro; rfl
  isplitl [HS5]
  · iexists _, _; isplitr; swap; · iexact HS5
    ipureintro; rfl
  isplitl [HS6]
  · iexists _, _; isplitr; swap; · iexact HS6
    ipureintro; rfl
  isplitl [Hq]; · iexact Hq
  isplitl [Hh]; · iexact Hh
  iexists _; iexact HW

end Cert.ProjIdeal.Gen

end
-- ==== Proof.ProjIdealBody.lean ====
/-
  Hand-written, untrusted. The frame of the first projection's call: its body's run (ProjIdealRun.lean) at every grid point, then the
  launch. The x1 output ends at the blocks the run names; the five other outputs are forgotten: nothing here reads them. The router
  weights stay in the slow memory and are copied by the body itself at the first point.
-/
module

public import proofs.«01_k».proof.Proof.ProjIdealRun
public import Idealize.ShloMosaic.Lib.Pipeline.Frame
public import Idealize.ShloMosaic.Lib.Transfers

@[expose] public section

set_option maxRecDepth 16384

noncomputable section

namespace Cert.ProjIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄P" => MT nD τ sig Unit (Elt F) ℕ (Pipeline.UD sig nD τ) ℕ

variable (m : (ℓ : Loc nD τ sig) → Buf (Elt F) ℓ) (ρ : Dev nD → PrngReg)

/-! ## The kernel's own semaphore and the operand it moves -/

/-- The cell of the body's own copy. -/
abbrev osem0 : Fin 1 → SemLoc sig := fun j => (![SemLoc.dma cc0_scoped0.sem] : Fin 1 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄P)
      = iprop(semVal ((c : Thread nD τ), SemLoc.dma cc0_scoped0.sem) 0) := by
  rw [Pipeline.ownSems0_eq_of_list c osem0 [0] (by decide) (by decide)]; rfl
/-- The router weights: unscoped and no window's array. -/
def H0 : Finset (Ref sig .tc) := {main_arg6}
theorem H0_sub : H0 ⊆ Pipeline.restRefs sig spec0 := by decide
theorem hbmPts0_eq (c : Dev nD) :
    (bigSep H0 (fun b => ((c : Thread nD τ).loc b) ↦{fullShare} V m c b) : sProp 𝕄P) = iprop(hbPt c hbM (V m c main_arg6)) := by
  rw [BI.bigSep_eq_bigSepL_of_eq [main_arg6] (by decide) (by decide)]; rfl

/-- The invariant between the points: the scratches owned at some contents, the generator register at some state, the cell at zero, the
    router weights at their launch contents. -/
theorem PhiD0_eq (c : Dev nD) :
    (Pipeline.ΦD osem0 spec0 H0 (V m) c : sProp 𝕄P)
      = iprop(iprop((∃ d, owns (c : Thread nD τ) sc0 fullShare d) ∗ (∃ d, owns (c : Thread nD τ) sc1 fullShare d) ∗ (∃ d, owns (c : Thread nD τ) sc2 fullShare d) ∗ (∃ d, owns (c : Thread nD τ) sc3 fullShare d) ∗ (∃ d, owns (c : Thread nD τ) sc4 fullShare d) ∗ (∃ d, owns (c : Thread nD τ) sc5 fullShare d) ∗ (∃ d, owns (c : Thread nD τ) sc6 fullShare d)) ∗ (∃ r, prngReg c r)
          ∗ iprop(semVal ((c : Thread nD τ), SemLoc.dma cc0_scoped0.sem) 0)
          ∗ iprop(hbPt c hbM (V m c main_arg6))) := by
  rw [Pipeline.ΦD_eq, scopedRest0_eq, ownSems00_eq, hbmPts0_eq]; simp only [sc0, sc1, sc2, sc3, sc4, sc5, sc6, owns_whole]; try rfl

/-! ## The proof data and the body obligation -/

/-- The outputs other than x1 are forgotten. -/
def forgets0 : Fin 13 → Bool := fun w => decide (8 ≤ w.val)

/-- The x1 block of point `t`. -/
def x1At (c : Dev nD) (t : Fin cfg0.N) : Vec F S256x7168 .bf16 :=
  x1Of (iblk m c 0 t) (iblk m c 3 t) (iblk m c 4 t) (adeqOf (iblk m c 1 t) (iblk m c 2 t))

/-- The proof data on core `c`: the arrays as the region finds them; each input's block in place after the body; x1 at its block; the
    other outputs unnamed; full shares; nothing owed. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => x1At m c t
    | ⟨w + 8, h⟩ => Pipeline.Dat.unnamed (cfg := cfg0) ⟨w + 8, h⟩ t
  Φ _ := Pipeline.ΦD osem0 spec0 H0 (V m) c
  q _ := fullShare
  owed _ := 0

theorem A_eq (c : Dev nD) (w : Fin cfg0.W) : (dats m 0 c).A w = V m c (Pipeline.arrRef spec0 w) := by dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = x1At m c t := by dsimp only [dats]

/-- Each input's current staging buffer holds its block at every point, fetched there or not. -/
theorem before0_0 (c : Dev nD) (t : Fin cfg0.N) (d) : (dats m 0 c).before 0 t d = iblk m c 0 t :=
  ((dats m 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem before0_1 (c : Dev nD) (t : Fin cfg0.N) (d) : (dats m 0 c).before 1 t d = iblk m c 1 t :=
  ((dats m 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem before0_2 (c : Dev nD) (t : Fin cfg0.N) (d) : (dats m 0 c).before 2 t d = iblk m c 2 t :=
  ((dats m 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
theorem before0_3 (c : Dev nD) (t : Fin cfg0.N) (d) : (dats m 0 c).before 3 t d = iblk m c 3 t :=
  ((dats m 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)
theorem before0_4 (c : Dev nD) (t : Fin cfg0.N) (d) : (dats m 0 c).before 4 t d = iblk m c 4 t :=
  ((dats m 0 c).before_in_eq_fetched 4 rfl (fun _ => rfl) (fun _ _ _ => rfl) (fun t => by rw [after0_4]; unfold Dat.blockOf iblk; rw [A_eq]; try rfl) t d).trans
    (by unfold Dat.fetched Dat.blockOf iblk; rw [A_eq]; try rfl)
theorem before0_5 (c : Dev nD) (t : Fin cfg0.N) (d) : (dats m 0 c).before 5 t d = iblk m c 5 t :=
  ((dats m 0 c).before_in_eq_fetched 5 rfl (fun _ => rfl) (fun _ _ _ => rfl) (fun t => by rw [after0_5]; unfold Dat.blockOf iblk; rw [A_eq]; try rfl) t d).trans
    (by unfold Dat.fetched Dat.blockOf iblk; rw [A_eq]; try rfl)
theorem before0_6 (c : Dev nD) (t : Fin cfg0.N) (d) : (dats m 0 c).before 6 t d = iblk m c 6 t :=
  ((dats m 0 c).before_in_eq_fetched 6 rfl (fun _ => rfl) (fun _ _ _ => rfl) (fun t => by rw [after0_6]; unfold Dat.blockOf iblk; rw [A_eq]; try rfl) t d).trans
    (by unfold Dat.fetched Dat.blockOf iblk; rw [A_eq]; try rfl)

/-- What the body is called with at point `t`, -/
def bodyPre (c : Dev nD) (t : Fin cfg0.N) : sProp 𝕄P :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d))
    ∗ (∃ d, owns (c : Thread nD τ) (win0_8.stage (cfg0.slots t 8)) fullShare (d))
    ∗ (∃ d, owns (c : Thread nD τ) (win0_9.stage (cfg0.slots t 9)) fullShare (d))
    ∗ (∃ d, owns (c : Thread nD τ) (win0_10.stage (cfg0.slots t 10)) fullShare (d))
    ∗ (∃ d, owns (c : Thread nD τ) (win0_11.stage (cfg0.slots t 11)) fullShare (d))
    ∗ (∃ d, owns (c : Thread nD τ) (win0_12.stage (cfg0.slots t 12)) fullShare (d)))
/-- and what it returns. -/
def bodyPost (c : Dev nD) (t : Fin cfg0.N) : sProp 𝕄P :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t)
    ∗ owns (c : Thread nD τ) (win0_5.stage (cfg0.slots t 5)) fullShare ((dats m 0 c).after 5 t)
    ∗ owns (c : Thread nD τ) (win0_6.stage (cfg0.slots t 6)) fullShare ((dats m 0 c).after 6 t)
    ∗ owns (c : Thread nD τ) (win0_7.stage (cfg0.slots t 7)) fullShare ((dats m 0 c).after 7 t)
    ∗ (∃ d, owns (c : Thread nD τ) (win0_8.stage (cfg0.slots t 8)) fullShare d)
    ∗ (∃ d, owns (c : Thread nD τ) (win0_9.stage (cfg0.slots t 9)) fullShare d)
    ∗ (∃ d, owns (c : Thread nD τ) (win0_10.stage (cfg0.slots t 10)) fullShare d)
    ∗ (∃ d, owns (c : Thread nD τ) (win0_11.stage (cfg0.slots t 11)) fullShare d)
    ∗ (∃ d, owns (c : Thread nD τ) (win0_12.stage (cfg0.slots t 12)) fullShare d))

set_option maxHeartbeats 3200000 in
/-- The body at the point: the invariant opened, the run of its case, the invariant closed. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [after0_0, after0_1, after0_2, after0_3, after0_4, after0_5, after0_6, after0_7]
  unfold x1At
  rw [show (dats m 0 c).Φ t.succ = (dats m 0 c).Φ t.castSucc from rfl,
    show (dats m 0 c).owesAt () t.succ = (dats m 0 c).owesAt () t.castSucc from rfl,
    show (dats m 0 c).Φ t.castSucc = Pipeline.ΦD osem0 spec0 H0 (V m) c from rfl, PhiD0_eq]
  unfold Dat.owesAt Pipeline.owesWithin
  rw [show (dats m 0 c).owed t.castSucc = 0 from rfl]
  by_cases hc0 : k0_cond1 (grid0.coords t) = 1#1
  · iintro ⟨⟨⟨HS0, HS1, HS2, HS3, HS4, HS5, HS6⟩, Hg, Hq, Hh⟩, ⟨%W, %hW, HO⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply (kernelFirst c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) hc0 (iblk m c 0 t) (iblk m c 1 t) (iblk m c 2 t) (iblk m c 3 t) (iblk m c 4 t) (iblk m c 5 t) (iblk m c 6 t) (V m c main_arg6) W _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    isplitl [H10]; · iexists _; iexact H10
    isplitl [H11]; · iexists _; iexact H11
    isplitl [H12]; · iexists _; iexact H12
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    isplitl [Hq]; · iexact Hq
    isplitl [Hh]; · iexact Hh
    isplitl [HO]; · iexact HO
    iintro ⟨H0, H1, H2, H3, H4, H5, H6, H7, H8, H9, H10, H11, H12, HS0, HS1, HS2, HS3, HS4, HS5, HS6, Hq, Hh, ⟨%W', HO⟩⟩
    isplitl [HS0 HS1 HS2 HS3 HS4 HS5 HS6 Hg Hq Hh]
    · isplitl [HS0 HS1 HS2 HS3 HS4 HS5 HS6]
      · isplitl [HS0]; · iexact HS0
        isplitl [HS1]; · iexact HS1
        isplitl [HS2]; · iexact HS2
        isplitl [HS3]; · iexact HS3
        isplitl [HS4]; · iexact HS4
        isplitl [HS5]; · iexact HS5
        iexact HS6
      isplitl [Hg]; · iexact Hg
      isplitl [Hq]; · iexact Hq
      iexact Hh
    isplitl [HO]
    · iexists W'; isplitr; · ipureintro; exact fun _ _ => Or.inl trivial
      iexact HO
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12
  · iintro ⟨⟨⟨HS0, HS1, HS2, HS3, HS4, HS5, HS6⟩, Hg, Hq, Hh⟩, ⟨%W, %hW, HO⟩, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
    iapply (kernelLater c (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) hc0 (iblk m c 0 t) (iblk m c 1 t) (iblk m c 2 t) (iblk m c 3 t) (iblk m c 4 t) (iblk m c 5 t) (iblk m c 6 t) (V m c main_arg6) W _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    isplitl [H10]; · iexists _; iexact H10
    isplitl [H11]; · iexists _; iexact H11
    isplitl [H12]; · iexists _; iexact H12
    isplitl [HS0]; · iexact HS0
    isplitl [HS1]; · iexact HS1
    isplitl [HS2]; · iexact HS2
    isplitl [HS3]; · iexact HS3
    isplitl [HS4]; · iexact HS4
    isplitl [HS5]; · iexact HS5
    isplitl [HS6]; · iexact HS6
    isplitl [Hq]; · iexact Hq
    isplitl [Hh]; · iexact Hh
    isplitl [HO]; · iexact HO
    iintro ⟨H0, H1, H2, H3, H4, H5, H6, H7, H8, H9, H10, H11, H12, HS0, HS1, HS2, HS3, HS4, HS5, HS6, Hq, Hh, ⟨%W', HO⟩⟩
    isplitl [HS0 HS1 HS2 HS3 HS4 HS5 HS6 Hg Hq Hh]
    · isplitl [HS0 HS1 HS2 HS3 HS4 HS5 HS6]
      · isplitl [HS0]; · iexact HS0
        isplitl [HS1]; · iexact HS1
        isplitl [HS2]; · iexact HS2
        isplitl [HS3]; · iexact HS3
        isplitl [HS4]; · iexact HS4
        isplitl [HS5]; · iexact HS5
        iexact HS6
      isplitl [Hg]; · iexact Hg
      isplitl [Hq]; · iexact Hq
      iexact Hh
    isplitl [HO]
    · iexists W'; isplitr; · ipureintro; exact fun _ _ => Or.inl trivial
      iexact HO
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

/-- The library's body obligation, the outputs other than x1 forgotten. -/
theorem body_obligation (c : Dev nD) :
    BodyObligation (dats (F := F) m 0 c) (defs₀ (F := F)) Variants.none () Set.univ forgets0 := fun t => by
  rw [bigSep_W0, bigSep_W0, defs₀_row]
  exact triple_restated (sound_body m c t) rfl .rfl fun _ => .rfl

/-! ## The launch -/

/-- @main up to the region, at the algebra the copy's steps run in. -/
theorem hmainD (𝒱₀ : Variants) :
    Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

set_option backward.isDefEq.respectTransparency.types false in
/-- Every run of @main terminates with the arrays as the proof data says, x1 among them, and every counter at zero. -/
theorem run_main :
    θ_run defs (onTc (τ := τ) (main (F := F))) (s₀ m ρ)
      (fun r => Pipeline.RDat.FramePost (cfgs 0) (fun c => (dats m 0 c).toRForget forgets0) (V m) r ∧ r.2.sem = fun _ => 0) :=
  Pipeline.θ_run_frame_dma_forget (Q' := _) cfgs (dats m) (0 : Fin 1) launch0 osem0 defs₀ Variants.none forgets0 ownSemFacts0 H0 H0_sub m ρ main
    (hbody := fun c => (body_obligation m c).loose) (hshare := fun c => (dats m 0 c).share_full fun _ => rfl)
    (howed := fun _ _ => rfl) (V := V m) (hmain := hmainD m Variants.none) (hA := A_eq m)
    (hin := fun _ => .rfl) (hout := fun _ => .rfl)

/-- A window not forgotten ends at what the proof data says. -/
theorem arr_eq {r : PUnit × MemSt nD τ sig (Elt F)}
    (h : Pipeline.RDat.FramePost (cfgs 0) (fun c => (dats (F := F) m 0 c).toRForget forgets0) (V m) r) (c : Dev nD) (w : Fin cfg0.W)
    (hw : forgets0 w = false) :
    r.2.mem ((spec0 w).arr.view.loc (c : Thread nD τ)) = (dats m 0 c).arrAt w cfg0.N :=
  ((dats m 0 c).toRForget_arrAt_iff hw _ _).mp ((h c).1 w)

/-- The arguments end as launched. -/
theorem args_kept {r : PUnit × MemSt nD τ sig (Elt F)}
    (h : Pipeline.RDat.FramePost (cfgs 0) (fun c => (dats (F := F) m 0 c).toRForget forgets0) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  ⟨(arr_eq m h c 4 rfl).trans (((dats m 0 c).arrAt_in 4 rfl _).trans ((A_eq m c 4).trans (V_main_arg0 m c))),
    (arr_eq m h c 1 rfl).trans (((dats m 0 c).arrAt_in 1 rfl _).trans ((A_eq m c 1).trans (V_main_arg1 m c))),
    (arr_eq m h c 2 rfl).trans (((dats m 0 c).arrAt_in 2 rfl _).trans ((A_eq m c 2).trans (V_main_arg2 m c))),
    (arr_eq m h c 3 rfl).trans (((dats m 0 c).arrAt_in 3 rfl _).trans ((A_eq m c 3).trans (V_main_arg3 m c))),
    (arr_eq m h c 0 rfl).trans (((dats m 0 c).arrAt_in 0 rfl _).trans ((A_eq m c 0).trans (V_main_arg4 m c))),
    ((h c).2 main_arg5 (Pipeline.mem_restRefs_of main_arg5 (by decide) (by decide))).trans (V_main_arg5 m c),
    ((h c).2 main_arg6 (Pipeline.mem_restRefs_of main_arg6 (by decide) (by decide))).trans (V_main_arg6 m c),
    ((h c).2 main_arg7 (Pipeline.mem_restRefs_of main_arg7 (by decide) (by decide))).trans (V_main_arg7 m c)⟩

/-- The frame: every run terminates with the arguments as launched and every semaphore at zero. -/
theorem frame_main : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) ∧ r.2.sem = fun _ => 0) :=
  (θ_run defs _ _).mono (fun _ h => ⟨fun c => args_kept m h.1 c, h.2⟩) (run_main m ρ)

end Cert.ProjIdeal.Gen

end
-- ==== Proof.ProjArray.lean ====
/-
  Hand-written, untrusted. What the first projection's x1 array holds after the run, and what the reference computes: the residual
  plus the same sum of products, so the two results are equal.
-/
module

public import proofs.«01_k».proof.Proof.ProjIdealBody
public import proofs.«01_k».proof.Proof.Gen.ProjReferenceIdeal.Value
public import proofs.«01_k».proof.Proof.Exponent
public import Idealize.ShloMosaic.Lib.Pointwise
public import Idealize.ShloMosaic.Lib.WholeRead
public import Idealize.ShloMosaic.Lib.Pipeline.Value

@[expose] public section

set_option maxRecDepth 16384

noncomputable section

namespace Cert.Proof.Proj

open Idealize.ShloMosaic Idealize.ShloMosaic.TcCoe Idealize.SL.Sem
open Cert.ProjIdeal Cert.ProjIdeal.Gen Cert.Proof.Exponent

variable (m : (ℓ : Loc nD τ sig) → Buf (Elt Ideal) ℓ)

/-- What a scale byte stands for: the byte as the exponent field of a float. -/
def dec (b : BitVec 8) : EReal := pw (BitVec.setWidth 32 b)

/-- The residual plus the attention output's projection, at one element: the row of decoded codes against the column of weights,
    each weight times the scale of the 128x128 tile it lies in. -/
def x1 (x : Vec Ideal S1792x7168 .bf16) (a : Vec Ideal S1792x2048 .fp8e4m3) (b : Vec Ideal S1792x16 .i8)
    (w : Vec Ideal S2048x7168 .fp8e4m3) (s : Vec Ideal S16x56 .f32) : S1792x7168.Idx → Ideal .bf16 := fun y =>
  x y + ∑ k : Fin 2048, (a (ix2 (y 0) k) * dec (b (ix2 (y 0) (⟨k.val / 128, by omega⟩ : Fin 16)))) * (w (ix2 k (y 1)) *
    s (ix2 (⟨k.val / 128, by omega⟩ : Fin 16) (⟨(y 1).val / 128, by have h : (y 1).val < 7168 := (y 1).isLt; omega⟩ : Fin 56)))

/-! ## The scale bytes -/

theorem c127 : Ideal.ofBits .f32 0x42FE0000#32 = (((127 : ℝ) : ℝ) : EReal) := by
  simp [Ideal.ofBits, Ideal.ieee, -EReal.coe_mul]; norm_num
theorem c255 : Ideal.ofBits .f32 0x437F0000#32 = (((255 : ℝ) : ℝ) : EReal) := by
  simp [Ideal.ofBits, Ideal.ieee, -EReal.coe_mul]; norm_num

/-- The reference's decoding of a scale byte, by a power of two, is the byte read as an exponent field. -/
theorem dec_eq (b : BitVec 8) :
    (if (FloatOps.uitofp FTy.f32 b : Ideal .f32) = (0 : EReal) then (0 : EReal)
      else if (FloatOps.uitofp FTy.f32 b : Ideal .f32) = Ideal.ofBits .f32 0x437F0000#32 then Ideal.ofBits .f32 0x7F800000#32
      else (FloatOps.exp2 (F := Ideal) (φ := .f32) ((FloatOps.uitofp FTy.f32 b : Ideal .f32) - Ideal.ofBits .f32 0x42FE0000#32 : EReal) : EReal)) = dec b := by
  have hu : (FloatOps.uitofp FTy.f32 b : Ideal .f32) = (((b.toNat : ℝ) : ℝ) : EReal) := rfl
  have hb : b.toNat < 256 := b.isLt
  have hw : BitVec.setWidth 32 b = BitVec.ofNat 32 b.toNat := by
    apply BitVec.eq_of_toNat_eq
    rw [BitVec.toNat_setWidth, BitVec.toNat_ofNat]
  unfold dec
  rw [hu, c127, c255, ctop, hw]
  generalize b.toNat = n at hb
  by_cases h0 : n = 0
  · subst h0
    rw [if_pos (by simp)]
    have e : IntOp.shli .vector (BitVec.ofNat 32 0) 23#32 = 0x00000000#32 := by decide +kernel
    unfold pw
    rw [e]
    simp [Ideal.ofBits, Ideal.ieee]
  · rw [if_neg (by rw [← EReal.coe_zero, EReal.coe_eq_coe_iff]; exact_mod_cast h0)]
    by_cases h1 : n = 255
    · subst h1
      rw [if_pos (by norm_num)]
      have e : IntOp.shli .vector (BitVec.ofNat 32 255) 23#32 = 0x7F800000#32 := by decide +kernel
      unfold pw
      rw [e, ctop]
    · rw [if_neg (by rw [EReal.coe_eq_coe_iff]; exact_mod_cast h1), pw_ofNat n (by omega) (by omega), ← exp2_int,
        ← EReal.coe_sub]
      show Ideal.exp2 _ = _
      congr 2; push_cast; ring

/-- The reference's result is `x1` of its arguments. -/
theorem reference_eq (x : Vec Ideal S1792x7168 .bf16) (a : Vec Ideal S1792x2048 .fp8e4m3) (b : Vec Ideal S1792x16 .i8)
    (w : Vec Ideal S2048x7168 .fp8e4m3) (s : Vec Ideal S16x56 .f32) :
    Cert.ProjReferenceIdeal.Value.G5 (F := Ideal) x a b w s = x1 x a b w s := by
  funext y
  unfold Cert.ProjReferenceIdeal.Value.G5 Cert.ProjReferenceIdeal.Gen.k0_pay1 x1
  pointwise
  refine congrArg (x y + ·) (Finset.sum_congr rfl fun k _ => ?_)
  exact congrArg (fun e : EReal => a (ix2 (y 0) k) * e * _) (dec_eq _)

/-! ## The kernel's block -/

/-- One element of a point's x1 block. -/
theorem block_eq (s : Vec Ideal S16x56 .f32) (w : Vec Ideal S2048x7168 .fp8e4m3) (x : Vec Ideal S256x7168 .bf16)
    (a : Vec Ideal S256x2048 .bf16) (y : S256x7168.Idx) :
    x1Of s w x a y = (x y + ∑ k : Fin 2048, a (ix2 (y 0) k) * (w (ix2 k (y 1)) *
      s (ix2 (⟨k.val / 128, by omega⟩ : Fin 16) (⟨(y 1).val / 128, by have h : (y 1).val < 7168 := (y 1).isLt; omega⟩ : Fin 56))) : EReal) := by
  unfold x1Of k0_pay105 k0_pay103
  pointwise
  have hy : 256 * ((y 1).val / 256) + (y 1).val % 256 = (y 1).val := by omega
  refine congrArg₂ (fun p q : EReal => p + q) (congrArg x (funext fun i => Fin.ext ?_)) (Finset.sum_congr rfl fun k _ =>
    congrArg (fun e : EReal => a (ix2 (y 0) k) * e) (congrArg₂ (fun p q : EReal => p * q)
      (congrArg w (funext fun i => Fin.ext ?_)) (congrArg s (funext fun i => Fin.ext ?_))))
  · match i with
    | ⟨0, _⟩ => rfl
    | ⟨1, _⟩ => exact hy
  · match i with
    | ⟨0, _⟩ => rfl
    | ⟨1, _⟩ => exact hy
  · match i with
    | ⟨0, _⟩ => rfl
    | ⟨1, _⟩ =>
      show 2 * ((y 1).val / 256) + (y 1).val % 256 / 128 = (y 1).val / 128
      omega

/-! ## The windows -/

theorem idx0 : ∀ t : Fin cfg0.N, win0_0.index t (0 : Fin 2) = 0 ∧ win0_0.index t (1 : Fin 2) = 0 :=
  (by decide +kernel : ∀ t : Fin grid0.N, _)
theorem idx1 : ∀ t : Fin cfg0.N, win0_1.index t (0 : Fin 2) = t.val ∧ win0_1.index t (1 : Fin 2) = 0 :=
  (by decide +kernel : ∀ t : Fin grid0.N, _)
theorem idx2 : ∀ t : Fin cfg0.N, win0_2.index t (0 : Fin 2) = t.val ∧ win0_2.index t (1 : Fin 2) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 2) = t.val ∧ win0_4.index t (1 : Fin 2) = 0 :=
  (by decide +kernel : ∀ t : Fin grid0.N, _)
theorem idx7 : ∀ t : Fin cfg0.N, win0_7.index t (0 : Fin 2) = t.val ∧ win0_7.index t (1 : Fin 2) = 0 :=
  (by decide +kernel : ∀ t : Fin grid0.N, _)

/-- The scale table is staged whole. -/
theorem iblk0_eq (c : Dev nD) (t : Fin cfg0.N) : iblk m c 0 t = V m c main_arg4 := by
  obtain ⟨e0, e1⟩ := idx0 t
  funext j
  refine congrArg (V m c main_arg4) (funext fun a => Fin.ext ?_)
  match a with
  | ⟨0, _⟩ => show win0_0.index t (0 : Fin 2) * 16 + 1 * (j 0).val = (j 0).val; omega
  | ⟨1, _⟩ => show win0_0.index t (1 : Fin 2) * 56 + 1 * (j 1).val = (j 1).val; omega

/-- The weights are staged whole. -/
theorem iblk3_eq (c : Dev nD) (t : Fin cfg0.N) : iblk m c 3 t = V m c main_arg3 := by
  obtain ⟨e0, e1⟩ := idx3 t
  funext j
  refine congrArg (V m c main_arg3) (funext fun a => Fin.ext ?_)
  match a with
  | ⟨0, _⟩ => show win0_3.index t (0 : Fin 2) * 2048 + 1 * (j 0).val = (j 0).val; omega
  | ⟨1, _⟩ => show win0_3.index t (1 : Fin 2) * 7168 + 1 * (j 1).val = (j 1).val; omega

/-- Point `t` is given the rows from `256 * t` of the attention codes. -/
theorem iblk1_eq (c : Dev nD) (t : Fin cfg0.N) (r : Fin 256) (q : Fin 2048) (r' : Fin 1792) (h : r'.val = 256 * t.val + r.val) :
    iblk m c 1 t (ix2 r q) = V m c main_arg1 (ix2 r' q) := by
  obtain ⟨e0, e1⟩ := idx1 t
  refine congrArg (V m c main_arg1) (funext fun a => Fin.ext ?_)
  match a with
  | ⟨0, _⟩ => show win0_1.index t (0 : Fin 2) * 256 + 1 * r.val = r'.val; omega
  | ⟨1, _⟩ => show win0_1.index t (1 : Fin 2) * 2048 + 1 * q.val = q.val; omega

/-- Point `t` is given the rows from `256 * t` of the scale bytes. -/
theorem iblk2_eq (c : Dev nD) (t : Fin cfg0.N) (r : Fin 256) (q : Fin 16) (r' : Fin 1792) (h : r'.val = 256 * t.val + r.val) :
    iblk m c 2 t (ix2 r q) = V m c main_arg2 (ix2 r' q) := by
  obtain ⟨e0, e1⟩ := idx2 t
  refine congrArg (V m c main_arg2) (funext fun a => Fin.ext ?_)
  match a with
  | ⟨0, _⟩ => show win0_2.index t (0 : Fin 2) * 256 + 1 * r.val = r'.val; omega
  | ⟨1, _⟩ => show win0_2.index t (1 : Fin 2) * 16 + 1 * q.val = q.val; omega

theorem emb7_0 (t : Fin cfg0.N) (j : S256x7168.Idx) : (((cfg0.win 7).blk t).view.emb j (0 : Fin 2)).val = 256 * t.val + (j 0).val := by
  obtain ⟨e0, e1⟩ := idx7 t
  show win0_7.index t (0 : Fin 2) * 256 + 1 * (j 0).val = 256 * t.val + (j 0).val; omega
theorem emb7_1 (t : Fin cfg0.N) (j : S256x7168.Idx) : (((cfg0.win 7).blk t).view.emb j (1 : Fin 2)).val = (j 1).val := by
  obtain ⟨e0, e1⟩ := idx7 t
  show win0_7.index t (1 : Fin 2) * 7168 + 1 * (j 1).val = (j 1).val; omega

/-- Point `t` is given the rows of the residual that it writes. -/
theorem iblk4_eq (c : Dev nD) (t : Fin cfg0.N) (j : S256x7168.Idx) :
    iblk m c 4 t j = V m c main_arg0 (((cfg0.win 7).blk t).view.emb j) := by
  obtain ⟨e0, e1⟩ := idx4 t
  refine congrArg (V m c main_arg0) (funext fun a => Fin.ext ?_)
  match a with
  | ⟨0, _⟩ => refine Eq.trans ?_ (emb7_0 t j).symm; show win0_4.index t (0 : Fin 2) * 256 + 1 * (j 0).val = _; omega
  | ⟨1, _⟩ => refine Eq.trans ?_ (emb7_1 t j).symm; show win0_4.index t (1 : Fin 2) * 7168 + 1 * (j 1).val = _; omega

/-- What point `t` writes back is its block of `x1`. -/
theorem flushed_eq (c : Dev nD) (t : Fin cfg0.N) :
    (dats (F := Ideal) m 0 c).flushed 7 t = ((cfg0.win 7).blk t).view.read (Elt Ideal)
      (x1 (V m c main_arg0) (V m c main_arg1) (V m c main_arg2) (V m c main_arg3) (V m c main_arg4)) := by
  show (cfg0.win 7).cut (grid0.coords t) ((dats (F := Ideal) m 0 c).after 7 t) = _
  rw [after0_7]
  funext j
  show x1At m c t j = x1 (V m c main_arg0) (V m c main_arg1) (V m c main_arg2) (V m c main_arg3) (V m c main_arg4)
    (((cfg0.win 7).blk t).view.emb j)
  unfold x1At
  rw [block_eq, iblk0_eq, iblk3_eq, iblk4_eq]
  have h0 := emb7_0 t j
  have h1 : (j 1 : Fin 7168) = ((cfg0.win 7).blk t).view.emb j (1 : Fin 2) := Fin.ext (emb7_1 t j).symm
  unfold x1
  refine congrArg (fun e : EReal => HAdd.hAdd (α := EReal) (β := EReal) (γ := EReal) (V m c main_arg0 (((cfg0.win 7).blk t).view.emb j)) e) (Finset.sum_congr rfl fun k _ => ?_)
  refine congrArg₂ (fun p q : EReal => p * q) ?_ ?_
  · refine congrArg₂ (fun p q : EReal => p * q) (iblk1_eq m c t (j 0) k _ h0) ?_
    exact congrArg dec (iblk2_eq m c t (j 0) _ _ h0)
  · refine congrArg₂ (fun p q : EReal => p * q) (congrArg (fun q : Fin 7168 => V m c main_arg3 (ix2 k q)) h1)
      (congrArg (V m c main_arg4) (funext fun a => Fin.ext ?_))
    match a with
    | ⟨0, _⟩ => rfl
    | ⟨1, _⟩ => exact congrArg (fun q : Fin 7168 => q.val / 128) h1

/-- Every element of the output lies in the block of the point that owns its row. -/
theorem covered (y : S1792x7168.Idx) : ∃ t : Fin cfg0.N, (cfg0.win 7).flush t = true ∧ y ∈ ((cfg0.win 7).blk t).view.set := by
  have hy : (y 0).val < 1792 := (y 0).isLt
  have ht : (y 0).val / 256 < 7 := by omega
  refine ⟨⟨(y 0).val / 256, ht⟩, flush0_7 _, ?_⟩
  have hm := ((cfg0.win 7).blk ⟨(y 0).val / 256, ht⟩).view.emb_mem_set
    (ix2 (⟨(y 0).val % 256, by omega⟩ : Fin 256) (y 1))
  have e : ((cfg0.win 7).blk ⟨(y 0).val / 256, ht⟩).view.emb (ix2 (⟨(y 0).val % 256, by omega⟩ : Fin 256) (y 1)) = y := by
    funext a; apply Fin.ext
    match a with
    | ⟨0, _⟩ =>
      refine (emb7_0 _ _).trans ?_
      show 256 * ((y 0).val / 256) + (y 0).val % 256 = (y 0).val; omega
    | ⟨1, _⟩ => exact emb7_1 _ _
  rwa [e] at hm

/-- The kernel's x1 array after the run is `x1` of the arguments. -/
theorem final_eq (c : Dev nD) : (dats (F := Ideal) m 0 c).arrAt 7 cfg0.N
    = x1 (m ((c : Thread nD τ).loc main_arg0)) (m ((c : Thread nD τ).loc main_arg1)) (m ((c : Thread nD τ).loc main_arg2))
        (m ((c : Thread nD τ).loc main_arg3)) (m ((c : Thread nD τ).loc main_arg4)) :=
  (dats (F := Ideal) m 0 c).arrAt_eq_of_cover 7
    (x1 (V m c main_arg0) (V m c main_arg1) (V m c main_arg2) (V m c main_arg3) (V m c main_arg4))
    (fun t _ => flushed_eq m c t) covered

end Cert.Proof.Proj

end
-- ==== Proof.lean ====
module

public import proofs.«01_k».proof.Defs
public import proofs.«01_k».proof.Proof.Gen.Down
public import proofs.«01_k».proof.Proof.Gen.Down.Skeleton
public import proofs.«01_k».proof.Proof.Gen.Down.Loops
public import proofs.«01_k».proof.Proof.Gen.Down.Launch
public import proofs.«01_k».proof.Proof.Gen.Down.Points
public import proofs.«01_k».proof.Proof.Gen.Down.Frame
public import proofs.«01_k».proof.Proof.Gen.DownIdeal
public import proofs.«01_k».proof.Proof.Gen.DownIdeal.Skeleton
public import proofs.«01_k».proof.Proof.Gen.DownIdeal.Loops
public import proofs.«01_k».proof.Proof.Gen.DownIdeal.Launch
public import proofs.«01_k».proof.Proof.Gen.DownIdeal.Points
public import proofs.«01_k».proof.Proof.Gen.DownIdeal.Frame
public import proofs.«01_k».proof.Proof.Gen.DownReferenceIdeal
public import proofs.«01_k».proof.Proof.Gen.DownReferenceIdeal.Skeleton
public import proofs.«01_k».proof.Proof.Gen.DownReferenceIdeal.Launch
public import proofs.«01_k».proof.Proof.Gen.DownReferenceIdeal.Points
public import proofs.«01_k».proof.Proof.Gen.DownReferenceIdeal.Frame
public import proofs.«01_k».proof.Proof.Gen.DownIdeal.Value
public import proofs.«01_k».proof.Proof.Gen.DownReferenceIdeal.Value
public import proofs.«01_k».proof.Proof.DownArray
public import proofs.«01_k».proof.Proof.Gen.GateUp
public import proofs.«01_k».proof.Proof.Gen.GateUp.Skeleton
public import proofs.«01_k».proof.Proof.Gen.GateUp.Loops
public import proofs.«01_k».proof.Proof.Gen.GateUp.Launch
public import proofs.«01_k».proof.Proof.Gen.GateUp.Points
public import proofs.«01_k».proof.Proof.Gen.GateUp.Frame
public import proofs.«01_k».proof.Proof.Gen.GateUpIdeal
public import proofs.«01_k».proof.Proof.Gen.GateUpIdeal.Skeleton
public import proofs.«01_k».proof.Proof.Gen.GateUpIdeal.Loops
public import proofs.«01_k».proof.Proof.Gen.GateUpIdeal.Launch
public import proofs.«01_k».proof.Proof.Gen.GateUpIdeal.Points
public import proofs.«01_k».proof.Proof.Gen.GateUpIdeal.Frame
public import proofs.«01_k».proof.Proof.Gen.GateUpReferenceIdeal
public import proofs.«01_k».proof.Proof.Gen.GateUpReferenceIdeal.Skeleton
public import proofs.«01_k».proof.Proof.Gen.GateUpReferenceIdeal.Launch
public import proofs.«01_k».proof.Proof.Gen.GateUpReferenceIdeal.Points
public import proofs.«01_k».proof.Proof.Gen.GateUpReferenceIdeal.Frame
public import proofs.«01_k».proof.Proof.Gen.GateUpReferenceIdeal.Value
public import proofs.«01_k».proof.Proof.GateUpBody
public import proofs.«01_k».proof.Proof.GateUpIdealBody
public import proofs.«01_k».proof.Proof.GateUpArray
public import proofs.«01_k».proof.Proof.GateUpReference
public import proofs.«01_k».proof.Proof.Gen.Proj
public import proofs.«01_k».proof.Proof.Gen.Proj.Skeleton
public import proofs.«01_k».proof.Proof.Gen.Proj.Loops
public import proofs.«01_k».proof.Proof.Gen.Proj.Launch
public import proofs.«01_k».proof.Proof.Gen.Proj.Points
public import proofs.«01_k».proof.Proof.Gen.Proj.Frame
public import proofs.«01_k».proof.Proof.Gen.ProjIdeal
public import proofs.«01_k».proof.Proof.Gen.ProjIdeal.Skeleton
public import proofs.«01_k».proof.Proof.Gen.ProjIdeal.Loops
public import proofs.«01_k».proof.Proof.Gen.ProjIdeal.Launch
public import proofs.«01_k».proof.Proof.Gen.ProjIdeal.Points
public import proofs.«01_k».proof.Proof.Gen.ProjIdeal.Frame
public import proofs.«01_k».proof.Proof.Gen.ProjReferenceIdeal
public import proofs.«01_k».proof.Proof.Gen.ProjReferenceIdeal.Skeleton
public import proofs.«01_k».proof.Proof.Gen.ProjReferenceIdeal.Launch
public import proofs.«01_k».proof.Proof.Gen.ProjReferenceIdeal.Points
public import proofs.«01_k».proof.Proof.Gen.ProjReferenceIdeal.Frame
public import proofs.«01_k».proof.Proof.Gen.ProjReferenceIdeal.Value
public import proofs.«01_k».proof.Proof.ProjBody
public import proofs.«01_k».proof.Proof.ProjIdealBody
public import proofs.«01_k».proof.Proof.ProjArray
public import Idealize.ShloMosaic.Adequacy
public import Idealize.ShloMosaic.Init

@[expose] public section

noncomputable section

namespace Cert.Proof

open Idealize.ShloMosaic Idealize.SL.Sem Cert.Down

/-- Both programs run, and from equal arguments they leave equal results: each leaves `Down.shared` of its arguments. -/
theorem algebraic : Cert.algebraic_DownIdeal_DownReferenceIdeal (hDownIdeal := Cert.DownIdeal.Gen.facts)
    (hDownReferenceIdeal := Cert.DownReferenceIdeal.Gen.facts) := by
  intro m g m' g' _ hargs
  refine ⟨fun c => Down.shared (m ((c.tc : Thread _ _).loc Cert.DownIdeal.main_arg0))
    (m ((c.tc : Thread _ _).loc Cert.DownIdeal.main_arg1)) (m ((c.tc : Thread _ _).loc Cert.DownIdeal.main_arg2)), ?_, ?_⟩
  · refine (θ_run (Cert.DownIdeal.defs (F := Ideal)) _ _).mono (fun r h c => ?_) (Cert.DownIdeal.Value.run_blocks (F := Ideal) m g)
    exact ⟨(h c).1.trans (Down.final_eq m c), (h c).2⟩
  · refine (θ_run (Cert.DownReferenceIdeal.defs (F := Ideal)) _ _).mono (fun r h c => ?_)
      (Cert.DownReferenceIdeal.Value.run (F := Ideal) m' g')
    refine ⟨(h c).1.trans ?_, (h c).2⟩
    rw [(hargs c).1, (hargs c).2.1, (hargs c).2.2]
    exact Down.reference_eq _ _ _

/-- Both programs run, and from equal arguments they leave equal results: the codes, the scales and the decoded values of
    `GateUp.codes`, `GateUp.scales` and `GateUp.decoded` of their arguments. -/
theorem algebraic_gate_up : Cert.algebraic_GateUpIdeal_GateUpReferenceIdeal (hGateUpIdeal := Cert.GateUpIdeal.Gen.facts)
    (hGateUpReferenceIdeal := Cert.GateUpReferenceIdeal.Gen.facts) := by
  intro m g m' g' _ hargs
  refine ⟨fun c => GateUp.codesV m c, fun c => GateUp.scalesV m c, fun c => GateUp.decodedV m c, ?_, ?_⟩
  · refine (θ_run (Cert.GateUpIdeal.defs (F := Ideal)) _ _).mono (fun r h c => ?_)
      (θ_run_and (Cert.GateUpIdeal.Gen.run_main (F := Ideal) m g) (Cert.GateUpIdeal.Gen.unchanged (F := Ideal) m g))
    exact ⟨((h.1 c).1 5).trans (GateUp.final5 m c), ((h.1 c).2 Cert.GateUpIdeal.main_v1 (by decide)).trans (GateUp.tail_eq m c),
      ((h.1 c).1 7).trans (GateUp.final7 m c), h.2 c⟩
  · refine (θ_run (Cert.GateUpReferenceIdeal.defs (F := Ideal)) _ _).mono (fun r h c => ?_)
      (Cert.GateUpReferenceIdeal.Value.run (F := Ideal) m' g')
    obtain ⟨h5, h6, h7, h8⟩ := h c
    refine ⟨h5.trans ?_, h6.trans ?_, h7.trans ?_, h8⟩
    · rw [(hargs c).1, (hargs c).2.1, (hargs c).2.2.1, (hargs c).2.2.2.1, (hargs c).2.2.2.2]
      exact GateUp.ref_codes _ _ _ _ _
    · rw [(hargs c).1, (hargs c).2.1, (hargs c).2.2.1, (hargs c).2.2.2.1, (hargs c).2.2.2.2]
      exact GateUp.ref_scales _ _ _ _ _
    · rw [(hargs c).1, (hargs c).2.1, (hargs c).2.2.1, (hargs c).2.2.2.1, (hargs c).2.2.2.2]
      exact GateUp.ref_decoded _ _ _ _ _

/-- Both programs run, and from equal arguments they leave equal results: each leaves `Proj.x1` of its first five arguments. -/
theorem algebraic_proj : Cert.algebraic_ProjIdeal_ProjReferenceIdeal (hProjIdeal := Cert.ProjIdeal.Gen.facts)
    (hProjReferenceIdeal := Cert.ProjReferenceIdeal.Gen.facts) := by
  intro m g m' g' _ hargs
  refine ⟨fun c => Proj.x1 (m ((c.tc : Thread _ _).loc Cert.ProjIdeal.main_arg0))
    (m ((c.tc : Thread _ _).loc Cert.ProjIdeal.main_arg1)) (m ((c.tc : Thread _ _).loc Cert.ProjIdeal.main_arg2))
    (m ((c.tc : Thread _ _).loc Cert.ProjIdeal.main_arg3)) (m ((c.tc : Thread _ _).loc Cert.ProjIdeal.main_arg4)), ?_, ?_⟩
  · refine (θ_run (Cert.ProjIdeal.defs (F := Ideal)) _ _).mono (fun r h c => ?_) (Cert.ProjIdeal.Gen.run_main (F := Ideal) m g)
    exact ⟨(Cert.ProjIdeal.Gen.arr_eq m h.1 c 7 rfl).trans (Proj.final_eq m c), Cert.ProjIdeal.Gen.args_kept m h.1 c⟩
  · refine (θ_run (Cert.ProjReferenceIdeal.defs (F := Ideal)) _ _).mono (fun r h c => ?_)
      (Cert.ProjReferenceIdeal.Value.run (F := Ideal) m' g')
    refine ⟨(h c).1.trans ?_, (h c).2⟩
    rw [(hargs c).1, (hargs c).2.1, (hargs c).2.2.1, (hargs c).2.2.2.1, (hargs c).2.2.2.2.1]
    exact Proj.reference_eq _ _ _ _ _

theorem claim : Cert.Claim :=
  ⟨Cert.Proj.Gen.facts, Cert.ProjIdeal.Gen.facts, Cert.ProjReferenceIdeal.Gen.facts,
    Cert.Down.Gen.facts, Cert.DownIdeal.Gen.facts, Cert.DownReferenceIdeal.Gen.facts,
    Cert.GateUp.Gen.facts, Cert.GateUpIdeal.Gen.facts, Cert.GateUpReferenceIdeal.Gen.facts,
    fun m ρ _ => Cert.Proj.Gen.frame_main m ρ, fun m ρ _ => Cert.ProjIdeal.Gen.frame_main m ρ,
    fun m ρ _ => Cert.ProjReferenceIdeal.Gen.frame m ρ,
    fun m ρ _ => Cert.Down.Gen.frame m ρ, fun m ρ _ => Cert.DownIdeal.Gen.frame m ρ,
    fun m ρ _ => Cert.DownReferenceIdeal.Gen.frame m ρ,
    fun m ρ _ => Cert.GateUp.Gen.frame m ρ, fun m ρ _ => Cert.GateUpIdeal.Gen.frame m ρ,
    fun m ρ _ => Cert.GateUpReferenceIdeal.Gen.frame m ρ,
    trivial, algebraic_proj, trivial, algebraic, trivial, algebraic_gate_up⟩

end Cert.Proof

end
